-- ==== Defs.lean ====
def Pre_KernelDq (m : (ℓ : Loc Cert.KernelDq.nD Cert.KernelDq.τ Cert.KernelDq.sig) → Buf (Elt Bits) ℓ) : Prop :=
  True

def Pre_KernelDqIdeal (m : (ℓ : Loc Cert.KernelDqIdeal.nD Cert.KernelDqIdeal.τ Cert.KernelDqIdeal.sig) → Buf (Elt Ideal) ℓ) : Prop :=
  True

def Pre_KernelDqIdeal_finite [hPre_finite : Cert.Pre_finite.Facts] (m : (ℓ : Loc Cert.KernelDqIdeal.nD Cert.KernelDqIdeal.τ Cert.KernelDqIdeal.sig) → Buf (Elt Ideal) ℓ) : Prop :=
  ∀ c : Dev Cert.KernelDqIdeal.nD,
    (Cert.Pre_finite.fn (F := Ideal) (m ((c.tc : Thread Cert.KernelDqIdeal.nD Cert.KernelDqIdeal.τ).loc Cert.KernelDqIdeal.main_arg0)) (m ((c.tc : Thread Cert.KernelDqIdeal.nD Cert.KernelDqIdeal.τ).loc Cert.KernelDqIdeal.main_arg1)) (m ((c.tc : Thread Cert.KernelDqIdeal.nD Cert.KernelDqIdeal.τ).loc Cert.KernelDqIdeal.main_arg2)) (m ((c.tc : Thread Cert.KernelDqIdeal.nD Cert.KernelDqIdeal.τ).loc Cert.KernelDqIdeal.main_arg3)) (m ((c.tc : Thread Cert.KernelDqIdeal.nD Cert.KernelDqIdeal.τ).loc Cert.KernelDqIdeal.main_arg4)) (m ((c.tc : Thread Cert.KernelDqIdeal.nD Cert.KernelDqIdeal.τ).loc Cert.KernelDqIdeal.main_arg5))) = (fun _ => 1#1)

def Pre_RefDqIdeal (m : (ℓ : Loc Cert.RefDqIdeal.nD Cert.RefDqIdeal.τ Cert.RefDqIdeal.sig) → Buf (Elt Ideal) ℓ) : Prop :=
  True

def Pre_RefDqIdeal_finite [hPre_finite : Cert.Pre_finite.Facts] (m : (ℓ : Loc Cert.RefDqIdeal.nD Cert.RefDqIdeal.τ Cert.RefDqIdeal.sig) → Buf (Elt Ideal) ℓ) : Prop :=
  ∀ c : Dev Cert.RefDqIdeal.nD,
    (Cert.Pre_finite.fn (F := Ideal) (m ((c.tc : Thread Cert.RefDqIdeal.nD Cert.RefDqIdeal.τ).loc Cert.RefDqIdeal.main_arg0)) (m ((c.tc : Thread Cert.RefDqIdeal.nD Cert.RefDqIdeal.τ).loc Cert.RefDqIdeal.main_arg1)) (m ((c.tc : Thread Cert.RefDqIdeal.nD Cert.RefDqIdeal.τ).loc Cert.RefDqIdeal.main_arg2)) (m ((c.tc : Thread Cert.RefDqIdeal.nD Cert.RefDqIdeal.τ).loc Cert.RefDqIdeal.main_arg3)) (m ((c.tc : Thread Cert.RefDqIdeal.nD Cert.RefDqIdeal.τ).loc Cert.RefDqIdeal.main_arg4)) (m ((c.tc : Thread Cert.RefDqIdeal.nD Cert.RefDqIdeal.τ).loc Cert.RefDqIdeal.main_arg5))) = (fun _ => 1#1)

def Pre_KernelDk (m : (ℓ : Loc Cert.KernelDk.nD Cert.KernelDk.τ Cert.KernelDk.sig) → Buf (Elt Bits) ℓ) : Prop :=
  True

def Pre_KernelDkIdeal (m : (ℓ : Loc Cert.KernelDkIdeal.nD Cert.KernelDkIdeal.τ Cert.KernelDkIdeal.sig) → Buf (Elt Ideal) ℓ) : Prop :=
  True

def Pre_KernelDkIdeal_finite [hPre_finite : Cert.Pre_finite.Facts] (m : (ℓ : Loc Cert.KernelDkIdeal.nD Cert.KernelDkIdeal.τ Cert.KernelDkIdeal.sig) → Buf (Elt Ideal) ℓ) : Prop :=
  ∀ c : Dev Cert.KernelDkIdeal.nD,
    (Cert.Pre_finite.fn (F := Ideal) (m ((c.tc : Thread Cert.KernelDkIdeal.nD Cert.KernelDkIdeal.τ).loc Cert.KernelDkIdeal.main_arg0)) (m ((c.tc : Thread Cert.KernelDkIdeal.nD Cert.KernelDkIdeal.τ).loc Cert.KernelDkIdeal.main_arg1)) (m ((c.tc : Thread Cert.KernelDkIdeal.nD Cert.KernelDkIdeal.τ).loc Cert.KernelDkIdeal.main_arg2)) (m ((c.tc : Thread Cert.KernelDkIdeal.nD Cert.KernelDkIdeal.τ).loc Cert.KernelDkIdeal.main_arg3)) (m ((c.tc : Thread Cert.KernelDkIdeal.nD Cert.KernelDkIdeal.τ).loc Cert.KernelDkIdeal.main_arg4)) (m ((c.tc : Thread Cert.KernelDkIdeal.nD Cert.KernelDkIdeal.τ).loc Cert.KernelDkIdeal.main_arg5))) = (fun _ => 1#1)

def Pre_RefDkIdeal (m : (ℓ : Loc Cert.RefDkIdeal.nD Cert.RefDkIdeal.τ Cert.RefDkIdeal.sig) → Buf (Elt Ideal) ℓ) : Prop :=
  True

def Pre_RefDkIdeal_finite [hPre_finite : Cert.Pre_finite.Facts] (m : (ℓ : Loc Cert.RefDkIdeal.nD Cert.RefDkIdeal.τ Cert.RefDkIdeal.sig) → Buf (Elt Ideal) ℓ) : Prop :=
  ∀ c : Dev Cert.RefDkIdeal.nD,
    (Cert.Pre_finite.fn (F := Ideal) (m ((c.tc : Thread Cert.RefDkIdeal.nD Cert.RefDkIdeal.τ).loc Cert.RefDkIdeal.main_arg0)) (m ((c.tc : Thread Cert.RefDkIdeal.nD Cert.RefDkIdeal.τ).loc Cert.RefDkIdeal.main_arg1)) (m ((c.tc : Thread Cert.RefDkIdeal.nD Cert.RefDkIdeal.τ).loc Cert.RefDkIdeal.main_arg2)) (m ((c.tc : Thread Cert.RefDkIdeal.nD Cert.RefDkIdeal.τ).loc Cert.RefDkIdeal.main_arg3)) (m ((c.tc : Thread Cert.RefDkIdeal.nD Cert.RefDkIdeal.τ).loc Cert.RefDkIdeal.main_arg4)) (m ((c.tc : Thread Cert.RefDkIdeal.nD Cert.RefDkIdeal.τ).loc Cert.RefDkIdeal.main_arg5))) = (fun _ => 1#1)

def Pre_KernelDv (m : (ℓ : Loc Cert.KernelDv.nD Cert.KernelDv.τ Cert.KernelDv.sig) → Buf (Elt Bits) ℓ) : Prop :=
  True

def Pre_KernelDvIdeal (m : (ℓ : Loc Cert.KernelDvIdeal.nD Cert.KernelDvIdeal.τ Cert.KernelDvIdeal.sig) → Buf (Elt Ideal) ℓ) : Prop :=
  True

def Pre_KernelDvIdeal_finite [hPre_finite : Cert.Pre_finite.Facts] (m : (ℓ : Loc Cert.KernelDvIdeal.nD Cert.KernelDvIdeal.τ Cert.KernelDvIdeal.sig) → Buf (Elt Ideal) ℓ) : Prop :=
  ∀ c : Dev Cert.KernelDvIdeal.nD,
    (Cert.Pre_finite.fn (F := Ideal) (m ((c.tc : Thread Cert.KernelDvIdeal.nD Cert.KernelDvIdeal.τ).loc Cert.KernelDvIdeal.main_arg0)) (m ((c.tc : Thread Cert.KernelDvIdeal.nD Cert.KernelDvIdeal.τ).loc Cert.KernelDvIdeal.main_arg1)) (m ((c.tc : Thread Cert.KernelDvIdeal.nD Cert.KernelDvIdeal.τ).loc Cert.KernelDvIdeal.main_arg2)) (m ((c.tc : Thread Cert.KernelDvIdeal.nD Cert.KernelDvIdeal.τ).loc Cert.KernelDvIdeal.main_arg3)) (m ((c.tc : Thread Cert.KernelDvIdeal.nD Cert.KernelDvIdeal.τ).loc Cert.KernelDvIdeal.main_arg4)) (m ((c.tc : Thread Cert.KernelDvIdeal.nD Cert.KernelDvIdeal.τ).loc Cert.KernelDvIdeal.main_arg5))) = (fun _ => 1#1)

def Pre_RefDvIdeal (m : (ℓ : Loc Cert.RefDvIdeal.nD Cert.RefDvIdeal.τ Cert.RefDvIdeal.sig) → Buf (Elt Ideal) ℓ) : Prop :=
  True

def Pre_RefDvIdeal_finite [hPre_finite : Cert.Pre_finite.Facts] (m : (ℓ : Loc Cert.RefDvIdeal.nD Cert.RefDvIdeal.τ Cert.RefDvIdeal.sig) → Buf (Elt Ideal) ℓ) : Prop :=
  ∀ c : Dev Cert.RefDvIdeal.nD,
    (Cert.Pre_finite.fn (F := Ideal) (m ((c.tc : Thread Cert.RefDvIdeal.nD Cert.RefDvIdeal.τ).loc Cert.RefDvIdeal.main_arg0)) (m ((c.tc : Thread Cert.RefDvIdeal.nD Cert.RefDvIdeal.τ).loc Cert.RefDvIdeal.main_arg1)) (m ((c.tc : Thread Cert.RefDvIdeal.nD Cert.RefDvIdeal.τ).loc Cert.RefDvIdeal.main_arg2)) (m ((c.tc : Thread Cert.RefDvIdeal.nD Cert.RefDvIdeal.τ).loc Cert.RefDvIdeal.main_arg3)) (m ((c.tc : Thread Cert.RefDvIdeal.nD Cert.RefDvIdeal.τ).loc Cert.RefDvIdeal.main_arg4)) (m ((c.tc : Thread Cert.RefDvIdeal.nD Cert.RefDvIdeal.τ).loc Cert.RefDvIdeal.main_arg5))) = (fun _ => 1#1)

def Pre_KernelFfnBwd (m : (ℓ : Loc Cert.KernelFfnBwd.nD Cert.KernelFfnBwd.τ Cert.KernelFfnBwd.sig) → Buf (Elt Bits) ℓ) : Prop :=
  True

def Pre_KernelFfnBwdIdeal (m : (ℓ : Loc Cert.KernelFfnBwdIdeal.nD Cert.KernelFfnBwdIdeal.τ Cert.KernelFfnBwdIdeal.sig) → Buf (Elt Ideal) ℓ) : Prop :=
  True

def Pre_KernelFfnBwdIdeal_finite_ffn [hPre_finite_ffn : Cert.Pre_finite_ffn.Facts] (m : (ℓ : Loc Cert.KernelFfnBwdIdeal.nD Cert.KernelFfnBwdIdeal.τ Cert.KernelFfnBwdIdeal.sig) → Buf (Elt Ideal) ℓ) : Prop :=
  ∀ c : Dev Cert.KernelFfnBwdIdeal.nD,
    (Cert.Pre_finite_ffn.fn (F := Ideal) (m ((c.tc : Thread Cert.KernelFfnBwdIdeal.nD Cert.KernelFfnBwdIdeal.τ).loc Cert.KernelFfnBwdIdeal.main_arg0)) (m ((c.tc : Thread Cert.KernelFfnBwdIdeal.nD Cert.KernelFfnBwdIdeal.τ).loc Cert.KernelFfnBwdIdeal.main_arg1)) (m ((c.tc : Thread Cert.KernelFfnBwdIdeal.nD Cert.KernelFfnBwdIdeal.τ).loc Cert.KernelFfnBwdIdeal.main_arg2)) (m ((c.tc : Thread Cert.KernelFfnBwdIdeal.nD Cert.KernelFfnBwdIdeal.τ).loc Cert.KernelFfnBwdIdeal.main_arg3)) (m ((c.tc : Thread Cert.KernelFfnBwdIdeal.nD Cert.KernelFfnBwdIdeal.τ).loc Cert.KernelFfnBwdIdeal.main_arg4)) (m ((c.tc : Thread Cert.KernelFfnBwdIdeal.nD Cert.KernelFfnBwdIdeal.τ).loc Cert.KernelFfnBwdIdeal.main_arg5)) (m ((c.tc : Thread Cert.KernelFfnBwdIdeal.nD Cert.KernelFfnBwdIdeal.τ).loc Cert.KernelFfnBwdIdeal.main_arg6))) = (fun _ => 1#1)

def Pre_RefFfnBwdIdeal (m : (ℓ : Loc Cert.RefFfnBwdIdeal.nD Cert.RefFfnBwdIdeal.τ Cert.RefFfnBwdIdeal.sig) → Buf (Elt Ideal) ℓ) : Prop :=
  True

def Pre_RefFfnBwdIdeal_finite_ffn [hPre_finite_ffn : Cert.Pre_finite_ffn.Facts] (m : (ℓ : Loc Cert.RefFfnBwdIdeal.nD Cert.RefFfnBwdIdeal.τ Cert.RefFfnBwdIdeal.sig) → Buf (Elt Ideal) ℓ) : Prop :=
  ∀ c : Dev Cert.RefFfnBwdIdeal.nD,
    (Cert.Pre_finite_ffn.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6))) = (fun _ => 1#1)

def Pre_KernelWgrad (m : (ℓ : Loc Cert.KernelWgrad.nD Cert.KernelWgrad.τ Cert.KernelWgrad.sig) → Buf (Elt Bits) ℓ) : Prop :=
  True

def Pre_KernelWgradIdeal (m : (ℓ : Loc Cert.KernelWgradIdeal.nD Cert.KernelWgradIdeal.τ Cert.KernelWgradIdeal.sig) → Buf (Elt Ideal) ℓ) : Prop :=
  True

def Pre_RefWgradIdeal (m : (ℓ : Loc Cert.RefWgradIdeal.nD Cert.RefWgradIdeal.τ Cert.RefWgradIdeal.sig) → Buf (Elt Ideal) ℓ) : Prop :=
  True

def Pre_KernelFfnFwd (m : (ℓ : Loc Cert.KernelFfnFwd.nD Cert.KernelFfnFwd.τ Cert.KernelFfnFwd.sig) → Buf (Elt Bits) ℓ) : Prop :=
  True

def Pre_KernelFfnFwdIdeal (m : (ℓ : Loc Cert.KernelFfnFwdIdeal.nD Cert.KernelFfnFwdIdeal.τ Cert.KernelFfnFwdIdeal.sig) → Buf (Elt Ideal) ℓ) : Prop :=
  True

def Pre_RefFfnFwdIdeal (m : (ℓ : Loc Cert.RefFfnFwdIdeal.nD Cert.RefFfnFwdIdeal.τ Cert.RefFfnFwdIdeal.sig) → Buf (Elt Ideal) ℓ) : Prop :=
  True

def Pre_KernelMixIn (m : (ℓ : Loc Cert.KernelMixIn.nD Cert.KernelMixIn.τ Cert.KernelMixIn.sig) → Buf (Elt Bits) ℓ) : Prop :=
  True

def Pre_KernelMixInIdeal (m : (ℓ : Loc Cert.KernelMixInIdeal.nD Cert.KernelMixInIdeal.τ Cert.KernelMixInIdeal.sig) → Buf (Elt Ideal) ℓ) : Prop :=
  True

def Pre_RefMixInIdeal (m : (ℓ : Loc Cert.RefMixInIdeal.nD Cert.RefMixInIdeal.τ Cert.RefMixInIdeal.sig) → Buf (Elt Ideal) ℓ) : Prop :=
  True

def Pre_KernelMixOut (m : (ℓ : Loc Cert.KernelMixOut.nD Cert.KernelMixOut.τ Cert.KernelMixOut.sig) → Buf (Elt Bits) ℓ) : Prop :=
  True

def Pre_KernelMixOutIdeal (m : (ℓ : Loc Cert.KernelMixOutIdeal.nD Cert.KernelMixOutIdeal.τ Cert.KernelMixOutIdeal.sig) → Buf (Elt Ideal) ℓ) : Prop :=
  True

def Pre_RefMixOutIdeal (m : (ℓ : Loc Cert.RefMixOutIdeal.nD Cert.RefMixOutIdeal.τ Cert.RefMixOutIdeal.sig) → Buf (Elt Ideal) ℓ) : Prop :=
  True

def quiescent_KernelDq [hKernelDq : Cert.KernelDq.Facts] : Prop :=
  ∀ (m : (ℓ : Loc Cert.KernelDq.nD Cert.KernelDq.τ Cert.KernelDq.sig) → Buf (Elt Bits) ℓ) (g : Dev Cert.KernelDq.nD → PrngReg), Pre_KernelDq m →
    θ_run (Cert.KernelDq.defs (F := Bits)) (onTc (τ := Cert.KernelDq.τ) (Cert.KernelDq.main (F := Bits))) ⟨m, fun _ => 0, g⟩ (fun r => (∀ c : Dev Cert.KernelDq.nD,
      r.2.mem ((c.tc : Thread Cert.KernelDq.nD Cert.KernelDq.τ).loc Cert.KernelDq.main_arg0) = m ((c.tc : Thread Cert.KernelDq.nD Cert.KernelDq.τ).loc Cert.KernelDq.main_arg0)
      ∧ r.2.mem ((c.tc : Thread Cert.KernelDq.nD Cert.KernelDq.τ).loc Cert.KernelDq.main_arg1) = m ((c.tc : Thread Cert.KernelDq.nD Cert.KernelDq.τ).loc Cert.KernelDq.main_arg1)
      ∧ r.2.mem ((c.tc : Thread Cert.KernelDq.nD Cert.KernelDq.τ).loc Cert.KernelDq.main_arg2) = m ((c.tc : Thread Cert.KernelDq.nD Cert.KernelDq.τ).loc Cert.KernelDq.main_arg2)
      ∧ r.2.mem ((c.tc : Thread Cert.KernelDq.nD Cert.KernelDq.τ).loc Cert.KernelDq.main_arg3) = m ((c.tc : Thread Cert.KernelDq.nD Cert.KernelDq.τ).loc Cert.KernelDq.main_arg3)
      ∧ r.2.mem ((c.tc : Thread Cert.KernelDq.nD Cert.KernelDq.τ).loc Cert.KernelDq.main_arg4) = m ((c.tc : Thread Cert.KernelDq.nD Cert.KernelDq.τ).loc Cert.KernelDq.main_arg4)
      ∧ r.2.mem ((c.tc : Thread Cert.KernelDq.nD Cert.KernelDq.τ).loc Cert.KernelDq.main_arg5) = m ((c.tc : Thread Cert.KernelDq.nD Cert.KernelDq.τ).loc Cert.KernelDq.main_arg5))
      ∧ r.2.sem = fun _ => 0)

def quiescent_KernelDqIdeal [hKernelDqIdeal : Cert.KernelDqIdeal.Facts] : Prop :=
  ∀ (m : (ℓ : Loc Cert.KernelDqIdeal.nD Cert.KernelDqIdeal.τ Cert.KernelDqIdeal.sig) → Buf (Elt Ideal) ℓ) (g : Dev Cert.KernelDqIdeal.nD → PrngReg), Pre_KernelDqIdeal m →
    θ_run (Cert.KernelDqIdeal.defs (F := Ideal)) (onTc (τ := Cert.KernelDqIdeal.τ) (Cert.KernelDqIdeal.main (F := Ideal))) ⟨m, fun _ => 0, g⟩ (fun r => (∀ c : Dev Cert.KernelDqIdeal.nD,
      r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
      ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
      ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
      ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
      ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
      ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5))
      ∧ r.2.sem = fun _ => 0)

def quiescent_KernelDqIdeal_pre_finite [hKernelDqIdeal : Cert.KernelDqIdeal.Facts] [hPre_finite : Cert.Pre_finite.Facts] : Prop :=
  ∀ (m : (ℓ : Loc Cert.KernelDqIdeal.nD Cert.KernelDqIdeal.τ Cert.KernelDqIdeal.sig) → Buf (Elt Ideal) ℓ) (g : Dev Cert.KernelDqIdeal.nD → PrngReg), Pre_KernelDqIdeal_finite m →
    θ_run (Cert.KernelDqIdeal.defs (F := Ideal)) (onTc (τ := Cert.KernelDqIdeal.τ) (Cert.KernelDqIdeal.main (F := Ideal))) ⟨m, fun _ => 0, g⟩ (fun r => (∀ c : Dev Cert.KernelDqIdeal.nD,
      r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
      ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
      ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
      ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
      ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
      ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5))
      ∧ r.2.sem = fun _ => 0)

def quiescent_RefDqIdeal [hRefDqIdeal : Cert.RefDqIdeal.Facts] : Prop :=
  ∀ (m : (ℓ : Loc Cert.RefDqIdeal.nD Cert.RefDqIdeal.τ Cert.RefDqIdeal.sig) → Buf (Elt Ideal) ℓ) (g : Dev Cert.RefDqIdeal.nD → PrngReg), Pre_RefDqIdeal m →
    θ_run (Cert.RefDqIdeal.defs (F := Ideal)) (onTc (τ := Cert.RefDqIdeal.τ) (Cert.RefDqIdeal.main (F := Ideal))) ⟨m, fun _ => 0, g⟩ (fun r => (∀ c : Dev Cert.RefDqIdeal.nD,
      r.2.mem ((c.tc : Thread Cert.RefDqIdeal.nD Cert.RefDqIdeal.τ).loc Cert.RefDqIdeal.main_arg0) = m ((c.tc : Thread Cert.RefDqIdeal.nD Cert.RefDqIdeal.τ).loc Cert.RefDqIdeal.main_arg0)
      ∧ r.2.mem ((c.tc : Thread Cert.RefDqIdeal.nD Cert.RefDqIdeal.τ).loc Cert.RefDqIdeal.main_arg1) = m ((c.tc : Thread Cert.RefDqIdeal.nD Cert.RefDqIdeal.τ).loc Cert.RefDqIdeal.main_arg1)
      ∧ r.2.mem ((c.tc : Thread Cert.RefDqIdeal.nD Cert.RefDqIdeal.τ).loc Cert.RefDqIdeal.main_arg2) = m ((c.tc : Thread Cert.RefDqIdeal.nD Cert.RefDqIdeal.τ).loc Cert.RefDqIdeal.main_arg2)
      ∧ r.2.mem ((c.tc : Thread Cert.RefDqIdeal.nD Cert.RefDqIdeal.τ).loc Cert.RefDqIdeal.main_arg3) = m ((c.tc : Thread Cert.RefDqIdeal.nD Cert.RefDqIdeal.τ).loc Cert.RefDqIdeal.main_arg3)
      ∧ r.2.mem ((c.tc : Thread Cert.RefDqIdeal.nD Cert.RefDqIdeal.τ).loc Cert.RefDqIdeal.main_arg4) = m ((c.tc : Thread Cert.RefDqIdeal.nD Cert.RefDqIdeal.τ).loc Cert.RefDqIdeal.main_arg4)
      ∧ r.2.mem ((c.tc : Thread Cert.RefDqIdeal.nD Cert.RefDqIdeal.τ).loc Cert.RefDqIdeal.main_arg5) = m ((c.tc : Thread Cert.RefDqIdeal.nD Cert.RefDqIdeal.τ).loc Cert.RefDqIdeal.main_arg5))
      ∧ r.2.sem = fun _ => 0)

def quiescent_RefDqIdeal_pre_finite [hRefDqIdeal : Cert.RefDqIdeal.Facts] [hPre_finite : Cert.Pre_finite.Facts] : Prop :=
  ∀ (m : (ℓ : Loc Cert.RefDqIdeal.nD Cert.RefDqIdeal.τ Cert.RefDqIdeal.sig) → Buf (Elt Ideal) ℓ) (g : Dev Cert.RefDqIdeal.nD → PrngReg), Pre_RefDqIdeal_finite m →
    θ_run (Cert.RefDqIdeal.defs (F := Ideal)) (onTc (τ := Cert.RefDqIdeal.τ) (Cert.RefDqIdeal.main (F := Ideal))) ⟨m, fun _ => 0, g⟩ (fun r => (∀ c : Dev Cert.RefDqIdeal.nD,
      r.2.mem ((c.tc : Thread Cert.RefDqIdeal.nD Cert.RefDqIdeal.τ).loc Cert.RefDqIdeal.main_arg0) = m ((c.tc : Thread Cert.RefDqIdeal.nD Cert.RefDqIdeal.τ).loc Cert.RefDqIdeal.main_arg0)
      ∧ r.2.mem ((c.tc : Thread Cert.RefDqIdeal.nD Cert.RefDqIdeal.τ).loc Cert.RefDqIdeal.main_arg1) = m ((c.tc : Thread Cert.RefDqIdeal.nD Cert.RefDqIdeal.τ).loc Cert.RefDqIdeal.main_arg1)
      ∧ r.2.mem ((c.tc : Thread Cert.RefDqIdeal.nD Cert.RefDqIdeal.τ).loc Cert.RefDqIdeal.main_arg2) = m ((c.tc : Thread Cert.RefDqIdeal.nD Cert.RefDqIdeal.τ).loc Cert.RefDqIdeal.main_arg2)
      ∧ r.2.mem ((c.tc : Thread Cert.RefDqIdeal.nD Cert.RefDqIdeal.τ).loc Cert.RefDqIdeal.main_arg3) = m ((c.tc : Thread Cert.RefDqIdeal.nD Cert.RefDqIdeal.τ).loc Cert.RefDqIdeal.main_arg3)
      ∧ r.2.mem ((c.tc : Thread Cert.RefDqIdeal.nD Cert.RefDqIdeal.τ).loc Cert.RefDqIdeal.main_arg4) = m ((c.tc : Thread Cert.RefDqIdeal.nD Cert.RefDqIdeal.τ).loc Cert.RefDqIdeal.main_arg4)
      ∧ r.2.mem ((c.tc : Thread Cert.RefDqIdeal.nD Cert.RefDqIdeal.τ).loc Cert.RefDqIdeal.main_arg5) = m ((c.tc : Thread Cert.RefDqIdeal.nD Cert.RefDqIdeal.τ).loc Cert.RefDqIdeal.main_arg5))
      ∧ r.2.sem = fun _ => 0)

def quiescent_KernelDk [hKernelDk : Cert.KernelDk.Facts] : Prop :=
  ∀ (m : (ℓ : Loc Cert.KernelDk.nD Cert.KernelDk.τ Cert.KernelDk.sig) → Buf (Elt Bits) ℓ) (g : Dev Cert.KernelDk.nD → PrngReg), Pre_KernelDk m →
    θ_run (Cert.KernelDk.defs (F := Bits)) (onTc (τ := Cert.KernelDk.τ) (Cert.KernelDk.main (F := Bits))) ⟨m, fun _ => 0, g⟩ (fun r => (∀ c : Dev Cert.KernelDk.nD,
      r.2.mem ((c.tc : Thread Cert.KernelDk.nD Cert.KernelDk.τ).loc Cert.KernelDk.main_arg0) = m ((c.tc : Thread Cert.KernelDk.nD Cert.KernelDk.τ).loc Cert.KernelDk.main_arg0)
      ∧ r.2.mem ((c.tc : Thread Cert.KernelDk.nD Cert.KernelDk.τ).loc Cert.KernelDk.main_arg1) = m ((c.tc : Thread Cert.KernelDk.nD Cert.KernelDk.τ).loc Cert.KernelDk.main_arg1)
      ∧ r.2.mem ((c.tc : Thread Cert.KernelDk.nD Cert.KernelDk.τ).loc Cert.KernelDk.main_arg2) = m ((c.tc : Thread Cert.KernelDk.nD Cert.KernelDk.τ).loc Cert.KernelDk.main_arg2)
      ∧ r.2.mem ((c.tc : Thread Cert.KernelDk.nD Cert.KernelDk.τ).loc Cert.KernelDk.main_arg3) = m ((c.tc : Thread Cert.KernelDk.nD Cert.KernelDk.τ).loc Cert.KernelDk.main_arg3)
      ∧ r.2.mem ((c.tc : Thread Cert.KernelDk.nD Cert.KernelDk.τ).loc Cert.KernelDk.main_arg4) = m ((c.tc : Thread Cert.KernelDk.nD Cert.KernelDk.τ).loc Cert.KernelDk.main_arg4)
      ∧ r.2.mem ((c.tc : Thread Cert.KernelDk.nD Cert.KernelDk.τ).loc Cert.KernelDk.main_arg5) = m ((c.tc : Thread Cert.KernelDk.nD Cert.KernelDk.τ).loc Cert.KernelDk.main_arg5))
      ∧ r.2.sem = fun _ => 0)

def quiescent_KernelDkIdeal [hKernelDkIdeal : Cert.KernelDkIdeal.Facts] : Prop :=
  ∀ (m : (ℓ : Loc Cert.KernelDkIdeal.nD Cert.KernelDkIdeal.τ Cert.KernelDkIdeal.sig) → Buf (Elt Ideal) ℓ) (g : Dev Cert.KernelDkIdeal.nD → PrngReg), Pre_KernelDkIdeal m →
    θ_run (Cert.KernelDkIdeal.defs (F := Ideal)) (onTc (τ := Cert.KernelDkIdeal.τ) (Cert.KernelDkIdeal.main (F := Ideal))) ⟨m, fun _ => 0, g⟩ (fun r => (∀ c : Dev Cert.KernelDkIdeal.nD,
      r.2.mem ((c.tc : Thread Cert.KernelDkIdeal.nD Cert.KernelDkIdeal.τ).loc Cert.KernelDkIdeal.main_arg0) = m ((c.tc : Thread Cert.KernelDkIdeal.nD Cert.KernelDkIdeal.τ).loc Cert.KernelDkIdeal.main_arg0)
      ∧ r.2.mem ((c.tc : Thread Cert.KernelDkIdeal.nD Cert.KernelDkIdeal.τ).loc Cert.KernelDkIdeal.main_arg1) = m ((c.tc : Thread Cert.KernelDkIdeal.nD Cert.KernelDkIdeal.τ).loc Cert.KernelDkIdeal.main_arg1)
      ∧ r.2.mem ((c.tc : Thread Cert.KernelDkIdeal.nD Cert.KernelDkIdeal.τ).loc Cert.KernelDkIdeal.main_arg2) = m ((c.tc : Thread Cert.KernelDkIdeal.nD Cert.KernelDkIdeal.τ).loc Cert.KernelDkIdeal.main_arg2)
      ∧ r.2.mem ((c.tc : Thread Cert.KernelDkIdeal.nD Cert.KernelDkIdeal.τ).loc Cert.KernelDkIdeal.main_arg3) = m ((c.tc : Thread Cert.KernelDkIdeal.nD Cert.KernelDkIdeal.τ).loc Cert.KernelDkIdeal.main_arg3)
      ∧ r.2.mem ((c.tc : Thread Cert.KernelDkIdeal.nD Cert.KernelDkIdeal.τ).loc Cert.KernelDkIdeal.main_arg4) = m ((c.tc : Thread Cert.KernelDkIdeal.nD Cert.KernelDkIdeal.τ).loc Cert.KernelDkIdeal.main_arg4)
      ∧ r.2.mem ((c.tc : Thread Cert.KernelDkIdeal.nD Cert.KernelDkIdeal.τ).loc Cert.KernelDkIdeal.main_arg5) = m ((c.tc : Thread Cert.KernelDkIdeal.nD Cert.KernelDkIdeal.τ).loc Cert.KernelDkIdeal.main_arg5))
      ∧ r.2.sem = fun _ => 0)

def quiescent_KernelDkIdeal_pre_finite [hKernelDkIdeal : Cert.KernelDkIdeal.Facts] [hPre_finite : Cert.Pre_finite.Facts] : Prop :=
  ∀ (m : (ℓ : Loc Cert.KernelDkIdeal.nD Cert.KernelDkIdeal.τ Cert.KernelDkIdeal.sig) → Buf (Elt Ideal) ℓ) (g : Dev Cert.KernelDkIdeal.nD → PrngReg), Pre_KernelDkIdeal_finite m →
    θ_run (Cert.KernelDkIdeal.defs (F := Ideal)) (onTc (τ := Cert.KernelDkIdeal.τ) (Cert.KernelDkIdeal.main (F := Ideal))) ⟨m, fun _ => 0, g⟩ (fun r => (∀ c : Dev Cert.KernelDkIdeal.nD,
      r.2.mem ((c.tc : Thread Cert.KernelDkIdeal.nD Cert.KernelDkIdeal.τ).loc Cert.KernelDkIdeal.main_arg0) = m ((c.tc : Thread Cert.KernelDkIdeal.nD Cert.KernelDkIdeal.τ).loc Cert.KernelDkIdeal.main_arg0)
      ∧ r.2.mem ((c.tc : Thread Cert.KernelDkIdeal.nD Cert.KernelDkIdeal.τ).loc Cert.KernelDkIdeal.main_arg1) = m ((c.tc : Thread Cert.KernelDkIdeal.nD Cert.KernelDkIdeal.τ).loc Cert.KernelDkIdeal.main_arg1)
      ∧ r.2.mem ((c.tc : Thread Cert.KernelDkIdeal.nD Cert.KernelDkIdeal.τ).loc Cert.KernelDkIdeal.main_arg2) = m ((c.tc : Thread Cert.KernelDkIdeal.nD Cert.KernelDkIdeal.τ).loc Cert.KernelDkIdeal.main_arg2)
      ∧ r.2.mem ((c.tc : Thread Cert.KernelDkIdeal.nD Cert.KernelDkIdeal.τ).loc Cert.KernelDkIdeal.main_arg3) = m ((c.tc : Thread Cert.KernelDkIdeal.nD Cert.KernelDkIdeal.τ).loc Cert.KernelDkIdeal.main_arg3)
      ∧ r.2.mem ((c.tc : Thread Cert.KernelDkIdeal.nD Cert.KernelDkIdeal.τ).loc Cert.KernelDkIdeal.main_arg4) = m ((c.tc : Thread Cert.KernelDkIdeal.nD Cert.KernelDkIdeal.τ).loc Cert.KernelDkIdeal.main_arg4)
      ∧ r.2.mem ((c.tc : Thread Cert.KernelDkIdeal.nD Cert.KernelDkIdeal.τ).loc Cert.KernelDkIdeal.main_arg5) = m ((c.tc : Thread Cert.KernelDkIdeal.nD Cert.KernelDkIdeal.τ).loc Cert.KernelDkIdeal.main_arg5))
      ∧ r.2.sem = fun _ => 0)

def quiescent_RefDkIdeal [hRefDkIdeal : Cert.RefDkIdeal.Facts] : Prop :=
  ∀ (m : (ℓ : Loc Cert.RefDkIdeal.nD Cert.RefDkIdeal.τ Cert.RefDkIdeal.sig) → Buf (Elt Ideal) ℓ) (g : Dev Cert.RefDkIdeal.nD → PrngReg), Pre_RefDkIdeal m →
    θ_run (Cert.RefDkIdeal.defs (F := Ideal)) (onTc (τ := Cert.RefDkIdeal.τ) (Cert.RefDkIdeal.main (F := Ideal))) ⟨m, fun _ => 0, g⟩ (fun r => (∀ c : Dev Cert.RefDkIdeal.nD,
      r.2.mem ((c.tc : Thread Cert.RefDkIdeal.nD Cert.RefDkIdeal.τ).loc Cert.RefDkIdeal.main_arg0) = m ((c.tc : Thread Cert.RefDkIdeal.nD Cert.RefDkIdeal.τ).loc Cert.RefDkIdeal.main_arg0)
      ∧ r.2.mem ((c.tc : Thread Cert.RefDkIdeal.nD Cert.RefDkIdeal.τ).loc Cert.RefDkIdeal.main_arg1) = m ((c.tc : Thread Cert.RefDkIdeal.nD Cert.RefDkIdeal.τ).loc Cert.RefDkIdeal.main_arg1)
      ∧ r.2.mem ((c.tc : Thread Cert.RefDkIdeal.nD Cert.RefDkIdeal.τ).loc Cert.RefDkIdeal.main_arg2) = m ((c.tc : Thread Cert.RefDkIdeal.nD Cert.RefDkIdeal.τ).loc Cert.RefDkIdeal.main_arg2)
      ∧ r.2.mem ((c.tc : Thread Cert.RefDkIdeal.nD Cert.RefDkIdeal.τ).loc Cert.RefDkIdeal.main_arg3) = m ((c.tc : Thread Cert.RefDkIdeal.nD Cert.RefDkIdeal.τ).loc Cert.RefDkIdeal.main_arg3)
      ∧ r.2.mem ((c.tc : Thread Cert.RefDkIdeal.nD Cert.RefDkIdeal.τ).loc Cert.RefDkIdeal.main_arg4) = m ((c.tc : Thread Cert.RefDkIdeal.nD Cert.RefDkIdeal.τ).loc Cert.RefDkIdeal.main_arg4)
      ∧ r.2.mem ((c.tc : Thread Cert.RefDkIdeal.nD Cert.RefDkIdeal.τ).loc Cert.RefDkIdeal.main_arg5) = m ((c.tc : Thread Cert.RefDkIdeal.nD Cert.RefDkIdeal.τ).loc Cert.RefDkIdeal.main_arg5))
      ∧ r.2.sem = fun _ => 0)

def quiescent_RefDkIdeal_pre_finite [hRefDkIdeal : Cert.RefDkIdeal.Facts] [hPre_finite : Cert.Pre_finite.Facts] : Prop :=
  ∀ (m : (ℓ : Loc Cert.RefDkIdeal.nD Cert.RefDkIdeal.τ Cert.RefDkIdeal.sig) → Buf (Elt Ideal) ℓ) (g : Dev Cert.RefDkIdeal.nD → PrngReg), Pre_RefDkIdeal_finite m →
    θ_run (Cert.RefDkIdeal.defs (F := Ideal)) (onTc (τ := Cert.RefDkIdeal.τ) (Cert.RefDkIdeal.main (F := Ideal))) ⟨m, fun _ => 0, g⟩ (fun r => (∀ c : Dev Cert.RefDkIdeal.nD,
      r.2.mem ((c.tc : Thread Cert.RefDkIdeal.nD Cert.RefDkIdeal.τ).loc Cert.RefDkIdeal.main_arg0) = m ((c.tc : Thread Cert.RefDkIdeal.nD Cert.RefDkIdeal.τ).loc Cert.RefDkIdeal.main_arg0)
      ∧ r.2.mem ((c.tc : Thread Cert.RefDkIdeal.nD Cert.RefDkIdeal.τ).loc Cert.RefDkIdeal.main_arg1) = m ((c.tc : Thread Cert.RefDkIdeal.nD Cert.RefDkIdeal.τ).loc Cert.RefDkIdeal.main_arg1)
      ∧ r.2.mem ((c.tc : Thread Cert.RefDkIdeal.nD Cert.RefDkIdeal.τ).loc Cert.RefDkIdeal.main_arg2) = m ((c.tc : Thread Cert.RefDkIdeal.nD Cert.RefDkIdeal.τ).loc Cert.RefDkIdeal.main_arg2)
      ∧ r.2.mem ((c.tc : Thread Cert.RefDkIdeal.nD Cert.RefDkIdeal.τ).loc Cert.RefDkIdeal.main_arg3) = m ((c.tc : Thread Cert.RefDkIdeal.nD Cert.RefDkIdeal.τ).loc Cert.RefDkIdeal.main_arg3)
      ∧ r.2.mem ((c.tc : Thread Cert.RefDkIdeal.nD Cert.RefDkIdeal.τ).loc Cert.RefDkIdeal.main_arg4) = m ((c.tc : Thread Cert.RefDkIdeal.nD Cert.RefDkIdeal.τ).loc Cert.RefDkIdeal.main_arg4)
      ∧ r.2.mem ((c.tc : Thread Cert.RefDkIdeal.nD Cert.RefDkIdeal.τ).loc Cert.RefDkIdeal.main_arg5) = m ((c.tc : Thread Cert.RefDkIdeal.nD Cert.RefDkIdeal.τ).loc Cert.RefDkIdeal.main_arg5))
      ∧ r.2.sem = fun _ => 0)

def quiescent_KernelDv [hKernelDv : Cert.KernelDv.Facts] : Prop :=
  ∀ (m : (ℓ : Loc Cert.KernelDv.nD Cert.KernelDv.τ Cert.KernelDv.sig) → Buf (Elt Bits) ℓ) (g : Dev Cert.KernelDv.nD → PrngReg), Pre_KernelDv m →
    θ_run (Cert.KernelDv.defs (F := Bits)) (onTc (τ := Cert.KernelDv.τ) (Cert.KernelDv.main (F := Bits))) ⟨m, fun _ => 0, g⟩ (fun r => (∀ c : Dev Cert.KernelDv.nD,
      r.2.mem ((c.tc : Thread Cert.KernelDv.nD Cert.KernelDv.τ).loc Cert.KernelDv.main_arg0) = m ((c.tc : Thread Cert.KernelDv.nD Cert.KernelDv.τ).loc Cert.KernelDv.main_arg0)
      ∧ r.2.mem ((c.tc : Thread Cert.KernelDv.nD Cert.KernelDv.τ).loc Cert.KernelDv.main_arg1) = m ((c.tc : Thread Cert.KernelDv.nD Cert.KernelDv.τ).loc Cert.KernelDv.main_arg1)
      ∧ r.2.mem ((c.tc : Thread Cert.KernelDv.nD Cert.KernelDv.τ).loc Cert.KernelDv.main_arg2) = m ((c.tc : Thread Cert.KernelDv.nD Cert.KernelDv.τ).loc Cert.KernelDv.main_arg2)
      ∧ r.2.mem ((c.tc : Thread Cert.KernelDv.nD Cert.KernelDv.τ).loc Cert.KernelDv.main_arg3) = m ((c.tc : Thread Cert.KernelDv.nD Cert.KernelDv.τ).loc Cert.KernelDv.main_arg3)
      ∧ r.2.mem ((c.tc : Thread Cert.KernelDv.nD Cert.KernelDv.τ).loc Cert.KernelDv.main_arg4) = m ((c.tc : Thread Cert.KernelDv.nD Cert.KernelDv.τ).loc Cert.KernelDv.main_arg4)
      ∧ r.2.mem ((c.tc : Thread Cert.KernelDv.nD Cert.KernelDv.τ).loc Cert.KernelDv.main_arg5) = m ((c.tc : Thread Cert.KernelDv.nD Cert.KernelDv.τ).loc Cert.KernelDv.main_arg5))
      ∧ r.2.sem = fun _ => 0)

def quiescent_KernelDvIdeal [hKernelDvIdeal : Cert.KernelDvIdeal.Facts] : Prop :=
  ∀ (m : (ℓ : Loc Cert.KernelDvIdeal.nD Cert.KernelDvIdeal.τ Cert.KernelDvIdeal.sig) → Buf (Elt Ideal) ℓ) (g : Dev Cert.KernelDvIdeal.nD → PrngReg), Pre_KernelDvIdeal m →
    θ_run (Cert.KernelDvIdeal.defs (F := Ideal)) (onTc (τ := Cert.KernelDvIdeal.τ) (Cert.KernelDvIdeal.main (F := Ideal))) ⟨m, fun _ => 0, g⟩ (fun r => (∀ c : Dev Cert.KernelDvIdeal.nD,
      r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
      ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1)
      ∧ r.2.mem ((c.tc : Thread Cert.KernelDvIdeal.nD Cert.KernelDvIdeal.τ).loc Cert.KernelDvIdeal.main_arg2) = m ((c.tc : Thread Cert.KernelDvIdeal.nD Cert.KernelDvIdeal.τ).loc Cert.KernelDvIdeal.main_arg2)
      ∧ r.2.mem ((c.tc : Thread Cert.KernelDvIdeal.nD Cert.KernelDvIdeal.τ).loc Cert.KernelDvIdeal.main_arg3) = m ((c.tc : Thread Cert.KernelDvIdeal.nD Cert.KernelDvIdeal.τ).loc Cert.KernelDvIdeal.main_arg3)
      ∧ r.2.mem ((c.tc : Thread Cert.KernelDvIdeal.nD Cert.KernelDvIdeal.τ).loc Cert.KernelDvIdeal.main_arg4) = m ((c.tc : Thread Cert.KernelDvIdeal.nD Cert.KernelDvIdeal.τ).loc Cert.KernelDvIdeal.main_arg4)
      ∧ r.2.mem ((c.tc : Thread Cert.KernelDvIdeal.nD Cert.KernelDvIdeal.τ).loc Cert.KernelDvIdeal.main_arg5) = m ((c.tc : Thread Cert.KernelDvIdeal.nD Cert.KernelDvIdeal.τ).loc Cert.KernelDvIdeal.main_arg5))
      ∧ r.2.sem = fun _ => 0)

def quiescent_KernelDvIdeal_pre_finite [hKernelDvIdeal : Cert.KernelDvIdeal.Facts] [hPre_finite : Cert.Pre_finite.Facts] : Prop :=
  ∀ (m : (ℓ : Loc Cert.KernelDvIdeal.nD Cert.KernelDvIdeal.τ Cert.KernelDvIdeal.sig) → Buf (Elt Ideal) ℓ) (g : Dev Cert.KernelDvIdeal.nD → PrngReg), Pre_KernelDvIdeal_finite m →
    θ_run (Cert.KernelDvIdeal.defs (F := Ideal)) (onTc (τ := Cert.KernelDvIdeal.τ) (Cert.KernelDvIdeal.main (F := Ideal))) ⟨m, fun _ => 0, g⟩ (fun r => (∀ c : Dev Cert.KernelDvIdeal.nD,
      r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
      ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1)
      ∧ r.2.mem ((c.tc : Thread Cert.KernelDvIdeal.nD Cert.KernelDvIdeal.τ).loc Cert.KernelDvIdeal.main_arg2) = m ((c.tc : Thread Cert.KernelDvIdeal.nD Cert.KernelDvIdeal.τ).loc Cert.KernelDvIdeal.main_arg2)
      ∧ r.2.mem ((c.tc : Thread Cert.KernelDvIdeal.nD Cert.KernelDvIdeal.τ).loc Cert.KernelDvIdeal.main_arg3) = m ((c.tc : Thread Cert.KernelDvIdeal.nD Cert.KernelDvIdeal.τ).loc Cert.KernelDvIdeal.main_arg3)
      ∧ r.2.mem ((c.tc : Thread Cert.KernelDvIdeal.nD Cert.KernelDvIdeal.τ).loc Cert.KernelDvIdeal.main_arg4) = m ((c.tc : Thread Cert.KernelDvIdeal.nD Cert.KernelDvIdeal.τ).loc Cert.KernelDvIdeal.main_arg4)
      ∧ r.2.mem ((c.tc : Thread Cert.KernelDvIdeal.nD Cert.KernelDvIdeal.τ).loc Cert.KernelDvIdeal.main_arg5) = m ((c.tc : Thread Cert.KernelDvIdeal.nD Cert.KernelDvIdeal.τ).loc Cert.KernelDvIdeal.main_arg5))
      ∧ r.2.sem = fun _ => 0)

def quiescent_RefDvIdeal [hRefDvIdeal : Cert.RefDvIdeal.Facts] : Prop :=
  ∀ (m : (ℓ : Loc Cert.RefDvIdeal.nD Cert.RefDvIdeal.τ Cert.RefDvIdeal.sig) → Buf (Elt Ideal) ℓ) (g : Dev Cert.RefDvIdeal.nD → PrngReg), Pre_RefDvIdeal m →
    θ_run (Cert.RefDvIdeal.defs (F := Ideal)) (onTc (τ := Cert.RefDvIdeal.τ) (Cert.RefDvIdeal.main (F := Ideal))) ⟨m, fun _ => 0, g⟩ (fun r => (∀ c : Dev Cert.RefDvIdeal.nD,
      r.2.mem ((c.tc : Thread Cert.RefDvIdeal.nD Cert.RefDvIdeal.τ).loc Cert.RefDvIdeal.main_arg0) = m ((c.tc : Thread Cert.RefDvIdeal.nD Cert.RefDvIdeal.τ).loc Cert.RefDvIdeal.main_arg0)
      ∧ r.2.mem ((c.tc : Thread Cert.RefDvIdeal.nD Cert.RefDvIdeal.τ).loc Cert.RefDvIdeal.main_arg1) = m ((c.tc : Thread Cert.RefDvIdeal.nD Cert.RefDvIdeal.τ).loc Cert.RefDvIdeal.main_arg1)
      ∧ r.2.mem ((c.tc : Thread Cert.RefDvIdeal.nD Cert.RefDvIdeal.τ).loc Cert.RefDvIdeal.main_arg2) = m ((c.tc : Thread Cert.RefDvIdeal.nD Cert.RefDvIdeal.τ).loc Cert.RefDvIdeal.main_arg2)
      ∧ r.2.mem ((c.tc : Thread Cert.RefDvIdeal.nD Cert.RefDvIdeal.τ).loc Cert.RefDvIdeal.main_arg3) = m ((c.tc : Thread Cert.RefDvIdeal.nD Cert.RefDvIdeal.τ).loc Cert.RefDvIdeal.main_arg3)
      ∧ r.2.mem ((c.tc : Thread Cert.RefDvIdeal.nD Cert.RefDvIdeal.τ).loc Cert.RefDvIdeal.main_arg4) = m ((c.tc : Thread Cert.RefDvIdeal.nD Cert.RefDvIdeal.τ).loc Cert.RefDvIdeal.main_arg4)
      ∧ r.2.mem ((c.tc : Thread Cert.RefDvIdeal.nD Cert.RefDvIdeal.τ).loc Cert.RefDvIdeal.main_arg5) = m ((c.tc : Thread Cert.RefDvIdeal.nD Cert.RefDvIdeal.τ).loc Cert.RefDvIdeal.main_arg5))
      ∧ r.2.sem = fun _ => 0)

def quiescent_RefDvIdeal_pre_finite [hRefDvIdeal : Cert.RefDvIdeal.Facts] [hPre_finite : Cert.Pre_finite.Facts] : Prop :=
  ∀ (m : (ℓ : Loc Cert.RefDvIdeal.nD Cert.RefDvIdeal.τ Cert.RefDvIdeal.sig) → Buf (Elt Ideal) ℓ) (g : Dev Cert.RefDvIdeal.nD → PrngReg), Pre_RefDvIdeal_finite m →
    θ_run (Cert.RefDvIdeal.defs (F := Ideal)) (onTc (τ := Cert.RefDvIdeal.τ) (Cert.RefDvIdeal.main (F := Ideal))) ⟨m, fun _ => 0, g⟩ (fun r => (∀ c : Dev Cert.RefDvIdeal.nD,
      r.2.mem ((c.tc : Thread Cert.RefDvIdeal.nD Cert.RefDvIdeal.τ).loc Cert.RefDvIdeal.main_arg0) = m ((c.tc : Thread Cert.RefDvIdeal.nD Cert.RefDvIdeal.τ).loc Cert.RefDvIdeal.main_arg0)
      ∧ r.2.mem ((c.tc : Thread Cert.RefDvIdeal.nD Cert.RefDvIdeal.τ).loc Cert.RefDvIdeal.main_arg1) = m ((c.tc : Thread Cert.RefDvIdeal.nD Cert.RefDvIdeal.τ).loc Cert.RefDvIdeal.main_arg1)
      ∧ r.2.mem ((c.tc : Thread Cert.RefDvIdeal.nD Cert.RefDvIdeal.τ).loc Cert.RefDvIdeal.main_arg2) = m ((c.tc : Thread Cert.RefDvIdeal.nD Cert.RefDvIdeal.τ).loc Cert.RefDvIdeal.main_arg2)
      ∧ r.2.mem ((c.tc : Thread Cert.RefDvIdeal.nD Cert.RefDvIdeal.τ).loc Cert.RefDvIdeal.main_arg3) = m ((c.tc : Thread Cert.RefDvIdeal.nD Cert.RefDvIdeal.τ).loc Cert.RefDvIdeal.main_arg3)
      ∧ r.2.mem ((c.tc : Thread Cert.RefDvIdeal.nD Cert.RefDvIdeal.τ).loc Cert.RefDvIdeal.main_arg4) = m ((c.tc : Thread Cert.RefDvIdeal.nD Cert.RefDvIdeal.τ).loc Cert.RefDvIdeal.main_arg4)
      ∧ r.2.mem ((c.tc : Thread Cert.RefDvIdeal.nD Cert.RefDvIdeal.τ).loc Cert.RefDvIdeal.main_arg5) = m ((c.tc : Thread Cert.RefDvIdeal.nD Cert.RefDvIdeal.τ).loc Cert.RefDvIdeal.main_arg5))
      ∧ r.2.sem = fun _ => 0)

def quiescent_KernelFfnBwd [hKernelFfnBwd : Cert.KernelFfnBwd.Facts] : Prop :=
  ∀ (m : (ℓ : Loc Cert.KernelFfnBwd.nD Cert.KernelFfnBwd.τ Cert.KernelFfnBwd.sig) → Buf (Elt Bits) ℓ) (g : Dev Cert.KernelFfnBwd.nD → PrngReg), Pre_KernelFfnBwd m →
    θ_run (Cert.KernelFfnBwd.defs (F := Bits)) (onTc (τ := Cert.KernelFfnBwd.τ) (Cert.KernelFfnBwd.main (F := Bits))) ⟨m, fun _ => 0, g⟩ (fun r => (∀ c : Dev Cert.KernelFfnBwd.nD,
      r.2.mem ((c.tc : Thread Cert.KernelFfnBwd.nD Cert.KernelFfnBwd.τ).loc Cert.KernelFfnBwd.main_arg0) = m ((c.tc : Thread Cert.KernelFfnBwd.nD Cert.KernelFfnBwd.τ).loc Cert.KernelFfnBwd.main_arg0)
      ∧ r.2.mem ((c.tc : Thread Cert.KernelFfnBwd.nD Cert.KernelFfnBwd.τ).loc Cert.KernelFfnBwd.main_arg1) = m ((c.tc : Thread Cert.KernelFfnBwd.nD Cert.KernelFfnBwd.τ).loc Cert.KernelFfnBwd.main_arg1)
      ∧ r.2.mem ((c.tc : Thread Cert.KernelFfnBwd.nD Cert.KernelFfnBwd.τ).loc Cert.KernelFfnBwd.main_arg2) = m ((c.tc : Thread Cert.KernelFfnBwd.nD Cert.KernelFfnBwd.τ).loc Cert.KernelFfnBwd.main_arg2)
      ∧ r.2.mem ((c.tc : Thread Cert.KernelFfnBwd.nD Cert.KernelFfnBwd.τ).loc Cert.KernelFfnBwd.main_arg3) = m ((c.tc : Thread Cert.KernelFfnBwd.nD Cert.KernelFfnBwd.τ).loc Cert.KernelFfnBwd.main_arg3)
      ∧ r.2.mem ((c.tc : Thread Cert.KernelFfnBwd.nD Cert.KernelFfnBwd.τ).loc Cert.KernelFfnBwd.main_arg4) = m ((c.tc : Thread Cert.KernelFfnBwd.nD Cert.KernelFfnBwd.τ).loc Cert.KernelFfnBwd.main_arg4)
      ∧ r.2.mem ((c.tc : Thread Cert.KernelFfnBwd.nD Cert.KernelFfnBwd.τ).loc Cert.KernelFfnBwd.main_arg5) = m ((c.tc : Thread Cert.KernelFfnBwd.nD Cert.KernelFfnBwd.τ).loc Cert.KernelFfnBwd.main_arg5)
      ∧ r.2.mem ((c.tc : Thread Cert.KernelFfnBwd.nD Cert.KernelFfnBwd.τ).loc Cert.KernelFfnBwd.main_arg6) = m ((c.tc : Thread Cert.KernelFfnBwd.nD Cert.KernelFfnBwd.τ).loc Cert.KernelFfnBwd.main_arg6))
      ∧ r.2.sem = fun _ => 0)

def quiescent_KernelFfnBwdIdeal [hKernelFfnBwdIdeal : Cert.KernelFfnBwdIdeal.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg), Pre_KernelFfnBwdIdeal m →
    θ_run (Cert.KernelFfnBwdIdeal.defs (F := Ideal)) (onTc (τ := Cert.KernelFfnBwdIdeal.τ) (Cert.KernelFfnBwdIdeal.main (F := Ideal))) ⟨m, fun _ => 0, g⟩ (fun r => (∀ c : Dev Cert.KernelFfnBwdIdeal.nD,
      r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
      ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
      ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
      ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
      ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
      ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5)
      ∧ r.2.mem ((c.tc : Thread Cert.KernelFfnBwdIdeal.nD Cert.KernelFfnBwdIdeal.τ).loc Cert.KernelFfnBwdIdeal.main_arg6) = m ((c.tc : Thread Cert.KernelFfnBwdIdeal.nD Cert.KernelFfnBwdIdeal.τ).loc Cert.KernelFfnBwdIdeal.main_arg6))
      ∧ r.2.sem = fun _ => 0)

def quiescent_KernelFfnBwdIdeal_pre_finite_ffn [hKernelFfnBwdIdeal : Cert.KernelFfnBwdIdeal.Facts] [hPre_finite_ffn : Cert.Pre_finite_ffn.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg), Pre_KernelFfnBwdIdeal_finite_ffn m →
    θ_run (Cert.KernelFfnBwdIdeal.defs (F := Ideal)) (onTc (τ := Cert.KernelFfnBwdIdeal.τ) (Cert.KernelFfnBwdIdeal.main (F := Ideal))) ⟨m, fun _ => 0, g⟩ (fun r => (∀ c : Dev Cert.KernelFfnBwdIdeal.nD,
      r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
      ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
      ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
      ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
      ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
      ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5)
      ∧ r.2.mem ((c.tc : Thread Cert.KernelFfnBwdIdeal.nD Cert.KernelFfnBwdIdeal.τ).loc Cert.KernelFfnBwdIdeal.main_arg6) = m ((c.tc : Thread Cert.KernelFfnBwdIdeal.nD Cert.KernelFfnBwdIdeal.τ).loc Cert.KernelFfnBwdIdeal.main_arg6))
      ∧ r.2.sem = fun _ => 0)

def quiescent_RefFfnBwdIdeal [hRefFfnBwdIdeal : Cert.RefFfnBwdIdeal.Facts] : Prop :=
  ∀ (m : (ℓ : Loc Cert.RefFfnBwdIdeal.nD Cert.RefFfnBwdIdeal.τ Cert.RefFfnBwdIdeal.sig) → Buf (Elt Ideal) ℓ) (g : Dev Cert.RefFfnBwdIdeal.nD → PrngReg), Pre_RefFfnBwdIdeal m →
    θ_run (Cert.RefFfnBwdIdeal.defs (F := Ideal)) (onTc (τ := Cert.RefFfnBwdIdeal.τ) (Cert.RefFfnBwdIdeal.main (F := Ideal))) ⟨m, fun _ => 0, g⟩ (fun r => (∀ c : Dev Cert.RefFfnBwdIdeal.nD,
      r.2.mem ((c.tc : Thread Cert.RefFfnBwdIdeal.nD Cert.RefFfnBwdIdeal.τ).loc Cert.RefFfnBwdIdeal.main_arg0) = m ((c.tc : Thread Cert.RefFfnBwdIdeal.nD Cert.RefFfnBwdIdeal.τ).loc Cert.RefFfnBwdIdeal.main_arg0)
      ∧ r.2.mem ((c.tc : Thread Cert.RefFfnBwdIdeal.nD Cert.RefFfnBwdIdeal.τ).loc Cert.RefFfnBwdIdeal.main_arg1) = m ((c.tc : Thread Cert.RefFfnBwdIdeal.nD Cert.RefFfnBwdIdeal.τ).loc Cert.RefFfnBwdIdeal.main_arg1)
      ∧ r.2.mem ((c.tc : Thread Cert.RefFfnBwdIdeal.nD Cert.RefFfnBwdIdeal.τ).loc Cert.RefFfnBwdIdeal.main_arg2) = m ((c.tc : Thread Cert.RefFfnBwdIdeal.nD Cert.RefFfnBwdIdeal.τ).loc Cert.RefFfnBwdIdeal.main_arg2)
      ∧ r.2.mem ((c.tc : Thread Cert.RefFfnBwdIdeal.nD Cert.RefFfnBwdIdeal.τ).loc Cert.RefFfnBwdIdeal.main_arg3) = m ((c.tc : Thread Cert.RefFfnBwdIdeal.nD Cert.RefFfnBwdIdeal.τ).loc Cert.RefFfnBwdIdeal.main_arg3)
      ∧ r.2.mem ((c.tc : Thread Cert.RefFfnBwdIdeal.nD Cert.RefFfnBwdIdeal.τ).loc Cert.RefFfnBwdIdeal.main_arg4) = m ((c.tc : Thread Cert.RefFfnBwdIdeal.nD Cert.RefFfnBwdIdeal.τ).loc Cert.RefFfnBwdIdeal.main_arg4)
      ∧ r.2.mem ((c.tc : Thread Cert.RefFfnBwdIdeal.nD Cert.RefFfnBwdIdeal.τ).loc Cert.RefFfnBwdIdeal.main_arg5) = m ((c.tc : Thread Cert.RefFfnBwdIdeal.nD Cert.RefFfnBwdIdeal.τ).loc Cert.RefFfnBwdIdeal.main_arg5)
      ∧ r.2.mem ((c.tc : Thread Cert.RefFfnBwdIdeal.nD Cert.RefFfnBwdIdeal.τ).loc Cert.RefFfnBwdIdeal.main_arg6) = m ((c.tc : Thread Cert.RefFfnBwdIdeal.nD Cert.RefFfnBwdIdeal.τ).loc Cert.RefFfnBwdIdeal.main_arg6))
      ∧ r.2.sem = fun _ => 0)

def quiescent_RefFfnBwdIdeal_pre_finite_ffn [hRefFfnBwdIdeal : Cert.RefFfnBwdIdeal.Facts] [hPre_finite_ffn : Cert.Pre_finite_ffn.Facts] : Prop :=
  ∀ (m : (ℓ : Loc Cert.RefFfnBwdIdeal.nD Cert.RefFfnBwdIdeal.τ Cert.RefFfnBwdIdeal.sig) → Buf (Elt Ideal) ℓ) (g : Dev Cert.RefFfnBwdIdeal.nD → PrngReg), Pre_RefFfnBwdIdeal_finite_ffn m →
    θ_run (Cert.RefFfnBwdIdeal.defs (F := Ideal)) (onTc (τ := Cert.RefFfnBwdIdeal.τ) (Cert.RefFfnBwdIdeal.main (F := Ideal))) ⟨m, fun _ => 0, g⟩ (fun r => (∀ c : Dev Cert.RefFfnBwdIdeal.nD,
      r.2.mem ((c.tc : Thread Cert.RefFfnBwdIdeal.nD Cert.RefFfnBwdIdeal.τ).loc Cert.RefFfnBwdIdeal.main_arg0) = m ((c.tc : Thread Cert.RefFfnBwdIdeal.nD Cert.RefFfnBwdIdeal.τ).loc Cert.RefFfnBwdIdeal.main_arg0)
      ∧ r.2.mem ((c.tc : Thread Cert.RefFfnBwdIdeal.nD Cert.RefFfnBwdIdeal.τ).loc Cert.RefFfnBwdIdeal.main_arg1) = m ((c.tc : Thread Cert.RefFfnBwdIdeal.nD Cert.RefFfnBwdIdeal.τ).loc Cert.RefFfnBwdIdeal.main_arg1)
      ∧ r.2.mem ((c.tc : Thread Cert.RefFfnBwdIdeal.nD Cert.RefFfnBwdIdeal.τ).loc Cert.RefFfnBwdIdeal.main_arg2) = m ((c.tc : Thread Cert.RefFfnBwdIdeal.nD Cert.RefFfnBwdIdeal.τ).loc Cert.RefFfnBwdIdeal.main_arg2)
      ∧ r.2.mem ((c.tc : Thread Cert.RefFfnBwdIdeal.nD Cert.RefFfnBwdIdeal.τ).loc Cert.RefFfnBwdIdeal.main_arg3) = m ((c.tc : Thread Cert.RefFfnBwdIdeal.nD Cert.RefFfnBwdIdeal.τ).loc Cert.RefFfnBwdIdeal.main_arg3)
      ∧ r.2.mem ((c.tc : Thread Cert.RefFfnBwdIdeal.nD Cert.RefFfnBwdIdeal.τ).loc Cert.RefFfnBwdIdeal.main_arg4) = m ((c.tc : Thread Cert.RefFfnBwdIdeal.nD Cert.RefFfnBwdIdeal.τ).loc Cert.RefFfnBwdIdeal.main_arg4)
      ∧ r.2.mem ((c.tc : Thread Cert.RefFfnBwdIdeal.nD Cert.RefFfnBwdIdeal.τ).loc Cert.RefFfnBwdIdeal.main_arg5) = m ((c.tc : Thread Cert.RefFfnBwdIdeal.nD Cert.RefFfnBwdIdeal.τ).loc Cert.RefFfnBwdIdeal.main_arg5)
      ∧ r.2.mem ((c.tc : Thread Cert.RefFfnBwdIdeal.nD Cert.RefFfnBwdIdeal.τ).loc Cert.RefFfnBwdIdeal.main_arg6) = m ((c.tc : Thread Cert.RefFfnBwdIdeal.nD Cert.RefFfnBwdIdeal.τ).loc Cert.RefFfnBwdIdeal.main_arg6))
      ∧ r.2.sem = fun _ => 0)

def quiescent_KernelWgrad [hKernelWgrad : Cert.KernelWgrad.Facts] : Prop :=
  ∀ (m : (ℓ : Loc Cert.KernelWgrad.nD Cert.KernelWgrad.τ Cert.KernelWgrad.sig) → Buf (Elt Bits) ℓ) (g : Dev Cert.KernelWgrad.nD → PrngReg), Pre_KernelWgrad m →
    θ_run (Cert.KernelWgrad.defs (F := Bits)) (onTc (τ := Cert.KernelWgrad.τ) (Cert.KernelWgrad.main (F := Bits))) ⟨m, fun _ => 0, g⟩ (fun r => (∀ c : Dev Cert.KernelWgrad.nD,
      r.2.mem ((c.tc : Thread Cert.KernelWgrad.nD Cert.KernelWgrad.τ).loc Cert.KernelWgrad.main_arg0) = m ((c.tc : Thread Cert.KernelWgrad.nD Cert.KernelWgrad.τ).loc Cert.KernelWgrad.main_arg0)
      ∧ r.2.mem ((c.tc : Thread Cert.KernelWgrad.nD Cert.KernelWgrad.τ).loc Cert.KernelWgrad.main_arg1) = m ((c.tc : Thread Cert.KernelWgrad.nD Cert.KernelWgrad.τ).loc Cert.KernelWgrad.main_arg1))
      ∧ r.2.sem = fun _ => 0)

def quiescent_KernelWgradIdeal [hKernelWgradIdeal : Cert.KernelWgradIdeal.Facts] : Prop :=
  ∀ (m : (ℓ : Loc Cert.KernelWgradIdeal.nD Cert.KernelWgradIdeal.τ Cert.KernelWgradIdeal.sig) → Buf (Elt Ideal) ℓ) (g : Dev Cert.KernelWgradIdeal.nD → PrngReg), Pre_KernelWgradIdeal m →
    θ_run (Cert.KernelWgradIdeal.defs (F := Ideal)) (onTc (τ := Cert.KernelWgradIdeal.τ) (Cert.KernelWgradIdeal.main (F := Ideal))) ⟨m, fun _ => 0, g⟩ (fun r => (∀ c : Dev Cert.KernelWgradIdeal.nD,
      r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
      ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ r.2.sem = fun _ => 0)

def quiescent_RefWgradIdeal [hRefWgradIdeal : Cert.RefWgradIdeal.Facts] : Prop :=
  ∀ (m : (ℓ : Loc Cert.RefWgradIdeal.nD Cert.RefWgradIdeal.τ Cert.RefWgradIdeal.sig) → Buf (Elt Ideal) ℓ) (g : Dev Cert.RefWgradIdeal.nD → PrngReg), Pre_RefWgradIdeal m →
    θ_run (Cert.RefWgradIdeal.defs (F := Ideal)) (onTc (τ := Cert.RefWgradIdeal.τ) (Cert.RefWgradIdeal.main (F := Ideal))) ⟨m, fun _ => 0, g⟩ (fun r => (∀ c : Dev Cert.RefWgradIdeal.nD,
      r.2.mem ((c.tc : Thread Cert.RefWgradIdeal.nD Cert.RefWgradIdeal.τ).loc Cert.RefWgradIdeal.main_arg0) = m ((c.tc : Thread Cert.RefWgradIdeal.nD Cert.RefWgradIdeal.τ).loc Cert.RefWgradIdeal.main_arg0)
      ∧ r.2.mem ((c.tc : Thread Cert.RefWgradIdeal.nD Cert.RefWgradIdeal.τ).loc Cert.RefWgradIdeal.main_arg1) = m ((c.tc : Thread Cert.RefWgradIdeal.nD Cert.RefWgradIdeal.τ).loc Cert.RefWgradIdeal.main_arg1))
      ∧ r.2.sem = fun _ => 0)

def quiescent_KernelFfnFwd [hKernelFfnFwd : Cert.KernelFfnFwd.Facts] : Prop :=
  ∀ (m : (ℓ : Loc Cert.KernelFfnFwd.nD Cert.KernelFfnFwd.τ Cert.KernelFfnFwd.sig) → Buf (Elt Bits) ℓ) (g : Dev Cert.KernelFfnFwd.nD → PrngReg), Pre_KernelFfnFwd m →
    θ_run (Cert.KernelFfnFwd.defs (F := Bits)) (onTc (τ := Cert.KernelFfnFwd.τ) (Cert.KernelFfnFwd.main (F := Bits))) ⟨m, fun _ => 0, g⟩ (fun r => (∀ c : Dev Cert.KernelFfnFwd.nD,
      r.2.mem ((c.tc : Thread Cert.KernelFfnFwd.nD Cert.KernelFfnFwd.τ).loc Cert.KernelFfnFwd.main_arg0) = m ((c.tc : Thread Cert.KernelFfnFwd.nD Cert.KernelFfnFwd.τ).loc Cert.KernelFfnFwd.main_arg0)
      ∧ r.2.mem ((c.tc : Thread Cert.KernelFfnFwd.nD Cert.KernelFfnFwd.τ).loc Cert.KernelFfnFwd.main_arg1) = m ((c.tc : Thread Cert.KernelFfnFwd.nD Cert.KernelFfnFwd.τ).loc Cert.KernelFfnFwd.main_arg1)
      ∧ r.2.mem ((c.tc : Thread Cert.KernelFfnFwd.nD Cert.KernelFfnFwd.τ).loc Cert.KernelFfnFwd.main_arg2) = m ((c.tc : Thread Cert.KernelFfnFwd.nD Cert.KernelFfnFwd.τ).loc Cert.KernelFfnFwd.main_arg2)
      ∧ r.2.mem ((c.tc : Thread Cert.KernelFfnFwd.nD Cert.KernelFfnFwd.τ).loc Cert.KernelFfnFwd.main_arg3) = m ((c.tc : Thread Cert.KernelFfnFwd.nD Cert.KernelFfnFwd.τ).loc Cert.KernelFfnFwd.main_arg3)
      ∧ r.2.mem ((c.tc : Thread Cert.KernelFfnFwd.nD Cert.KernelFfnFwd.τ).loc Cert.KernelFfnFwd.main_arg4) = m ((c.tc : Thread Cert.KernelFfnFwd.nD Cert.KernelFfnFwd.τ).loc Cert.KernelFfnFwd.main_arg4)
      ∧ r.2.mem ((c.tc : Thread Cert.KernelFfnFwd.nD Cert.KernelFfnFwd.τ).loc Cert.KernelFfnFwd.main_arg5) = m ((c.tc : Thread Cert.KernelFfnFwd.nD Cert.KernelFfnFwd.τ).loc Cert.KernelFfnFwd.main_arg5))
      ∧ r.2.sem = fun _ => 0)

def quiescent_KernelFfnFwdIdeal [hKernelFfnFwdIdeal : Cert.KernelFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg), Pre_KernelFfnFwdIdeal m →
    θ_run (Cert.KernelFfnFwdIdeal.defs (F := Ideal)) (onTc (τ := Cert.KernelFfnFwdIdeal.τ) (Cert.KernelFfnFwdIdeal.main (F := Ideal))) ⟨m, fun _ => 0, g⟩ (fun r => (∀ c : Dev Cert.KernelFfnFwdIdeal.nD,
      r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
      ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
      ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
      ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
      ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4)
      ∧ r.2.mem ((c.tc : Thread Cert.KernelFfnFwdIdeal.nD Cert.KernelFfnFwdIdeal.τ).loc Cert.KernelFfnFwdIdeal.main_arg5) = m ((c.tc : Thread Cert.KernelFfnFwdIdeal.nD Cert.KernelFfnFwdIdeal.τ).loc Cert.KernelFfnFwdIdeal.main_arg5))
      ∧ r.2.sem = fun _ => 0)

def quiescent_RefFfnFwdIdeal [hRefFfnFwdIdeal : Cert.RefFfnFwdIdeal.Facts] : Prop :=
  ∀ (m : (ℓ : Loc Cert.RefFfnFwdIdeal.nD Cert.RefFfnFwdIdeal.τ Cert.RefFfnFwdIdeal.sig) → Buf (Elt Ideal) ℓ) (g : Dev Cert.RefFfnFwdIdeal.nD → PrngReg), Pre_RefFfnFwdIdeal m →
    θ_run (Cert.RefFfnFwdIdeal.defs (F := Ideal)) (onTc (τ := Cert.RefFfnFwdIdeal.τ) (Cert.RefFfnFwdIdeal.main (F := Ideal))) ⟨m, fun _ => 0, g⟩ (fun r => (∀ c : Dev Cert.RefFfnFwdIdeal.nD,
      r.2.mem ((c.tc : Thread Cert.RefFfnFwdIdeal.nD Cert.RefFfnFwdIdeal.τ).loc Cert.RefFfnFwdIdeal.main_arg0) = m ((c.tc : Thread Cert.RefFfnFwdIdeal.nD Cert.RefFfnFwdIdeal.τ).loc Cert.RefFfnFwdIdeal.main_arg0)
      ∧ r.2.mem ((c.tc : Thread Cert.RefFfnFwdIdeal.nD Cert.RefFfnFwdIdeal.τ).loc Cert.RefFfnFwdIdeal.main_arg1) = m ((c.tc : Thread Cert.RefFfnFwdIdeal.nD Cert.RefFfnFwdIdeal.τ).loc Cert.RefFfnFwdIdeal.main_arg1)
      ∧ r.2.mem ((c.tc : Thread Cert.RefFfnFwdIdeal.nD Cert.RefFfnFwdIdeal.τ).loc Cert.RefFfnFwdIdeal.main_arg2) = m ((c.tc : Thread Cert.RefFfnFwdIdeal.nD Cert.RefFfnFwdIdeal.τ).loc Cert.RefFfnFwdIdeal.main_arg2)
      ∧ r.2.mem ((c.tc : Thread Cert.RefFfnFwdIdeal.nD Cert.RefFfnFwdIdeal.τ).loc Cert.RefFfnFwdIdeal.main_arg3) = m ((c.tc : Thread Cert.RefFfnFwdIdeal.nD Cert.RefFfnFwdIdeal.τ).loc Cert.RefFfnFwdIdeal.main_arg3)
      ∧ r.2.mem ((c.tc : Thread Cert.RefFfnFwdIdeal.nD Cert.RefFfnFwdIdeal.τ).loc Cert.RefFfnFwdIdeal.main_arg4) = m ((c.tc : Thread Cert.RefFfnFwdIdeal.nD Cert.RefFfnFwdIdeal.τ).loc Cert.RefFfnFwdIdeal.main_arg4)
      ∧ r.2.mem ((c.tc : Thread Cert.RefFfnFwdIdeal.nD Cert.RefFfnFwdIdeal.τ).loc Cert.RefFfnFwdIdeal.main_arg5) = m ((c.tc : Thread Cert.RefFfnFwdIdeal.nD Cert.RefFfnFwdIdeal.τ).loc Cert.RefFfnFwdIdeal.main_arg5))
      ∧ r.2.sem = fun _ => 0)

def quiescent_KernelMixIn [hKernelMixIn : Cert.KernelMixIn.Facts] : Prop :=
  ∀ (m : (ℓ : Loc Cert.KernelMixIn.nD Cert.KernelMixIn.τ Cert.KernelMixIn.sig) → Buf (Elt Bits) ℓ) (g : Dev Cert.KernelMixIn.nD → PrngReg), Pre_KernelMixIn m →
    θ_run (Cert.KernelMixIn.defs (F := Bits)) (onTc (τ := Cert.KernelMixIn.τ) (Cert.KernelMixIn.main (F := Bits))) ⟨m, fun _ => 0, g⟩ (fun r => (∀ c : Dev Cert.KernelMixIn.nD,
      r.2.mem ((c.tc : Thread Cert.KernelMixIn.nD Cert.KernelMixIn.τ).loc Cert.KernelMixIn.main_arg0) = m ((c.tc : Thread Cert.KernelMixIn.nD Cert.KernelMixIn.τ).loc Cert.KernelMixIn.main_arg0)
      ∧ r.2.mem ((c.tc : Thread Cert.KernelMixIn.nD Cert.KernelMixIn.τ).loc Cert.KernelMixIn.main_arg1) = m ((c.tc : Thread Cert.KernelMixIn.nD Cert.KernelMixIn.τ).loc Cert.KernelMixIn.main_arg1)
      ∧ r.2.mem ((c.tc : Thread Cert.KernelMixIn.nD Cert.KernelMixIn.τ).loc Cert.KernelMixIn.main_arg2) = m ((c.tc : Thread Cert.KernelMixIn.nD Cert.KernelMixIn.τ).loc Cert.KernelMixIn.main_arg2)
      ∧ r.2.mem ((c.tc : Thread Cert.KernelMixIn.nD Cert.KernelMixIn.τ).loc Cert.KernelMixIn.main_arg3) = m ((c.tc : Thread Cert.KernelMixIn.nD Cert.KernelMixIn.τ).loc Cert.KernelMixIn.main_arg3))
      ∧ r.2.sem = fun _ => 0)

def quiescent_KernelMixInIdeal [hKernelMixInIdeal : Cert.KernelMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg), Pre_KernelMixInIdeal m →
    θ_run (Cert.KernelMixInIdeal.defs (F := Ideal)) (onTc (τ := Cert.KernelMixInIdeal.τ) (Cert.KernelMixInIdeal.main (F := Ideal))) ⟨m, fun _ => 0, g⟩ (fun r => (∀ c : Dev Cert.KernelMixInIdeal.nD,
      r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
      ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
      ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
      ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3))
      ∧ r.2.sem = fun _ => 0)

def quiescent_RefMixInIdeal [hRefMixInIdeal : Cert.RefMixInIdeal.Facts] : Prop :=
  ∀ (m : (ℓ : Loc Cert.RefMixInIdeal.nD Cert.RefMixInIdeal.τ Cert.RefMixInIdeal.sig) → Buf (Elt Ideal) ℓ) (g : Dev Cert.RefMixInIdeal.nD → PrngReg), Pre_RefMixInIdeal m →
    θ_run (Cert.RefMixInIdeal.defs (F := Ideal)) (onTc (τ := Cert.RefMixInIdeal.τ) (Cert.RefMixInIdeal.main (F := Ideal))) ⟨m, fun _ => 0, g⟩ (fun r => (∀ c : Dev Cert.RefMixInIdeal.nD,
      r.2.mem ((c.tc : Thread Cert.RefMixInIdeal.nD Cert.RefMixInIdeal.τ).loc Cert.RefMixInIdeal.main_arg0) = m ((c.tc : Thread Cert.RefMixInIdeal.nD Cert.RefMixInIdeal.τ).loc Cert.RefMixInIdeal.main_arg0)
      ∧ r.2.mem ((c.tc : Thread Cert.RefMixInIdeal.nD Cert.RefMixInIdeal.τ).loc Cert.RefMixInIdeal.main_arg1) = m ((c.tc : Thread Cert.RefMixInIdeal.nD Cert.RefMixInIdeal.τ).loc Cert.RefMixInIdeal.main_arg1)
      ∧ r.2.mem ((c.tc : Thread Cert.RefMixInIdeal.nD Cert.RefMixInIdeal.τ).loc Cert.RefMixInIdeal.main_arg2) = m ((c.tc : Thread Cert.RefMixInIdeal.nD Cert.RefMixInIdeal.τ).loc Cert.RefMixInIdeal.main_arg2)
      ∧ r.2.mem ((c.tc : Thread Cert.RefMixInIdeal.nD Cert.RefMixInIdeal.τ).loc Cert.RefMixInIdeal.main_arg3) = m ((c.tc : Thread Cert.RefMixInIdeal.nD Cert.RefMixInIdeal.τ).loc Cert.RefMixInIdeal.main_arg3))
      ∧ r.2.sem = fun _ => 0)

def quiescent_KernelMixOut [hKernelMixOut : Cert.KernelMixOut.Facts] : Prop :=
  ∀ (m : (ℓ : Loc Cert.KernelMixOut.nD Cert.KernelMixOut.τ Cert.KernelMixOut.sig) → Buf (Elt Bits) ℓ) (g : Dev Cert.KernelMixOut.nD → PrngReg), Pre_KernelMixOut m →
    θ_run (Cert.KernelMixOut.defs (F := Bits)) (onTc (τ := Cert.KernelMixOut.τ) (Cert.KernelMixOut.main (F := Bits))) ⟨m, fun _ => 0, g⟩ (fun r => (∀ c : Dev Cert.KernelMixOut.nD,
      r.2.mem ((c.tc : Thread Cert.KernelMixOut.nD Cert.KernelMixOut.τ).loc Cert.KernelMixOut.main_arg0) = m ((c.tc : Thread Cert.KernelMixOut.nD Cert.KernelMixOut.τ).loc Cert.KernelMixOut.main_arg0)
      ∧ r.2.mem ((c.tc : Thread Cert.KernelMixOut.nD Cert.KernelMixOut.τ).loc Cert.KernelMixOut.main_arg1) = m ((c.tc : Thread Cert.KernelMixOut.nD Cert.KernelMixOut.τ).loc Cert.KernelMixOut.main_arg1)
      ∧ r.2.mem ((c.tc : Thread Cert.KernelMixOut.nD Cert.KernelMixOut.τ).loc Cert.KernelMixOut.main_arg2) = m ((c.tc : Thread Cert.KernelMixOut.nD Cert.KernelMixOut.τ).loc Cert.KernelMixOut.main_arg2)
      ∧ r.2.mem ((c.tc : Thread Cert.KernelMixOut.nD Cert.KernelMixOut.τ).loc Cert.KernelMixOut.main_arg3) = m ((c.tc : Thread Cert.KernelMixOut.nD Cert.KernelMixOut.τ).loc Cert.KernelMixOut.main_arg3)
      ∧ r.2.mem ((c.tc : Thread Cert.KernelMixOut.nD Cert.KernelMixOut.τ).loc Cert.KernelMixOut.main_arg4) = m ((c.tc : Thread Cert.KernelMixOut.nD Cert.KernelMixOut.τ).loc Cert.KernelMixOut.main_arg4)
      ∧ r.2.mem ((c.tc : Thread Cert.KernelMixOut.nD Cert.KernelMixOut.τ).loc Cert.KernelMixOut.main_arg5) = m ((c.tc : Thread Cert.KernelMixOut.nD Cert.KernelMixOut.τ).loc Cert.KernelMixOut.main_arg5)
      ∧ r.2.mem ((c.tc : Thread Cert.KernelMixOut.nD Cert.KernelMixOut.τ).loc Cert.KernelMixOut.main_arg6) = m ((c.tc : Thread Cert.KernelMixOut.nD Cert.KernelMixOut.τ).loc Cert.KernelMixOut.main_arg6)
      ∧ r.2.mem ((c.tc : Thread Cert.KernelMixOut.nD Cert.KernelMixOut.τ).loc Cert.KernelMixOut.main_arg7) = m ((c.tc : Thread Cert.KernelMixOut.nD Cert.KernelMixOut.τ).loc Cert.KernelMixOut.main_arg7)
      ∧ r.2.mem ((c.tc : Thread Cert.KernelMixOut.nD Cert.KernelMixOut.τ).loc Cert.KernelMixOut.main_arg8) = m ((c.tc : Thread Cert.KernelMixOut.nD Cert.KernelMixOut.τ).loc Cert.KernelMixOut.main_arg8)
      ∧ r.2.mem ((c.tc : Thread Cert.KernelMixOut.nD Cert.KernelMixOut.τ).loc Cert.KernelMixOut.main_arg9) = m ((c.tc : Thread Cert.KernelMixOut.nD Cert.KernelMixOut.τ).loc Cert.KernelMixOut.main_arg9)
      ∧ r.2.mem ((c.tc : Thread Cert.KernelMixOut.nD Cert.KernelMixOut.τ).loc Cert.KernelMixOut.main_arg10) = m ((c.tc : Thread Cert.KernelMixOut.nD Cert.KernelMixOut.τ).loc Cert.KernelMixOut.main_arg10))
      ∧ r.2.sem = fun _ => 0)

def quiescent_KernelMixOutIdeal [hKernelMixOutIdeal : Cert.KernelMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg), Pre_KernelMixOutIdeal m →
    θ_run (Cert.KernelMixOutIdeal.defs (F := Ideal)) (onTc (τ := Cert.KernelMixOutIdeal.τ) (Cert.KernelMixOutIdeal.main (F := Ideal))) ⟨m, fun _ => 0, g⟩ (fun r => (∀ c : Dev Cert.KernelMixOutIdeal.nD,
      r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
      ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
      ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
      ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
      ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
      ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
      ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6)
      ∧ r.2.mem ((c.tc : Thread Cert.KernelMixOutIdeal.nD Cert.KernelMixOutIdeal.τ).loc Cert.KernelMixOutIdeal.main_arg7) = m ((c.tc : Thread Cert.KernelMixOutIdeal.nD Cert.KernelMixOutIdeal.τ).loc Cert.KernelMixOutIdeal.main_arg7)
      ∧ r.2.mem ((c.tc : Thread Cert.KernelMixOutIdeal.nD Cert.KernelMixOutIdeal.τ).loc Cert.KernelMixOutIdeal.main_arg8) = m ((c.tc : Thread Cert.KernelMixOutIdeal.nD Cert.KernelMixOutIdeal.τ).loc Cert.KernelMixOutIdeal.main_arg8)
      ∧ r.2.mem ((c.tc : Thread Cert.KernelMixOutIdeal.nD Cert.KernelMixOutIdeal.τ).loc Cert.KernelMixOutIdeal.main_arg9) = m ((c.tc : Thread Cert.KernelMixOutIdeal.nD Cert.KernelMixOutIdeal.τ).loc Cert.KernelMixOutIdeal.main_arg9)
      ∧ r.2.mem ((c.tc : Thread Cert.KernelMixOutIdeal.nD Cert.KernelMixOutIdeal.τ).loc Cert.KernelMixOutIdeal.main_arg10) = m ((c.tc : Thread Cert.KernelMixOutIdeal.nD Cert.KernelMixOutIdeal.τ).loc Cert.KernelMixOutIdeal.main_arg10))
      ∧ r.2.sem = fun _ => 0)

def quiescent_RefMixOutIdeal [hRefMixOutIdeal : Cert.RefMixOutIdeal.Facts] : Prop :=
  ∀ (m : (ℓ : Loc Cert.RefMixOutIdeal.nD Cert.RefMixOutIdeal.τ Cert.RefMixOutIdeal.sig) → Buf (Elt Ideal) ℓ) (g : Dev Cert.RefMixOutIdeal.nD → PrngReg), Pre_RefMixOutIdeal m →
    θ_run (Cert.RefMixOutIdeal.defs (F := Ideal)) (onTc (τ := Cert.RefMixOutIdeal.τ) (Cert.RefMixOutIdeal.main (F := Ideal))) ⟨m, fun _ => 0, g⟩ (fun r => (∀ c : Dev Cert.RefMixOutIdeal.nD,
      r.2.mem ((c.tc : Thread Cert.RefMixOutIdeal.nD Cert.RefMixOutIdeal.τ).loc Cert.RefMixOutIdeal.main_arg0) = m ((c.tc : Thread Cert.RefMixOutIdeal.nD Cert.RefMixOutIdeal.τ).loc Cert.RefMixOutIdeal.main_arg0)
      ∧ r.2.mem ((c.tc : Thread Cert.RefMixOutIdeal.nD Cert.RefMixOutIdeal.τ).loc Cert.RefMixOutIdeal.main_arg1) = m ((c.tc : Thread Cert.RefMixOutIdeal.nD Cert.RefMixOutIdeal.τ).loc Cert.RefMixOutIdeal.main_arg1)
      ∧ r.2.mem ((c.tc : Thread Cert.RefMixOutIdeal.nD Cert.RefMixOutIdeal.τ).loc Cert.RefMixOutIdeal.main_arg2) = m ((c.tc : Thread Cert.RefMixOutIdeal.nD Cert.RefMixOutIdeal.τ).loc Cert.RefMixOutIdeal.main_arg2)
      ∧ r.2.mem ((c.tc : Thread Cert.RefMixOutIdeal.nD Cert.RefMixOutIdeal.τ).loc Cert.RefMixOutIdeal.main_arg3) = m ((c.tc : Thread Cert.RefMixOutIdeal.nD Cert.RefMixOutIdeal.τ).loc Cert.RefMixOutIdeal.main_arg3)
      ∧ r.2.mem ((c.tc : Thread Cert.RefMixOutIdeal.nD Cert.RefMixOutIdeal.τ).loc Cert.RefMixOutIdeal.main_arg4) = m ((c.tc : Thread Cert.RefMixOutIdeal.nD Cert.RefMixOutIdeal.τ).loc Cert.RefMixOutIdeal.main_arg4)
      ∧ r.2.mem ((c.tc : Thread Cert.RefMixOutIdeal.nD Cert.RefMixOutIdeal.τ).loc Cert.RefMixOutIdeal.main_arg5) = m ((c.tc : Thread Cert.RefMixOutIdeal.nD Cert.RefMixOutIdeal.τ).loc Cert.RefMixOutIdeal.main_arg5)
      ∧ r.2.mem ((c.tc : Thread Cert.RefMixOutIdeal.nD Cert.RefMixOutIdeal.τ).loc Cert.RefMixOutIdeal.main_arg6) = m ((c.tc : Thread Cert.RefMixOutIdeal.nD Cert.RefMixOutIdeal.τ).loc Cert.RefMixOutIdeal.main_arg6)
      ∧ r.2.mem ((c.tc : Thread Cert.RefMixOutIdeal.nD Cert.RefMixOutIdeal.τ).loc Cert.RefMixOutIdeal.main_arg7) = m ((c.tc : Thread Cert.RefMixOutIdeal.nD Cert.RefMixOutIdeal.τ).loc Cert.RefMixOutIdeal.main_arg7)
      ∧ r.2.mem ((c.tc : Thread Cert.RefMixOutIdeal.nD Cert.RefMixOutIdeal.τ).loc Cert.RefMixOutIdeal.main_arg8) = m ((c.tc : Thread Cert.RefMixOutIdeal.nD Cert.RefMixOutIdeal.τ).loc Cert.RefMixOutIdeal.main_arg8)
      ∧ r.2.mem ((c.tc : Thread Cert.RefMixOutIdeal.nD Cert.RefMixOutIdeal.τ).loc Cert.RefMixOutIdeal.main_arg9) = m ((c.tc : Thread Cert.RefMixOutIdeal.nD Cert.RefMixOutIdeal.τ).loc Cert.RefMixOutIdeal.main_arg9)
      ∧ r.2.mem ((c.tc : Thread Cert.RefMixOutIdeal.nD Cert.RefMixOutIdeal.τ).loc Cert.RefMixOutIdeal.main_arg10) = m ((c.tc : Thread Cert.RefMixOutIdeal.nD Cert.RefMixOutIdeal.τ).loc Cert.RefMixOutIdeal.main_arg10))
      ∧ r.2.sem = fun _ => 0)

def preserves_KernelDq_KernelDqIdeal : Prop :=
  True

def algebraic_KernelDqIdeal_RefDqIdeal_pre_finite [hKernelDqIdeal : Cert.KernelDqIdeal.Facts] [hRefDqIdeal : Cert.RefDqIdeal.Facts] [hPre_finite : Cert.Pre_finite.Facts] : Prop :=
  ∀ (m : (ℓ : Loc Cert.KernelDqIdeal.nD Cert.KernelDqIdeal.τ Cert.KernelDqIdeal.sig) → Buf (Elt Ideal) ℓ) (g : Dev Cert.KernelDqIdeal.nD → PrngReg)
    (m' : (ℓ : Loc Cert.RefDqIdeal.nD Cert.RefDqIdeal.τ Cert.RefDqIdeal.sig) → Buf (Elt Ideal) ℓ) (g' : Dev Cert.RefDqIdeal.nD → PrngReg), Pre_KernelDqIdeal_finite m →
    (∀ c : Dev Cert.KernelDqIdeal.nD,
      m' ((c.tc : Thread Cert.RefDqIdeal.nD Cert.RefDqIdeal.τ).loc Cert.RefDqIdeal.main_arg0) = m ((c.tc : Thread Cert.KernelDqIdeal.nD Cert.KernelDqIdeal.τ).loc Cert.KernelDqIdeal.main_arg0)
      ∧ m' ((c.tc : Thread Cert.RefDqIdeal.nD Cert.RefDqIdeal.τ).loc Cert.RefDqIdeal.main_arg1) = m ((c.tc : Thread Cert.KernelDqIdeal.nD Cert.KernelDqIdeal.τ).loc Cert.KernelDqIdeal.main_arg1)
      ∧ m' ((c.tc : Thread Cert.RefDqIdeal.nD Cert.RefDqIdeal.τ).loc Cert.RefDqIdeal.main_arg2) = m ((c.tc : Thread Cert.KernelDqIdeal.nD Cert.KernelDqIdeal.τ).loc Cert.KernelDqIdeal.main_arg2)
      ∧ m' ((c.tc : Thread Cert.RefDqIdeal.nD Cert.RefDqIdeal.τ).loc Cert.RefDqIdeal.main_arg3) = m ((c.tc : Thread Cert.KernelDqIdeal.nD Cert.KernelDqIdeal.τ).loc Cert.KernelDqIdeal.main_arg3)
      ∧ m' ((c.tc : Thread Cert.RefDqIdeal.nD Cert.RefDqIdeal.τ).loc Cert.RefDqIdeal.main_arg4) = m ((c.tc : Thread Cert.KernelDqIdeal.nD Cert.KernelDqIdeal.τ).loc Cert.KernelDqIdeal.main_arg4)
      ∧ m' ((c.tc : Thread Cert.RefDqIdeal.nD Cert.RefDqIdeal.τ).loc Cert.RefDqIdeal.main_arg5) = m ((c.tc : Thread Cert.KernelDqIdeal.nD Cert.KernelDqIdeal.τ).loc Cert.KernelDqIdeal.main_arg5)) →
    ∃ (v0 : (c : Dev Cert.KernelDqIdeal.nD) → Buf (Elt Ideal) ((c.tc : Thread Cert.KernelDqIdeal.nD Cert.KernelDqIdeal.τ).loc Cert.KernelDqIdeal.main_v4_0)) (v1 : (c : Dev Cert.KernelDqIdeal.nD) → Buf (Elt Ideal) ((c.tc : Thread Cert.KernelDqIdeal.nD Cert.KernelDqIdeal.τ).loc Cert.KernelDqIdeal.main_v4_1)),
      θ_run (Cert.KernelDqIdeal.defs (F := Ideal)) (onTc (τ := Cert.KernelDqIdeal.τ) (Cert.KernelDqIdeal.main (F := Ideal))) ⟨m, fun _ => 0, g⟩ (fun r => ∀ c : Dev Cert.KernelDqIdeal.nD,
          r.2.mem ((c.tc : Thread Cert.KernelDqIdeal.nD Cert.KernelDqIdeal.τ).loc Cert.KernelDqIdeal.main_v4_0) = v0 c
          ∧ r.2.mem ((c.tc : Thread Cert.KernelDqIdeal.nD Cert.KernelDqIdeal.τ).loc Cert.KernelDqIdeal.main_v4_1) = v1 c
          ∧ r.2.mem ((c.tc : Thread Cert.KernelDqIdeal.nD Cert.KernelDqIdeal.τ).loc Cert.KernelDqIdeal.main_arg0) = m ((c.tc : Thread Cert.KernelDqIdeal.nD Cert.KernelDqIdeal.τ).loc Cert.KernelDqIdeal.main_arg0)
          ∧ r.2.mem ((c.tc : Thread Cert.KernelDqIdeal.nD Cert.KernelDqIdeal.τ).loc Cert.KernelDqIdeal.main_arg1) = m ((c.tc : Thread Cert.KernelDqIdeal.nD Cert.KernelDqIdeal.τ).loc Cert.KernelDqIdeal.main_arg1)
          ∧ r.2.mem ((c.tc : Thread Cert.KernelDqIdeal.nD Cert.KernelDqIdeal.τ).loc Cert.KernelDqIdeal.main_arg2) = m ((c.tc : Thread Cert.KernelDqIdeal.nD Cert.KernelDqIdeal.τ).loc Cert.KernelDqIdeal.main_arg2)
          ∧ r.2.mem ((c.tc : Thread Cert.KernelDqIdeal.nD Cert.KernelDqIdeal.τ).loc Cert.KernelDqIdeal.main_arg3) = m ((c.tc : Thread Cert.KernelDqIdeal.nD Cert.KernelDqIdeal.τ).loc Cert.KernelDqIdeal.main_arg3)
          ∧ r.2.mem ((c.tc : Thread Cert.KernelDqIdeal.nD Cert.KernelDqIdeal.τ).loc Cert.KernelDqIdeal.main_arg4) = m ((c.tc : Thread Cert.KernelDqIdeal.nD Cert.KernelDqIdeal.τ).loc Cert.KernelDqIdeal.main_arg4)
          ∧ r.2.mem ((c.tc : Thread Cert.KernelDqIdeal.nD Cert.KernelDqIdeal.τ).loc Cert.KernelDqIdeal.main_arg5) = m ((c.tc : Thread Cert.KernelDqIdeal.nD Cert.KernelDqIdeal.τ).loc Cert.KernelDqIdeal.main_arg5))
      ∧ θ_run (Cert.RefDqIdeal.defs (F := Ideal)) (onTc (τ := Cert.RefDqIdeal.τ) (Cert.RefDqIdeal.main (F := Ideal))) ⟨m', fun _ => 0, g'⟩ (fun r => ∀ c : Dev Cert.RefDqIdeal.nD,
          r.2.mem ((c.tc : Thread Cert.RefDqIdeal.nD Cert.RefDqIdeal.τ).loc Cert.RefDqIdeal.main_v36) = v0 c
          ∧ r.2.mem ((c.tc : Thread Cert.RefDqIdeal.nD Cert.RefDqIdeal.τ).loc Cert.RefDqIdeal.main_v80) = v1 c
          ∧ r.2.mem ((c.tc : Thread Cert.RefDqIdeal.nD Cert.RefDqIdeal.τ).loc Cert.RefDqIdeal.main_arg0) = m' ((c.tc : Thread Cert.RefDqIdeal.nD Cert.RefDqIdeal.τ).loc Cert.RefDqIdeal.main_arg0)
          ∧ r.2.mem ((c.tc : Thread Cert.RefDqIdeal.nD Cert.RefDqIdeal.τ).loc Cert.RefDqIdeal.main_arg1) = m' ((c.tc : Thread Cert.RefDqIdeal.nD Cert.RefDqIdeal.τ).loc Cert.RefDqIdeal.main_arg1)
          ∧ r.2.mem ((c.tc : Thread Cert.RefDqIdeal.nD Cert.RefDqIdeal.τ).loc Cert.RefDqIdeal.main_arg2) = m' ((c.tc : Thread Cert.RefDqIdeal.nD Cert.RefDqIdeal.τ).loc Cert.RefDqIdeal.main_arg2)
          ∧ r.2.mem ((c.tc : Thread Cert.RefDqIdeal.nD Cert.RefDqIdeal.τ).loc Cert.RefDqIdeal.main_arg3) = m' ((c.tc : Thread Cert.RefDqIdeal.nD Cert.RefDqIdeal.τ).loc Cert.RefDqIdeal.main_arg3)
          ∧ r.2.mem ((c.tc : Thread Cert.RefDqIdeal.nD Cert.RefDqIdeal.τ).loc Cert.RefDqIdeal.main_arg4) = m' ((c.tc : Thread Cert.RefDqIdeal.nD Cert.RefDqIdeal.τ).loc Cert.RefDqIdeal.main_arg4)
          ∧ r.2.mem ((c.tc : Thread Cert.RefDqIdeal.nD Cert.RefDqIdeal.τ).loc Cert.RefDqIdeal.main_arg5) = m' ((c.tc : Thread Cert.RefDqIdeal.nD Cert.RefDqIdeal.τ).loc Cert.RefDqIdeal.main_arg5))

def preserves_KernelDk_KernelDkIdeal : Prop :=
  True

def algebraic_KernelDkIdeal_RefDkIdeal_pre_finite [hKernelDkIdeal : Cert.KernelDkIdeal.Facts] [hRefDkIdeal : Cert.RefDkIdeal.Facts] [hPre_finite : Cert.Pre_finite.Facts] : Prop :=
  ∀ (m : (ℓ : Loc Cert.KernelDkIdeal.nD Cert.KernelDkIdeal.τ Cert.KernelDkIdeal.sig) → Buf (Elt Ideal) ℓ) (g : Dev Cert.KernelDkIdeal.nD → PrngReg)
    (m' : (ℓ : Loc Cert.RefDkIdeal.nD Cert.RefDkIdeal.τ Cert.RefDkIdeal.sig) → Buf (Elt Ideal) ℓ) (g' : Dev Cert.RefDkIdeal.nD → PrngReg), Pre_KernelDkIdeal_finite m →
    (∀ c : Dev Cert.KernelDkIdeal.nD,
      m' ((c.tc : Thread Cert.RefDkIdeal.nD Cert.RefDkIdeal.τ).loc Cert.RefDkIdeal.main_arg0) = m ((c.tc : Thread Cert.KernelDkIdeal.nD Cert.KernelDkIdeal.τ).loc Cert.KernelDkIdeal.main_arg0)
      ∧ m' ((c.tc : Thread Cert.RefDkIdeal.nD Cert.RefDkIdeal.τ).loc Cert.RefDkIdeal.main_arg1) = m ((c.tc : Thread Cert.KernelDkIdeal.nD Cert.KernelDkIdeal.τ).loc Cert.KernelDkIdeal.main_arg1)
      ∧ m' ((c.tc : Thread Cert.RefDkIdeal.nD Cert.RefDkIdeal.τ).loc Cert.RefDkIdeal.main_arg2) = m ((c.tc : Thread Cert.KernelDkIdeal.nD Cert.KernelDkIdeal.τ).loc Cert.KernelDkIdeal.main_arg2)
      ∧ m' ((c.tc : Thread Cert.RefDkIdeal.nD Cert.RefDkIdeal.τ).loc Cert.RefDkIdeal.main_arg3) = m ((c.tc : Thread Cert.KernelDkIdeal.nD Cert.KernelDkIdeal.τ).loc Cert.KernelDkIdeal.main_arg3)
      ∧ m' ((c.tc : Thread Cert.RefDkIdeal.nD Cert.RefDkIdeal.τ).loc Cert.RefDkIdeal.main_arg4) = m ((c.tc : Thread Cert.KernelDkIdeal.nD Cert.KernelDkIdeal.τ).loc Cert.KernelDkIdeal.main_arg4)
      ∧ m' ((c.tc : Thread Cert.RefDkIdeal.nD Cert.RefDkIdeal.τ).loc Cert.RefDkIdeal.main_arg5) = m ((c.tc : Thread Cert.KernelDkIdeal.nD Cert.KernelDkIdeal.τ).loc Cert.KernelDkIdeal.main_arg5)) →
    ∃ (v0 : (c : Dev Cert.KernelDkIdeal.nD) → Buf (Elt Ideal) ((c.tc : Thread Cert.KernelDkIdeal.nD Cert.KernelDkIdeal.τ).loc Cert.KernelDkIdeal.main_v4_0)) (v1 : (c : Dev Cert.KernelDkIdeal.nD) → Buf (Elt Ideal) ((c.tc : Thread Cert.KernelDkIdeal.nD Cert.KernelDkIdeal.τ).loc Cert.KernelDkIdeal.main_v4_1)),
      θ_run (Cert.KernelDkIdeal.defs (F := Ideal)) (onTc (τ := Cert.KernelDkIdeal.τ) (Cert.KernelDkIdeal.main (F := Ideal))) ⟨m, fun _ => 0, g⟩ (fun r => ∀ c : Dev Cert.KernelDkIdeal.nD,
          r.2.mem ((c.tc : Thread Cert.KernelDkIdeal.nD Cert.KernelDkIdeal.τ).loc Cert.KernelDkIdeal.main_v4_0) = v0 c
          ∧ r.2.mem ((c.tc : Thread Cert.KernelDkIdeal.nD Cert.KernelDkIdeal.τ).loc Cert.KernelDkIdeal.main_v4_1) = v1 c
          ∧ r.2.mem ((c.tc : Thread Cert.KernelDkIdeal.nD Cert.KernelDkIdeal.τ).loc Cert.KernelDkIdeal.main_arg0) = m ((c.tc : Thread Cert.KernelDkIdeal.nD Cert.KernelDkIdeal.τ).loc Cert.KernelDkIdeal.main_arg0)
          ∧ r.2.mem ((c.tc : Thread Cert.KernelDkIdeal.nD Cert.KernelDkIdeal.τ).loc Cert.KernelDkIdeal.main_arg1) = m ((c.tc : Thread Cert.KernelDkIdeal.nD Cert.KernelDkIdeal.τ).loc Cert.KernelDkIdeal.main_arg1)
          ∧ r.2.mem ((c.tc : Thread Cert.KernelDkIdeal.nD Cert.KernelDkIdeal.τ).loc Cert.KernelDkIdeal.main_arg2) = m ((c.tc : Thread Cert.KernelDkIdeal.nD Cert.KernelDkIdeal.τ).loc Cert.KernelDkIdeal.main_arg2)
          ∧ r.2.mem ((c.tc : Thread Cert.KernelDkIdeal.nD Cert.KernelDkIdeal.τ).loc Cert.KernelDkIdeal.main_arg3) = m ((c.tc : Thread Cert.KernelDkIdeal.nD Cert.KernelDkIdeal.τ).loc Cert.KernelDkIdeal.main_arg3)
          ∧ r.2.mem ((c.tc : Thread Cert.KernelDkIdeal.nD Cert.KernelDkIdeal.τ).loc Cert.KernelDkIdeal.main_arg4) = m ((c.tc : Thread Cert.KernelDkIdeal.nD Cert.KernelDkIdeal.τ).loc Cert.KernelDkIdeal.main_arg4)
          ∧ r.2.mem ((c.tc : Thread Cert.KernelDkIdeal.nD Cert.KernelDkIdeal.τ).loc Cert.KernelDkIdeal.main_arg5) = m ((c.tc : Thread Cert.KernelDkIdeal.nD Cert.KernelDkIdeal.τ).loc Cert.KernelDkIdeal.main_arg5))
      ∧ θ_run (Cert.RefDkIdeal.defs (F := Ideal)) (onTc (τ := Cert.RefDkIdeal.τ) (Cert.RefDkIdeal.main (F := Ideal))) ⟨m', fun _ => 0, g'⟩ (fun r => ∀ c : Dev Cert.RefDkIdeal.nD,
          r.2.mem ((c.tc : Thread Cert.RefDkIdeal.nD Cert.RefDkIdeal.τ).loc Cert.RefDkIdeal.main_v36) = v0 c
          ∧ r.2.mem ((c.tc : Thread Cert.RefDkIdeal.nD Cert.RefDkIdeal.τ).loc Cert.RefDkIdeal.main_v80) = v1 c
          ∧ r.2.mem ((c.tc : Thread Cert.RefDkIdeal.nD Cert.RefDkIdeal.τ).loc Cert.RefDkIdeal.main_arg0) = m' ((c.tc : Thread Cert.RefDkIdeal.nD Cert.RefDkIdeal.τ).loc Cert.RefDkIdeal.main_arg0)
          ∧ r.2.mem ((c.tc : Thread Cert.RefDkIdeal.nD Cert.RefDkIdeal.τ).loc Cert.RefDkIdeal.main_arg1) = m' ((c.tc : Thread Cert.RefDkIdeal.nD Cert.RefDkIdeal.τ).loc Cert.RefDkIdeal.main_arg1)
          ∧ r.2.mem ((c.tc : Thread Cert.RefDkIdeal.nD Cert.RefDkIdeal.τ).loc Cert.RefDkIdeal.main_arg2) = m' ((c.tc : Thread Cert.RefDkIdeal.nD Cert.RefDkIdeal.τ).loc Cert.RefDkIdeal.main_arg2)
          ∧ r.2.mem ((c.tc : Thread Cert.RefDkIdeal.nD Cert.RefDkIdeal.τ).loc Cert.RefDkIdeal.main_arg3) = m' ((c.tc : Thread Cert.RefDkIdeal.nD Cert.RefDkIdeal.τ).loc Cert.RefDkIdeal.main_arg3)
          ∧ r.2.mem ((c.tc : Thread Cert.RefDkIdeal.nD Cert.RefDkIdeal.τ).loc Cert.RefDkIdeal.main_arg4) = m' ((c.tc : Thread Cert.RefDkIdeal.nD Cert.RefDkIdeal.τ).loc Cert.RefDkIdeal.main_arg4)
          ∧ r.2.mem ((c.tc : Thread Cert.RefDkIdeal.nD Cert.RefDkIdeal.τ).loc Cert.RefDkIdeal.main_arg5) = m' ((c.tc : Thread Cert.RefDkIdeal.nD Cert.RefDkIdeal.τ).loc Cert.RefDkIdeal.main_arg5))

def preserves_KernelDv_KernelDvIdeal : Prop :=
  True

def algebraic_KernelDvIdeal_RefDvIdeal_pre_finite [hKernelDvIdeal : Cert.KernelDvIdeal.Facts] [hRefDvIdeal : Cert.RefDvIdeal.Facts] [hPre_finite : Cert.Pre_finite.Facts] : Prop :=
  ∀ (m : (ℓ : Loc Cert.KernelDvIdeal.nD Cert.KernelDvIdeal.τ Cert.KernelDvIdeal.sig) → Buf (Elt Ideal) ℓ) (g : Dev Cert.KernelDvIdeal.nD → PrngReg)
    (m' : (ℓ : Loc Cert.RefDvIdeal.nD Cert.RefDvIdeal.τ Cert.RefDvIdeal.sig) → Buf (Elt Ideal) ℓ) (g' : Dev Cert.RefDvIdeal.nD → PrngReg), Pre_KernelDvIdeal_finite m →
    (∀ c : Dev Cert.KernelDvIdeal.nD,
      m' ((c.tc : Thread Cert.RefDvIdeal.nD Cert.RefDvIdeal.τ).loc Cert.RefDvIdeal.main_arg0) = m ((c.tc : Thread Cert.KernelDvIdeal.nD Cert.KernelDvIdeal.τ).loc Cert.KernelDvIdeal.main_arg0)
      ∧ m' ((c.tc : Thread Cert.RefDvIdeal.nD Cert.RefDvIdeal.τ).loc Cert.RefDvIdeal.main_arg1) = m ((c.tc : Thread Cert.KernelDvIdeal.nD Cert.KernelDvIdeal.τ).loc Cert.KernelDvIdeal.main_arg1)
      ∧ m' ((c.tc : Thread Cert.RefDvIdeal.nD Cert.RefDvIdeal.τ).loc Cert.RefDvIdeal.main_arg2) = m ((c.tc : Thread Cert.KernelDvIdeal.nD Cert.KernelDvIdeal.τ).loc Cert.KernelDvIdeal.main_arg2)
      ∧ m' ((c.tc : Thread Cert.RefDvIdeal.nD Cert.RefDvIdeal.τ).loc Cert.RefDvIdeal.main_arg3) = m ((c.tc : Thread Cert.KernelDvIdeal.nD Cert.KernelDvIdeal.τ).loc Cert.KernelDvIdeal.main_arg3)
      ∧ m' ((c.tc : Thread Cert.RefDvIdeal.nD Cert.RefDvIdeal.τ).loc Cert.RefDvIdeal.main_arg4) = m ((c.tc : Thread Cert.KernelDvIdeal.nD Cert.KernelDvIdeal.τ).loc Cert.KernelDvIdeal.main_arg4)
      ∧ m' ((c.tc : Thread Cert.RefDvIdeal.nD Cert.RefDvIdeal.τ).loc Cert.RefDvIdeal.main_arg5) = m ((c.tc : Thread Cert.KernelDvIdeal.nD Cert.KernelDvIdeal.τ).loc Cert.KernelDvIdeal.main_arg5)) →
    ∃ (v0 : (c : Dev Cert.KernelDvIdeal.nD) → Buf (Elt Ideal) ((c.tc : Thread Cert.KernelDvIdeal.nD Cert.KernelDvIdeal.τ).loc Cert.KernelDvIdeal.main_v4_0)) (v1 : (c : Dev Cert.KernelDvIdeal.nD) → Buf (Elt Ideal) ((c.tc : Thread Cert.KernelDvIdeal.nD Cert.KernelDvIdeal.τ).loc Cert.KernelDvIdeal.main_v4_1)),
      θ_run (Cert.KernelDvIdeal.defs (F := Ideal)) (onTc (τ := Cert.KernelDvIdeal.τ) (Cert.KernelDvIdeal.main (F := Ideal))) ⟨m, fun _ => 0, g⟩ (fun r => ∀ c : Dev Cert.KernelDvIdeal.nD,
          r.2.mem ((c.tc : Thread Cert.KernelDvIdeal.nD Cert.KernelDvIdeal.τ).loc Cert.KernelDvIdeal.main_v4_0) = v0 c
          ∧ r.2.mem ((c.tc : Thread Cert.KernelDvIdeal.nD Cert.KernelDvIdeal.τ).loc Cert.KernelDvIdeal.main_v4_1) = v1 c
          ∧ r.2.mem ((c.tc : Thread Cert.KernelDvIdeal.nD Cert.KernelDvIdeal.τ).loc Cert.KernelDvIdeal.main_arg0) = m ((c.tc : Thread Cert.KernelDvIdeal.nD Cert.KernelDvIdeal.τ).loc Cert.KernelDvIdeal.main_arg0)
          ∧ r.2.mem ((c.tc : Thread Cert.KernelDvIdeal.nD Cert.KernelDvIdeal.τ).loc Cert.KernelDvIdeal.main_arg1) = m ((c.tc : Thread Cert.KernelDvIdeal.nD Cert.KernelDvIdeal.τ).loc Cert.KernelDvIdeal.main_arg1)
          ∧ r.2.mem ((c.tc : Thread Cert.KernelDvIdeal.nD Cert.KernelDvIdeal.τ).loc Cert.KernelDvIdeal.main_arg2) = m ((c.tc : Thread Cert.KernelDvIdeal.nD Cert.KernelDvIdeal.τ).loc Cert.KernelDvIdeal.main_arg2)
          ∧ r.2.mem ((c.tc : Thread Cert.KernelDvIdeal.nD Cert.KernelDvIdeal.τ).loc Cert.KernelDvIdeal.main_arg3) = m ((c.tc : Thread Cert.KernelDvIdeal.nD Cert.KernelDvIdeal.τ).loc Cert.KernelDvIdeal.main_arg3)
          ∧ r.2.mem ((c.tc : Thread Cert.KernelDvIdeal.nD Cert.KernelDvIdeal.τ).loc Cert.KernelDvIdeal.main_arg4) = m ((c.tc : Thread Cert.KernelDvIdeal.nD Cert.KernelDvIdeal.τ).loc Cert.KernelDvIdeal.main_arg4)
          ∧ r.2.mem ((c.tc : Thread Cert.KernelDvIdeal.nD Cert.KernelDvIdeal.τ).loc Cert.KernelDvIdeal.main_arg5) = m ((c.tc : Thread Cert.KernelDvIdeal.nD Cert.KernelDvIdeal.τ).loc Cert.KernelDvIdeal.main_arg5))
      ∧ θ_run (Cert.RefDvIdeal.defs (F := Ideal)) (onTc (τ := Cert.RefDvIdeal.τ) (Cert.RefDvIdeal.main (F := Ideal))) ⟨m', fun _ => 0, g'⟩ (fun r => ∀ c : Dev Cert.RefDvIdeal.nD,
          r.2.mem ((c.tc : Thread Cert.RefDvIdeal.nD Cert.RefDvIdeal.τ).loc Cert.RefDvIdeal.main_v33) = v0 c
          ∧ r.2.mem ((c.tc : Thread Cert.RefDvIdeal.nD Cert.RefDvIdeal.τ).loc Cert.RefDvIdeal.main_v74) = v1 c
          ∧ r.2.mem ((c.tc : Thread Cert.RefDvIdeal.nD Cert.RefDvIdeal.τ).loc Cert.RefDvIdeal.main_arg0) = m' ((c.tc : Thread Cert.RefDvIdeal.nD Cert.RefDvIdeal.τ).loc Cert.RefDvIdeal.main_arg0)
          ∧ r.2.mem ((c.tc : Thread Cert.RefDvIdeal.nD Cert.RefDvIdeal.τ).loc Cert.RefDvIdeal.main_arg1) = m' ((c.tc : Thread Cert.RefDvIdeal.nD Cert.RefDvIdeal.τ).loc Cert.RefDvIdeal.main_arg1)
          ∧ r.2.mem ((c.tc : Thread Cert.RefDvIdeal.nD Cert.RefDvIdeal.τ).loc Cert.RefDvIdeal.main_arg2) = m' ((c.tc : Thread Cert.RefDvIdeal.nD Cert.RefDvIdeal.τ).loc Cert.RefDvIdeal.main_arg2)
          ∧ r.2.mem ((c.tc : Thread Cert.RefDvIdeal.nD Cert.RefDvIdeal.τ).loc Cert.RefDvIdeal.main_arg3) = m' ((c.tc : Thread Cert.RefDvIdeal.nD Cert.RefDvIdeal.τ).loc Cert.RefDvIdeal.main_arg3)
          ∧ r.2.mem ((c.tc : Thread Cert.RefDvIdeal.nD Cert.RefDvIdeal.τ).loc Cert.RefDvIdeal.main_arg4) = m' ((c.tc : Thread Cert.RefDvIdeal.nD Cert.RefDvIdeal.τ).loc Cert.RefDvIdeal.main_arg4)
          ∧ r.2.mem ((c.tc : Thread Cert.RefDvIdeal.nD Cert.RefDvIdeal.τ).loc Cert.RefDvIdeal.main_arg5) = m' ((c.tc : Thread Cert.RefDvIdeal.nD Cert.RefDvIdeal.τ).loc Cert.RefDvIdeal.main_arg5))

def preserves_KernelFfnBwd_KernelFfnBwdIdeal : Prop :=
  True

def algebraic_KernelFfnBwdIdeal_RefFfnBwdIdeal_pre_finite_ffn [hKernelFfnBwdIdeal : Cert.KernelFfnBwdIdeal.Facts] [hRefFfnBwdIdeal : Cert.RefFfnBwdIdeal.Facts] [hPre_finite_ffn : Cert.Pre_finite_ffn.Facts] : Prop :=
  ∀ (m : (ℓ : Loc Cert.KernelFfnBwdIdeal.nD Cert.KernelFfnBwdIdeal.τ Cert.KernelFfnBwdIdeal.sig) → Buf (Elt Ideal) ℓ) (g : Dev Cert.KernelFfnBwdIdeal.nD → PrngReg)
    (m' : (ℓ : Loc Cert.RefFfnBwdIdeal.nD Cert.RefFfnBwdIdeal.τ Cert.RefFfnBwdIdeal.sig) → Buf (Elt Ideal) ℓ) (g' : Dev Cert.RefFfnBwdIdeal.nD → PrngReg), Pre_KernelFfnBwdIdeal_finite_ffn m →
    (∀ c : Dev Cert.KernelFfnBwdIdeal.nD,
      m' ((c.tc : Thread Cert.RefFfnBwdIdeal.nD Cert.RefFfnBwdIdeal.τ).loc Cert.RefFfnBwdIdeal.main_arg0) = m ((c.tc : Thread Cert.KernelFfnBwdIdeal.nD Cert.KernelFfnBwdIdeal.τ).loc Cert.KernelFfnBwdIdeal.main_arg0)
      ∧ m' ((c.tc : Thread Cert.RefFfnBwdIdeal.nD Cert.RefFfnBwdIdeal.τ).loc Cert.RefFfnBwdIdeal.main_arg1) = m ((c.tc : Thread Cert.KernelFfnBwdIdeal.nD Cert.KernelFfnBwdIdeal.τ).loc Cert.KernelFfnBwdIdeal.main_arg1)
      ∧ m' ((c.tc : Thread Cert.RefFfnBwdIdeal.nD Cert.RefFfnBwdIdeal.τ).loc Cert.RefFfnBwdIdeal.main_arg2) = m ((c.tc : Thread Cert.KernelFfnBwdIdeal.nD Cert.KernelFfnBwdIdeal.τ).loc Cert.KernelFfnBwdIdeal.main_arg2)
      ∧ m' ((c.tc : Thread Cert.RefFfnBwdIdeal.nD Cert.RefFfnBwdIdeal.τ).loc Cert.RefFfnBwdIdeal.main_arg3) = m ((c.tc : Thread Cert.KernelFfnBwdIdeal.nD Cert.KernelFfnBwdIdeal.τ).loc Cert.KernelFfnBwdIdeal.main_arg3)
      ∧ m' ((c.tc : Thread Cert.RefFfnBwdIdeal.nD Cert.RefFfnBwdIdeal.τ).loc Cert.RefFfnBwdIdeal.main_arg4) = m ((c.tc : Thread Cert.KernelFfnBwdIdeal.nD Cert.KernelFfnBwdIdeal.τ).loc Cert.KernelFfnBwdIdeal.main_arg4)
      ∧ m' ((c.tc : Thread Cert.RefFfnBwdIdeal.nD Cert.RefFfnBwdIdeal.τ).loc Cert.RefFfnBwdIdeal.main_arg5) = m ((c.tc : Thread Cert.KernelFfnBwdIdeal.nD Cert.KernelFfnBwdIdeal.τ).loc Cert.KernelFfnBwdIdeal.main_arg5)
      ∧ m' ((c.tc : Thread Cert.RefFfnBwdIdeal.nD Cert.RefFfnBwdIdeal.τ).loc Cert.RefFfnBwdIdeal.main_arg6) = m ((c.tc : Thread Cert.KernelFfnBwdIdeal.nD Cert.KernelFfnBwdIdeal.τ).loc Cert.KernelFfnBwdIdeal.main_arg6)) →
    ∃ (v0 : (c : Dev Cert.KernelFfnBwdIdeal.nD) → Buf (Elt Ideal) ((c.tc : Thread Cert.KernelFfnBwdIdeal.nD Cert.KernelFfnBwdIdeal.τ).loc Cert.KernelFfnBwdIdeal.main_v52_0)) (v1 : (c : Dev Cert.KernelFfnBwdIdeal.nD) → Buf (Elt Ideal) ((c.tc : Thread Cert.KernelFfnBwdIdeal.nD Cert.KernelFfnBwdIdeal.τ).loc Cert.KernelFfnBwdIdeal.main_v52_1)) (v2 : (c : Dev Cert.KernelFfnBwdIdeal.nD) → Buf (Elt Ideal) ((c.tc : Thread Cert.KernelFfnBwdIdeal.nD Cert.KernelFfnBwdIdeal.τ).loc Cert.KernelFfnBwdIdeal.main_v52_2)) (v3 : (c : Dev Cert.KernelFfnBwdIdeal.nD) → Buf (Elt Ideal) ((c.tc : Thread Cert.KernelFfnBwdIdeal.nD Cert.KernelFfnBwdIdeal.τ).loc Cert.KernelFfnBwdIdeal.main_v52_3)) (v4 : (c : Dev Cert.KernelFfnBwdIdeal.nD) → Buf (Elt Ideal) ((c.tc : Thread Cert.KernelFfnBwdIdeal.nD Cert.KernelFfnBwdIdeal.τ).loc Cert.KernelFfnBwdIdeal.main_v52_4)) (v5 : (c : Dev Cert.KernelFfnBwdIdeal.nD) → Buf (Elt Ideal) ((c.tc : Thread Cert.KernelFfnBwdIdeal.nD Cert.KernelFfnBwdIdeal.τ).loc Cert.KernelFfnBwdIdeal.main_v52_5)) (v6 : (c : Dev Cert.KernelFfnBwdIdeal.nD) → Buf (Elt Ideal) ((c.tc : Thread Cert.KernelFfnBwdIdeal.nD Cert.KernelFfnBwdIdeal.τ).loc Cert.KernelFfnBwdIdeal.main_v52_6)) (v7 : (c : Dev Cert.KernelFfnBwdIdeal.nD) → Buf (Elt Ideal) ((c.tc : Thread Cert.KernelFfnBwdIdeal.nD Cert.KernelFfnBwdIdeal.τ).loc Cert.KernelFfnBwdIdeal.main_v52_7)),
      θ_run (Cert.KernelFfnBwdIdeal.defs (F := Ideal)) (onTc (τ := Cert.KernelFfnBwdIdeal.τ) (Cert.KernelFfnBwdIdeal.main (F := Ideal))) ⟨m, fun _ => 0, g⟩ (fun r => ∀ c : Dev Cert.KernelFfnBwdIdeal.nD,
          r.2.mem ((c.tc : Thread Cert.KernelFfnBwdIdeal.nD Cert.KernelFfnBwdIdeal.τ).loc Cert.KernelFfnBwdIdeal.main_v52_0) = v0 c
          ∧ r.2.mem ((c.tc : Thread Cert.KernelFfnBwdIdeal.nD Cert.KernelFfnBwdIdeal.τ).loc Cert.KernelFfnBwdIdeal.main_v52_1) = v1 c
          ∧ r.2.mem ((c.tc : Thread Cert.KernelFfnBwdIdeal.nD Cert.KernelFfnBwdIdeal.τ).loc Cert.KernelFfnBwdIdeal.main_v52_2) = v2 c
          ∧ r.2.mem ((c.tc : Thread Cert.KernelFfnBwdIdeal.nD Cert.KernelFfnBwdIdeal.τ).loc Cert.KernelFfnBwdIdeal.main_v52_3) = v3 c
          ∧ r.2.mem ((c.tc : Thread Cert.KernelFfnBwdIdeal.nD Cert.KernelFfnBwdIdeal.τ).loc Cert.KernelFfnBwdIdeal.main_v52_4) = v4 c
          ∧ r.2.mem ((c.tc : Thread Cert.KernelFfnBwdIdeal.nD Cert.KernelFfnBwdIdeal.τ).loc Cert.KernelFfnBwdIdeal.main_v52_5) = v5 c
          ∧ r.2.mem ((c.tc : Thread Cert.KernelFfnBwdIdeal.nD Cert.KernelFfnBwdIdeal.τ).loc Cert.KernelFfnBwdIdeal.main_v52_6) = v6 c
          ∧ r.2.mem ((c.tc : Thread Cert.KernelFfnBwdIdeal.nD Cert.KernelFfnBwdIdeal.τ).loc Cert.KernelFfnBwdIdeal.main_v52_7) = v7 c
          ∧ r.2.mem ((c.tc : Thread Cert.KernelFfnBwdIdeal.nD Cert.KernelFfnBwdIdeal.τ).loc Cert.KernelFfnBwdIdeal.main_arg0) = m ((c.tc : Thread Cert.KernelFfnBwdIdeal.nD Cert.KernelFfnBwdIdeal.τ).loc Cert.KernelFfnBwdIdeal.main_arg0)
          ∧ r.2.mem ((c.tc : Thread Cert.KernelFfnBwdIdeal.nD Cert.KernelFfnBwdIdeal.τ).loc Cert.KernelFfnBwdIdeal.main_arg1) = m ((c.tc : Thread Cert.KernelFfnBwdIdeal.nD Cert.KernelFfnBwdIdeal.τ).loc Cert.KernelFfnBwdIdeal.main_arg1)
          ∧ r.2.mem ((c.tc : Thread Cert.KernelFfnBwdIdeal.nD Cert.KernelFfnBwdIdeal.τ).loc Cert.KernelFfnBwdIdeal.main_arg2) = m ((c.tc : Thread Cert.KernelFfnBwdIdeal.nD Cert.KernelFfnBwdIdeal.τ).loc Cert.KernelFfnBwdIdeal.main_arg2)
          ∧ r.2.mem ((c.tc : Thread Cert.KernelFfnBwdIdeal.nD Cert.KernelFfnBwdIdeal.τ).loc Cert.KernelFfnBwdIdeal.main_arg3) = m ((c.tc : Thread Cert.KernelFfnBwdIdeal.nD Cert.KernelFfnBwdIdeal.τ).loc Cert.KernelFfnBwdIdeal.main_arg3)
          ∧ r.2.mem ((c.tc : Thread Cert.KernelFfnBwdIdeal.nD Cert.KernelFfnBwdIdeal.τ).loc Cert.KernelFfnBwdIdeal.main_arg4) = m ((c.tc : Thread Cert.KernelFfnBwdIdeal.nD Cert.KernelFfnBwdIdeal.τ).loc Cert.KernelFfnBwdIdeal.main_arg4)
          ∧ r.2.mem ((c.tc : Thread Cert.KernelFfnBwdIdeal.nD Cert.KernelFfnBwdIdeal.τ).loc Cert.KernelFfnBwdIdeal.main_arg5) = m ((c.tc : Thread Cert.KernelFfnBwdIdeal.nD Cert.KernelFfnBwdIdeal.τ).loc Cert.KernelFfnBwdIdeal.main_arg5)
          ∧ r.2.mem ((c.tc : Thread Cert.KernelFfnBwdIdeal.nD Cert.KernelFfnBwdIdeal.τ).loc Cert.KernelFfnBwdIdeal.main_arg6) = m ((c.tc : Thread Cert.KernelFfnBwdIdeal.nD Cert.KernelFfnBwdIdeal.τ).loc Cert.KernelFfnBwdIdeal.main_arg6))
      ∧ θ_run (Cert.RefFfnBwdIdeal.defs (F := Ideal)) (onTc (τ := Cert.RefFfnBwdIdeal.τ) (Cert.RefFfnBwdIdeal.main (F := Ideal))) ⟨m', fun _ => 0, g'⟩ (fun r => ∀ c : Dev Cert.RefFfnBwdIdeal.nD,
          r.2.mem ((c.tc : Thread Cert.RefFfnBwdIdeal.nD Cert.RefFfnBwdIdeal.τ).loc Cert.RefFfnBwdIdeal.main_v80) = v0 c
          ∧ r.2.mem ((c.tc : Thread Cert.RefFfnBwdIdeal.nD Cert.RefFfnBwdIdeal.τ).loc Cert.RefFfnBwdIdeal.main_v98) = v1 c
          ∧ r.2.mem ((c.tc : Thread Cert.RefFfnBwdIdeal.nD Cert.RefFfnBwdIdeal.τ).loc Cert.RefFfnBwdIdeal.main_v99) = v2 c
          ∧ r.2.mem ((c.tc : Thread Cert.RefFfnBwdIdeal.nD Cert.RefFfnBwdIdeal.τ).loc Cert.RefFfnBwdIdeal.main_v100) = v3 c
          ∧ r.2.mem ((c.tc : Thread Cert.RefFfnBwdIdeal.nD Cert.RefFfnBwdIdeal.τ).loc Cert.RefFfnBwdIdeal.main_v101) = v4 c
          ∧ r.2.mem ((c.tc : Thread Cert.RefFfnBwdIdeal.nD Cert.RefFfnBwdIdeal.τ).loc Cert.RefFfnBwdIdeal.main_v102) = v5 c
          ∧ r.2.mem ((c.tc : Thread Cert.RefFfnBwdIdeal.nD Cert.RefFfnBwdIdeal.τ).loc Cert.RefFfnBwdIdeal.main_v97) = v6 c
          ∧ r.2.mem ((c.tc : Thread Cert.RefFfnBwdIdeal.nD Cert.RefFfnBwdIdeal.τ).loc Cert.RefFfnBwdIdeal.main_v65) = v7 c
          ∧ r.2.mem ((c.tc : Thread Cert.RefFfnBwdIdeal.nD Cert.RefFfnBwdIdeal.τ).loc Cert.RefFfnBwdIdeal.main_arg0) = m' ((c.tc : Thread Cert.RefFfnBwdIdeal.nD Cert.RefFfnBwdIdeal.τ).loc Cert.RefFfnBwdIdeal.main_arg0)
          ∧ r.2.mem ((c.tc : Thread Cert.RefFfnBwdIdeal.nD Cert.RefFfnBwdIdeal.τ).loc Cert.RefFfnBwdIdeal.main_arg1) = m' ((c.tc : Thread Cert.RefFfnBwdIdeal.nD Cert.RefFfnBwdIdeal.τ).loc Cert.RefFfnBwdIdeal.main_arg1)
          ∧ r.2.mem ((c.tc : Thread Cert.RefFfnBwdIdeal.nD Cert.RefFfnBwdIdeal.τ).loc Cert.RefFfnBwdIdeal.main_arg2) = m' ((c.tc : Thread Cert.RefFfnBwdIdeal.nD Cert.RefFfnBwdIdeal.τ).loc Cert.RefFfnBwdIdeal.main_arg2)
          ∧ r.2.mem ((c.tc : Thread Cert.RefFfnBwdIdeal.nD Cert.RefFfnBwdIdeal.τ).loc Cert.RefFfnBwdIdeal.main_arg3) = m' ((c.tc : Thread Cert.RefFfnBwdIdeal.nD Cert.RefFfnBwdIdeal.τ).loc Cert.RefFfnBwdIdeal.main_arg3)
          ∧ r.2.mem ((c.tc : Thread Cert.RefFfnBwdIdeal.nD Cert.RefFfnBwdIdeal.τ).loc Cert.RefFfnBwdIdeal.main_arg4) = m' ((c.tc : Thread Cert.RefFfnBwdIdeal.nD Cert.RefFfnBwdIdeal.τ).loc Cert.RefFfnBwdIdeal.main_arg4)
          ∧ r.2.mem ((c.tc : Thread Cert.RefFfnBwdIdeal.nD Cert.RefFfnBwdIdeal.τ).loc Cert.RefFfnBwdIdeal.main_arg5) = m' ((c.tc : Thread Cert.RefFfnBwdIdeal.nD Cert.RefFfnBwdIdeal.τ).loc Cert.RefFfnBwdIdeal.main_arg5)
          ∧ r.2.mem ((c.tc : Thread Cert.RefFfnBwdIdeal.nD Cert.RefFfnBwdIdeal.τ).loc Cert.RefFfnBwdIdeal.main_arg6) = m' ((c.tc : Thread Cert.RefFfnBwdIdeal.nD Cert.RefFfnBwdIdeal.τ).loc Cert.RefFfnBwdIdeal.main_arg6))

def preserves_KernelWgrad_KernelWgradIdeal : Prop :=
  True

def algebraic_KernelWgradIdeal_RefWgradIdeal [hKernelWgradIdeal : Cert.KernelWgradIdeal.Facts] [hRefWgradIdeal : Cert.RefWgradIdeal.Facts] : Prop :=
  ∀ (m : (ℓ : Loc Cert.KernelWgradIdeal.nD Cert.KernelWgradIdeal.τ Cert.KernelWgradIdeal.sig) → Buf (Elt Ideal) ℓ) (g : Dev Cert.KernelWgradIdeal.nD → PrngReg)
    (m' : (ℓ : Loc Cert.RefWgradIdeal.nD Cert.RefWgradIdeal.τ Cert.RefWgradIdeal.sig) → Buf (Elt Ideal) ℓ) (g' : Dev Cert.RefWgradIdeal.nD → PrngReg), Pre_KernelWgradIdeal m →
    (∀ c : Dev Cert.KernelWgradIdeal.nD,
      m' ((c.tc : Thread Cert.RefWgradIdeal.nD Cert.RefWgradIdeal.τ).loc Cert.RefWgradIdeal.main_arg0) = m ((c.tc : Thread Cert.KernelWgradIdeal.nD Cert.KernelWgradIdeal.τ).loc Cert.KernelWgradIdeal.main_arg0)
      ∧ m' ((c.tc : Thread Cert.RefWgradIdeal.nD Cert.RefWgradIdeal.τ).loc Cert.RefWgradIdeal.main_arg1) = m ((c.tc : Thread Cert.KernelWgradIdeal.nD Cert.KernelWgradIdeal.τ).loc Cert.KernelWgradIdeal.main_arg1)) →
    ∃ (v0 : (c : Dev Cert.KernelWgradIdeal.nD) → Buf (Elt Ideal) ((c.tc : Thread Cert.KernelWgradIdeal.nD Cert.KernelWgradIdeal.τ).loc Cert.KernelWgradIdeal.main_v0)),
      θ_run (Cert.KernelWgradIdeal.defs (F := Ideal)) (onTc (τ := Cert.KernelWgradIdeal.τ) (Cert.KernelWgradIdeal.main (F := Ideal))) ⟨m, fun _ => 0, g⟩ (fun r => ∀ c : Dev Cert.KernelWgradIdeal.nD,
          r.2.mem ((c.tc : Thread Cert.KernelWgradIdeal.nD Cert.KernelWgradIdeal.τ).loc Cert.KernelWgradIdeal.main_v0) = v0 c
          ∧ r.2.mem ((c.tc : Thread Cert.KernelWgradIdeal.nD Cert.KernelWgradIdeal.τ).loc Cert.KernelWgradIdeal.main_arg0) = m ((c.tc : Thread Cert.KernelWgradIdeal.nD Cert.KernelWgradIdeal.τ).loc Cert.KernelWgradIdeal.main_arg0)
          ∧ r.2.mem ((c.tc : Thread Cert.KernelWgradIdeal.nD Cert.KernelWgradIdeal.τ).loc Cert.KernelWgradIdeal.main_arg1) = m ((c.tc : Thread Cert.KernelWgradIdeal.nD Cert.KernelWgradIdeal.τ).loc Cert.KernelWgradIdeal.main_arg1))
      ∧ θ_run (Cert.RefWgradIdeal.defs (F := Ideal)) (onTc (τ := Cert.RefWgradIdeal.τ) (Cert.RefWgradIdeal.main (F := Ideal))) ⟨m', fun _ => 0, g'⟩ (fun r => ∀ c : Dev Cert.RefWgradIdeal.nD,
          r.2.mem ((c.tc : Thread Cert.RefWgradIdeal.nD Cert.RefWgradIdeal.τ).loc Cert.RefWgradIdeal.main_v7) = v0 c
          ∧ r.2.mem ((c.tc : Thread Cert.RefWgradIdeal.nD Cert.RefWgradIdeal.τ).loc Cert.RefWgradIdeal.main_arg0) = m' ((c.tc : Thread Cert.RefWgradIdeal.nD Cert.RefWgradIdeal.τ).loc Cert.RefWgradIdeal.main_arg0)
          ∧ r.2.mem ((c.tc : Thread Cert.RefWgradIdeal.nD Cert.RefWgradIdeal.τ).loc Cert.RefWgradIdeal.main_arg1) = m' ((c.tc : Thread Cert.RefWgradIdeal.nD Cert.RefWgradIdeal.τ).loc Cert.RefWgradIdeal.main_arg1))

def preserves_KernelFfnFwd_KernelFfnFwdIdeal : Prop :=
  True

def algebraic_KernelFfnFwdIdeal_RefFfnFwdIdeal [hKernelFfnFwdIdeal : Cert.KernelFfnFwdIdeal.Facts] [hRefFfnFwdIdeal : Cert.RefFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg)
    (m' : (ℓ : Loc Cert.RefFfnFwdIdeal.nD Cert.RefFfnFwdIdeal.τ Cert.RefFfnFwdIdeal.sig) → Buf (Elt Ideal) ℓ) (g' : Dev Cert.RefFfnFwdIdeal.nD → PrngReg), Pre_KernelFfnFwdIdeal m →
    (∀ c : Dev Cert.KernelFfnFwdIdeal.nD,
      m' ((c.tc : Thread Cert.RefFfnFwdIdeal.nD Cert.RefFfnFwdIdeal.τ).loc Cert.RefFfnFwdIdeal.main_arg0) = m ((c.tc : Thread Cert.KernelFfnFwdIdeal.nD Cert.KernelFfnFwdIdeal.τ).loc Cert.KernelFfnFwdIdeal.main_arg0)
      ∧ m' ((c.tc : Thread Cert.RefFfnFwdIdeal.nD Cert.RefFfnFwdIdeal.τ).loc Cert.RefFfnFwdIdeal.main_arg1) = m ((c.tc : Thread Cert.KernelFfnFwdIdeal.nD Cert.KernelFfnFwdIdeal.τ).loc Cert.KernelFfnFwdIdeal.main_arg1)
      ∧ m' ((c.tc : Thread Cert.RefFfnFwdIdeal.nD Cert.RefFfnFwdIdeal.τ).loc Cert.RefFfnFwdIdeal.main_arg2) = m ((c.tc : Thread Cert.KernelFfnFwdIdeal.nD Cert.KernelFfnFwdIdeal.τ).loc Cert.KernelFfnFwdIdeal.main_arg2)
      ∧ m' ((c.tc : Thread Cert.RefFfnFwdIdeal.nD Cert.RefFfnFwdIdeal.τ).loc Cert.RefFfnFwdIdeal.main_arg3) = m ((c.tc : Thread Cert.KernelFfnFwdIdeal.nD Cert.KernelFfnFwdIdeal.τ).loc Cert.KernelFfnFwdIdeal.main_arg3)
      ∧ m' ((c.tc : Thread Cert.RefFfnFwdIdeal.nD Cert.RefFfnFwdIdeal.τ).loc Cert.RefFfnFwdIdeal.main_arg4) = m ((c.tc : Thread Cert.KernelFfnFwdIdeal.nD Cert.KernelFfnFwdIdeal.τ).loc Cert.KernelFfnFwdIdeal.main_arg4)
      ∧ m' ((c.tc : Thread Cert.RefFfnFwdIdeal.nD Cert.RefFfnFwdIdeal.τ).loc Cert.RefFfnFwdIdeal.main_arg5) = m ((c.tc : Thread Cert.KernelFfnFwdIdeal.nD Cert.KernelFfnFwdIdeal.τ).loc Cert.KernelFfnFwdIdeal.main_arg5)) →
    ∃ (v0 : (c : Dev Cert.KernelFfnFwdIdeal.nD) → Buf (Elt Ideal) ((c.tc : Thread Cert.KernelFfnFwdIdeal.nD Cert.KernelFfnFwdIdeal.τ).loc Cert.KernelFfnFwdIdeal.main_v9_0)) (v1 : (c : Dev Cert.KernelFfnFwdIdeal.nD) → Buf (Elt Ideal) ((c.tc : Thread Cert.KernelFfnFwdIdeal.nD Cert.KernelFfnFwdIdeal.τ).loc Cert.KernelFfnFwdIdeal.main_v9_1)),
      θ_run (Cert.KernelFfnFwdIdeal.defs (F := Ideal)) (onTc (τ := Cert.KernelFfnFwdIdeal.τ) (Cert.KernelFfnFwdIdeal.main (F := Ideal))) ⟨m, fun _ => 0, g⟩ (fun r => ∀ c : Dev Cert.KernelFfnFwdIdeal.nD,
          r.2.mem ((c.tc : Thread Cert.KernelFfnFwdIdeal.nD Cert.KernelFfnFwdIdeal.τ).loc Cert.KernelFfnFwdIdeal.main_v9_0) = v0 c
          ∧ r.2.mem ((c.tc : Thread Cert.KernelFfnFwdIdeal.nD Cert.KernelFfnFwdIdeal.τ).loc Cert.KernelFfnFwdIdeal.main_v9_1) = v1 c
          ∧ r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
          ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
          ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
          ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
          ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4)
          ∧ r.2.mem ((c.tc : Thread Cert.KernelFfnFwdIdeal.nD Cert.KernelFfnFwdIdeal.τ).loc Cert.KernelFfnFwdIdeal.main_arg5) = m ((c.tc : Thread Cert.KernelFfnFwdIdeal.nD Cert.KernelFfnFwdIdeal.τ).loc Cert.KernelFfnFwdIdeal.main_arg5))
      ∧ θ_run (Cert.RefFfnFwdIdeal.defs (F := Ideal)) (onTc (τ := Cert.RefFfnFwdIdeal.τ) (Cert.RefFfnFwdIdeal.main (F := Ideal))) ⟨m', fun _ => 0, g'⟩ (fun r => ∀ c : Dev Cert.RefFfnFwdIdeal.nD,
          r.2.mem ((c.tc : Thread Cert.RefFfnFwdIdeal.nD Cert.RefFfnFwdIdeal.τ).loc Cert.RefFfnFwdIdeal.main_v42) = v0 c
          ∧ r.2.mem ((c.tc : Thread Cert.RefFfnFwdIdeal.nD Cert.RefFfnFwdIdeal.τ).loc Cert.RefFfnFwdIdeal.main_v38) = v1 c
          ∧ r.2.mem ((c.tc : Thread Cert.RefFfnFwdIdeal.nD Cert.RefFfnFwdIdeal.τ).loc Cert.RefFfnFwdIdeal.main_arg0) = m' ((c.tc : Thread Cert.RefFfnFwdIdeal.nD Cert.RefFfnFwdIdeal.τ).loc Cert.RefFfnFwdIdeal.main_arg0)
          ∧ r.2.mem ((c.tc : Thread Cert.RefFfnFwdIdeal.nD Cert.RefFfnFwdIdeal.τ).loc Cert.RefFfnFwdIdeal.main_arg1) = m' ((c.tc : Thread Cert.RefFfnFwdIdeal.nD Cert.RefFfnFwdIdeal.τ).loc Cert.RefFfnFwdIdeal.main_arg1)
          ∧ r.2.mem ((c.tc : Thread Cert.RefFfnFwdIdeal.nD Cert.RefFfnFwdIdeal.τ).loc Cert.RefFfnFwdIdeal.main_arg2) = m' ((c.tc : Thread Cert.RefFfnFwdIdeal.nD Cert.RefFfnFwdIdeal.τ).loc Cert.RefFfnFwdIdeal.main_arg2)
          ∧ r.2.mem ((c.tc : Thread Cert.RefFfnFwdIdeal.nD Cert.RefFfnFwdIdeal.τ).loc Cert.RefFfnFwdIdeal.main_arg3) = m' ((c.tc : Thread Cert.RefFfnFwdIdeal.nD Cert.RefFfnFwdIdeal.τ).loc Cert.RefFfnFwdIdeal.main_arg3)
          ∧ r.2.mem ((c.tc : Thread Cert.RefFfnFwdIdeal.nD Cert.RefFfnFwdIdeal.τ).loc Cert.RefFfnFwdIdeal.main_arg4) = m' ((c.tc : Thread Cert.RefFfnFwdIdeal.nD Cert.RefFfnFwdIdeal.τ).loc Cert.RefFfnFwdIdeal.main_arg4)
          ∧ r.2.mem ((c.tc : Thread Cert.RefFfnFwdIdeal.nD Cert.RefFfnFwdIdeal.τ).loc Cert.RefFfnFwdIdeal.main_arg5) = m' ((c.tc : Thread Cert.RefFfnFwdIdeal.nD Cert.RefFfnFwdIdeal.τ).loc Cert.RefFfnFwdIdeal.main_arg5))

def preserves_KernelMixIn_KernelMixInIdeal : Prop :=
  True

def algebraic_KernelMixInIdeal_RefMixInIdeal [hKernelMixInIdeal : Cert.KernelMixInIdeal.Facts] [hRefMixInIdeal : Cert.RefMixInIdeal.Facts] : Prop :=
  ∀ (m : (ℓ : Loc Cert.KernelMixInIdeal.nD Cert.KernelMixInIdeal.τ Cert.KernelMixInIdeal.sig) → Buf (Elt Ideal) ℓ) (g : Dev Cert.KernelMixInIdeal.nD → PrngReg)
    (m' : (ℓ : Loc Cert.RefMixInIdeal.nD Cert.RefMixInIdeal.τ Cert.RefMixInIdeal.sig) → Buf (Elt Ideal) ℓ) (g' : Dev Cert.RefMixInIdeal.nD → PrngReg), Pre_KernelMixInIdeal m →
    (∀ c : Dev Cert.KernelMixInIdeal.nD,
      m' ((c.tc : Thread Cert.RefMixInIdeal.nD Cert.RefMixInIdeal.τ).loc Cert.RefMixInIdeal.main_arg0) = m ((c.tc : Thread Cert.KernelMixInIdeal.nD Cert.KernelMixInIdeal.τ).loc Cert.KernelMixInIdeal.main_arg0)
      ∧ m' ((c.tc : Thread Cert.RefMixInIdeal.nD Cert.RefMixInIdeal.τ).loc Cert.RefMixInIdeal.main_arg1) = m ((c.tc : Thread Cert.KernelMixInIdeal.nD Cert.KernelMixInIdeal.τ).loc Cert.KernelMixInIdeal.main_arg1)
      ∧ m' ((c.tc : Thread Cert.RefMixInIdeal.nD Cert.RefMixInIdeal.τ).loc Cert.RefMixInIdeal.main_arg2) = m ((c.tc : Thread Cert.KernelMixInIdeal.nD Cert.KernelMixInIdeal.τ).loc Cert.KernelMixInIdeal.main_arg2)
      ∧ m' ((c.tc : Thread Cert.RefMixInIdeal.nD Cert.RefMixInIdeal.τ).loc Cert.RefMixInIdeal.main_arg3) = m ((c.tc : Thread Cert.KernelMixInIdeal.nD Cert.KernelMixInIdeal.τ).loc Cert.KernelMixInIdeal.main_arg3)) →
    ∃ (v0 : (c : Dev Cert.KernelMixInIdeal.nD) → Buf (Elt Ideal) ((c.tc : Thread Cert.KernelMixInIdeal.nD Cert.KernelMixInIdeal.τ).loc Cert.KernelMixInIdeal.main_v38_0)) (v1 : (c : Dev Cert.KernelMixInIdeal.nD) → Buf (Elt Ideal) ((c.tc : Thread Cert.KernelMixInIdeal.nD Cert.KernelMixInIdeal.τ).loc Cert.KernelMixInIdeal.main_v38_1)) (v2 : (c : Dev Cert.KernelMixInIdeal.nD) → Buf (Elt Ideal) ((c.tc : Thread Cert.KernelMixInIdeal.nD Cert.KernelMixInIdeal.τ).loc Cert.KernelMixInIdeal.main_v38_2)) (v3 : (c : Dev Cert.KernelMixInIdeal.nD) → Buf (Elt Ideal) ((c.tc : Thread Cert.KernelMixInIdeal.nD Cert.KernelMixInIdeal.τ).loc Cert.KernelMixInIdeal.main_v38_3)) (v4 : (c : Dev Cert.KernelMixInIdeal.nD) → Buf (Elt Ideal) ((c.tc : Thread Cert.KernelMixInIdeal.nD Cert.KernelMixInIdeal.τ).loc Cert.KernelMixInIdeal.main_v38_4)) (v5 : (c : Dev Cert.KernelMixInIdeal.nD) → Buf (Elt Ideal) ((c.tc : Thread Cert.KernelMixInIdeal.nD Cert.KernelMixInIdeal.τ).loc Cert.KernelMixInIdeal.main_v38_5)),
      θ_run (Cert.KernelMixInIdeal.defs (F := Ideal)) (onTc (τ := Cert.KernelMixInIdeal.τ) (Cert.KernelMixInIdeal.main (F := Ideal))) ⟨m, fun _ => 0, g⟩ (fun r => ∀ c : Dev Cert.KernelMixInIdeal.nD,
          r.2.mem ((c.tc : Thread Cert.KernelMixInIdeal.nD Cert.KernelMixInIdeal.τ).loc Cert.KernelMixInIdeal.main_v38_0) = v0 c
          ∧ r.2.mem ((c.tc : Thread Cert.KernelMixInIdeal.nD Cert.KernelMixInIdeal.τ).loc Cert.KernelMixInIdeal.main_v38_1) = v1 c
          ∧ r.2.mem ((c.tc : Thread Cert.KernelMixInIdeal.nD Cert.KernelMixInIdeal.τ).loc Cert.KernelMixInIdeal.main_v38_2) = v2 c
          ∧ r.2.mem ((c.tc : Thread Cert.KernelMixInIdeal.nD Cert.KernelMixInIdeal.τ).loc Cert.KernelMixInIdeal.main_v38_3) = v3 c
          ∧ r.2.mem ((c.tc : Thread Cert.KernelMixInIdeal.nD Cert.KernelMixInIdeal.τ).loc Cert.KernelMixInIdeal.main_v38_4) = v4 c
          ∧ r.2.mem ((c.tc : Thread Cert.KernelMixInIdeal.nD Cert.KernelMixInIdeal.τ).loc Cert.KernelMixInIdeal.main_v38_5) = v5 c
          ∧ r.2.mem ((c.tc : Thread Cert.KernelMixInIdeal.nD Cert.KernelMixInIdeal.τ).loc Cert.KernelMixInIdeal.main_arg0) = m ((c.tc : Thread Cert.KernelMixInIdeal.nD Cert.KernelMixInIdeal.τ).loc Cert.KernelMixInIdeal.main_arg0)
          ∧ r.2.mem ((c.tc : Thread Cert.KernelMixInIdeal.nD Cert.KernelMixInIdeal.τ).loc Cert.KernelMixInIdeal.main_arg1) = m ((c.tc : Thread Cert.KernelMixInIdeal.nD Cert.KernelMixInIdeal.τ).loc Cert.KernelMixInIdeal.main_arg1)
          ∧ r.2.mem ((c.tc : Thread Cert.KernelMixInIdeal.nD Cert.KernelMixInIdeal.τ).loc Cert.KernelMixInIdeal.main_arg2) = m ((c.tc : Thread Cert.KernelMixInIdeal.nD Cert.KernelMixInIdeal.τ).loc Cert.KernelMixInIdeal.main_arg2)
          ∧ r.2.mem ((c.tc : Thread Cert.KernelMixInIdeal.nD Cert.KernelMixInIdeal.τ).loc Cert.KernelMixInIdeal.main_arg3) = m ((c.tc : Thread Cert.KernelMixInIdeal.nD Cert.KernelMixInIdeal.τ).loc Cert.KernelMixInIdeal.main_arg3))
      ∧ θ_run (Cert.RefMixInIdeal.defs (F := Ideal)) (onTc (τ := Cert.RefMixInIdeal.τ) (Cert.RefMixInIdeal.main (F := Ideal))) ⟨m', fun _ => 0, g'⟩ (fun r => ∀ c : Dev Cert.RefMixInIdeal.nD,
          r.2.mem ((c.tc : Thread Cert.RefMixInIdeal.nD Cert.RefMixInIdeal.τ).loc Cert.RefMixInIdeal.main_v29) = v0 c
          ∧ r.2.mem ((c.tc : Thread Cert.RefMixInIdeal.nD Cert.RefMixInIdeal.τ).loc Cert.RefMixInIdeal.main_v99) = v1 c
          ∧ r.2.mem ((c.tc : Thread Cert.RefMixInIdeal.nD Cert.RefMixInIdeal.τ).loc Cert.RefMixInIdeal.main_v166) = v2 c
          ∧ r.2.mem ((c.tc : Thread Cert.RefMixInIdeal.nD Cert.RefMixInIdeal.τ).loc Cert.RefMixInIdeal.main_v32) = v3 c
          ∧ r.2.mem ((c.tc : Thread Cert.RefMixInIdeal.nD Cert.RefMixInIdeal.τ).loc Cert.RefMixInIdeal.main_v33) = v4 c
          ∧ r.2.mem ((c.tc : Thread Cert.RefMixInIdeal.nD Cert.RefMixInIdeal.τ).loc Cert.RefMixInIdeal.main_v34) = v5 c
          ∧ r.2.mem ((c.tc : Thread Cert.RefMixInIdeal.nD Cert.RefMixInIdeal.τ).loc Cert.RefMixInIdeal.main_arg0) = m' ((c.tc : Thread Cert.RefMixInIdeal.nD Cert.RefMixInIdeal.τ).loc Cert.RefMixInIdeal.main_arg0)
          ∧ r.2.mem ((c.tc : Thread Cert.RefMixInIdeal.nD Cert.RefMixInIdeal.τ).loc Cert.RefMixInIdeal.main_arg1) = m' ((c.tc : Thread Cert.RefMixInIdeal.nD Cert.RefMixInIdeal.τ).loc Cert.RefMixInIdeal.main_arg1)
          ∧ r.2.mem ((c.tc : Thread Cert.RefMixInIdeal.nD Cert.RefMixInIdeal.τ).loc Cert.RefMixInIdeal.main_arg2) = m' ((c.tc : Thread Cert.RefMixInIdeal.nD Cert.RefMixInIdeal.τ).loc Cert.RefMixInIdeal.main_arg2)
          ∧ r.2.mem ((c.tc : Thread Cert.RefMixInIdeal.nD Cert.RefMixInIdeal.τ).loc Cert.RefMixInIdeal.main_arg3) = m' ((c.tc : Thread Cert.RefMixInIdeal.nD Cert.RefMixInIdeal.τ).loc Cert.RefMixInIdeal.main_arg3))

def preserves_KernelMixOut_KernelMixOutIdeal : Prop :=
  True

def algebraic_KernelMixOutIdeal_RefMixOutIdeal [hKernelMixOutIdeal : Cert.KernelMixOutIdeal.Facts] [hRefMixOutIdeal : Cert.RefMixOutIdeal.Facts] : Prop :=
  ∀ (m : (ℓ : Loc Cert.KernelMixOutIdeal.nD Cert.KernelMixOutIdeal.τ Cert.KernelMixOutIdeal.sig) → Buf (Elt Ideal) ℓ) (g : Dev Cert.KernelMixOutIdeal.nD → PrngReg)
    (m' : (ℓ : Loc Cert.RefMixOutIdeal.nD Cert.RefMixOutIdeal.τ Cert.RefMixOutIdeal.sig) → Buf (Elt Ideal) ℓ) (g' : Dev Cert.RefMixOutIdeal.nD → PrngReg), Pre_KernelMixOutIdeal m →
    (∀ c : Dev Cert.KernelMixOutIdeal.nD,
      m' ((c.tc : Thread Cert.RefMixOutIdeal.nD Cert.RefMixOutIdeal.τ).loc Cert.RefMixOutIdeal.main_arg0) = m ((c.tc : Thread Cert.KernelMixOutIdeal.nD Cert.KernelMixOutIdeal.τ).loc Cert.KernelMixOutIdeal.main_arg0)
      ∧ m' ((c.tc : Thread Cert.RefMixOutIdeal.nD Cert.RefMixOutIdeal.τ).loc Cert.RefMixOutIdeal.main_arg1) = m ((c.tc : Thread Cert.KernelMixOutIdeal.nD Cert.KernelMixOutIdeal.τ).loc Cert.KernelMixOutIdeal.main_arg1)
      ∧ m' ((c.tc : Thread Cert.RefMixOutIdeal.nD Cert.RefMixOutIdeal.τ).loc Cert.RefMixOutIdeal.main_arg2) = m ((c.tc : Thread Cert.KernelMixOutIdeal.nD Cert.KernelMixOutIdeal.τ).loc Cert.KernelMixOutIdeal.main_arg2)
      ∧ m' ((c.tc : Thread Cert.RefMixOutIdeal.nD Cert.RefMixOutIdeal.τ).loc Cert.RefMixOutIdeal.main_arg3) = m ((c.tc : Thread Cert.KernelMixOutIdeal.nD Cert.KernelMixOutIdeal.τ).loc Cert.KernelMixOutIdeal.main_arg3)
      ∧ m' ((c.tc : Thread Cert.RefMixOutIdeal.nD Cert.RefMixOutIdeal.τ).loc Cert.RefMixOutIdeal.main_arg4) = m ((c.tc : Thread Cert.KernelMixOutIdeal.nD Cert.KernelMixOutIdeal.τ).loc Cert.KernelMixOutIdeal.main_arg4)
      ∧ m' ((c.tc : Thread Cert.RefMixOutIdeal.nD Cert.RefMixOutIdeal.τ).loc Cert.RefMixOutIdeal.main_arg5) = m ((c.tc : Thread Cert.KernelMixOutIdeal.nD Cert.KernelMixOutIdeal.τ).loc Cert.KernelMixOutIdeal.main_arg5)
      ∧ m' ((c.tc : Thread Cert.RefMixOutIdeal.nD Cert.RefMixOutIdeal.τ).loc Cert.RefMixOutIdeal.main_arg6) = m ((c.tc : Thread Cert.KernelMixOutIdeal.nD Cert.KernelMixOutIdeal.τ).loc Cert.KernelMixOutIdeal.main_arg6)
      ∧ m' ((c.tc : Thread Cert.RefMixOutIdeal.nD Cert.RefMixOutIdeal.τ).loc Cert.RefMixOutIdeal.main_arg7) = m ((c.tc : Thread Cert.KernelMixOutIdeal.nD Cert.KernelMixOutIdeal.τ).loc Cert.KernelMixOutIdeal.main_arg7)
      ∧ m' ((c.tc : Thread Cert.RefMixOutIdeal.nD Cert.RefMixOutIdeal.τ).loc Cert.RefMixOutIdeal.main_arg8) = m ((c.tc : Thread Cert.KernelMixOutIdeal.nD Cert.KernelMixOutIdeal.τ).loc Cert.KernelMixOutIdeal.main_arg8)
      ∧ m' ((c.tc : Thread Cert.RefMixOutIdeal.nD Cert.RefMixOutIdeal.τ).loc Cert.RefMixOutIdeal.main_arg9) = m ((c.tc : Thread Cert.KernelMixOutIdeal.nD Cert.KernelMixOutIdeal.τ).loc Cert.KernelMixOutIdeal.main_arg9)
      ∧ m' ((c.tc : Thread Cert.RefMixOutIdeal.nD Cert.RefMixOutIdeal.τ).loc Cert.RefMixOutIdeal.main_arg10) = m ((c.tc : Thread Cert.KernelMixOutIdeal.nD Cert.KernelMixOutIdeal.τ).loc Cert.KernelMixOutIdeal.main_arg10)) →
    ∃ (v0 : (c : Dev Cert.KernelMixOutIdeal.nD) → Buf (Elt Ideal) ((c.tc : Thread Cert.KernelMixOutIdeal.nD Cert.KernelMixOutIdeal.τ).loc Cert.KernelMixOutIdeal.main_v2_0)) (v1 : (c : Dev Cert.KernelMixOutIdeal.nD) → Buf (Elt Ideal) ((c.tc : Thread Cert.KernelMixOutIdeal.nD Cert.KernelMixOutIdeal.τ).loc Cert.KernelMixOutIdeal.main_v2_1)),
      θ_run (Cert.KernelMixOutIdeal.defs (F := Ideal)) (onTc (τ := Cert.KernelMixOutIdeal.τ) (Cert.KernelMixOutIdeal.main (F := Ideal))) ⟨m, fun _ => 0, g⟩ (fun r => ∀ c : Dev Cert.KernelMixOutIdeal.nD,
          r.2.mem ((c.tc : Thread Cert.KernelMixOutIdeal.nD Cert.KernelMixOutIdeal.τ).loc Cert.KernelMixOutIdeal.main_v2_0) = v0 c
          ∧ r.2.mem ((c.tc : Thread Cert.KernelMixOutIdeal.nD Cert.KernelMixOutIdeal.τ).loc Cert.KernelMixOutIdeal.main_v2_1) = v1 c
          ∧ r.2.mem ((c.tc : Thread Cert.KernelMixOutIdeal.nD Cert.KernelMixOutIdeal.τ).loc Cert.KernelMixOutIdeal.main_arg0) = m ((c.tc : Thread Cert.KernelMixOutIdeal.nD Cert.KernelMixOutIdeal.τ).loc Cert.KernelMixOutIdeal.main_arg0)
          ∧ r.2.mem ((c.tc : Thread Cert.KernelMixOutIdeal.nD Cert.KernelMixOutIdeal.τ).loc Cert.KernelMixOutIdeal.main_arg1) = m ((c.tc : Thread Cert.KernelMixOutIdeal.nD Cert.KernelMixOutIdeal.τ).loc Cert.KernelMixOutIdeal.main_arg1)
          ∧ r.2.mem ((c.tc : Thread Cert.KernelMixOutIdeal.nD Cert.KernelMixOutIdeal.τ).loc Cert.KernelMixOutIdeal.main_arg2) = m ((c.tc : Thread Cert.KernelMixOutIdeal.nD Cert.KernelMixOutIdeal.τ).loc Cert.KernelMixOutIdeal.main_arg2)
          ∧ r.2.mem ((c.tc : Thread Cert.KernelMixOutIdeal.nD Cert.KernelMixOutIdeal.τ).loc Cert.KernelMixOutIdeal.main_arg3) = m ((c.tc : Thread Cert.KernelMixOutIdeal.nD Cert.KernelMixOutIdeal.τ).loc Cert.KernelMixOutIdeal.main_arg3)
          ∧ r.2.mem ((c.tc : Thread Cert.KernelMixOutIdeal.nD Cert.KernelMixOutIdeal.τ).loc Cert.KernelMixOutIdeal.main_arg4) = m ((c.tc : Thread Cert.KernelMixOutIdeal.nD Cert.KernelMixOutIdeal.τ).loc Cert.KernelMixOutIdeal.main_arg4)
          ∧ r.2.mem ((c.tc : Thread Cert.KernelMixOutIdeal.nD Cert.KernelMixOutIdeal.τ).loc Cert.KernelMixOutIdeal.main_arg5) = m ((c.tc : Thread Cert.KernelMixOutIdeal.nD Cert.KernelMixOutIdeal.τ).loc Cert.KernelMixOutIdeal.main_arg5)
          ∧ r.2.mem ((c.tc : Thread Cert.KernelMixOutIdeal.nD Cert.KernelMixOutIdeal.τ).loc Cert.KernelMixOutIdeal.main_arg6) = m ((c.tc : Thread Cert.KernelMixOutIdeal.nD Cert.KernelMixOutIdeal.τ).loc Cert.KernelMixOutIdeal.main_arg6)
          ∧ r.2.mem ((c.tc : Thread Cert.KernelMixOutIdeal.nD Cert.KernelMixOutIdeal.τ).loc Cert.KernelMixOutIdeal.main_arg7) = m ((c.tc : Thread Cert.KernelMixOutIdeal.nD Cert.KernelMixOutIdeal.τ).loc Cert.KernelMixOutIdeal.main_arg7)
          ∧ r.2.mem ((c.tc : Thread Cert.KernelMixOutIdeal.nD Cert.KernelMixOutIdeal.τ).loc Cert.KernelMixOutIdeal.main_arg8) = m ((c.tc : Thread Cert.KernelMixOutIdeal.nD Cert.KernelMixOutIdeal.τ).loc Cert.KernelMixOutIdeal.main_arg8)
          ∧ r.2.mem ((c.tc : Thread Cert.KernelMixOutIdeal.nD Cert.KernelMixOutIdeal.τ).loc Cert.KernelMixOutIdeal.main_arg9) = m ((c.tc : Thread Cert.KernelMixOutIdeal.nD Cert.KernelMixOutIdeal.τ).loc Cert.KernelMixOutIdeal.main_arg9)
          ∧ r.2.mem ((c.tc : Thread Cert.KernelMixOutIdeal.nD Cert.KernelMixOutIdeal.τ).loc Cert.KernelMixOutIdeal.main_arg10) = m ((c.tc : Thread Cert.KernelMixOutIdeal.nD Cert.KernelMixOutIdeal.τ).loc Cert.KernelMixOutIdeal.main_arg10))
      ∧ θ_run (Cert.RefMixOutIdeal.defs (F := Ideal)) (onTc (τ := Cert.RefMixOutIdeal.τ) (Cert.RefMixOutIdeal.main (F := Ideal))) ⟨m', fun _ => 0, g'⟩ (fun r => ∀ c : Dev Cert.RefMixOutIdeal.nD,
          r.2.mem ((c.tc : Thread Cert.RefMixOutIdeal.nD Cert.RefMixOutIdeal.τ).loc Cert.RefMixOutIdeal.main_v65) = v0 c
          ∧ r.2.mem ((c.tc : Thread Cert.RefMixOutIdeal.nD Cert.RefMixOutIdeal.τ).loc Cert.RefMixOutIdeal.main_v63) = v1 c
          ∧ r.2.mem ((c.tc : Thread Cert.RefMixOutIdeal.nD Cert.RefMixOutIdeal.τ).loc Cert.RefMixOutIdeal.main_arg0) = m' ((c.tc : Thread Cert.RefMixOutIdeal.nD Cert.RefMixOutIdeal.τ).loc Cert.RefMixOutIdeal.main_arg0)
          ∧ r.2.mem ((c.tc : Thread Cert.RefMixOutIdeal.nD Cert.RefMixOutIdeal.τ).loc Cert.RefMixOutIdeal.main_arg1) = m' ((c.tc : Thread Cert.RefMixOutIdeal.nD Cert.RefMixOutIdeal.τ).loc Cert.RefMixOutIdeal.main_arg1)
          ∧ r.2.mem ((c.tc : Thread Cert.RefMixOutIdeal.nD Cert.RefMixOutIdeal.τ).loc Cert.RefMixOutIdeal.main_arg2) = m' ((c.tc : Thread Cert.RefMixOutIdeal.nD Cert.RefMixOutIdeal.τ).loc Cert.RefMixOutIdeal.main_arg2)
          ∧ r.2.mem ((c.tc : Thread Cert.RefMixOutIdeal.nD Cert.RefMixOutIdeal.τ).loc Cert.RefMixOutIdeal.main_arg3) = m' ((c.tc : Thread Cert.RefMixOutIdeal.nD Cert.RefMixOutIdeal.τ).loc Cert.RefMixOutIdeal.main_arg3)
          ∧ r.2.mem ((c.tc : Thread Cert.RefMixOutIdeal.nD Cert.RefMixOutIdeal.τ).loc Cert.RefMixOutIdeal.main_arg4) = m' ((c.tc : Thread Cert.RefMixOutIdeal.nD Cert.RefMixOutIdeal.τ).loc Cert.RefMixOutIdeal.main_arg4)
          ∧ r.2.mem ((c.tc : Thread Cert.RefMixOutIdeal.nD Cert.RefMixOutIdeal.τ).loc Cert.RefMixOutIdeal.main_arg5) = m' ((c.tc : Thread Cert.RefMixOutIdeal.nD Cert.RefMixOutIdeal.τ).loc Cert.RefMixOutIdeal.main_arg5)
          ∧ r.2.mem ((c.tc : Thread Cert.RefMixOutIdeal.nD Cert.RefMixOutIdeal.τ).loc Cert.RefMixOutIdeal.main_arg6) = m' ((c.tc : Thread Cert.RefMixOutIdeal.nD Cert.RefMixOutIdeal.τ).loc Cert.RefMixOutIdeal.main_arg6)
          ∧ r.2.mem ((c.tc : Thread Cert.RefMixOutIdeal.nD Cert.RefMixOutIdeal.τ).loc Cert.RefMixOutIdeal.main_arg7) = m' ((c.tc : Thread Cert.RefMixOutIdeal.nD Cert.RefMixOutIdeal.τ).loc Cert.RefMixOutIdeal.main_arg7)
          ∧ r.2.mem ((c.tc : Thread Cert.RefMixOutIdeal.nD Cert.RefMixOutIdeal.τ).loc Cert.RefMixOutIdeal.main_arg8) = m' ((c.tc : Thread Cert.RefMixOutIdeal.nD Cert.RefMixOutIdeal.τ).loc Cert.RefMixOutIdeal.main_arg8)
          ∧ r.2.mem ((c.tc : Thread Cert.RefMixOutIdeal.nD Cert.RefMixOutIdeal.τ).loc Cert.RefMixOutIdeal.main_arg9) = m' ((c.tc : Thread Cert.RefMixOutIdeal.nD Cert.RefMixOutIdeal.τ).loc Cert.RefMixOutIdeal.main_arg9)
          ∧ r.2.mem ((c.tc : Thread Cert.RefMixOutIdeal.nD Cert.RefMixOutIdeal.τ).loc Cert.RefMixOutIdeal.main_arg10) = m' ((c.tc : Thread Cert.RefMixOutIdeal.nD Cert.RefMixOutIdeal.τ).loc Cert.RefMixOutIdeal.main_arg10))

def Claim : Prop :=
  ∃ (hKernelDq : Cert.KernelDq.Facts) (hKernelDqIdeal : Cert.KernelDqIdeal.Facts) (hRefDqIdeal : Cert.RefDqIdeal.Facts) (hKernelDk : Cert.KernelDk.Facts) (hKernelDkIdeal : Cert.KernelDkIdeal.Facts) (hRefDkIdeal : Cert.RefDkIdeal.Facts) (hKernelDv : Cert.KernelDv.Facts) (hKernelDvIdeal : Cert.KernelDvIdeal.Facts) (hRefDvIdeal : Cert.RefDvIdeal.Facts) (hKernelFfnBwd : Cert.KernelFfnBwd.Facts) (hKernelFfnBwdIdeal : Cert.KernelFfnBwdIdeal.Facts) (hRefFfnBwdIdeal : Cert.RefFfnBwdIdeal.Facts) (hKernelWgrad : Cert.KernelWgrad.Facts) (hKernelWgradIdeal : Cert.KernelWgradIdeal.Facts) (hRefWgradIdeal : Cert.RefWgradIdeal.Facts) (hKernelFfnFwd : Cert.KernelFfnFwd.Facts) (hKernelFfnFwdIdeal : Cert.KernelFfnFwdIdeal.Facts) (hRefFfnFwdIdeal : Cert.RefFfnFwdIdeal.Facts) (hKernelMixIn : Cert.KernelMixIn.Facts) (hKernelMixInIdeal : Cert.KernelMixInIdeal.Facts) (hRefMixInIdeal : Cert.RefMixInIdeal.Facts) (hKernelMixOut : Cert.KernelMixOut.Facts) (hKernelMixOutIdeal : Cert.KernelMixOutIdeal.Facts) (hRefMixOutIdeal : Cert.RefMixOutIdeal.Facts) (hPre_finite : Cert.Pre_finite.Facts) (hPre_finite_ffn : Cert.Pre_finite_ffn.Facts),
    quiescent_KernelDq (hKernelDq := hKernelDq)
    ∧ quiescent_KernelDqIdeal (hKernelDqIdeal := hKernelDqIdeal)
    ∧ quiescent_KernelDqIdeal_pre_finite (hKernelDqIdeal := hKernelDqIdeal) (hPre_finite := hPre_finite)
    ∧ quiescent_RefDqIdeal (hRefDqIdeal := hRefDqIdeal)
    ∧ quiescent_RefDqIdeal_pre_finite (hRefDqIdeal := hRefDqIdeal) (hPre_finite := hPre_finite)
    ∧ quiescent_KernelDk (hKernelDk := hKernelDk)
    ∧ quiescent_KernelDkIdeal (hKernelDkIdeal := hKernelDkIdeal)
    ∧ quiescent_KernelDkIdeal_pre_finite (hKernelDkIdeal := hKernelDkIdeal) (hPre_finite := hPre_finite)
    ∧ quiescent_RefDkIdeal (hRefDkIdeal := hRefDkIdeal)
    ∧ quiescent_RefDkIdeal_pre_finite (hRefDkIdeal := hRefDkIdeal) (hPre_finite := hPre_finite)
    ∧ quiescent_KernelDv (hKernelDv := hKernelDv)
    ∧ quiescent_KernelDvIdeal (hKernelDvIdeal := hKernelDvIdeal)
    ∧ quiescent_KernelDvIdeal_pre_finite (hKernelDvIdeal := hKernelDvIdeal) (hPre_finite := hPre_finite)
    ∧ quiescent_RefDvIdeal (hRefDvIdeal := hRefDvIdeal)
    ∧ quiescent_RefDvIdeal_pre_finite (hRefDvIdeal := hRefDvIdeal) (hPre_finite := hPre_finite)
    ∧ quiescent_KernelFfnBwd (hKernelFfnBwd := hKernelFfnBwd)
    ∧ quiescent_KernelFfnBwdIdeal (hKernelFfnBwdIdeal := hKernelFfnBwdIdeal)
    ∧ quiescent_KernelFfnBwdIdeal_pre_finite_ffn (hKernelFfnBwdIdeal := hKernelFfnBwdIdeal) (hPre_finite_ffn := hPre_finite_ffn)
    ∧ quiescent_RefFfnBwdIdeal (hRefFfnBwdIdeal := hRefFfnBwdIdeal)
    ∧ quiescent_RefFfnBwdIdeal_pre_finite_ffn (hRefFfnBwdIdeal := hRefFfnBwdIdeal) (hPre_finite_ffn := hPre_finite_ffn)
    ∧ quiescent_KernelWgrad (hKernelWgrad := hKernelWgrad)
    ∧ quiescent_KernelWgradIdeal (hKernelWgradIdeal := hKernelWgradIdeal)
    ∧ quiescent_RefWgradIdeal (hRefWgradIdeal := hRefWgradIdeal)
    ∧ quiescent_KernelFfnFwd (hKernelFfnFwd := hKernelFfnFwd)
    ∧ quiescent_KernelFfnFwdIdeal (hKernelFfnFwdIdeal := hKernelFfnFwdIdeal)
    ∧ quiescent_RefFfnFwdIdeal (hRefFfnFwdIdeal := hRefFfnFwdIdeal)
    ∧ quiescent_KernelMixIn (hKernelMixIn := hKernelMixIn)
    ∧ quiescent_KernelMixInIdeal (hKernelMixInIdeal := hKernelMixInIdeal)
    ∧ quiescent_RefMixInIdeal (hRefMixInIdeal := hRefMixInIdeal)
    ∧ quiescent_KernelMixOut (hKernelMixOut := hKernelMixOut)
    ∧ quiescent_KernelMixOutIdeal (hKernelMixOutIdeal := hKernelMixOutIdeal)
    ∧ quiescent_RefMixOutIdeal (hRefMixOutIdeal := hRefMixOutIdeal)
    ∧ preserves_KernelDq_KernelDqIdeal
    ∧ algebraic_KernelDqIdeal_RefDqIdeal_pre_finite (hKernelDqIdeal := hKernelDqIdeal) (hRefDqIdeal := hRefDqIdeal) (hPre_finite := hPre_finite)
    ∧ preserves_KernelDk_KernelDkIdeal
    ∧ algebraic_KernelDkIdeal_RefDkIdeal_pre_finite (hKernelDkIdeal := hKernelDkIdeal) (hRefDkIdeal := hRefDkIdeal) (hPre_finite := hPre_finite)
    ∧ preserves_KernelDv_KernelDvIdeal
    ∧ algebraic_KernelDvIdeal_RefDvIdeal_pre_finite (hKernelDvIdeal := hKernelDvIdeal) (hRefDvIdeal := hRefDvIdeal) (hPre_finite := hPre_finite)
    ∧ preserves_KernelFfnBwd_KernelFfnBwdIdeal
    ∧ algebraic_KernelFfnBwdIdeal_RefFfnBwdIdeal_pre_finite_ffn (hKernelFfnBwdIdeal := hKernelFfnBwdIdeal) (hRefFfnBwdIdeal := hRefFfnBwdIdeal) (hPre_finite_ffn := hPre_finite_ffn)
    ∧ preserves_KernelWgrad_KernelWgradIdeal
    ∧ algebraic_KernelWgradIdeal_RefWgradIdeal (hKernelWgradIdeal := hKernelWgradIdeal) (hRefWgradIdeal := hRefWgradIdeal)
    ∧ preserves_KernelFfnFwd_KernelFfnFwdIdeal
    ∧ algebraic_KernelFfnFwdIdeal_RefFfnFwdIdeal (hKernelFfnFwdIdeal := hKernelFfnFwdIdeal) (hRefFfnFwdIdeal := hRefFfnFwdIdeal)
    ∧ preserves_KernelMixIn_KernelMixInIdeal
    ∧ algebraic_KernelMixInIdeal_RefMixInIdeal (hKernelMixInIdeal := hKernelMixInIdeal) (hRefMixInIdeal := hRefMixInIdeal)
    ∧ preserves_KernelMixOut_KernelMixOutIdeal
    ∧ algebraic_KernelMixOutIdeal_RefMixOutIdeal (hKernelMixOutIdeal := hKernelMixOutIdeal) (hRefMixOutIdeal := hRefMixOutIdeal)
-- ==== Pre_finite.lean ====
abbrev S2x2304x512 : Shape := ⟨3, ![2, 2304, 512]⟩
abbrev S4 : Shape := ⟨1, ![4]⟩
abbrev S_ : Shape := ⟨0, ![]⟩

class Facts : Prop where
  bcast_S_S2x2304x512 : S_.BroadcastsInDim S2x2304x512 (![] : Fin 0 → Fin S2x2304x512.rank)
  reducesTo_S2x2304x512_S_d0_1_2 : S2x2304x512.ReducesTo [0, 1, 2] S_
  h_S_ : 0 < S_.numel
  bcast_S_S4 : S_.BroadcastsInDim S4 (![] : Fin 0 → Fin S4.rank)
  reducesTo_S4_S_d0 : S4.ReducesTo [0] S_

variable [Facts]

def fn_part1 {F : FTy → Type} [FloatOps F] (main_arg4 : FVec F S4 .f32) (main_arg5 : FVec F S4 .f32) (main_v14 : IVec S_ 1) (main_v15 : FVec F S2x2304x512 .f32) (main_cst_5 : FVec F S_ .f32) : IVec S_ 1 :=
  let main_v16 : FVec F S2x2304x512 .f32 := broadcastInDim S2x2304x512 ![] bcast_S_S2x2304x512 main_cst_5
  let main_v17 : IVec S2x2304x512 1 := cmpf .olt main_v15 main_v16
  let main_c_6 : IVec S_ 1 := constantI S_ 1 1#1
  let main_v18 : IVec S_ 1 := (fun x v => Host.reduce IntOp.andi x v reducesTo_S2x2304x512_S_d0_1_2 h_S_) main_v17 main_c_6
  let main_v19 : IVec S_ 1 := andi main_v14 main_v18
  let main_v20 : FVec F S4 .f32 := Host.absf main_arg4
  let main_cst_7 : FVec F S_ .f32 := constant S_ .f32 0x7F800000#32
  let main_v21 : FVec F S4 .f32 := broadcastInDim S4 ![] bcast_S_S4 main_cst_7
  let main_v22 : IVec S4 1 := cmpf .olt main_v20 main_v21
  let main_c_8 : IVec S_ 1 := constantI S_ 1 1#1
  let main_v23 : IVec S_ 1 := (fun x v => Host.reduce IntOp.andi x v reducesTo_S4_S_d0 h_S_) main_v22 main_c_8
  let main_v24 : IVec S_ 1 := andi main_v19 main_v23
  let main_v25 : FVec F S4 .f32 := Host.absf main_arg5
  let main_cst_9 : FVec F S_ .f32 := constant S_ .f32 0x7F800000#32
  let main_v26 : FVec F S4 .f32 := broadcastInDim S4 ![] bcast_S_S4 main_cst_9
  let main_v27 : IVec S4 1 := cmpf .olt main_v25 main_v26
  let main_c_10 : IVec S_ 1 := constantI S_ 1 1#1
  let main_v28 : IVec S_ 1 := (fun x v => Host.reduce IntOp.andi x v reducesTo_S4_S_d0 h_S_) main_v27 main_c_10
  let main_v29 : IVec S_ 1 := andi main_v24 main_v28
  main_v29

def fn {F : FTy → Type} [FloatOps F] (main_arg0 : FVec F S2x2304x512 .f32) (main_arg1 : FVec F S2x2304x512 .f32) (main_arg2 : FVec F S2x2304x512 .f32) (main_arg3 : FVec F S2x2304x512 .f32) (main_arg4 : FVec F S4 .f32) (main_arg5 : FVec F S4 .f32) : IVec S_ 1 :=
  let main_v0 : FVec F S2x2304x512 .f32 := Host.absf main_arg0
  let main_cst : FVec F S_ .f32 := constant S_ .f32 0x7F800000#32
  let main_v1 : FVec F S2x2304x512 .f32 := broadcastInDim S2x2304x512 ![] bcast_S_S2x2304x512 main_cst
  let main_v2 : IVec S2x2304x512 1 := cmpf .olt main_v0 main_v1
  let main_c : IVec S_ 1 := constantI S_ 1 1#1
  let main_v3 : IVec S_ 1 := (fun x v => Host.reduce IntOp.andi x v reducesTo_S2x2304x512_S_d0_1_2 h_S_) main_v2 main_c
  let main_c_0 : IVec S_ 1 := constantI S_ 1 1#1
  let main_v4 : IVec S_ 1 := andi main_c_0 main_v3
  let main_v5 : FVec F S2x2304x512 .f32 := Host.absf main_arg1
  let main_cst_1 : FVec F S_ .f32 := constant S_ .f32 0x7F800000#32
  let main_v6 : FVec F S2x2304x512 .f32 := broadcastInDim S2x2304x512 ![] bcast_S_S2x2304x512 main_cst_1
  let main_v7 : IVec S2x2304x512 1 := cmpf .olt main_v5 main_v6
  let main_c_2 : IVec S_ 1 := constantI S_ 1 1#1
  let main_v8 : IVec S_ 1 := (fun x v => Host.reduce IntOp.andi x v reducesTo_S2x2304x512_S_d0_1_2 h_S_) main_v7 main_c_2
  let main_v9 : IVec S_ 1 := andi main_v4 main_v8
  let main_v10 : FVec F S2x2304x512 .f32 := Host.absf main_arg2
  let main_cst_3 : FVec F S_ .f32 := constant S_ .f32 0x7F800000#32
  let main_v11 : FVec F S2x2304x512 .f32 := broadcastInDim S2x2304x512 ![] bcast_S_S2x2304x512 main_cst_3
  let main_v12 : IVec S2x2304x512 1 := cmpf .olt main_v10 main_v11
  let main_c_4 : IVec S_ 1 := constantI S_ 1 1#1
  let main_v13 : IVec S_ 1 := (fun x v => Host.reduce IntOp.andi x v reducesTo_S2x2304x512_S_d0_1_2 h_S_) main_v12 main_c_4
  let main_v14 : IVec S_ 1 := andi main_v9 main_v13
  let main_v15 : FVec F S2x2304x512 .f32 := Host.absf main_arg3
  let main_cst_5 : FVec F S_ .f32 := constant S_ .f32 0x7F800000#32
  fn_part1 (F := F) main_arg4 main_arg5 main_v14 main_v15 main_cst_5
-- ==== Pre_finite_ffn.lean ====
abbrev S2x2304x1024 : Shape := ⟨3, ![2, 2304, 1024]⟩
abbrev S2x2x3x1024 : Shape := ⟨4, ![2, 2, 3, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S2x2304x1024 : S_.BroadcastsInDim S2x2304x1024 (![] : Fin 0 → Fin S2x2304x1024.rank)
  reducesTo_S2x2304x1024_S_d0_1_2 : S2x2304x1024.ReducesTo [0, 1, 2] S_
  h_S_ : 0 < S_.numel
  bcast_S_S2x2x3x1024 : S_.BroadcastsInDim S2x2x3x1024 (![] : Fin 0 → Fin S2x2x3x1024.rank)
  reducesTo_S2x2x3x1024_S_d0_1_2_3 : S2x2x3x1024.ReducesTo [0, 1, 2, 3] S_
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part2 {F : FTy → Type} [FloatOps F] (main_v29 : IVec S_ 1) (main_v32 : IVec S2x2304x1024 1) (main_c_12 : IVec S_ 1) : IVec S_ 1 :=
  let main_v33 : IVec S_ 1 := (fun x v => Host.reduce IntOp.andi x v reducesTo_S2x2304x1024_S_d0_1_2 h_S_) main_v32 main_c_12
  let main_v34 : IVec S_ 1 := andi main_v29 main_v33
  main_v34

def fn_part1 {F : FTy → Type} [FloatOps F] (main_arg4 : FVec F S1024x2816 .f32) (main_arg5 : FVec F S2816x1024 .f32) (main_arg6 : FVec F S2x2304x1024 .f32) (main_v14 : IVec S_ 1) (main_v15 : FVec F S1024x2816 .f32) (main_cst_5 : FVec F S_ .f32) : IVec S_ 1 :=
  let main_v16 : FVec F S1024x2816 .f32 := broadcastInDim S1024x2816 ![] bcast_S_S1024x2816 main_cst_5
  let main_v17 : IVec S1024x2816 1 := cmpf .olt main_v15 main_v16
  let main_c_6 : IVec S_ 1 := constantI S_ 1 1#1
  let main_v18 : IVec S_ 1 := (fun x v => Host.reduce IntOp.andi x v reducesTo_S1024x2816_S_d0_1 h_S_) main_v17 main_c_6
  let main_v19 : IVec S_ 1 := andi main_v14 main_v18
  let main_v20 : FVec F S1024x2816 .f32 := Host.absf main_arg4
  let main_cst_7 : FVec F S_ .f32 := constant S_ .f32 0x7F800000#32
  let main_v21 : FVec F S1024x2816 .f32 := broadcastInDim S1024x2816 ![] bcast_S_S1024x2816 main_cst_7
  let main_v22 : IVec S1024x2816 1 := cmpf .olt main_v20 main_v21
  let main_c_8 : IVec S_ 1 := constantI S_ 1 1#1
  let main_v23 : IVec S_ 1 := (fun x v => Host.reduce IntOp.andi x v reducesTo_S1024x2816_S_d0_1 h_S_) main_v22 main_c_8
  let main_v24 : IVec S_ 1 := andi main_v19 main_v23
  let main_v25 : FVec F S2816x1024 .f32 := Host.absf main_arg5
  let main_cst_9 : FVec F S_ .f32 := constant S_ .f32 0x7F800000#32
  let main_v26 : FVec F S2816x1024 .f32 := broadcastInDim S2816x1024 ![] bcast_S_S2816x1024 main_cst_9
  let main_v27 : IVec S2816x1024 1 := cmpf .olt main_v25 main_v26
  let main_c_10 : IVec S_ 1 := constantI S_ 1 1#1
  let main_v28 : IVec S_ 1 := (fun x v => Host.reduce IntOp.andi x v reducesTo_S2816x1024_S_d0_1 h_S_) main_v27 main_c_10
  let main_v29 : IVec S_ 1 := andi main_v24 main_v28
  let main_v30 : FVec F S2x2304x1024 .f32 := Host.absf main_arg6
  let main_cst_11 : FVec F S_ .f32 := constant S_ .f32 0x7F800000#32
  let main_v31 : FVec F S2x2304x1024 .f32 := broadcastInDim S2x2304x1024 ![] bcast_S_S2x2304x1024 main_cst_11
  let main_v32 : IVec S2x2304x1024 1 := cmpf .olt main_v30 main_v31
  let main_c_12 : IVec S_ 1 := constantI S_ 1 1#1
  fn_part2 (F := F) main_v29 main_v32 main_c_12

def fn {F : FTy → Type} [FloatOps F] (main_arg0 : FVec F S2x2304x1024 .f32) (main_arg1 : FVec F S2x2x3x1024 .f32) (main_arg2 : FVec F S1x1024 .f32) (main_arg3 : FVec F S1024x2816 .f32) (main_arg4 : FVec F S1024x2816 .f32) (main_arg5 : FVec F S2816x1024 .f32) (main_arg6 : FVec F S2x2304x1024 .f32) : IVec S_ 1 :=
  let main_v0 : FVec F S2x2304x1024 .f32 := Host.absf main_arg0
  let main_cst : FVec F S_ .f32 := constant S_ .f32 0x7F800000#32
  let main_v1 : FVec F S2x2304x1024 .f32 := broadcastInDim S2x2304x1024 ![] bcast_S_S2x2304x1024 main_cst
  let main_v2 : IVec S2x2304x1024 1 := cmpf .olt main_v0 main_v1
  let main_c : IVec S_ 1 := constantI S_ 1 1#1
  let main_v3 : IVec S_ 1 := (fun x v => Host.reduce IntOp.andi x v reducesTo_S2x2304x1024_S_d0_1_2 h_S_) main_v2 main_c
  let main_c_0 : IVec S_ 1 := constantI S_ 1 1#1
  let main_v4 : IVec S_ 1 := andi main_c_0 main_v3
  let main_v5 : FVec F S2x2x3x1024 .f32 := Host.absf main_arg1
  let main_cst_1 : FVec F S_ .f32 := constant S_ .f32 0x7F800000#32
  let main_v6 : FVec F S2x2x3x1024 .f32 := broadcastInDim S2x2x3x1024 ![] bcast_S_S2x2x3x1024 main_cst_1
  let main_v7 : IVec S2x2x3x1024 1 := cmpf .olt main_v5 main_v6
  let main_c_2 : IVec S_ 1 := constantI S_ 1 1#1
  let main_v8 : IVec S_ 1 := (fun x v => Host.reduce IntOp.andi x v reducesTo_S2x2x3x1024_S_d0_1_2_3 h_S_) main_v7 main_c_2
  let main_v9 : IVec S_ 1 := andi main_v4 main_v8
  let main_v10 : FVec F S1x1024 .f32 := Host.absf main_arg2
  let main_cst_3 : FVec F S_ .f32 := constant S_ .f32 0x7F800000#32
  let main_v11 : FVec F S1x1024 .f32 := broadcastInDim S1x1024 ![] bcast_S_S1x1024 main_cst_3
  let main_v12 : IVec S1x1024 1 := cmpf .olt main_v10 main_v11
  let main_c_4 : IVec S_ 1 := constantI S_ 1 1#1
  let main_v13 : IVec S_ 1 := (fun x v => Host.reduce IntOp.andi x v reducesTo_S1x1024_S_d0_1 h_S_) main_v12 main_c_4
  let main_v14 : IVec S_ 1 := andi main_v9 main_v13
  let main_v15 : FVec F S1024x2816 .f32 := Host.absf main_arg3
  let main_cst_5 : FVec F S_ .f32 := constant S_ .f32 0x7F800000#32
  fn_part1 (F := F) main_arg4 main_arg5 main_arg6 main_v14 main_v15 main_cst_5
-- ==== KernelDq.lean ====
abbrev S2x2304x512 : Shape := ⟨3, ![2, 2304, 512]⟩
abbrev S4 : Shape := ⟨1, ![4]⟩
abbrev S4x1x1 : Shape := ⟨3, ![4, 1, 1]⟩
abbrev S4x1x128 : Shape := ⟨3, ![4, 1, 128]⟩
abbrev S1x2304x128 : Shape := ⟨3, ![1, 2304, 128]⟩
abbrev S1x1x128 : Shape := ⟨3, ![1, 1, 128]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩
abbrev S128x128 : Shape := ⟨2, ![128, 128]⟩
abbrev S1x256x128 : Shape := ⟨3, ![1, 256, 128]⟩
abbrev S256x128 : Shape := ⟨2, ![256, 128]⟩

abbrev nBuf : Space → Nat
  | .hbm => 12
  | .vmem => 14
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S4, .f32⟩
  | .hbm, ⟨5, _⟩ => ⟨S4, .f32⟩
  | .hbm, ⟨6, _⟩ => ⟨S4x1x1, .f32⟩
  | .hbm, ⟨7, _⟩ => ⟨S4x1x128, .f32⟩
  | .hbm, ⟨8, _⟩ => ⟨S4x1x1, .f32⟩
  | .hbm, ⟨9, _⟩ => ⟨S4x1x128, .f32⟩
  | .hbm, ⟨10, _⟩ => ⟨S2x2304x512, .f32⟩
  | .hbm, ⟨11, _⟩ => ⟨S2x2304x512, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefDqIdeal.lean ====
abbrev S2x2304x512 : Shape := ⟨3, ![2, 2304, 512]⟩
abbrev S4 : Shape := ⟨1, ![4]⟩
abbrev S2304 : Shape := ⟨1, ![2304]⟩
abbrev S_ : Shape := ⟨0, ![]⟩
abbrev S2304x1 : Shape := ⟨2, ![2304, 1]⟩
abbrev S1x2304 : Shape := ⟨2, ![1, 2304]⟩
abbrev S2304x2304 : Shape := ⟨2, ![2304, 2304]⟩
abbrev S1x2304x2304 : Shape := ⟨3, ![1, 2304, 2304]⟩
abbrev S4x1x1 : Shape := ⟨3, ![4, 1, 1]⟩
abbrev S4x2304x2304 : Shape := ⟨3, ![4, 2304, 2304]⟩
abbrev S2x2304x4x128 : Shape := ⟨4, ![2, 2304, 4, 128]⟩
abbrev S2x4x2304x2304 : Shape := ⟨4, ![2, 4, 2304, 2304]⟩
abbrev S1x4x2304x2304 : Shape := ⟨4, ![1, 4, 2304, 2304]⟩
abbrev S2x4x128x2304 : Shape := ⟨4, ![2, 4, 128, 2304]⟩
abbrev S2x4x2304x128 : Shape := ⟨4, ![2, 4, 2304, 128]⟩

abbrev nBuf : Space → Nat
  | .hbm => 132
  | .vmem => 0
  | .smem => 0
  | _ => 0

abbrev hbmTy0_0 (i : Nat) : BufTy := match i % 128 with
  | 0 => ⟨S2x2304x512, .f32⟩
  | 1 => ⟨S2x2304x512, .f32⟩
  | 2 => ⟨S2x2304x512, .f32⟩
  | 3 => ⟨S2x2304x512, .f32⟩
  | 4 => ⟨S4, .f32⟩
  | 5 => ⟨S4, .f32⟩
  | 6 => ⟨S2304, .f32⟩
  | 7 => ⟨S4, .f32⟩
  | 8 => ⟨S_, .f32⟩
  | 9 => ⟨S4, .f32⟩
  | 10 => ⟨S4, .f32⟩
  | 11 => ⟨S4, .f32⟩
  | 12 => ⟨S4, .f32⟩
  | 13 => ⟨S4, .i1⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S4, .f32⟩
  | 23 => ⟨S2304x1, .f32⟩
  | 24 => ⟨S1x2304, .f32⟩
  | 25 => ⟨S2304x2304, .f32⟩
  | 26 => ⟨S2304x2304, .f32⟩
  | 27 => ⟨S2304x2304, .f32⟩
  | 28 => ⟨S_, .f32⟩
  | 29 => ⟨S2304x2304, .f32⟩
  | 30 => ⟨S2304x2304, .i1⟩
  | 31 => ⟨S1x2304x2304, .i1⟩
  | 32 => ⟨S_, .f32⟩
  | 33 => ⟨S2304x2304, .f32⟩
  | 34 => ⟨S2304x2304, .f32⟩
  | 35 => ⟨S1x2304x2304, .f32⟩
  | 36 => ⟨S4x1x1, .f32⟩
  | 37 => ⟨S4x2304x2304, .f32⟩
  | 38 => ⟨S4x2304x2304, .f32⟩
  | 39 => ⟨S4x2304x2304, .f32⟩
  | 40 => ⟨S4x2304x2304, .f32⟩
  | 41 => ⟨S_, .f32⟩
  | 42 => ⟨S_, .f32⟩
  | 43 => ⟨S4x2304x2304, .i1⟩
  | 44 => ⟨S4x2304x2304, .f32⟩
  | 45 => ⟨S4x2304x2304, .f32⟩
  | 46 => ⟨S2x2304x4x128, .f32⟩
  | 47 => ⟨S2x2304x4x128, .f32⟩
  | 48 => ⟨S2x4x2304x2304, .f32⟩
  | 49 => ⟨S1x4x2304x2304, .f32⟩
  | 50 => ⟨S2x4x2304x2304, .f32⟩
  | 51 => ⟨S2x4x2304x2304, .f32⟩
  | 52 => ⟨S2x2304x4x128, .f32⟩
  | 53 => ⟨S2x4x128x2304, .f32⟩
  | 54 => ⟨S2x2304x4x128, .f32⟩
  | 55 => ⟨S2x2304x512, .f32⟩
  | 56 => ⟨S2x2304x4x128, .f32⟩
  | 57 => ⟨S2x4x128x2304, .f32⟩
  | 58 => ⟨S2x4x2304x2304, .f32⟩
  | 59 => ⟨S2x4x2304x2304, .f32⟩
  | 60 => ⟨S2x4x2304x2304, .f32⟩
  | 61 => ⟨S2x4x2304x128, .f32⟩
  | 62 => ⟨S2x2304x4x128, .f32⟩
  | 63 => ⟨S2x2304x512, .f32⟩
  | 64 => ⟨S2304, .f32⟩
  | 65 => ⟨S_, .f32⟩
  | 66 => ⟨S2304, .f32⟩
  | 67 => ⟨S2304, .i1⟩
  | 68 => ⟨S_, .f32⟩
  | 69 => ⟨S2304, .f32⟩
  | 70 => ⟨S2304, .f32⟩
  | 71 => ⟨S_, .f32⟩
  | 72 => ⟨S2304, .f32⟩
  | 73 => ⟨S2304, .f32⟩
  | 74 => ⟨S2304, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S4, .i1⟩
  | 82 => ⟨S4, .f32⟩
  | 83 => ⟨S4, .f32⟩
  | 84 => ⟨S4, .f32⟩
  | 85 => ⟨S4, .f32⟩
  | 86 => ⟨S4, .f32⟩
  | 87 => ⟨S4, .f32⟩
  | 88 => ⟨S4, .f32⟩
  | 89 => ⟨S4, .f32⟩
  | 90 => ⟨S4, .f32⟩
  | 91 => ⟨S2304x1, .f32⟩
  | 92 => ⟨S1x2304, .f32⟩
  | 93 => ⟨S2304x2304, .f32⟩
  | 94 => ⟨S2304x2304, .f32⟩
  | 95 => ⟨S2304x2304, .f32⟩
  | 96 => ⟨S_, .f32⟩
  | 97 => ⟨S2304x2304, .f32⟩
  | 98 => ⟨S2304x2304, .i1⟩
  | 99 => ⟨S1x2304x2304, .i1⟩
  | 100 => ⟨S_, .f32⟩
  | 101 => ⟨S2304x2304, .f32⟩
  | 102 => ⟨S2304x2304, .f32⟩
  | 103 => ⟨S1x2304x2304, .f32⟩
  | 104 => ⟨S4x1x1, .f32⟩
  | 105 => ⟨S4x2304x2304, .f32⟩
  | 106 => ⟨S4x2304x2304, .f32⟩
  | 107 => ⟨S4x2304x2304, .f32⟩
  | 108 => ⟨S4x2304x2304, .f32⟩
  | 109 => ⟨S_, .f32⟩
  | 110 => ⟨S_, .f32⟩
  | 111 => ⟨S4x2304x2304, .i1⟩
  | 112 => ⟨S4x2304x2304, .f32⟩
  | 113 => ⟨S4x2304x2304, .f32⟩
  | 114 => ⟨S2x2304x4x128, .f32⟩
  | 115 => ⟨S2x2304x4x128, .f32⟩
  | 116 => ⟨S2x4x2304x2304, .f32⟩
  | 117 => ⟨S1x4x2304x2304, .f32⟩
  | 118 => ⟨S2x4x2304x2304, .f32⟩
  | 119 => ⟨S2x4x2304x2304, .f32⟩
  | 120 => ⟨S2x2304x4x128, .f32⟩
  | 121 => ⟨S2x4x128x2304, .f32⟩
  | 122 => ⟨S2x2304x4x128, .f32⟩
  | 123 => ⟨S2x2304x512, .f32⟩
  | 124 => ⟨S2x2304x4x128, .f32⟩
  | 125 => ⟨S2x4x128x2304, .f32⟩
  | 126 => ⟨S2x4x2304x2304, .f32⟩
  | 127 => ⟨S2x4x2304x2304, .f32⟩
  | _ => ⟨S2x2304x512, .f32⟩

abbrev hbmTy0_1 (i : Nat) : BufTy := match i % 128 with
  | 0 => ⟨S2x4x2304x2304, .f32⟩
  | 1 => ⟨S2x4x2304x128, .f32⟩
  | 2 => ⟨S2x2304x4x128, .f32⟩
  | 3 => ⟨S2x2304x512, .f32⟩
  | _ => ⟨S2x2304x512, .f32⟩

abbrev hbmTy (i : Nat) : BufTy := match i / 128 with
  | 0 => hbmTy0_0 i
  | 1 => hbmTy0_1 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_2 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call3_v0 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_v2 : Ref sig .tc := ⟨.hbm, 79, rfl⟩
abbrev main_call3_call0_v3 : Ref sig .tc := ⟨.hbm, 80, rfl⟩
abbrev main_call3_call0_v4 : Ref sig .tc := ⟨.hbm, 81, rfl⟩
abbrev main_call3_call0_v5 : Ref sig .tc := ⟨.hbm, 82, rfl⟩
abbrev main_call3_call0_v6 : Ref sig .tc := ⟨.hbm, 83, rfl⟩
abbrev main_call3_call0_v7 : Ref sig .tc := ⟨.hbm, 84, rfl⟩
abbrev main_call3_call0_v8 : Ref sig .tc := ⟨.hbm, 85, rfl⟩
abbrev main_call3_call0_v9 : Ref sig .tc := ⟨.hbm, 86, rfl⟩
abbrev main_call3_call0_v10 : Ref sig .tc := ⟨.hbm, 87, rfl⟩
abbrev main_call3_call0_v11 : Ref sig .tc := ⟨.hbm, 88, rfl⟩
abbrev main_call3_v1 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_5 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_6 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_7 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩

abbrev nD : Nat := 1
abbrev τ : Topo := Topo.v7x

variable {F : FTy → Type} [FloatOps F]
-- ==== KernelDk.lean ====
abbrev S2x2304x512 : Shape := ⟨3, ![2, 2304, 512]⟩
abbrev S4 : Shape := ⟨1, ![4]⟩
abbrev S4x1x1 : Shape := ⟨3, ![4, 1, 1]⟩
abbrev S4x1x128 : Shape := ⟨3, ![4, 1, 128]⟩
abbrev S1x2304x128 : Shape := ⟨3, ![1, 2304, 128]⟩
abbrev S1x1x128 : Shape := ⟨3, ![1, 1, 128]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩
abbrev S128x128 : Shape := ⟨2, ![128, 128]⟩
abbrev S1x256x128 : Shape := ⟨3, ![1, 256, 128]⟩
abbrev S256x128 : Shape := ⟨2, ![256, 128]⟩

abbrev nBuf : Space → Nat
  | .hbm => 12
  | .vmem => 14
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S4, .f32⟩
  | .hbm, ⟨5, _⟩ => ⟨S4, .f32⟩
  | .hbm, ⟨6, _⟩ => ⟨S4x1x1, .f32⟩
  | .hbm, ⟨7, _⟩ => ⟨S4x1x128, .f32⟩
  | .hbm, ⟨8, _⟩ => ⟨S4x1x1, .f32⟩
  | .hbm, ⟨9, _⟩ => ⟨S4x1x128, .f32⟩
  | .hbm, ⟨10, _⟩ => ⟨S2x2304x512, .f32⟩
  | .hbm, ⟨11, _⟩ => ⟨S2x2304x512, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefDkIdeal.lean ====
abbrev S2x2304x512 : Shape := ⟨3, ![2, 2304, 512]⟩
abbrev S4 : Shape := ⟨1, ![4]⟩
abbrev S2304 : Shape := ⟨1, ![2304]⟩
abbrev S_ : Shape := ⟨0, ![]⟩
abbrev S2304x1 : Shape := ⟨2, ![2304, 1]⟩
abbrev S1x2304 : Shape := ⟨2, ![1, 2304]⟩
abbrev S2304x2304 : Shape := ⟨2, ![2304, 2304]⟩
abbrev S1x2304x2304 : Shape := ⟨3, ![1, 2304, 2304]⟩
abbrev S4x1x1 : Shape := ⟨3, ![4, 1, 1]⟩
abbrev S4x2304x2304 : Shape := ⟨3, ![4, 2304, 2304]⟩
abbrev S2x2304x4x128 : Shape := ⟨4, ![2, 2304, 4, 128]⟩
abbrev S2x4x2304x2304 : Shape := ⟨4, ![2, 4, 2304, 2304]⟩
abbrev S1x4x2304x2304 : Shape := ⟨4, ![1, 4, 2304, 2304]⟩
abbrev S2x4x128x2304 : Shape := ⟨4, ![2, 4, 128, 2304]⟩
abbrev S2x4x2304x128 : Shape := ⟨4, ![2, 4, 2304, 128]⟩

abbrev nBuf : Space → Nat
  | .hbm => 132
  | .vmem => 0
  | .smem => 0
  | _ => 0

abbrev hbmTy0_0 (i : Nat) : BufTy := match i % 128 with
  | 0 => ⟨S2x2304x512, .f32⟩
  | 1 => ⟨S2x2304x512, .f32⟩
  | 2 => ⟨S2x2304x512, .f32⟩
  | 3 => ⟨S2x2304x512, .f32⟩
  | 4 => ⟨S4, .f32⟩
  | 5 => ⟨S4, .f32⟩
  | 6 => ⟨S2304, .f32⟩
  | 7 => ⟨S4, .f32⟩
  | 8 => ⟨S_, .f32⟩
  | 9 => ⟨S4, .f32⟩
  | 10 => ⟨S4, .f32⟩
  | 11 => ⟨S4, .f32⟩
  | 12 => ⟨S4, .f32⟩
  | 13 => ⟨S4, .i1⟩
  | 14 => ⟨S4, .f32⟩
  | 15 => ⟨S4, .f32⟩
  | 16 => ⟨S4, .f32⟩
  | 17 => ⟨S4, .f32⟩
  | 18 => ⟨S4, .f32⟩
  | 19 => ⟨S4, .f32⟩
  | 20 => ⟨S4, .f32⟩
  | 21 => ⟨S4, .f32⟩
  | 22 => ⟨S4, .f32⟩
  | 23 => ⟨S2304x1, .f32⟩
  | 24 => ⟨S1x2304, .f32⟩
  | 25 => ⟨S2304x2304, .f32⟩
  | 26 => ⟨S2304x2304, .f32⟩
  | 27 => ⟨S2304x2304, .f32⟩
  | 28 => ⟨S_, .f32⟩
  | 29 => ⟨S2304x2304, .f32⟩
  | 30 => ⟨S2304x2304, .i1⟩
  | 31 => ⟨S1x2304x2304, .i1⟩
  | 32 => ⟨S_, .f32⟩
  | 33 => ⟨S2304x2304, .f32⟩
  | 34 => ⟨S2304x2304, .f32⟩
  | 35 => ⟨S1x2304x2304, .f32⟩
  | 36 => ⟨S4x1x1, .f32⟩
  | 37 => ⟨S4x2304x2304, .f32⟩
  | 38 => ⟨S4x2304x2304, .f32⟩
  | 39 => ⟨S4x2304x2304, .f32⟩
  | 40 => ⟨S4x2304x2304, .f32⟩
  | 41 => ⟨S_, .f32⟩
  | 42 => ⟨S_, .f32⟩
  | 43 => ⟨S4x2304x2304, .i1⟩
  | 44 => ⟨S4x2304x2304, .f32⟩
  | 45 => ⟨S4x2304x2304, .f32⟩
  | 46 => ⟨S2x2304x4x128, .f32⟩
  | 47 => ⟨S2x2304x4x128, .f32⟩
  | 48 => ⟨S2x4x2304x2304, .f32⟩
  | 49 => ⟨S1x4x2304x2304, .f32⟩
  | 50 => ⟨S2x4x2304x2304, .f32⟩
  | 51 => ⟨S2x4x2304x2304, .f32⟩
  | 52 => ⟨S2x2304x4x128, .f32⟩
  | 53 => ⟨S2x4x128x2304, .f32⟩
  | 54 => ⟨S2x2304x4x128, .f32⟩
  | 55 => ⟨S2x2304x512, .f32⟩
  | 56 => ⟨S2x2304x4x128, .f32⟩
  | 57 => ⟨S2x4x128x2304, .f32⟩
  | 58 => ⟨S2x4x2304x2304, .f32⟩
  | 59 => ⟨S2x4x2304x2304, .f32⟩
  | 60 => ⟨S2x4x2304x2304, .f32⟩
  | 61 => ⟨S2x4x2304x128, .f32⟩
  | 62 => ⟨S2x2304x4x128, .f32⟩
  | 63 => ⟨S2x2304x512, .f32⟩
  | 64 => ⟨S2304, .f32⟩
  | 65 => ⟨S_, .f32⟩
  | 66 => ⟨S2304, .f32⟩
  | 67 => ⟨S2304, .i1⟩
  | 68 => ⟨S_, .f32⟩
  | 69 => ⟨S2304, .f32⟩
  | 70 => ⟨S2304, .f32⟩
  | 71 => ⟨S_, .f32⟩
  | 72 => ⟨S2304, .f32⟩
  | 73 => ⟨S2304, .f32⟩
  | 74 => ⟨S2304, .f32⟩
  | 75 => ⟨S4, .f32⟩
  | 76 => ⟨S_, .f32⟩
  | 77 => ⟨S4, .f32⟩
  | 78 => ⟨S4, .f32⟩
  | 79 => ⟨S4, .f32⟩
  | 80 => ⟨S4, .f32⟩
  | 81 => ⟨S4, .i1⟩
  | 82 => ⟨S4, .f32⟩
  | 83 => ⟨S4, .f32⟩
  | 84 => ⟨S4, .f32⟩
  | 85 => ⟨S4, .f32⟩
  | 86 => ⟨S4, .f32⟩
  | 87 => ⟨S4, .f32⟩
  | 88 => ⟨S4, .f32⟩
  | 89 => ⟨S4, .f32⟩
  | 90 => ⟨S4, .f32⟩
  | 91 => ⟨S2304x1, .f32⟩
  | 92 => ⟨S1x2304, .f32⟩
  | 93 => ⟨S2304x2304, .f32⟩
  | 94 => ⟨S2304x2304, .f32⟩
  | 95 => ⟨S2304x2304, .f32⟩
  | 96 => ⟨S_, .f32⟩
  | 97 => ⟨S2304x2304, .f32⟩
  | 98 => ⟨S2304x2304, .i1⟩
  | 99 => ⟨S1x2304x2304, .i1⟩
  | 100 => ⟨S_, .f32⟩
  | 101 => ⟨S2304x2304, .f32⟩
  | 102 => ⟨S2304x2304, .f32⟩
  | 103 => ⟨S1x2304x2304, .f32⟩
  | 104 => ⟨S4x1x1, .f32⟩
  | 105 => ⟨S4x2304x2304, .f32⟩
  | 106 => ⟨S4x2304x2304, .f32⟩
  | 107 => ⟨S4x2304x2304, .f32⟩
  | 108 => ⟨S4x2304x2304, .f32⟩
  | 109 => ⟨S_, .f32⟩
  | 110 => ⟨S_, .f32⟩
  | 111 => ⟨S4x2304x2304, .i1⟩
  | 112 => ⟨S4x2304x2304, .f32⟩
  | 113 => ⟨S4x2304x2304, .f32⟩
  | 114 => ⟨S2x2304x4x128, .f32⟩
  | 115 => ⟨S2x2304x4x128, .f32⟩
  | 116 => ⟨S2x4x2304x2304, .f32⟩
  | 117 => ⟨S1x4x2304x2304, .f32⟩
  | 118 => ⟨S2x4x2304x2304, .f32⟩
  | 119 => ⟨S2x4x2304x2304, .f32⟩
  | 120 => ⟨S2x2304x4x128, .f32⟩
  | 121 => ⟨S2x4x128x2304, .f32⟩
  | 122 => ⟨S2x2304x4x128, .f32⟩
  | 123 => ⟨S2x2304x512, .f32⟩
  | 124 => ⟨S2x2304x4x128, .f32⟩
  | 125 => ⟨S2x4x128x2304, .f32⟩
  | 126 => ⟨S2x4x2304x2304, .f32⟩
  | 127 => ⟨S2x4x2304x2304, .f32⟩
  | _ => ⟨S2x2304x512, .f32⟩

abbrev hbmTy0_1 (i : Nat) : BufTy := match i % 128 with
  | 0 => ⟨S2x4x2304x2304, .f32⟩
  | 1 => ⟨S2x4x2304x128, .f32⟩
  | 2 => ⟨S2x2304x4x128, .f32⟩
  | 3 => ⟨S2x2304x512, .f32⟩
  | _ => ⟨S2x2304x512, .f32⟩

abbrev hbmTy (i : Nat) : BufTy := match i / 128 with
  | 0 => hbmTy0_0 i
  | 1 => hbmTy0_1 i
  | _ => ⟨S2x2304x512, .f32⟩

abbrev bufTy : (tb : Table) → Fin (tcTables nBuf tb) → BufTy
  | .hbm, ⟨i, _⟩ => hbmTy i
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_2 : Ref sig .tc := ⟨.hbm, 65, rfl⟩
abbrev main_v38 : Ref sig .tc := ⟨.hbm, 66, rfl⟩
abbrev main_v39 : Ref sig .tc := ⟨.hbm, 67, rfl⟩
abbrev main_cst_3 : Ref sig .tc := ⟨.hbm, 68, rfl⟩
abbrev main_v40 : Ref sig .tc := ⟨.hbm, 69, rfl⟩
abbrev main_v41 : Ref sig .tc := ⟨.hbm, 70, rfl⟩
abbrev main_cst_4 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_call3_v0 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_v2 : Ref sig .tc := ⟨.hbm, 79, rfl⟩
abbrev main_call3_call0_v3 : Ref sig .tc := ⟨.hbm, 80, rfl⟩
abbrev main_call3_call0_v4 : Ref sig .tc := ⟨.hbm, 81, rfl⟩
abbrev main_call3_call0_v5 : Ref sig .tc := ⟨.hbm, 82, rfl⟩
abbrev main_call3_call0_v6 : Ref sig .tc := ⟨.hbm, 83, rfl⟩
abbrev main_call3_call0_v7 : Ref sig .tc := ⟨.hbm, 84, rfl⟩
abbrev main_call3_call0_v8 : Ref sig .tc := ⟨.hbm, 85, rfl⟩
abbrev main_call3_call0_v9 : Ref sig .tc := ⟨.hbm, 86, rfl⟩
abbrev main_call3_call0_v10 : Ref sig .tc := ⟨.hbm, 87, rfl⟩
abbrev main_call3_call0_v11 : Ref sig .tc := ⟨.hbm, 88, rfl⟩
abbrev main_call3_v1 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_v49 : Ref sig .tc := ⟨.hbm, 94, rfl⟩
abbrev main_v50 : Ref sig .tc := ⟨.hbm, 95, rfl⟩
abbrev main_cst_5 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_cst_6 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_cst_7 : Ref sig .tc := ⟨.hbm, 109, rfl⟩
abbrev main_call4_v0 : Ref sig .tc := ⟨.hbm, 110, rfl⟩
abbrev main_call4_v1 : Ref sig .tc := ⟨.hbm, 111, rfl⟩
abbrev main_call4_v2 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩

abbrev nD : Nat := 1
abbrev τ : Topo := Topo.v7x

variable {F : FTy → Type} [FloatOps F]
-- ==== KernelDv.lean ====
abbrev S2x2304x512 : Shape := ⟨3, ![2, 2304, 512]⟩
abbrev S4 : Shape := ⟨1, ![4]⟩
abbrev S4x1x1 : Shape := ⟨3, ![4, 1, 1]⟩
abbrev S4x1x128 : Shape := ⟨3, ![4, 1, 128]⟩
abbrev S1x2304x128 : Shape := ⟨3, ![1, 2304, 128]⟩
abbrev S1x1x128 : Shape := ⟨3, ![1, 1, 128]⟩
abbrev S256x256 : Shape := ⟨2, ![256, 256]⟩
abbrev S256x1 : Shape := ⟨2, ![256, 1]⟩
abbrev S1x128 : Shape := ⟨2, ![1, 128]⟩
abbrev S1x1 : Shape := ⟨2, ![1, 1]⟩
abbrev S128x128 : Shape := ⟨2, ![128, 128]⟩
abbrev S1x256x128 : Shape := ⟨3, ![1, 256, 128]⟩
abbrev S256x128 : Shape := ⟨2, ![256, 128]⟩

abbrev nBuf : Space → Nat
  | .hbm => 12
  | .vmem => 14
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S4, .f32⟩
  | .hbm, ⟨5, _⟩ => ⟨S4, .f32⟩
  | .hbm, ⟨6, _⟩ => ⟨S4x1x1, .f32⟩
  | .hbm, ⟨7, _⟩ => ⟨S4x1x128, .f32⟩
  | .hbm, ⟨8, _⟩ => ⟨S4x1x1, .f32⟩
  | .hbm, ⟨9, _⟩ => ⟨S4x1x128, .f32⟩
  | .hbm, ⟨10, _⟩ => ⟨S2x2304x512, .f32⟩
  | .hbm, ⟨11, _⟩ => ⟨S2x2304x512, .f32⟩
  | .local _ .vmem, ⟨0, _⟩ => ⟨S1x2304x128, .f32⟩
  | .local _ .vmem, ⟨1, _⟩ => ⟨S1x2304x128, .f32⟩
  | .local _ .vmem, ⟨2, _⟩ => ⟨S1x2304x128, .f32⟩
  | .local _ .vmem, ⟨3, _⟩ => ⟨S1x2304x128, .f32⟩
  | .local _ .vmem, ⟨4, _⟩ => ⟨S1x2304x128, .f32⟩
  | .local _ .vmem, ⟨5, _⟩ => ⟨S1x2304x128, .f32⟩
  | .local _ .vmem, ⟨6, _⟩ => ⟨S1x1x128, .f32⟩
  | .local _ .vmem, ⟨7, _⟩ => ⟨S1x1x128, .f32⟩
  | .local _ .vmem, ⟨8, _⟩ => ⟨S1x1x128, .f32⟩
  | .local _ .vmem, ⟨9, _⟩ => ⟨S1x1x128, .f32⟩
  | .local _ .vmem, ⟨10, _⟩ => ⟨S1x2304x128, .f32⟩
  | .local _ .vmem, ⟨11, _⟩ => ⟨S1x2304x128, .f32⟩
  | .local _ .vmem, ⟨12, _⟩ => ⟨S1x2304x128, .f32⟩
  | .local _ .vmem, ⟨13, _⟩ => ⟨S1x2304x128, .f32⟩
  | _, _ => ⟨S2x2304x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2304x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2304x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2304x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x2304x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2304x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== RefDvIdeal.lean ====
abbrev S2x2304x512 : Shape := ⟨3, ![2, 2304, 512]⟩
abbrev S4 : Shape := ⟨1, ![4]⟩
abbrev S2304 : Shape := ⟨1, ![2304]⟩
abbrev S_ : Shape := ⟨0, ![]⟩
abbrev S2304x1 : Shape := ⟨2, ![2304, 1]⟩
abbrev S1x2304 : Shape := ⟨2, ![1, 2304]⟩
abbrev S2304x2304 : Shape := ⟨2, ![2304, 2304]⟩
abbrev S1x2304x2304 : Shape := ⟨3, ![1, 2304, 2304]⟩
abbrev S4x1x1 : Shape := ⟨3, ![4, 1, 1]⟩
abbrev S4x2304x2304 : Shape := ⟨3, ![4, 2304, 2304]⟩
abbrev S2x2304x4x128 : Shape := ⟨4, ![2, 2304, 4, 128]⟩
abbrev S2x4x2304x2304 : Shape := ⟨4, ![2, 4, 2304, 2304]⟩
abbrev S1x4x2304x2304 : Shape := ⟨4, ![1, 4, 2304, 2304]⟩
abbrev S2x4x128x2304 : Shape := ⟨4, ![2, 4, 128, 2304]⟩

abbrev nBuf : Space → Nat
  | .hbm => 126
  | .vmem => 0
  | .smem => 0
  | _ => 0

abbrev bufTy : (tb : Table) → Fin (tcTables nBuf tb) → BufTy
  | .hbm, ⟨0, _⟩ => ⟨S2x2304x512, .f32⟩
  | .hbm, ⟨1, _⟩ => ⟨S2x2304x512, .f32⟩
  | .hbm, ⟨2, _⟩ => ⟨S2x2304x512, .f32⟩
  | .hbm, ⟨3, _⟩ => ⟨S2x2304x512, .f32⟩
  | .hbm, ⟨4, _⟩ => ⟨S4, .f32⟩
  | .hbm, ⟨5, _⟩ => ⟨S4, .f32⟩
  | .hbm, ⟨6, _⟩ => ⟨S2304, .f32⟩
  | .hbm, ⟨7, _⟩ => ⟨S4, .f32⟩
  | .hbm, ⟨8, _⟩ => ⟨S_, .f32⟩
  | .hbm, ⟨9, _⟩ => ⟨S4, .f32⟩
  | .hbm, ⟨10, _⟩ => ⟨S4, .f32⟩
  | .hbm, ⟨11, _⟩ => ⟨S4, .f32⟩
  | .hbm, ⟨12, _⟩ => ⟨S4, .f32⟩
  | .hbm, ⟨13, _⟩ => ⟨S4, .i1⟩
  | .hbm, ⟨14, _⟩ => ⟨S4, .f32⟩
  | .hbm, ⟨15, _⟩ => ⟨S4, .f32⟩
  | .hbm, ⟨16, _⟩ => ⟨S4, .f32⟩
  | .hbm, ⟨17, _⟩ => ⟨S4, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S4, .f32⟩
  | .hbm, ⟨22, _⟩ => ⟨S4, .f32⟩
  | .hbm, ⟨23, _⟩ => ⟨S2304x1, .f32⟩
  | .hbm, ⟨24, _⟩ => ⟨S1x2304, .f32⟩
  | .hbm, ⟨25, _⟩ => ⟨S2304x2304, .f32⟩
  | .hbm, ⟨26, _⟩ => ⟨S2304x2304, .f32⟩
  | .hbm, ⟨27, _⟩ => ⟨S2304x2304, .f32⟩
  | .hbm, ⟨28, _⟩ => ⟨S_, .f32⟩
  | .hbm, ⟨29, _⟩ => ⟨S2304x2304, .f32⟩
  | .hbm, ⟨30, _⟩ => ⟨S2304x2304, .i1⟩
  | .hbm, ⟨31, _⟩ => ⟨S1x2304x2304, .i1⟩
  | .hbm, ⟨32, _⟩ => ⟨S_, .f32⟩
  | .hbm, ⟨33, _⟩ => ⟨S2304x2304, .f32⟩
  | .hbm, ⟨34, _⟩ => ⟨S2304x2304, .f32⟩
  | .hbm, ⟨35, _⟩ => ⟨S1x2304x2304, .f32⟩
  | .hbm, ⟨36, _⟩ => ⟨S4x1x1, .f32⟩
  | .hbm, ⟨37, _⟩ => ⟨S4x2304x2304, .f32⟩
  | .hbm, ⟨38, _⟩ => ⟨S4x2304x2304, .f32⟩
  | .hbm, ⟨39, _⟩ => ⟨S4x2304x2304, .f32⟩
  | .hbm, ⟨40, _⟩ => ⟨S4x2304x2304, .f32⟩
  | .hbm, ⟨41, _⟩ => ⟨S_, .f32⟩
  | .hbm, ⟨42, _⟩ => ⟨S_, .f32⟩
  | .hbm, ⟨43, _⟩ => ⟨S4x2304x2304, .i1⟩
  | .hbm, ⟨44, _⟩ => ⟨S4x2304x2304, .f32⟩
  | .hbm, ⟨45, _⟩ => ⟨S4x2304x2304, .f32⟩
  | .hbm, ⟨46, _⟩ => ⟨S2x2304x4x128, .f32⟩
  | .hbm, ⟨47, _⟩ => ⟨S2x2304x4x128, .f32⟩
  | .hbm, ⟨48, _⟩ => ⟨S2x4x2304x2304, .f32⟩
  | .hbm, ⟨49, _⟩ => ⟨S1x4x2304x2304, .f32⟩
  | .hbm, ⟨50, _⟩ => ⟨S2x4x2304x2304, .f32⟩
  | .hbm, ⟨51, _⟩ => ⟨S2x4x2304x2304, .f32⟩
  | .hbm, ⟨52, _⟩ => ⟨S2x2304x4x128, .f32⟩
  | .hbm, ⟨53, _⟩ => ⟨S2x4x128x2304, .f32⟩
  | .hbm, ⟨54, _⟩ => ⟨S2x2304x4x128, .f32⟩
  | .hbm, ⟨55, _⟩ => ⟨S2x2304x512, .f32⟩
  | .hbm, ⟨56, _⟩ => ⟨S2x2304x4x128, .f32⟩
  | .hbm, ⟨57, _⟩ => ⟨S2x4x128x2304, .f32⟩
  | .hbm, ⟨58, _⟩ => ⟨S2x4x128x2304, .f32⟩
  | .hbm, ⟨59, _⟩ => ⟨S2x2304x4x128, .f32⟩
  | .hbm, ⟨60, _⟩ => ⟨S2x2304x512, .f32⟩
  | .hbm, ⟨61, _⟩ => ⟨S2304, .f32⟩
  | .hbm, ⟨62, _⟩ => ⟨S_, .f32⟩
  | .hbm, ⟨63, _⟩ => ⟨S2304, .f32⟩
  | .hbm, ⟨64, _⟩ => ⟨S2304, .i1⟩
  | .hbm, ⟨65, _⟩ => ⟨S_, .f32⟩
  | .hbm, ⟨66, _⟩ => ⟨S2304, .f32⟩
  | .hbm, ⟨67, _⟩ => ⟨S2304, .f32⟩
  | .hbm, ⟨68, _⟩ => ⟨S_, .f32⟩
  | .hbm, ⟨69, _⟩ => ⟨S2304, .f32⟩
  | .hbm, ⟨70, _⟩ => ⟨S2304, .f32⟩
  | .hbm, ⟨71, _⟩ => ⟨S2304, .f32⟩
  | .hbm, ⟨72, _⟩ => ⟨S4, .f32⟩
  | .hbm, ⟨73, _⟩ => ⟨S_, .f32⟩
  | .hbm, ⟨74, _⟩ => ⟨S4, .f32⟩
  | .hbm, ⟨75, _⟩ => ⟨S4, .f32⟩
  | .hbm, ⟨76, _⟩ => ⟨S4, .f32⟩
  | .hbm, ⟨77, _⟩ => ⟨S4, .f32⟩
  | .hbm, ⟨78, _⟩ => ⟨S4, .i1⟩
  | .hbm, ⟨79, _⟩ => ⟨S4, .f32⟩
  | .hbm, ⟨80, _⟩ => ⟨S4, .f32⟩
  | .hbm, ⟨81, _⟩ => ⟨S4, .f32⟩
  | .hbm, ⟨82, _⟩ => ⟨S4, .f32⟩
  | .hbm, ⟨83, _⟩ => ⟨S4, .f32⟩
  | .hbm, ⟨84, _⟩ => ⟨S4, .f32⟩
  | .hbm, ⟨85, _⟩ => ⟨S4, .f32⟩
  | .hbm, ⟨86, _⟩ => ⟨S4, .f32⟩
  | .hbm, ⟨87, _⟩ => ⟨S4, .f32⟩
  | .hbm, ⟨88, _⟩ => ⟨S2304x1, .f32⟩
  | .hbm, ⟨89, _⟩ => ⟨S1x2304, .f32⟩
  | .hbm, ⟨90, _⟩ => ⟨S2304x2304, .f32⟩
  | .hbm, ⟨91, _⟩ => ⟨S2304x2304, .f32⟩
  | .hbm, ⟨92, _⟩ => ⟨S2304x2304, .f32⟩
  | .hbm, ⟨93, _⟩ => ⟨S_, .f32⟩
  | .hbm, ⟨94, _⟩ => ⟨S2304x2304, .f32⟩
  | .hbm, ⟨95, _⟩ => ⟨S2304x2304, .i1⟩
  | .hbm, ⟨96, _⟩ => ⟨S1x2304x2304, .i1⟩
  | .hbm, ⟨97, _⟩ => ⟨S_, .f32⟩
  | .hbm, ⟨98, _⟩ => ⟨S2304x2304, .f32⟩
  | .hbm, ⟨99, _⟩ => ⟨S2304x2304, .f32⟩
  | .hbm, ⟨100, _⟩ => ⟨S1x2304x2304, .f32⟩
  | .hbm, ⟨101, _⟩ => ⟨S4x1x1, .f32⟩
  | .hbm, ⟨102, _⟩ => ⟨S4x2304x2304, .f32⟩
  | .hbm, ⟨103, _⟩ => ⟨S4x2304x2304, .f32⟩
  | .hbm, ⟨104, _⟩ => ⟨S4x2304x2304, .f32⟩
  | .hbm, ⟨105, _⟩ => ⟨S4x2304x2304, .f32⟩
  | .hbm, ⟨106, _⟩ => ⟨S_, .f32⟩
  | .hbm, ⟨107, _⟩ => ⟨S_, .f32⟩
  | .hbm, ⟨108, _⟩ => ⟨S4x2304x2304, .i1⟩
  | .hbm, ⟨109, _⟩ => ⟨S4x2304x2304, .f32⟩
  | .hbm, ⟨110, _⟩ => ⟨S4x2304x2304, .f32⟩
  | .hbm, ⟨111, _⟩ => ⟨S2x2304x4x128, .f32⟩
  | .hbm, ⟨112, _⟩ => ⟨S2x2304x4x128, .f32⟩
  | .hbm, ⟨113, _⟩ => ⟨S2x4x2304x2304, .f32⟩
  | .hbm, ⟨114, _⟩ => ⟨S1x4x2304x2304, .f32⟩
  | .hbm, ⟨115, _⟩ => ⟨S2x4x2304x2304, .f32⟩
  | .hbm, ⟨116, _⟩ => ⟨S2x4x2304x2304, .f32⟩
  | .hbm, ⟨117, _⟩ => ⟨S2x2304x4x128, .f32⟩
  | .hbm, ⟨118, _⟩ => ⟨S2x4x128x2304, .f32⟩
  | .hbm, ⟨119, _⟩ => ⟨S2x2304x4x128, .f32⟩
  | .hbm, ⟨120, _⟩ => ⟨S2x2304x512, .f32⟩
  | .hbm, ⟨121, _⟩ => ⟨S2x2304x4x128, .f32⟩
  | .hbm, ⟨122, _⟩ => ⟨S2x4x128x2304, .f32⟩
  | .hbm, ⟨123, _⟩ => ⟨S2x4x128x2304, .f32⟩
  | .hbm, ⟨124, _⟩ => ⟨S2x2304x4x128, .f32⟩
  | .hbm, ⟨125, _⟩ => ⟨S2x2304x512, .f32⟩
  | _, _ => ⟨S2x2304x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_cst : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_cst_0 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_1 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_2 : Ref sig .tc := ⟨.hbm, 62, rfl⟩
abbrev main_v35 : Ref sig .tc := ⟨.hbm, 63, rfl⟩
abbrev main_v36 : Ref sig .tc := ⟨.hbm, 64, rfl⟩
abbrev main_cst_3 : Ref sig .tc := ⟨.hbm, 65, rfl⟩
abbrev main_v37 : Ref sig .tc := ⟨.hbm, 66, rfl⟩
abbrev main_v38 : Ref sig .tc := ⟨.hbm, 67, rfl⟩
abbrev main_cst_4 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_call3_v0 : Ref sig .tc := ⟨.hbm, 72, rfl⟩
abbrev main_call3_call0_cst : Ref sig .tc := ⟨.hbm, 73, rfl⟩
abbrev main_call3_call0_v0 : Ref sig .tc := ⟨.hbm, 74, rfl⟩
abbrev main_call3_call0_v1 : Ref sig .tc := ⟨.hbm, 75, rfl⟩
abbrev main_call3_call0_v2 : Ref sig .tc := ⟨.hbm, 76, rfl⟩
abbrev main_call3_call0_v3 : Ref sig .tc := ⟨.hbm, 77, rfl⟩
abbrev main_call3_call0_v4 : Ref sig .tc := ⟨.hbm, 78, rfl⟩
abbrev main_call3_call0_v5 : Ref sig .tc := ⟨.hbm, 79, rfl⟩
abbrev main_call3_call0_v6 : Ref sig .tc := ⟨.hbm, 80, rfl⟩
abbrev main_call3_call0_v7 : Ref sig .tc := ⟨.hbm, 81, rfl⟩
abbrev main_call3_call0_v8 : Ref sig .tc := ⟨.hbm, 82, rfl⟩
abbrev main_call3_call0_v9 : Ref sig .tc := ⟨.hbm, 83, rfl⟩
abbrev main_call3_call0_v10 : Ref sig .tc := ⟨.hbm, 84, rfl⟩
abbrev main_call3_call0_v11 : Ref sig .tc := ⟨.hbm, 85, rfl⟩
abbrev main_call3_v1 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_cst_5 : Ref sig .tc := ⟨.hbm, 93, rfl⟩
abbrev main_v48 : Ref sig .tc := ⟨.hbm, 94, rfl⟩
abbrev main_v49 : Ref sig .tc := ⟨.hbm, 95, rfl⟩
abbrev main_v50 : Ref sig .tc := ⟨.hbm, 96, rfl⟩
abbrev main_cst_6 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_cst_7 : Ref sig .tc := ⟨.hbm, 106, rfl⟩
abbrev main_call4_v0 : Ref sig .tc := ⟨.hbm, 107, rfl⟩
abbrev main_call4_v1 : Ref sig .tc := ⟨.hbm, 108, rfl⟩
abbrev main_call4_v2 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩

abbrev nD : Nat := 1
abbrev τ : Topo := Topo.v7x

variable {F : FTy → Type} [FloatOps F]
-- ==== KernelFfnBwd.lean ====
abbrev S2x2304x1024 : Shape := ⟨3, ![2, 2304, 1024]⟩
abbrev S2x2x3x1024 : Shape := ⟨4, ![2, 2, 3, 1024]⟩
abbrev S1x1024 : Shape := ⟨2, ![1, 1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S2x1x3x1024 : Shape := ⟨4, ![2, 1, 3, 1024]⟩
abbrev S2x256x3x1024 : Shape := ⟨4, ![2, 256, 3, 1024]⟩
abbrev S2x2048x3x1024 : Shape := ⟨4, ![2, 2048, 3, 1024]⟩
abbrev S2x2304x3x1024 : Shape := ⟨4, ![2, 2304, 3, 1024]⟩
abbrev S2x2304x1x1024 : Shape := ⟨4, ![2, 2304, 1, 1024]⟩
abbrev S_ : Shape := ⟨0, ![]⟩
abbrev S2x2304 : Shape := ⟨2, ![2, 2304]⟩
abbrev S2x2304x1 : Shape := ⟨3, ![2, 2304, 1]⟩
abbrev S1x1x1024 : Shape := ⟨3, ![1, 1, 1024]⟩
abbrev S2x2304x2816 : Shape := ⟨3, ![2, 2304, 2816]⟩
abbrev S1x256x1024 : Shape := ⟨3, ![1, 256, 1024]⟩
abbrev S1x1x3x1024 : Shape := ⟨4, ![1, 1, 3, 1024]⟩
abbrev S1x256x2816 : Shape := ⟨3, ![1, 256, 2816]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S1024 : Shape := ⟨1, ![1024]⟩
abbrev S1x1408x1024 : Shape := ⟨3, ![1, 1408, 1024]⟩
abbrev S1408x1024 : Shape := ⟨2, ![1408, 1024]⟩
abbrev S256x1408 : Shape := ⟨2, ![256, 1408]⟩
abbrev S1x256x1408 : Shape := ⟨3, ![1, 256, 1408]⟩
abbrev S3x1024 : Shape := ⟨2, ![3, 1024]⟩

abbrev nBuf : Space → Nat
  | .hbm => 83
  | .vmem => 27
  | .smem => 0
  | _ => 0

abbrev bufTy : (tb : Table) → Fin (tcTables nBuf tb) → BufTy
  | .hbm, ⟨0, _⟩ => ⟨S2x2304x1024, .f32⟩
  | .hbm, ⟨1, _⟩ => ⟨S2x2x3x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x2304x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S1x2816x1024, .bf16⟩
  | .hbm, ⟨13, _⟩ => ⟨S1x2816x1024, .bf16⟩
  | .hbm, ⟨14, _⟩ => ⟨S1x2816x1024, .bf16⟩
  | .hbm, ⟨15, _⟩ => ⟨S3x2816x1024, .bf16⟩
  | .hbm, ⟨16, _⟩ => ⟨S2x1x3x1024, .f32⟩
  | .hbm, ⟨17, _⟩ => ⟨S2x256x3x1024, .f32⟩
  | .hbm, ⟨18, _⟩ => ⟨S2x1x3x1024, .f32⟩
  | .hbm, ⟨19, _⟩ => ⟨S2x2048x3x1024, .f32⟩
  | .hbm, ⟨20, _⟩ => ⟨S2x2304x3x1024, .f32⟩
  | .hbm, ⟨21, _⟩ => ⟨S2x2304x1x1024, .f32⟩
  | .hbm, ⟨22, _⟩ => ⟨S2x2304x1024, .f32⟩
  | .hbm, ⟨23, _⟩ => ⟨S2x2304x1x1024, .f32⟩
  | .hbm, ⟨24, _⟩ => ⟨S2x2304x1024, .f32⟩
  | .hbm, ⟨25, _⟩ => ⟨S2x2304x1x1024, .f32⟩
  | .hbm, ⟨26, _⟩ => ⟨S2x2304x1024, .f32⟩
  | .hbm, ⟨27, _⟩ => ⟨S2x2304x1024, .f32⟩
  | .hbm, ⟨28, _⟩ => ⟨S_, .f32⟩
  | .hbm, ⟨29, _⟩ => ⟨S2x2304, .f32⟩
  | .hbm, ⟨30, _⟩ => ⟨S2x2304x1, .f32⟩
  | .hbm, ⟨31, _⟩ => ⟨S_, .f32⟩
  | .hbm, ⟨32, _⟩ => ⟨S2x2304x1, .f32⟩
  | .hbm, ⟨33, _⟩ => ⟨S2x2304x1, .f32⟩
  | .hbm, ⟨34, _⟩ => ⟨S_, .f32⟩
  | .hbm, ⟨35, _⟩ => ⟨S2x2304x1, .f32⟩
  | .hbm, ⟨36, _⟩ => ⟨S2x2304x1, .f32⟩
  | .hbm, ⟨37, _⟩ => ⟨S2x2304x1, .f32⟩
  | .hbm, ⟨38, _⟩ => ⟨S2x2304x1024, .f32⟩
  | .hbm, ⟨39, _⟩ => ⟨S2x2304x1024, .f32⟩
  | .hbm, ⟨40, _⟩ => ⟨S1x1x1024, .f32⟩
  | .hbm, ⟨41, _⟩ => ⟨S2x2304x1024, .f32⟩
  | .hbm, ⟨42, _⟩ => ⟨S2x2304x1024, .f32⟩
  | .hbm, ⟨43, _⟩ => ⟨S_, .f32⟩
  | .hbm, ⟨44, _⟩ => ⟨S2x2304x1024, .f32⟩
  | .hbm, ⟨45, _⟩ => ⟨S2x2304x1024, .f32⟩
  | .hbm, ⟨46, _⟩ => ⟨S2x2304x1024, .f32⟩
  | .hbm, ⟨47, _⟩ => ⟨S2x2304x1024, .f32⟩
  | .hbm, ⟨48, _⟩ => ⟨S2x2304x2816, .f32⟩
  | .hbm, ⟨49, _⟩ => ⟨S_, .f32⟩
  | .hbm, ⟨50, _⟩ => ⟨S2x2304x2816, .f32⟩
  | .hbm, ⟨51, _⟩ => ⟨S2x2304x2816, .f32⟩
  | .hbm, ⟨52, _⟩ => ⟨S2x2304x2816, .f32⟩
  | .hbm, ⟨53, _⟩ => ⟨S2x2304x2816, .f32⟩
  | .hbm, ⟨54, _⟩ => ⟨S_, .f32⟩
  | .hbm, ⟨55, _⟩ => ⟨S2x2304x2816, .f32⟩
  | .hbm, ⟨56, _⟩ => ⟨S2x2304x2816, .f32⟩
  | .hbm, ⟨57, _⟩ => ⟨S_, .f32⟩
  | .hbm, ⟨58, _⟩ => ⟨S2x2304x2816, .f32⟩
  | .hbm, ⟨59, _⟩ => ⟨S2x2304x2816, .f32⟩
  | .hbm, ⟨60, _⟩ => ⟨S2x2304x2816, .f32⟩
  | .hbm, ⟨61, _⟩ => ⟨S2x2304x2816, .f32⟩
  | .hbm, ⟨62, _⟩ => ⟨S_, .f32⟩
  | .hbm, ⟨63, _⟩ => ⟨S2x2304x2816, .f32⟩
  | .hbm, ⟨64, _⟩ => ⟨S2x2304x2816, .f32⟩
  | .hbm, ⟨65, _⟩ => ⟨S2x2304x2816, .f32⟩
  | .hbm, ⟨66, _⟩ => ⟨S2x2304x1024, .f32⟩
  | .hbm, ⟨67, _⟩ => ⟨S_, .f32⟩
  | .hbm, ⟨68, _⟩ => ⟨S2x2304x1024, .f32⟩
  | .hbm, ⟨69, _⟩ => ⟨S2x2304x1024, .f32⟩
  | .hbm, ⟨70, _⟩ => ⟨S_, .f32⟩
  | .hbm, ⟨71, _⟩ => ⟨S2x2304x1024, .f32⟩
  | .hbm, ⟨72, _⟩ => ⟨S2x2304x1024, .f32⟩
  | .hbm, ⟨73, _⟩ => ⟨S2x2304x1024, .f32⟩
  | .hbm, ⟨74, _⟩ => ⟨S2x2304x1024, .f32⟩
  | .hbm, ⟨75, _⟩ => ⟨S2x2304x1024, .f32⟩
  | .hbm, ⟨76, _⟩ => ⟨S2x2304x1024, .bf16⟩
  | .hbm, ⟨77, _⟩ => ⟨S2x2304x2816, .bf16⟩
  | .hbm, ⟨78, _⟩ => ⟨S2x2304x2816, .bf16⟩
  | .hbm, ⟨79, _⟩ => ⟨S2x2304x2816, .bf16⟩
  | .hbm, ⟨80, _⟩ => ⟨S2x2304x1024, .bf16⟩
  | .hbm, ⟨81, _⟩ => ⟨S2x2x3x1024, .f32⟩
  | .hbm, ⟨82, _⟩ => ⟨S1x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x1x3x1024, .f32⟩
  | .local _ .vmem, ⟨7, _⟩ => ⟨S1x1x3x1024, .f32⟩
  | .local _ .vmem, ⟨8, _⟩ => ⟨S1x1024, .f32⟩
  | .local _ .vmem, ⟨9, _⟩ => ⟨S1x2816x1024, .bf16⟩
  | .local _ .vmem, ⟨10, _⟩ => ⟨S1x2816x1024, .bf16⟩
  | .local _ .vmem, ⟨11, _⟩ => ⟨S1x2816x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x2816, .bf16⟩
  | .local _ .vmem, ⟨17, _⟩ => ⟨S1x256x2816, .bf16⟩
  | .local _ .vmem, ⟨18, _⟩ => ⟨S1x256x2816, .bf16⟩
  | .local _ .vmem, ⟨19, _⟩ => ⟨S1x256x2816, .bf16⟩
  | .local _ .vmem, ⟨20, _⟩ => ⟨S1x256x2816, .bf16⟩
  | .local _ .vmem, ⟨21, _⟩ => ⟨S1x256x2816, .bf16⟩
  | .local _ .vmem, ⟨22, _⟩ => ⟨S1x256x1024, .bf16⟩
  | .local _ .vmem, ⟨23, _⟩ => ⟨S1x256x1024, .bf16⟩
  | .local _ .vmem, ⟨24, _⟩ => ⟨S1x1x3x1024, .f32⟩
  | .local _ .vmem, ⟨25, _⟩ => ⟨S1x1x3x1024, .f32⟩
  | .local _ .vmem, ⟨26, _⟩ => ⟨S1x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_cst_1 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v40 : Ref sig .tc := ⟨.hbm, 60, rfl⟩
abbrev main_v41 : Ref sig .tc := ⟨.hbm, 61, rfl⟩
abbrev main_cst_4 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_5 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_v52_2 : Ref sig .tc := ⟨.hbm, 77, rfl⟩
abbrev main_v52_3 : Ref sig .tc := ⟨.hbm, 78, rfl⟩
abbrev main_v52_4 : Ref sig .tc := ⟨.hbm, 79, rfl⟩
abbrev main_v52_5 : Ref sig .tc := ⟨.hbm, 80, rfl⟩
abbrev main_v52_6 : Ref sig .tc := ⟨.hbm, 81, rfl⟩
abbrev main_v52_7 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26

abbrev nD : Nat := 1
abbrev τ : Topo := Topo.v7x

variable {F : FTy → Type} [FloatOps F]

abbrev grid0 : Pipeline.Grid := ⟨2, ![2, 9], ![false, false]⟩

def k0_cond1 (i : grid0.Coords) : BitVec 1 :=
  let arg1 : BitVec 32 := BitVec.ofNat 32 (i 1).val
  let c1_i32 : BitVec 32 := 1#32
  let v166 : BitVec 1 := Scalar.cmpi .sle arg1 c1_i32
  let v167 : BitVec 32 := Scalar.extui v166
  let c0_i32 : BitVec 32 := 0#32
  let v168 : BitVec 1 := Scalar.cmpi .ne v167 c0_i32
  v168

def k0_cond2 (i : grid0.Coords) : BitVec 1 :=
  let arg1 : BitVec 32 := BitVec.ofNat 32 (i 1).val
  let c1_i32 : BitVec 32 := 1#32
  let v166 : BitVec 1 := Scalar.cmpi .sle arg1 c1_i32
  let v_true : BitVec 1 := 1#1
  let v169 : BitVec 1 := Scalar.xori v166 v_true
  let v170 : BitVec 32 := Scalar.extui v169
  let c0_i32_104 : BitVec 32 := 0#32
  let v171 : BitVec 1 := Scalar.cmpi .ne v170 c0_i32_104
  v171

def k0_cond3 (i : grid0.Coords) : BitVec 1 :=
  let arg0 : BitVec 32 := BitVec.ofNat 32 (i 0).val
  let c0_i32_105 : BitVec 32 := 0#32
  let v172 : BitVec 1 := Scalar.cmpi .eq arg0 c0_i32_105
  let arg1 : BitVec 32 := BitVec.ofNat 32 (i 1).val
  let c0_i32_106 : BitVec 32 := 0#32
  let v173 : BitVec 1 := Scalar.cmpi .eq arg1 c0_i32_106
  let v174 : BitVec 1 := Scalar.andi v172 v173
  let v175 : BitVec 32 := Scalar.extui v174
  let c0_i32_107 : BitVec 32 := 0#32
  let v176 : BitVec 1 := Scalar.cmpi .ne v175 c0_i32_107
  v176

def k0_cond4 (i : grid0.Coords) : BitVec 1 :=
  let arg0 : BitVec 32 := BitVec.ofNat 32 (i 0).val
  let c0_i32_105 : BitVec 32 := 0#32
  let v172 : BitVec 1 := Scalar.cmpi .eq arg0 c0_i32_105
  let arg1 : BitVec 32 := BitVec.ofNat 32 (i 1).val
  let c0_i32_106 : BitVec 32 := 0#32
  let v173 : BitVec 1 := Scalar.cmpi .eq arg1 c0_i32_106
  let v174 : BitVec 1 := Scalar.andi v172 v173
  let true_108 : BitVec 1 := 1#1
  let v177 : BitVec 1 := Scalar.xori v174 true_108
  let v178 : BitVec 32 := Scalar.extui v177
  let c0_i32_109 : BitVec 32 := 0#32
  let v179 : BitVec 1 := Scalar.cmpi .ne v178 c0_i32_109
  v179

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x2816 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x1x3x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== RefFfnBwdIdeal.lean ====
abbrev S2x2304x1024 : Shape := ⟨3, ![2, 2304, 1024]⟩
abbrev S2x2x3x1024 : Shape := ⟨4, ![2, 2, 3, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S2x2304x2816 : Shape := ⟨3, ![2, 2304, 2816]⟩
abbrev S2x1x3x1024 : Shape := ⟨4, ![2, 1, 3, 1024]⟩
abbrev S2x256x3x1024 : Shape := ⟨4, ![2, 256, 3, 1024]⟩
abbrev S2x2048x3x1024 : Shape := ⟨4, ![2, 2048, 3, 1024]⟩
abbrev S2x2304x3x1024 : Shape := ⟨4, ![2, 2304, 3, 1024]⟩
abbrev S2x2304x1x1024 : Shape := ⟨4, ![2, 2304, 1, 1024]⟩
abbrev S2x2304 : Shape := ⟨2, ![2, 2304]⟩
abbrev S2x2304x1 : Shape := ⟨3, ![2, 2304, 1]⟩
abbrev S1x1x1024 : Shape := ⟨3, ![1, 1, 1024]⟩
abbrev S1024 : Shape := ⟨1, ![1024]⟩
abbrev S2x3x1024 : Shape := ⟨3, ![2, 3, 1024]⟩

abbrev nBuf : Space → Nat
  | .hbm => 146
  | .vmem => 0
  | .smem => 0
  | _ => 0

abbrev hbmTy0_0 (i : Nat) : BufTy := match i % 128 with
  | 0 => ⟨S2x2304x1024, .f32⟩
  | 1 => ⟨S2x2x3x1024, .f32⟩
  | 2 => ⟨S1x1024, .f32⟩
  | 3 => ⟨S1024x2816, .f32⟩
  | 4 => ⟨S1024x2816, .f32⟩
  | 5 => ⟨S2816x1024, .f32⟩
  | 6 => ⟨S2x2304x1024, .f32⟩
  | 7 => ⟨S_, .f32⟩
  | 8 => ⟨S2x2304x2816, .f32⟩
  | 9 => ⟨S_, .f32⟩
  | 10 => ⟨S2x2304x1024, .f32⟩
  | 11 => ⟨S2x1x3x1024, .f32⟩
  | 12 => ⟨S2x256x3x1024, .f32⟩
  | 13 => ⟨S2x1x3x1024, .f32⟩
  | 14 => ⟨S2x2048x3x1024, .f32⟩
  | 15 => ⟨S2x2304x3x1024, .f32⟩
  | 16 => ⟨S2x2304x1x1024, .f32⟩
  | 17 => ⟨S2x2304x1024, .f32⟩
  | 18 => ⟨S2x2304x1x1024, .f32⟩
  | 19 => ⟨S2x2304x1024, .f32⟩
  | 20 => ⟨S2x2304x1x1024, .f32⟩
  | 21 => ⟨S2x2304x1024, .f32⟩
  | 22 => ⟨S2x2304x1024, .f32⟩
  | 23 => ⟨S_, .f32⟩
  | 24 => ⟨S2x2304, .f32⟩
  | 25 => ⟨S2x2304x1, .f32⟩
  | 26 => ⟨S_, .f32⟩
  | 27 => ⟨S2x2304x1, .f32⟩
  | 28 => ⟨S2x2304x1, .f32⟩
  | 29 => ⟨S_, .f32⟩
  | 30 => ⟨S2x2304x1, .f32⟩
  | 31 => ⟨S2x2304x1, .f32⟩
  | 32 => ⟨S2x2304x1, .f32⟩
  | 33 => ⟨S2x2304x1, .f32⟩
  | 34 => ⟨S_, .f32⟩
  | 35 => ⟨S2x2304x1, .f32⟩
  | 36 => ⟨S2x2304x1, .f32⟩
  | 37 => ⟨S2x2304x1024, .f32⟩
  | 38 => ⟨S2x2304x1024, .f32⟩
  | 39 => ⟨S1x1x1024, .f32⟩
  | 40 => ⟨S2x2304x1024, .f32⟩
  | 41 => ⟨S2x2304x1024, .f32⟩
  | 42 => ⟨S_, .f32⟩
  | 43 => ⟨S2x2304x1024, .f32⟩
  | 44 => ⟨S2x2304x1024, .f32⟩
  | 45 => ⟨S2x2304x1024, .f32⟩
  | 46 => ⟨S2x2304x1024, .f32⟩
  | 47 => ⟨S2x2304x2816, .f32⟩
  | 48 => ⟨S2x2304x2816, .f32⟩
  | 49 => ⟨S2x2304x2816, .f32⟩
  | 50 => ⟨S2x2304x2816, .f32⟩
  | 51 => ⟨S_, .f32⟩
  | 52 => ⟨S2x2304x2816, .f32⟩
  | 53 => ⟨S2x2304x2816, .f32⟩
  | 54 => ⟨S_, .f32⟩
  | 55 => ⟨S2x2304x2816, .f32⟩
  | 56 => ⟨S2x2304x2816, .f32⟩
  | 57 => ⟨S_, .f32⟩
  | 58 => ⟨S2x2304x2816, .f32⟩
  | 59 => ⟨S2x2304x2816, .f32⟩
  | 60 => ⟨S2x2304x2816, .f32⟩
  | 61 => ⟨S2x2304x2816, .f32⟩
  | 62 => ⟨S2x2304x2816, .f32⟩
  | 63 => ⟨S2x2304x2816, .f32⟩
  | 64 => ⟨S2x2304x2816, .f32⟩
  | 65 => ⟨S2x2304x1024, .f32⟩
  | 66 => ⟨S2x2304x1024, .f32⟩
  | 67 => ⟨S_, .f32⟩
  | 68 => ⟨S2x2304x1024, .f32⟩
  | 69 => ⟨S2x2304x1024, .f32⟩
  | 70 => ⟨S2x2304x1024, .f32⟩
  | 71 => ⟨S2x2304x1024, .f32⟩
  | 72 => ⟨S2x2304x1024, .f32⟩
  | 73 => ⟨S2x2304x1024, .f32⟩
  | 74 => ⟨S2x2304x1024, .f32⟩
  | 75 => ⟨S_, .f32⟩
  | 76 => ⟨S2x2304x1024, .f32⟩
  | 77 => ⟨S2x2304x1024, .f32⟩
  | 78 => ⟨S2x2304x2816, .f32⟩
  | 79 => ⟨S2x2304x2816, .f32⟩
  | 80 => ⟨S2x2304x2816, .f32⟩
  | 81 => ⟨S2x2304x1024, .f32⟩
  | 82 => ⟨S2x2304x2816, .f32⟩
  | 83 => ⟨S2x2304x2816, .f32⟩
  | 84 => ⟨S2x2304x2816, .f32⟩
  | 85 => ⟨S2x2304x2816, .f32⟩
  | 86 => ⟨S2x2304x1024, .f32⟩
  | 87 => ⟨S2x2304x1024, .f32⟩
  | 88 => ⟨S2x2304x1024, .f32⟩
  | 89 => ⟨S2x2304x1024, .f32⟩
  | 90 => ⟨S2x2304x1024, .f32⟩
  | 91 => ⟨S_, .f32⟩
  | 92 => ⟨S1024, .f32⟩
  | 93 => ⟨S1x1x1024, .f32⟩
  | 94 => ⟨S2x2304x1024, .f32⟩
  | 95 => ⟨S2x2304x1024, .f32⟩
  | 96 => ⟨S_, .f32⟩
  | 97 => ⟨S1024, .f32⟩
  | 98 => ⟨S1x1024, .f32⟩
  | 99 => ⟨S2x2304x1024, .f32⟩
  | 100 => ⟨S_, .f32⟩
  | 101 => ⟨S2x2304, .f32⟩
  | 102 => ⟨S2x2304x1, .f32⟩
  | 103 => ⟨S2x2304x1024, .f32⟩
  | 104 => ⟨S2x2304x1024, .f32⟩
  | 105 => ⟨S2x2304x1024, .f32⟩
  | 106 => ⟨S2x2304x1, .f32⟩
  | 107 => ⟨S_, .f32⟩
  | 108 => ⟨S2x2304x1, .f32⟩
  | 109 => ⟨S2x2304x1, .f32⟩
  | 110 => ⟨S_, .f32⟩
  | 111 => ⟨S2x2304, .f32⟩
  | 112 => ⟨S2x2304x1024, .f32⟩
  | 113 => ⟨S2x2304x1024, .f32⟩
  | 114 => ⟨S2x2304x1024, .f32⟩
  | 115 => ⟨S2x2304x1024, .f32⟩
  | 116 => ⟨S2x2304x1024, .f32⟩
  | 117 => ⟨S2x2304x1x1024, .f32⟩
  | 118 => ⟨S_, .f32⟩
  | 119 => ⟨S2x2304x3x1024, .f32⟩
  | 120 => ⟨S2x2304x1x1024, .f32⟩
  | 121 => ⟨S_, .f32⟩
  | 122 => ⟨S2x2304x3x1024, .f32⟩
  | 123 => ⟨S2x2304x3x1024, .f32⟩
  | 124 => ⟨S2x2304x1x1024, .f32⟩
  | 125 => ⟨S_, .f32⟩
  | 126 => ⟨S2x2304x3x1024, .f32⟩
  | 127 => ⟨S2x2304x3x1024, .f32⟩
  | _ => ⟨S2x2304x1024, .f32⟩

abbrev hbmTy0_1 (i : Nat) : BufTy := match i % 128 with
  | 0 => ⟨S2x256x3x1024, .f32⟩
  | 1 => ⟨S2x2048x3x1024, .f32⟩
  | 2 => ⟨S_, .f32⟩
  | 3 => ⟨S2x3x1024, .f32⟩
  | 4 => ⟨S2x1x3x1024, .f32⟩
  | 5 => ⟨S_, .f32⟩
  | 6 => ⟨S2x2x3x1024, .f32⟩
  | 7 => ⟨S_, .f32⟩
  | 8 => ⟨S2x3x1024, .f32⟩
  | 9 => ⟨S2x1x3x1024, .f32⟩
  | 10 => ⟨S_, .f32⟩
  | 11 => ⟨S2x2x3x1024, .f32⟩
  | 12 => ⟨S2x2x3x1024, .f32⟩
  | 13 => ⟨S2x2304x1024, .bf16⟩
  | 14 => ⟨S2x2304x2816, .bf16⟩
  | 15 => ⟨S2x2304x2816, .bf16⟩
  | 16 => ⟨S2x2304x2816, .bf16⟩
  | 17 => ⟨S2x2304x1024, .bf16⟩
  | _ => ⟨S2x2304x1024, .f32⟩

abbrev hbmTy (i : Nat) : BufTy := match i / 128 with
  | 0 => hbmTy0_0 i
  | 1 => hbmTy0_1 i
  | _ => ⟨S2x2304x1024, .f32⟩

abbrev bufTy : (tb : Table) → Fin (tcTables nBuf tb) → BufTy
  | .hbm, ⟨i, _⟩ => hbmTy i
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_v35_2 : Ref sig .tc := ⟨.hbm, 56, rfl⟩
abbrev main_call0_cst_1 : Ref sig .tc := ⟨.hbm, 57, rfl⟩
abbrev main_call0_v6 : Ref sig .tc := ⟨.hbm, 58, rfl⟩
abbrev main_call0_v7 : Ref sig .tc := ⟨.hbm, 59, rfl⟩
abbrev main_v35_1 : Ref sig .tc := ⟨.hbm, 60, rfl⟩
abbrev main_v35_0 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_6 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_cst_7 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_call1_v0 : Ref sig .tc := ⟨.hbm, 82, rfl⟩
abbrev main_call1_v1 : Ref sig .tc := ⟨.hbm, 83, rfl⟩
abbrev main_call1_v2 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_cst_8 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_cst_9 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_10 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_cst_11 : Ref sig .tc := ⟨.hbm, 107, rfl⟩
abbrev main_v73 : Ref sig .tc := ⟨.hbm, 108, rfl⟩
abbrev main_v74 : Ref sig .tc := ⟨.hbm, 109, rfl⟩
abbrev main_cst_12 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_cst_13 : Ref sig .tc := ⟨.hbm, 118, rfl⟩
abbrev main_v82 : Ref sig .tc := ⟨.hbm, 119, rfl⟩
abbrev main_v83 : Ref sig .tc := ⟨.hbm, 120, rfl⟩
abbrev main_cst_14 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_cst_15 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_cst_16 : Ref sig .tc := ⟨.hbm, 130, rfl⟩
abbrev main_v91 : Ref sig .tc := ⟨.hbm, 131, rfl⟩
abbrev main_v92 : Ref sig .tc := ⟨.hbm, 132, rfl⟩
abbrev main_cst_17 : Ref sig .tc := ⟨.hbm, 133, rfl⟩
abbrev main_v93 : Ref sig .tc := ⟨.hbm, 134, rfl⟩
abbrev main_cst_18 : Ref sig .tc := ⟨.hbm, 135, rfl⟩
abbrev main_v94 : Ref sig .tc := ⟨.hbm, 136, rfl⟩
abbrev main_v95 : Ref sig .tc := ⟨.hbm, 137, rfl⟩
abbrev main_cst_19 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩

abbrev nD : Nat := 1
abbrev τ : Topo := Topo.v7x

variable {F : FTy → Type} [FloatOps F]
-- ==== KernelWgrad.lean ====
abbrev S4608x2816 : Shape := ⟨2, ![4608, 2816]⟩
abbrev S4608x1024 : Shape := ⟨2, ![4608, 1024]⟩
abbrev S2816x1024 : Shape := ⟨2, ![2816, 1024]⟩
abbrev S1152x2816 : Shape := ⟨2, ![1152, 2816]⟩
abbrev S1152x1024 : Shape := ⟨2, ![1152, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4608x2816, .bf16⟩
  | .hbm, ⟨1, _⟩ => ⟨S4608x1024, .bf16⟩
  | .hbm, ⟨2, _⟩ => ⟨S2816x1024, .bf16⟩
  | .local _ .vmem, ⟨0, _⟩ => ⟨S1152x2816, .bf16⟩
  | .local _ .vmem, ⟨1, _⟩ => ⟨S1152x2816, .bf16⟩
  | .local _ .vmem, ⟨2, _⟩ => ⟨S1152x1024, .bf16⟩
  | .local _ .vmem, ⟨3, _⟩ => ⟨S1152x1024, .bf16⟩
  | .local _ .vmem, ⟨4, _⟩ => ⟨S2816x1024, .bf16⟩
  | .local _ .vmem, ⟨5, _⟩ => ⟨S2816x1024, .f32⟩
  | _, _ => ⟨S4608x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond3 (i : grid0.Coords) : BitVec 1 :=
  let arg1 : BitVec 32 := BitVec.ofNat 32 (i 1).val
  let c3_i32 : BitVec 32 := 3#32
  let v9 : BitVec 1 := Scalar.cmpi .eq arg1 c3_i32
  let v10 : BitVec 32 := Scalar.extui v9
  let c0_i32_5 : BitVec 32 := 0#32
  let v11 : BitVec 1 := Scalar.cmpi .ne v10 c0_i32_5
  v11

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1152x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1152x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefWgradIdeal.lean ====
abbrev S4608x2816 : Shape := ⟨2, ![4608, 2816]⟩
abbrev S4608x1024 : Shape := ⟨2, ![4608, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4608x2816, .bf16⟩
  | .hbm, ⟨1, _⟩ => ⟨S4608x1024, .bf16⟩
  | .hbm, ⟨2, _⟩ => ⟨S_, .f32⟩
  | .hbm, ⟨3, _⟩ => ⟨S1024x2816, .f32⟩
  | .hbm, ⟨4, _⟩ => ⟨S4608x1024, .f32⟩
  | .hbm, ⟨5, _⟩ => ⟨S4608x2816, .f32⟩
  | .hbm, ⟨6, _⟩ => ⟨S4608x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S4608x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelFfnFwd.lean ====
abbrev S2x2304x1024 : Shape := ⟨3, ![2, 2304, 1024]⟩
abbrev S2x2x3x1024 : Shape := ⟨4, ![2, 2, 3, 1024]⟩
abbrev S1x1024 : Shape := ⟨2, ![1, 1024]⟩
abbrev S1024x2816 : Shape := ⟨2, ![1024, 2816]⟩
abbrev S2816x1024 : Shape := ⟨2, ![2816, 1024]⟩
abbrev S1x2816x1024 : Shape := ⟨3, ![1, 2816, 1024]⟩
abbrev S3x2816x1024 : Shape := ⟨3, ![3, 2816, 1024]⟩
abbrev S1x256x1024 : Shape := ⟨3, ![1, 256, 1024]⟩
abbrev S1x1x3x1024 : Shape := ⟨4, ![1, 1, 3, 1024]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S1x1408x1024 : Shape := ⟨3, ![1, 1408, 1024]⟩
abbrev S1408x1024 : Shape := ⟨2, ![1408, 1024]⟩
abbrev S256x1408 : Shape := ⟨2, ![256, 1408]⟩

abbrev nBuf : Space → Nat
  | .hbm => 17
  | .vmem => 12
  | .smem => 0
  | _ => 0

abbrev bufTy : (tb : Table) → Fin (tcTables nBuf tb) → BufTy
  | .hbm, ⟨0, _⟩ => ⟨S2x2304x1024, .f32⟩
  | .hbm, ⟨1, _⟩ => ⟨S2x2x3x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2816x1024, .f32⟩
  | .hbm, ⟨7, _⟩ => ⟨S2816x1024, .bf16⟩
  | .hbm, ⟨8, _⟩ => ⟨S2816x1024, .f32⟩
  | .hbm, ⟨9, _⟩ => ⟨S2816x1024, .bf16⟩
  | .hbm, ⟨10, _⟩ => ⟨S2816x1024, .bf16⟩
  | .hbm, ⟨11, _⟩ => ⟨S1x2816x1024, .bf16⟩
  | .hbm, ⟨12, _⟩ => ⟨S1x2816x1024, .bf16⟩
  | .hbm, ⟨13, _⟩ => ⟨S1x2816x1024, .bf16⟩
  | .hbm, ⟨14, _⟩ => ⟨S3x2816x1024, .bf16⟩
  | .hbm, ⟨15, _⟩ => ⟨S2x2304x1024, .f32⟩
  | .hbm, ⟨16, _⟩ => ⟨S2x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3x1024, .f32⟩
  | .local _ .vmem, ⟨3, _⟩ => ⟨S1x1x3x1024, .f32⟩
  | .local _ .vmem, ⟨4, _⟩ => ⟨S1x1024, .f32⟩
  | .local _ .vmem, ⟨5, _⟩ => ⟨S1x2816x1024, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  let c0_i32_1 : BitVec 32 := 0#32
  ![c2_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== RefFfnFwdIdeal.lean ====
abbrev S2x2304x1024 : Shape := ⟨3, ![2, 2304, 1024]⟩
abbrev S2x2x3x1024 : Shape := ⟨4, ![2, 2, 3, 1024]⟩
abbrev S1x1024 : Shape := ⟨2, ![1, 1024]⟩
abbrev S1024x2816 : Shape := ⟨2, ![1024, 2816]⟩
abbrev S2816x1024 : Shape := ⟨2, ![2816, 1024]⟩
abbrev S2x1x3x1024 : Shape := ⟨4, ![2, 1, 3, 1024]⟩
abbrev S2x256x3x1024 : Shape := ⟨4, ![2, 256, 3, 1024]⟩
abbrev S2x2048x3x1024 : Shape := ⟨4, ![2, 2048, 3, 1024]⟩
abbrev S2x2304x3x1024 : Shape := ⟨4, ![2, 2304, 3, 1024]⟩
abbrev S2x2304x1x1024 : Shape := ⟨4, ![2, 2304, 1, 1024]⟩
abbrev S_ : Shape := ⟨0, ![]⟩
abbrev S2x2304 : Shape := ⟨2, ![2, 2304]⟩
abbrev S2x2304x1 : Shape := ⟨3, ![2, 2304, 1]⟩
abbrev S1x1x1024 : Shape := ⟨3, ![1, 1, 1024]⟩
abbrev S2x2304x2816 : Shape := ⟨3, ![2, 2304, 2816]⟩

abbrev nBuf : Space → Nat
  | .hbm => 65
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2x3x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S2x1x3x1024, .f32⟩
  | .hbm, ⟨7, _⟩ => ⟨S2x256x3x1024, .f32⟩
  | .hbm, ⟨8, _⟩ => ⟨S2x1x3x1024, .f32⟩
  | .hbm, ⟨9, _⟩ => ⟨S2x2048x3x1024, .f32⟩
  | .hbm, ⟨10, _⟩ => ⟨S2x2304x3x1024, .f32⟩
  | .hbm, ⟨11, _⟩ => ⟨S2x2304x1x1024, .f32⟩
  | .hbm, ⟨12, _⟩ => ⟨S2x2304x1024, .f32⟩
  | .hbm, ⟨13, _⟩ => ⟨S2x2304x1x1024, .f32⟩
  | .hbm, ⟨14, _⟩ => ⟨S2x2304x1024, .f32⟩
  | .hbm, ⟨15, _⟩ => ⟨S2x2304x1x1024, .f32⟩
  | .hbm, ⟨16, _⟩ => ⟨S2x2304x1024, .f32⟩
  | .hbm, ⟨17, _⟩ => ⟨S2x2304x1024, .f32⟩
  | .hbm, ⟨18, _⟩ => ⟨S_, .f32⟩
  | .hbm, ⟨19, _⟩ => ⟨S2x2304, .f32⟩
  | .hbm, ⟨20, _⟩ => ⟨S2x2304x1, .f32⟩
  | .hbm, ⟨21, _⟩ => ⟨S_, .f32⟩
  | .hbm, ⟨22, _⟩ => ⟨S2x2304x1, .f32⟩
  | .hbm, ⟨23, _⟩ => ⟨S2x2304x1, .f32⟩
  | .hbm, ⟨24, _⟩ => ⟨S_, .f32⟩
  | .hbm, ⟨25, _⟩ => ⟨S2x2304x1, .f32⟩
  | .hbm, ⟨26, _⟩ => ⟨S2x2304x1, .f32⟩
  | .hbm, ⟨27, _⟩ => ⟨S2x2304x1, .f32⟩
  | .hbm, ⟨28, _⟩ => ⟨S2x2304x1024, .f32⟩
  | .hbm, ⟨29, _⟩ => ⟨S2x2304x1024, .f32⟩
  | .hbm, ⟨30, _⟩ => ⟨S1x1x1024, .f32⟩
  | .hbm, ⟨31, _⟩ => ⟨S2x2304x1024, .f32⟩
  | .hbm, ⟨32, _⟩ => ⟨S2x2304x1024, .f32⟩
  | .hbm, ⟨33, _⟩ => ⟨S_, .f32⟩
  | .hbm, ⟨34, _⟩ => ⟨S2x2304x1024, .f32⟩
  | .hbm, ⟨35, _⟩ => ⟨S2x2304x1024, .f32⟩
  | .hbm, ⟨36, _⟩ => ⟨S2x2304x1024, .f32⟩
  | .hbm, ⟨37, _⟩ => ⟨S2x2304x1024, .f32⟩
  | .hbm, ⟨38, _⟩ => ⟨S2x2304x2816, .f32⟩
  | .hbm, ⟨39, _⟩ => ⟨S_, .f32⟩
  | .hbm, ⟨40, _⟩ => ⟨S2x2304x2816, .f32⟩
  | .hbm, ⟨41, _⟩ => ⟨S2x2304x2816, .f32⟩
  | .hbm, ⟨42, _⟩ => ⟨S2x2304x2816, .f32⟩
  | .hbm, ⟨43, _⟩ => ⟨S2x2304x2816, .f32⟩
  | .hbm, ⟨44, _⟩ => ⟨S_, .f32⟩
  | .hbm, ⟨45, _⟩ => ⟨S2x2304x2816, .f32⟩
  | .hbm, ⟨46, _⟩ => ⟨S2x2304x2816, .f32⟩
  | .hbm, ⟨47, _⟩ => ⟨S_, .f32⟩
  | .hbm, ⟨48, _⟩ => ⟨S2x2304x2816, .f32⟩
  | .hbm, ⟨49, _⟩ => ⟨S2x2304x2816, .f32⟩
  | .hbm, ⟨50, _⟩ => ⟨S2x2304x2816, .f32⟩
  | .hbm, ⟨51, _⟩ => ⟨S2x2304x2816, .f32⟩
  | .hbm, ⟨52, _⟩ => ⟨S_, .f32⟩
  | .hbm, ⟨53, _⟩ => ⟨S2x2304x2816, .f32⟩
  | .hbm, ⟨54, _⟩ => ⟨S2x2304x2816, .f32⟩
  | .hbm, ⟨55, _⟩ => ⟨S2x2304x2816, .f32⟩
  | .hbm, ⟨56, _⟩ => ⟨S2x2304x1024, .f32⟩
  | .hbm, ⟨57, _⟩ => ⟨S_, .f32⟩
  | .hbm, ⟨58, _⟩ => ⟨S2x2304x1024, .f32⟩
  | .hbm, ⟨59, _⟩ => ⟨S2x2304x1024, .f32⟩
  | .hbm, ⟨60, _⟩ => ⟨S_, .f32⟩
  | .hbm, ⟨61, _⟩ => ⟨S2x2304x1024, .f32⟩
  | .hbm, ⟨62, _⟩ => ⟨S2x2304x1024, .f32⟩
  | .hbm, ⟨63, _⟩ => ⟨S2x2304x1024, .f32⟩
  | .hbm, ⟨64, _⟩ => ⟨S2x2304x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_3 : Ref sig .tc := ⟨.hbm, 39, rfl⟩
abbrev main_v29 : Ref sig .tc := ⟨.hbm, 40, rfl⟩
abbrev main_v30 : Ref sig .tc := ⟨.hbm, 41, rfl⟩
abbrev main_call0_v0 : Ref sig .tc := ⟨.hbm, 42, rfl⟩
abbrev main_call0_v1 : Ref sig .tc := ⟨.hbm, 43, rfl⟩
abbrev main_call0_cst : Ref sig .tc := ⟨.hbm, 44, rfl⟩
abbrev main_call0_v2 : Ref sig .tc := ⟨.hbm, 45, rfl⟩
abbrev main_call0_v3 : Ref sig .tc := ⟨.hbm, 46, rfl⟩
abbrev main_call0_cst_0 : Ref sig .tc := ⟨.hbm, 47, rfl⟩
abbrev main_call0_v4 : Ref sig .tc := ⟨.hbm, 48, rfl⟩
abbrev main_call0_v5 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_5 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩

abbrev nD : Nat := 1
abbrev τ : Topo := Topo.v7x

variable {F : FTy → Type} [FloatOps F]
-- ==== KernelMixIn.lean ====
abbrev S2x2304x1024 : Shape := ⟨3, ![2, 2304, 1024]⟩
abbrev S2x2x3x1024 : Shape := ⟨4, ![2, 2, 3, 1024]⟩
abbrev S1x1024 : Shape := ⟨2, ![1, 1024]⟩
abbrev S1024x2816 : Shape := ⟨2, ![1024, 2816]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S256x128 : Shape := ⟨2, ![256, 128]⟩
abbrev S2304x128 : Shape := ⟨2, ![2304, 128]⟩
abbrev S128 : Shape := ⟨1, ![128]⟩
abbrev S1x128 : Shape := ⟨2, ![1, 128]⟩
abbrev S2816x1024 : Shape := ⟨2, ![2816, 1024]⟩
abbrev S1x2816x1024 : Shape := ⟨3, ![1, 2816, 1024]⟩
abbrev S2x2304x256 : Shape := ⟨3, ![2, 2304, 256]⟩
abbrev S2x2304x512 : Shape := ⟨3, ![2, 2304, 512]⟩
abbrev S1x256x1024 : Shape := ⟨3, ![1, 256, 1024]⟩
abbrev S1x1x3x1024 : Shape := ⟨4, ![1, 1, 3, 1024]⟩
abbrev S1x256x256 : Shape := ⟨3, ![1, 256, 256]⟩
abbrev S1x256x512 : Shape := ⟨3, ![1, 256, 512]⟩
abbrev S256x1024 : Shape := ⟨2, ![256, 1024]⟩
abbrev S1x1x1x1024 : Shape := ⟨4, ![1, 1, 1, 1024]⟩
abbrev S256 : Shape := ⟨1, ![256]⟩
abbrev S256x1 : Shape := ⟨2, ![256, 1]⟩
abbrev S256x2816 : Shape := ⟨2, ![256, 2816]⟩
abbrev S256x512 : Shape := ⟨2, ![256, 512]⟩
abbrev S256x256 : Shape := ⟨2, ![256, 256]⟩

abbrev nBuf : Space → Nat
  | .hbm => 115
  | .vmem => 22
  | .smem => 0
  | _ => 0

abbrev bufTy : (tb : Table) → Fin (tcTables nBuf tb) → BufTy
  | .hbm, ⟨0, _⟩ => ⟨S2x2304x1024, .f32⟩
  | .hbm, ⟨1, _⟩ => ⟨S2x2x3x1024, .f32⟩
  | .hbm, ⟨2, _⟩ => ⟨S1x1024, .f32⟩
  | .hbm, ⟨3, _⟩ => ⟨S1024x2816, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S2048, .i32⟩
  | .hbm, ⟨13, _⟩ => ⟨S_, .i32⟩
  | .hbm, ⟨14, _⟩ => ⟨S_, .i32⟩
  | .hbm, ⟨15, _⟩ => ⟨S2048, .i32⟩
  | .hbm, ⟨16, _⟩ => ⟨S2048, .i32⟩
  | .hbm, ⟨17, _⟩ => ⟨S2048, .i32⟩
  | .hbm, ⟨18, _⟩ => ⟨S_, .i32⟩
  | .hbm, ⟨19, _⟩ => ⟨S2048, .i32⟩
  | .hbm, ⟨20, _⟩ => ⟨S2048, .i1⟩
  | .hbm, ⟨21, _⟩ => ⟨S2048, .i32⟩
  | .hbm, ⟨22, _⟩ => ⟨S2048, .i32⟩
  | .hbm, ⟨23, _⟩ => ⟨S_, .i32⟩
  | .hbm, ⟨24, _⟩ => ⟨S2048, .i32⟩
  | .hbm, ⟨25, _⟩ => ⟨S2048, .i1⟩
  | .hbm, ⟨26, _⟩ => ⟨S2048, .i1⟩
  | .hbm, ⟨27, _⟩ => ⟨S_, .i32⟩
  | .hbm, ⟨28, _⟩ => ⟨S2048, .i32⟩
  | .hbm, ⟨29, _⟩ => ⟨S2048, .i32⟩
  | .hbm, ⟨30, _⟩ => ⟨S2048, .i32⟩
  | .hbm, ⟨31, _⟩ => ⟨S2048, .f32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i1⟩
  | .hbm, ⟨36, _⟩ => ⟨S_, .i32⟩
  | .hbm, ⟨37, _⟩ => ⟨S_, .i32⟩
  | .hbm, ⟨38, _⟩ => ⟨S2048, .i32⟩
  | .hbm, ⟨39, _⟩ => ⟨S2048, .i32⟩
  | .hbm, ⟨40, _⟩ => ⟨S_, .i32⟩
  | .hbm, ⟨41, _⟩ => ⟨S2048, .i32⟩
  | .hbm, ⟨42, _⟩ => ⟨S2048, .i1⟩
  | .hbm, ⟨43, _⟩ => ⟨S_, .i32⟩
  | .hbm, ⟨44, _⟩ => ⟨S2048, .i32⟩
  | .hbm, ⟨45, _⟩ => ⟨S2048, .i1⟩
  | .hbm, ⟨46, _⟩ => ⟨S_, .i32⟩
  | .hbm, ⟨47, _⟩ => ⟨S_, .i1⟩
  | .hbm, ⟨48, _⟩ => ⟨S2048, .i1⟩
  | .hbm, ⟨49, _⟩ => ⟨S2048, .i1⟩
  | .hbm, ⟨50, _⟩ => ⟨S2048, .i1⟩
  | .hbm, ⟨51, _⟩ => ⟨S2048, .i32⟩
  | .hbm, ⟨52, _⟩ => ⟨S2048, .i32⟩
  | .hbm, ⟨53, _⟩ => ⟨S2048, .i32⟩
  | .hbm, ⟨54, _⟩ => ⟨S2048, .f32⟩
  | .hbm, ⟨55, _⟩ => ⟨S2048x1, .f32⟩
  | .hbm, ⟨56, _⟩ => ⟨S1x32, .f32⟩
  | .hbm, ⟨57, _⟩ => ⟨S2048x32, .f32⟩
  | .hbm, ⟨58, _⟩ => ⟨S2048x32, .f32⟩
  | .hbm, ⟨59, _⟩ => ⟨S2048x32, .f32⟩
  | .hbm, ⟨60, _⟩ => ⟨S2048x1, .f32⟩
  | .hbm, ⟨61, _⟩ => ⟨S1x32, .f32⟩
  | .hbm, ⟨62, _⟩ => ⟨S2048x32, .f32⟩
  | .hbm, ⟨63, _⟩ => ⟨S2048x32, .f32⟩
  | .hbm, ⟨64, _⟩ => ⟨S2048x32, .f32⟩
  | .hbm, ⟨65, _⟩ => ⟨S2048x128, .f32⟩
  | .hbm, ⟨66, _⟩ => ⟨S_, .f32⟩
  | .hbm, ⟨67, _⟩ => ⟨S256x128, .f32⟩
  | .hbm, ⟨68, _⟩ => ⟨S2304x128, .f32⟩
  | .hbm, ⟨69, _⟩ => ⟨S128, .i32⟩
  | .hbm, ⟨70, _⟩ => ⟨S_, .i32⟩
  | .hbm, ⟨71, _⟩ => ⟨S_, .i32⟩
  | .hbm, ⟨72, _⟩ => ⟨S_, .i32⟩
  | .hbm, ⟨73, _⟩ => ⟨S_, .i1⟩
  | .hbm, ⟨74, _⟩ => ⟨S_, .i32⟩
  | .hbm, ⟨75, _⟩ => ⟨S_, .i32⟩
  | .hbm, ⟨76, _⟩ => ⟨S128, .i32⟩
  | .hbm, ⟨77, _⟩ => ⟨S128, .i32⟩
  | .hbm, ⟨78, _⟩ => ⟨S_, .i32⟩
  | .hbm, ⟨79, _⟩ => ⟨S128, .i32⟩
  | .hbm, ⟨80, _⟩ => ⟨S128, .i1⟩
  | .hbm, ⟨81, _⟩ => ⟨S_, .i32⟩
  | .hbm, ⟨82, _⟩ => ⟨S128, .i32⟩
  | .hbm, ⟨83, _⟩ => ⟨S128, .i1⟩
  | .hbm, ⟨84, _⟩ => ⟨S_, .i32⟩
  | .hbm, ⟨85, _⟩ => ⟨S_, .i1⟩
  | .hbm, ⟨86, _⟩ => ⟨S128, .i1⟩
  | .hbm, ⟨87, _⟩ => ⟨S128, .i1⟩
  | .hbm, ⟨88, _⟩ => ⟨S128, .i1⟩
  | .hbm, ⟨89, _⟩ => ⟨S128, .i32⟩
  | .hbm, ⟨90, _⟩ => ⟨S128, .i32⟩
  | .hbm, ⟨91, _⟩ => ⟨S128, .i32⟩
  | .hbm, ⟨92, _⟩ => ⟨S_, .i32⟩
  | .hbm, ⟨93, _⟩ => ⟨S128, .i32⟩
  | .hbm, ⟨94, _⟩ => ⟨S128, .i1⟩
  | .hbm, ⟨95, _⟩ => ⟨S_, .f32⟩
  | .hbm, ⟨96, _⟩ => ⟨S_, .f32⟩
  | .hbm, ⟨97, _⟩ => ⟨S128, .f32⟩
  | .hbm, ⟨98, _⟩ => ⟨S128, .f32⟩
  | .hbm, ⟨99, _⟩ => ⟨S128, .f32⟩
  | .hbm, ⟨100, _⟩ => ⟨S128, .f32⟩
  | .hbm, ⟨101, _⟩ => ⟨S2304x128, .f32⟩
  | .hbm, ⟨102, _⟩ => ⟨S2304x128, .f32⟩
  | .hbm, ⟨103, _⟩ => ⟨S1x128, .f32⟩
  | .hbm, ⟨104, _⟩ => ⟨S2304x128, .f32⟩
  | .hbm, ⟨105, _⟩ => ⟨S2304x128, .f32⟩
  | .hbm, ⟨106, _⟩ => ⟨S2816x1024, .f32⟩
  | .hbm, ⟨107, _⟩ => ⟨S2816x1024, .bf16⟩
  | .hbm, ⟨108, _⟩ => ⟨S1x2816x1024, .bf16⟩
  | .hbm, ⟨109, _⟩ => ⟨S2x2304x256, .f32⟩
  | .hbm, ⟨110, _⟩ => ⟨S2x2304x512, .f32⟩
  | .hbm, ⟨111, _⟩ => ⟨S2x2304x512, .f32⟩
  | .hbm, ⟨112, _⟩ => ⟨S2x2304x512, .f32⟩
  | .hbm, ⟨113, _⟩ => ⟨S2x2304x512, .f32⟩
  | .hbm, ⟨114, _⟩ => ⟨S2x2304x512, .f32⟩
  | .local _ .vmem, ⟨0, _⟩ => ⟨S1x256x1024, .f32⟩
  | .local _ .vmem, ⟨1, _⟩ => ⟨S1x256x1024, .f32⟩
  | .local _ .vmem, ⟨2, _⟩ => ⟨S1x1x3x1024, .f32⟩
  | .local _ .vmem, ⟨3, _⟩ => ⟨S1x1x3x1024, .f32⟩
  | .local _ .vmem, ⟨4, _⟩ => ⟨S1x1024, .f32⟩
  | .local _ .vmem, ⟨5, _⟩ => ⟨S1x2816x1024, .bf16⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S1x256x256, .f32⟩
  | .local _ .vmem, ⟨11, _⟩ => ⟨S1x256x256, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v7 : Ref sig .tc := ⟨.hbm, 30, rfl⟩
abbrev main_v8 : Ref sig .tc := ⟨.hbm, 31, rfl⟩
abbrev main_c_1 : Ref sig .tc := ⟨.hbm, 32, rfl⟩
abbrev main_call1_v0 : Ref sig .tc := ⟨.hbm, 33, rfl⟩
abbrev main_call1_c : Ref sig .tc := ⟨.hbm, 34, rfl⟩
abbrev main_call1_v1 : Ref sig .tc := ⟨.hbm, 35, rfl⟩
abbrev main_call1_c_0 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_c_1 : Ref sig .tc := ⟨.hbm, 40, rfl⟩
abbrev main_call1_v5 : Ref sig .tc := ⟨.hbm, 41, rfl⟩
abbrev main_call1_v6 : Ref sig .tc := ⟨.hbm, 42, rfl⟩
abbrev main_call1_c_2 : Ref sig .tc := ⟨.hbm, 43, rfl⟩
abbrev main_call1_v7 : Ref sig .tc := ⟨.hbm, 44, rfl⟩
abbrev main_call1_v8 : Ref sig .tc := ⟨.hbm, 45, rfl⟩
abbrev main_call1_c_3 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_v12 : Ref sig .tc := ⟨.hbm, 50, rfl⟩
abbrev main_call1_v13 : Ref sig .tc := ⟨.hbm, 51, rfl⟩
abbrev main_call1_v14 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_cst_2 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_c_3 : Ref sig .tc := ⟨.hbm, 70, rfl⟩
abbrev main_call2_v0 : Ref sig .tc := ⟨.hbm, 71, rfl⟩
abbrev main_call2_c : Ref sig .tc := ⟨.hbm, 72, rfl⟩
abbrev main_call2_v1 : Ref sig .tc := ⟨.hbm, 73, rfl⟩
abbrev main_call2_c_0 : Ref sig .tc := ⟨.hbm, 74, rfl⟩
abbrev main_call2_v2 : Ref sig .tc := ⟨.hbm, 75, rfl⟩
abbrev main_call2_v3 : Ref sig .tc := ⟨.hbm, 76, rfl⟩
abbrev main_call2_v4 : Ref sig .tc := ⟨.hbm, 77, rfl⟩
abbrev main_call2_c_1 : Ref sig .tc := ⟨.hbm, 78, rfl⟩
abbrev main_call2_v5 : Ref sig .tc := ⟨.hbm, 79, rfl⟩
abbrev main_call2_v6 : Ref sig .tc := ⟨.hbm, 80, rfl⟩
abbrev main_call2_c_2 : Ref sig .tc := ⟨.hbm, 81, rfl⟩
abbrev main_call2_v7 : Ref sig .tc := ⟨.hbm, 82, rfl⟩
abbrev main_call2_v8 : Ref sig .tc := ⟨.hbm, 83, rfl⟩
abbrev main_call2_c_3 : Ref sig .tc := ⟨.hbm, 84, rfl⟩
abbrev main_call2_v9 : Ref sig .tc := ⟨.hbm, 85, rfl⟩
abbrev main_call2_v10 : Ref sig .tc := ⟨.hbm, 86, rfl⟩
abbrev main_call2_v11 : Ref sig .tc := ⟨.hbm, 87, rfl⟩
abbrev main_call2_v12 : Ref sig .tc := ⟨.hbm, 88, rfl⟩
abbrev main_call2_v13 : Ref sig .tc := ⟨.hbm, 89, rfl⟩
abbrev main_call2_v14 : Ref sig .tc := ⟨.hbm, 90, rfl⟩
abbrev main_v25 : Ref sig .tc := ⟨.hbm, 91, rfl⟩
abbrev main_c_4 : Ref sig .tc := ⟨.hbm, 92, rfl⟩
abbrev main_v26 : Ref sig .tc := ⟨.hbm, 93, rfl⟩
abbrev main_v27 : Ref sig .tc := ⟨.hbm, 94, rfl⟩
abbrev main_cst_5 : Ref sig .tc := ⟨.hbm, 95, rfl⟩
abbrev main_cst_6 : Ref sig .tc := ⟨.hbm, 96, rfl⟩
abbrev main_call3_v0 : Ref sig .tc := ⟨.hbm, 97, rfl⟩
abbrev main_call3_v1 : Ref sig .tc := ⟨.hbm, 98, rfl⟩
abbrev main_v28 : Ref sig .tc := ⟨.hbm, 99, rfl⟩
abbrev main_v29 : Ref sig .tc := ⟨.hbm, 100, rfl⟩
abbrev main_v30 : Ref sig .tc := ⟨.hbm, 101, rfl⟩
abbrev main_v31 : Ref sig .tc := ⟨.hbm, 102, rfl⟩
abbrev main_v32 : Ref sig .tc := ⟨.hbm, 103, rfl⟩
abbrev main_v33 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38_0 : Ref sig .tc := ⟨.hbm, 109, rfl⟩
abbrev main_v38_1 : Ref sig .tc := ⟨.hbm, 110, rfl⟩
abbrev main_v38_2 : Ref sig .tc := ⟨.hbm, 111, rfl⟩
abbrev main_v38_3 : Ref sig .tc := ⟨.hbm, 112, rfl⟩
abbrev main_v38_4 : Ref sig .tc := ⟨.hbm, 113, rfl⟩
abbrev main_v38_5 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== RefMixInIdeal.lean ====
abbrev S2x2304x1024 : Shape := ⟨3, ![2, 2304, 1024]⟩
abbrev S2x2x3x1024 : Shape := ⟨4, ![2, 2, 3, 1024]⟩
abbrev S1x1024 : Shape := ⟨2, ![1, 1024]⟩
abbrev S1024x2816 : Shape := ⟨2, ![1024, 2816]⟩
abbrev S2x1x3x1024 : Shape := ⟨4, ![2, 1, 3, 1024]⟩
abbrev S2x256x3x1024 : Shape := ⟨4, ![2, 256, 3, 1024]⟩
abbrev S2x2048x3x1024 : Shape := ⟨4, ![2, 2048, 3, 1024]⟩
abbrev S2x2304x3x1024 : Shape := ⟨4, ![2, 2304, 3, 1024]⟩
abbrev S2x2304x1x1024 : Shape := ⟨4, ![2, 2304, 1, 1024]⟩
abbrev S_ : Shape := ⟨0, ![]⟩
abbrev S2x2304 : Shape := ⟨2, ![2, 2304]⟩
abbrev S2x2304x1 : Shape := ⟨3, ![2, 2304, 1]⟩
abbrev S1x1x1024 : Shape := ⟨3, ![1, 1, 1024]⟩
abbrev S2x2304x2816 : Shape := ⟨3, ![2, 2304, 2816]⟩
abbrev S2x2304x256 : Shape := ⟨3, ![2, 2304, 256]⟩
abbrev S2x2304x512 : Shape := ⟨3, ![2, 2304, 512]⟩
abbrev S32 : Shape := ⟨1, ![32]⟩
abbrev S32x64 : Shape := ⟨2, ![32, 64]⟩
abbrev S2048 : Shape := ⟨1, ![2048]⟩
abbrev S64 : Shape := ⟨1, ![64]⟩
abbrev S1x64 : Shape := ⟨2, ![1, 64]⟩
abbrev S2x2304x4x128 : Shape := ⟨4, ![2, 2304, 4, 128]⟩
abbrev S2x256x4x128 : Shape := ⟨4, ![2, 256, 4, 128]⟩
abbrev S2x2048x4x128 : Shape := ⟨4, ![2, 2048, 4, 128]⟩
abbrev S2x2048x4x64 : Shape := ⟨4, ![2, 2048, 4, 64]⟩
abbrev S2048x1 : Shape := ⟨2, ![2048, 1]⟩
abbrev S1x32 : Shape := ⟨2, ![1, 32]⟩
abbrev S2048x32 : Shape := ⟨2, ![2048, 32]⟩
abbrev S2x2048x4x32 : Shape := ⟨4, ![2, 2048, 4, 32]⟩
abbrev S1x2048x1x32 : Shape := ⟨4, ![1, 2048, 1, 32]⟩

abbrev nBuf : Space → Nat
  | .hbm => 180
  | .vmem => 0
  | .smem => 0
  | _ => 0

abbrev hbmTy0_0 (i : Nat) : BufTy := match i % 128 with
  | 0 => ⟨S2x2304x1024, .f32⟩
  | 1 => ⟨S2x2x3x1024, .f32⟩
  | 2 => ⟨S1x1024, .f32⟩
  | 3 => ⟨S1024x2816, .f32⟩
  | 4 => ⟨S2x1x3x1024, .f32⟩
  | 5 => ⟨S2x256x3x1024, .f32⟩
  | 6 => ⟨S2x1x3x1024, .f32⟩
  | 7 => ⟨S2x2048x3x1024, .f32⟩
  | 8 => ⟨S2x2304x3x1024, .f32⟩
  | 9 => ⟨S2x2304x1x1024, .f32⟩
  | 10 => ⟨S2x2304x1024, .f32⟩
  | 11 => ⟨S2x2304x1x1024, .f32⟩
  | 12 => ⟨S2x2304x1024, .f32⟩
  | 13 => ⟨S2x2304x1x1024, .f32⟩
  | 14 => ⟨S2x2304x1024, .f32⟩
  | 15 => ⟨S2x2304x1024, .f32⟩
  | 16 => ⟨S_, .f32⟩
  | 17 => ⟨S2x2304, .f32⟩
  | 18 => ⟨S2x2304x1, .f32⟩
  | 19 => ⟨S_, .f32⟩
  | 20 => ⟨S2x2304x1, .f32⟩
  | 21 => ⟨S2x2304x1, .f32⟩
  | 22 => ⟨S_, .f32⟩
  | 23 => ⟨S2x2304x1, .f32⟩
  | 24 => ⟨S2x2304x1, .f32⟩
  | 25 => ⟨S2x2304x1, .f32⟩
  | 26 => ⟨S2x2304x1024, .f32⟩
  | 27 => ⟨S2x2304x1024, .f32⟩
  | 28 => ⟨S1x1x1024, .f32⟩
  | 29 => ⟨S2x2304x1024, .f32⟩
  | 30 => ⟨S2x2304x1024, .f32⟩
  | 31 => ⟨S_, .f32⟩
  | 32 => ⟨S2x2304x1024, .f32⟩
  | 33 => ⟨S2x2304x1024, .f32⟩
  | 34 => ⟨S2x2304x1024, .f32⟩
  | 35 => ⟨S2x2304x1024, .f32⟩
  | 36 => ⟨S2x2304x2816, .f32⟩
  | 37 => ⟨S2x2304x256, .f32⟩
  | 38 => ⟨S2x2304x512, .f32⟩
  | 39 => ⟨S2x2304x512, .f32⟩
  | 40 => ⟨S2x2304x512, .f32⟩
  | 41 => ⟨S2x2304x512, .f32⟩
  | 42 => ⟨S2x2304x512, .f32⟩
  | 43 => ⟨S32, .f32⟩
  | 44 => ⟨S32x64, .f32⟩
  | 45 => ⟨S2048, .f32⟩
  | 46 => ⟨S64, .f32⟩
  | 47 => ⟨S1x64, .f32⟩
  | 48 => ⟨S32x64, .f32⟩
  | 49 => ⟨S2048, .f32⟩
  | 50 => ⟨S2x2304x4x128, .f32⟩
  | 51 => ⟨S2x256x4x128, .f32⟩
  | 52 => ⟨S2x2048x4x128, .f32⟩
  | 53 => ⟨S32, .f32⟩
  | 54 => ⟨S32, .f32⟩
  | 55 => ⟨S_, .f32⟩
  | 56 => ⟨S32, .f32⟩
  | 57 => ⟨S32, .f32⟩
  | 58 => ⟨S_, .f32⟩
  | 59 => ⟨S32, .f32⟩
  | 60 => ⟨S32, .f32⟩
  | 61 => ⟨S2x2048x4x64, .f32⟩
  | 62 => ⟨S2x2048x4x64, .f32⟩
  | 63 => ⟨S2048x1, .f32⟩
  | 64 => ⟨S1x32, .f32⟩
  | 65 => ⟨S2048x32, .f32⟩
  | 66 => ⟨S2048x32, .f32⟩
  | 67 => ⟨S2048x32, .f32⟩
  | 68 => ⟨S2x2048x4x32, .f32⟩
  | 69 => ⟨S2x2048x4x32, .f32⟩
  | 70 => ⟨S2048x32, .f32⟩
  | 71 => ⟨S1x2048x1x32, .f32⟩
  | 72 => ⟨S2048x32, .f32⟩
  | 73 => ⟨S1x2048x1x32, .f32⟩
  | 74 => ⟨S2x2048x4x32, .f32⟩
  | 75 => ⟨S2x2048x4x32, .f32⟩
  | 76 => ⟨S2x2048x4x32, .f32⟩
  | 77 => ⟨S2x2048x4x32, .f32⟩
  | 78 => ⟨S2x2048x4x32, .f32⟩
  | 79 => ⟨S2x2048x4x32, .f32⟩
  | 80 => ⟨S2x2048x4x32, .f32⟩
  | 81 => ⟨S2x2048x4x32, .f32⟩
  | 82 => ⟨S2x2048x4x32, .f32⟩
  | 83 => ⟨S2x2048x4x32, .f32⟩
  | 84 => ⟨S2x2048x4x64, .f32⟩
  | 85 => ⟨S2048x1, .f32⟩
  | 86 => ⟨S1x32, .f32⟩
  | 87 => ⟨S2048x32, .f32⟩
  | 88 => ⟨S2048x32, .f32⟩
  | 89 => ⟨S2048x32, .f32⟩
  | 90 => ⟨S2x2048x4x32, .f32⟩
  | 91 => ⟨S2x2048x4x32, .f32⟩
  | 92 => ⟨S2048x32, .f32⟩
  | 93 => ⟨S1x2048x1x32, .f32⟩
  | 94 => ⟨S2048x32, .f32⟩
  | 95 => ⟨S1x2048x1x32, .f32⟩
  | 96 => ⟨S2x2048x4x32, .f32⟩
  | 97 => ⟨S2x2048x4x32, .f32⟩
  | 98 => ⟨S2x2048x4x32, .f32⟩
  | 99 => ⟨S2x2048x4x32, .f32⟩
  | 100 => ⟨S2x2048x4x32, .f32⟩
  | 101 => ⟨S2x2048x4x32, .f32⟩
  | 102 => ⟨S2x2048x4x32, .f32⟩
  | 103 => ⟨S2x2048x4x32, .f32⟩
  | 104 => ⟨S2x2048x4x32, .f32⟩
  | 105 => ⟨S2x2048x4x32, .f32⟩
  | 106 => ⟨S2x2048x4x64, .f32⟩
  | 107 => ⟨S2x2048x4x128, .f32⟩
  | 108 => ⟨S2x2304x4x128, .f32⟩
  | 109 => ⟨S2x2304x512, .f32⟩
  | 110 => ⟨S32, .f32⟩
  | 111 => ⟨S32x64, .f32⟩
  | 112 => ⟨S2048, .f32⟩
  | 113 => ⟨S64, .f32⟩
  | 114 => ⟨S1x64, .f32⟩
  | 115 => ⟨S32x64, .f32⟩
  | 116 => ⟨S2048, .f32⟩
  | 117 => ⟨S2x2304x4x128, .f32⟩
  | 118 => ⟨S2x256x4x128, .f32⟩
  | 119 => ⟨S2x2048x4x128, .f32⟩
  | 120 => ⟨S32, .f32⟩
  | 121 => ⟨S32, .f32⟩
  | 122 => ⟨S_, .f32⟩
  | 123 => ⟨S32, .f32⟩
  | 124 => ⟨S32, .f32⟩
  | 125 => ⟨S_, .f32⟩
  | 126 => ⟨S32, .f32⟩
  | 127 => ⟨S32, .f32⟩
  | _ => ⟨S2x2304x1024, .f32⟩

abbrev hbmTy0_1 (i : Nat) : BufTy := match i % 128 with
  | 0 => ⟨S2x2048x4x64, .f32⟩
  | 1 => ⟨S2x2048x4x64, .f32⟩
  | 2 => ⟨S2048x1, .f32⟩
  | 3 => ⟨S1x32, .f32⟩
  | 4 => ⟨S2048x32, .f32⟩
  | 5 => ⟨S2048x32, .f32⟩
  | 6 => ⟨S2048x32, .f32⟩
  | 7 => ⟨S2x2048x4x32, .f32⟩
  | 8 => ⟨S2x2048x4x32, .f32⟩
  | 9 => ⟨S2048x32, .f32⟩
  | 10 => ⟨S1x2048x1x32, .f32⟩
  | 11 => ⟨S2048x32, .f32⟩
  | 12 => ⟨S1x2048x1x32, .f32⟩
  | 13 => ⟨S2x2048x4x32, .f32⟩
  | 14 => ⟨S2x2048x4x32, .f32⟩
  | 15 => ⟨S2x2048x4x32, .f32⟩
  | 16 => ⟨S2x2048x4x32, .f32⟩
  | 17 => ⟨S2x2048x4x32, .f32⟩
  | 18 => ⟨S2x2048x4x32, .f32⟩
  | 19 => ⟨S2x2048x4x32, .f32⟩
  | 20 => ⟨S2x2048x4x32, .f32⟩
  | 21 => ⟨S2x2048x4x32, .f32⟩
  | 22 => ⟨S2x2048x4x32, .f32⟩
  | 23 => ⟨S2x2048x4x64, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2x2048x4x32, .f32⟩
  | 30 => ⟨S2x2048x4x32, .f32⟩
  | 31 => ⟨S2048x32, .f32⟩
  | 32 => ⟨S1x2048x1x32, .f32⟩
  | 33 => ⟨S2048x32, .f32⟩
  | 34 => ⟨S1x2048x1x32, .f32⟩
  | 35 => ⟨S2x2048x4x32, .f32⟩
  | 36 => ⟨S2x2048x4x32, .f32⟩
  | 37 => ⟨S2x2048x4x32, .f32⟩
  | 38 => ⟨S2x2048x4x32, .f32⟩
  | 39 => ⟨S2x2048x4x32, .f32⟩
  | 40 => ⟨S2x2048x4x32, .f32⟩
  | 41 => ⟨S2x2048x4x32, .f32⟩
  | 42 => ⟨S2x2048x4x32, .f32⟩
  | 43 => ⟨S2x2048x4x32, .f32⟩
  | 44 => ⟨S2x2048x4x32, .f32⟩
  | 45 => ⟨S2x2048x4x64, .f32⟩
  | 46 => ⟨S2x2048x4x128, .f32⟩
  | 47 => ⟨S2x2304x4x128, .f32⟩
  | 48 => ⟨S_, .f32⟩
  | 49 => ⟨S2x2304x4x128, .f32⟩
  | 50 => ⟨S2x2304x4x128, .f32⟩
  | 51 => ⟨S2x2304x512, .f32⟩
  | _ => ⟨S2x2304x1024, .f32⟩

abbrev hbmTy (i : Nat) : BufTy := match i / 128 with
  | 0 => hbmTy0_0 i
  | 1 => hbmTy0_1 i
  | _ => ⟨S2x2304x1024, .f32⟩

abbrev bufTy : (tb : Table) → Fin (tcTables nBuf tb) → BufTy
  | .hbm, ⟨i, _⟩ => hbmTy i
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_cst_3 : Ref sig .tc := ⟨.hbm, 55, rfl⟩
abbrev main_v47 : Ref sig .tc := ⟨.hbm, 56, rfl⟩
abbrev main_v48 : Ref sig .tc := ⟨.hbm, 57, rfl⟩
abbrev main_cst_4 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_v87 : Ref sig .tc := ⟨.hbm, 97, rfl⟩
abbrev main_v88 : Ref sig .tc := ⟨.hbm, 98, rfl⟩
abbrev main_v89 : Ref sig .tc := ⟨.hbm, 99, rfl⟩
abbrev main_v90 : Ref sig .tc := ⟨.hbm, 100, rfl⟩
abbrev main_v91 : Ref sig .tc := ⟨.hbm, 101, rfl⟩
abbrev main_v92 : Ref sig .tc := ⟨.hbm, 102, rfl⟩
abbrev main_v93 : Ref sig .tc := ⟨.hbm, 103, rfl⟩
abbrev main_v94 : Ref sig .tc := ⟨.hbm, 104, rfl⟩
abbrev main_v95 : Ref sig .tc := ⟨.hbm, 105, rfl⟩
abbrev main_v96 : Ref sig .tc := ⟨.hbm, 106, rfl⟩
abbrev main_v97 : Ref sig .tc := ⟨.hbm, 107, rfl⟩
abbrev main_v98 : Ref sig .tc := ⟨.hbm, 108, rfl⟩
abbrev main_v99 : Ref sig .tc := ⟨.hbm, 109, rfl⟩
abbrev main_v100 : Ref sig .tc := ⟨.hbm, 110, rfl⟩
abbrev main_v101 : Ref sig .tc := ⟨.hbm, 111, rfl⟩
abbrev main_v102 : Ref sig .tc := ⟨.hbm, 112, rfl⟩
abbrev main_v103 : Ref sig .tc := ⟨.hbm, 113, rfl⟩
abbrev main_v104 : Ref sig .tc := ⟨.hbm, 114, rfl⟩
abbrev main_v105 : Ref sig .tc := ⟨.hbm, 115, rfl⟩
abbrev main_v106 : Ref sig .tc := ⟨.hbm, 116, rfl⟩
abbrev main_v107 : Ref sig .tc := ⟨.hbm, 117, rfl⟩
abbrev main_v108 : Ref sig .tc := ⟨.hbm, 118, rfl⟩
abbrev main_v109 : Ref sig .tc := ⟨.hbm, 119, rfl⟩
abbrev main_v110 : Ref sig .tc := ⟨.hbm, 120, rfl⟩
abbrev main_v111 : Ref sig .tc := ⟨.hbm, 121, rfl⟩
abbrev main_cst_5 : Ref sig .tc := ⟨.hbm, 122, rfl⟩
abbrev main_v112 : Ref sig .tc := ⟨.hbm, 123, rfl⟩
abbrev main_v113 : Ref sig .tc := ⟨.hbm, 124, rfl⟩
abbrev main_cst_6 : Ref sig .tc := ⟨.hbm, 125, rfl⟩
abbrev main_v114 : Ref sig .tc := ⟨.hbm, 126, rfl⟩
abbrev main_v115 : Ref sig .tc := ⟨.hbm, 127, rfl⟩
abbrev main_v116 : Ref sig .tc := ⟨.hbm, 128, rfl⟩
abbrev main_v117 : Ref sig .tc := ⟨.hbm, 129, rfl⟩
abbrev main_v118 : Ref sig .tc := ⟨.hbm, 130, rfl⟩
abbrev main_v119 : Ref sig .tc := ⟨.hbm, 131, rfl⟩
abbrev main_v120 : Ref sig .tc := ⟨.hbm, 132, rfl⟩
abbrev main_v121 : Ref sig .tc := ⟨.hbm, 133, rfl⟩
abbrev main_v122 : Ref sig .tc := ⟨.hbm, 134, rfl⟩
abbrev main_v123 : Ref sig .tc := ⟨.hbm, 135, rfl⟩
abbrev main_v124 : Ref sig .tc := ⟨.hbm, 136, rfl⟩
abbrev main_v125 : Ref sig .tc := ⟨.hbm, 137, rfl⟩
abbrev main_v126 : Ref sig .tc := ⟨.hbm, 138, rfl⟩
abbrev main_v127 : Ref sig .tc := ⟨.hbm, 139, rfl⟩
abbrev main_v128 : Ref sig .tc := ⟨.hbm, 140, rfl⟩
abbrev main_v129 : Ref sig .tc := ⟨.hbm, 141, rfl⟩
abbrev main_v130 : Ref sig .tc := ⟨.hbm, 142, rfl⟩
abbrev main_v131 : Ref sig .tc := ⟨.hbm, 143, rfl⟩
abbrev main_v132 : Ref sig .tc := ⟨.hbm, 144, rfl⟩
abbrev main_v133 : Ref sig .tc := ⟨.hbm, 145, rfl⟩
abbrev main_v134 : Ref sig .tc := ⟨.hbm, 146, rfl⟩
abbrev main_v135 : Ref sig .tc := ⟨.hbm, 147, rfl⟩
abbrev main_v136 : Ref sig .tc := ⟨.hbm, 148, rfl⟩
abbrev main_v137 : Ref sig .tc := ⟨.hbm, 149, rfl⟩
abbrev main_v138 : Ref sig .tc := ⟨.hbm, 150, rfl⟩
abbrev main_v139 : Ref sig .tc := ⟨.hbm, 151, rfl⟩
abbrev main_v140 : Ref sig .tc := ⟨.hbm, 152, rfl⟩
abbrev main_v141 : Ref sig .tc := ⟨.hbm, 153, rfl⟩
abbrev main_v142 : Ref sig .tc := ⟨.hbm, 154, rfl⟩
abbrev main_v143 : Ref sig .tc := ⟨.hbm, 155, rfl⟩
abbrev main_v144 : Ref sig .tc := ⟨.hbm, 156, rfl⟩
abbrev main_v145 : Ref sig .tc := ⟨.hbm, 157, rfl⟩
abbrev main_v146 : Ref sig .tc := ⟨.hbm, 158, rfl⟩
abbrev main_v147 : Ref sig .tc := ⟨.hbm, 159, rfl⟩
abbrev main_v148 : Ref sig .tc := ⟨.hbm, 160, rfl⟩
abbrev main_v149 : Ref sig .tc := ⟨.hbm, 161, rfl⟩
abbrev main_v150 : Ref sig .tc := ⟨.hbm, 162, rfl⟩
abbrev main_v151 : Ref sig .tc := ⟨.hbm, 163, rfl⟩
abbrev main_v152 : Ref sig .tc := ⟨.hbm, 164, rfl⟩
abbrev main_v153 : Ref sig .tc := ⟨.hbm, 165, rfl⟩
abbrev main_v154 : Ref sig .tc := ⟨.hbm, 166, rfl⟩
abbrev main_v155 : Ref sig .tc := ⟨.hbm, 167, rfl⟩
abbrev main_v156 : Ref sig .tc := ⟨.hbm, 168, rfl⟩
abbrev main_v157 : Ref sig .tc := ⟨.hbm, 169, rfl⟩
abbrev main_v158 : Ref sig .tc := ⟨.hbm, 170, rfl⟩
abbrev main_v159 : Ref sig .tc := ⟨.hbm, 171, rfl⟩
abbrev main_v160 : Ref sig .tc := ⟨.hbm, 172, rfl⟩
abbrev main_v161 : Ref sig .tc := ⟨.hbm, 173, rfl⟩
abbrev main_v162 : Ref sig .tc := ⟨.hbm, 174, rfl⟩
abbrev main_v163 : Ref sig .tc := ⟨.hbm, 175, rfl⟩
abbrev main_cst_7 : Ref sig .tc := ⟨.hbm, 176, rfl⟩
abbrev main_v164 : Ref sig .tc := ⟨.hbm, 177, rfl⟩
abbrev main_v165 : Ref sig .tc := ⟨.hbm, 178, rfl⟩
abbrev main_v166 : Ref sig .tc := ⟨.hbm, 179, rfl⟩

abbrev nD : Nat := 1
abbrev τ : Topo := Topo.v7x

variable {F : FTy → Type} [FloatOps F]
-- ==== KernelMixOut.lean ====
abbrev S2x2304x1024 : Shape := ⟨3, ![2, 2304, 1024]⟩
abbrev S2x2304x256 : Shape := ⟨3, ![2, 2304, 256]⟩
abbrev S2x2304x512 : Shape := ⟨3, ![2, 2304, 512]⟩
abbrev S1x512 : Shape := ⟨2, ![1, 512]⟩
abbrev S1x256 : Shape := ⟨2, ![1, 256]⟩
abbrev S2x2x3x1024 : Shape := ⟨4, ![2, 2, 3, 1024]⟩
abbrev S1024x1024 : Shape := ⟨2, ![1024, 1024]⟩
abbrev S1x1024x1024 : Shape := ⟨3, ![1, 1024, 1024]⟩
abbrev S1x256x1024 : Shape := ⟨3, ![1, 256, 1024]⟩
abbrev S1x256x256 : Shape := ⟨3, ![1, 256, 256]⟩
abbrev S1x256x512 : Shape := ⟨3, ![1, 256, 512]⟩
abbrev S1x1x3x1024 : Shape := ⟨4, ![1, 1, 3, 1024]⟩
abbrev S256x256 : Shape := ⟨2, ![256, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S256x1024 : Shape := ⟨2, ![256, 1024]⟩
abbrev S1x1x1x1024 : Shape := ⟨4, ![1, 1, 1, 1024]⟩
abbrev S1x1024 : Shape := ⟨2, ![1, 1024]⟩

abbrev nBuf : Space → Nat
  | .hbm => 15
  | .vmem => 22
  | .smem => 0
  | _ => 0

abbrev bufTy : (tb : Table) → Fin (tcTables nBuf tb) → BufTy
  | .hbm, ⟨0, _⟩ => ⟨S2x2304x1024, .f32⟩
  | .hbm, ⟨1, _⟩ => ⟨S2x2304x256, .f32⟩
  | .hbm, ⟨2, _⟩ => ⟨S2x2304x512, .f32⟩
  | .hbm, ⟨3, _⟩ => ⟨S2x2304x512, .f32⟩
  | .hbm, ⟨4, _⟩ => ⟨S2x2304x512, .f32⟩
  | .hbm, ⟨5, _⟩ => ⟨S2x2304x256, .f32⟩
  | .hbm, ⟨6, _⟩ => ⟨S1x512, .f32⟩
  | .hbm, ⟨7, _⟩ => ⟨S1x256, .f32⟩
  | .hbm, ⟨8, _⟩ => ⟨S1x256, .f32⟩
  | .hbm, ⟨9, _⟩ => ⟨S2x2x3x1024, .f32⟩
  | .hbm, ⟨10, _⟩ => ⟨S1024x1024, .f32⟩
  | .hbm, ⟨11, _⟩ => ⟨S1024x1024, .bf16⟩
  | .hbm, ⟨12, _⟩ => ⟨S1x1024x1024, .bf16⟩
  | .hbm, ⟨13, _⟩ => ⟨S2x2304x1024, .f32⟩
  | .hbm, ⟨14, _⟩ => ⟨S2x2304x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x256, .f32⟩
  | .local _ .vmem, ⟨3, _⟩ => ⟨S1x256x256, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x256, .f32⟩
  | .local _ .vmem, ⟨11, _⟩ => ⟨S1x256x256, .f32⟩
  | .local _ .vmem, ⟨12, _⟩ => ⟨S1x512, .f32⟩
  | .local _ .vmem, ⟨13, _⟩ => ⟨S1x256, .f32⟩
  | .local _ .vmem, ⟨14, _⟩ => ⟨S1x256, .f32⟩
  | .local _ .vmem, ⟨15, _⟩ => ⟨S1x1x3x1024, .f32⟩
  | .local _ .vmem, ⟨16, _⟩ => ⟨S1x1x3x1024, .f32⟩
  | .local _ .vmem, ⟨17, _⟩ => ⟨S1x1024x1024, .bf16⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S2x2304x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2_0 : Ref sig .tc := ⟨.hbm, 13, rfl⟩
abbrev main_v2_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![2, 9], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![arg0.toNat, v0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x1x3x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 1 → Memref sig .tc .vmem S1x1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== RefMixOutIdeal.lean ====
abbrev S2x2304x1024 : Shape := ⟨3, ![2, 2304, 1024]⟩
abbrev S2x2304x256 : Shape := ⟨3, ![2, 2304, 256]⟩
abbrev S2x2304x512 : Shape := ⟨3, ![2, 2304, 512]⟩
abbrev S1x512 : Shape := ⟨2, ![1, 512]⟩
abbrev S1x256 : Shape := ⟨2, ![1, 256]⟩
abbrev S2x2x3x1024 : Shape := ⟨4, ![2, 2, 3, 1024]⟩
abbrev S1024x1024 : Shape := ⟨2, ![1024, 1024]⟩
abbrev S2x1x3x1024 : Shape := ⟨4, ![2, 1, 3, 1024]⟩
abbrev S2x256x3x1024 : Shape := ⟨4, ![2, 256, 3, 1024]⟩
abbrev S2x2048x3x1024 : Shape := ⟨4, ![2, 2048, 3, 1024]⟩
abbrev S2x2304x3x1024 : Shape := ⟨4, ![2, 2304, 3, 1024]⟩
abbrev S2x2304x1x1024 : Shape := ⟨4, ![2, 2304, 1, 1024]⟩
abbrev S2x2304x4x128 : Shape := ⟨4, ![2, 2304, 4, 128]⟩
abbrev S_ : Shape := ⟨0, ![]⟩
abbrev S2x2304x4 : Shape := ⟨3, ![2, 2304, 4]⟩
abbrev S2x2304x4x1 : Shape := ⟨4, ![2, 2304, 4, 1]⟩
abbrev S1x1x512 : Shape := ⟨3, ![1, 1, 512]⟩
abbrev S2x2304 : Shape := ⟨2, ![2, 2304]⟩
abbrev S2x2304x1 : Shape := ⟨3, ![2, 2304, 1]⟩
abbrev S1x1x256 : Shape := ⟨3, ![1, 1, 256]⟩

abbrev nBuf : Space → Nat
  | .hbm => 103
  | .vmem => 0
  | .smem => 0
  | _ => 0

abbrev bufTy : (tb : Table) → Fin (tcTables nBuf tb) → BufTy
  | .hbm, ⟨0, _⟩ => ⟨S2x2304x1024, .f32⟩
  | .hbm, ⟨1, _⟩ => ⟨S2x2304x256, .f32⟩
  | .hbm, ⟨2, _⟩ => ⟨S2x2304x512, .f32⟩
  | .hbm, ⟨3, _⟩ => ⟨S2x2304x512, .f32⟩
  | .hbm, ⟨4, _⟩ => ⟨S2x2304x512, .f32⟩
  | .hbm, ⟨5, _⟩ => ⟨S2x2304x256, .f32⟩
  | .hbm, ⟨6, _⟩ => ⟨S1x512, .f32⟩
  | .hbm, ⟨7, _⟩ => ⟨S1x256, .f32⟩
  | .hbm, ⟨8, _⟩ => ⟨S1x256, .f32⟩
  | .hbm, ⟨9, _⟩ => ⟨S2x2x3x1024, .f32⟩
  | .hbm, ⟨10, _⟩ => ⟨S1024x1024, .f32⟩
  | .hbm, ⟨11, _⟩ => ⟨S2x1x3x1024, .f32⟩
  | .hbm, ⟨12, _⟩ => ⟨S2x256x3x1024, .f32⟩
  | .hbm, ⟨13, _⟩ => ⟨S2x1x3x1024, .f32⟩
  | .hbm, ⟨14, _⟩ => ⟨S2x2048x3x1024, .f32⟩
  | .hbm, ⟨15, _⟩ => ⟨S2x2304x3x1024, .f32⟩
  | .hbm, ⟨16, _⟩ => ⟨S2x2304x1x1024, .f32⟩
  | .hbm, ⟨17, _⟩ => ⟨S2x2304x1024, .f32⟩
  | .hbm, ⟨18, _⟩ => ⟨S2x2304x1x1024, .f32⟩
  | .hbm, ⟨19, _⟩ => ⟨S2x2304x1024, .f32⟩
  | .hbm, ⟨20, _⟩ => ⟨S2x2304x1x1024, .f32⟩
  | .hbm, ⟨21, _⟩ => ⟨S2x2304x1024, .f32⟩
  | .hbm, ⟨22, _⟩ => ⟨S2x2304x512, .f32⟩
  | .hbm, ⟨23, _⟩ => ⟨S2x2304x4x128, .f32⟩
  | .hbm, ⟨24, _⟩ => ⟨S_, .f32⟩
  | .hbm, ⟨25, _⟩ => ⟨S2x2304x4, .f32⟩
  | .hbm, ⟨26, _⟩ => ⟨S2x2304x4x1, .f32⟩
  | .hbm, ⟨27, _⟩ => ⟨S_, .f32⟩
  | .hbm, ⟨28, _⟩ => ⟨S2x2304x4x1, .f32⟩
  | .hbm, ⟨29, _⟩ => ⟨S2x2304x4x1, .f32⟩
  | .hbm, ⟨30, _⟩ => ⟨S2x2304x4x128, .f32⟩
  | .hbm, ⟨31, _⟩ => ⟨S2x2304x4x128, .f32⟩
  | .hbm, ⟨32, _⟩ => ⟨S2x2304x4x128, .f32⟩
  | .hbm, ⟨33, _⟩ => ⟨S_, .f32⟩
  | .hbm, ⟨34, _⟩ => ⟨S2x2304x4, .f32⟩
  | .hbm, ⟨35, _⟩ => ⟨S2x2304x4x1, .f32⟩
  | .hbm, ⟨36, _⟩ => ⟨S_, .f32⟩
  | .hbm, ⟨37, _⟩ => ⟨S2x2304x4x1, .f32⟩
  | .hbm, ⟨38, _⟩ => ⟨S2x2304x4x1, .f32⟩
  | .hbm, ⟨39, _⟩ => ⟨S2x2304x4x128, .f32⟩
  | .hbm, ⟨40, _⟩ => ⟨S2x2304x4x128, .f32⟩
  | .hbm, ⟨41, _⟩ => ⟨S_, .f32⟩
  | .hbm, ⟨42, _⟩ => ⟨S2x2304x4x1, .f32⟩
  | .hbm, ⟨43, _⟩ => ⟨S2x2304x4x1, .f32⟩
  | .hbm, ⟨44, _⟩ => ⟨S2x2304x4x1, .f32⟩
  | .hbm, ⟨45, _⟩ => ⟨S2x2304x4x128, .f32⟩
  | .hbm, ⟨46, _⟩ => ⟨S2x2304x4x128, .f32⟩
  | .hbm, ⟨47, _⟩ => ⟨S2x2304x512, .f32⟩
  | .hbm, ⟨48, _⟩ => ⟨S1x1x512, .f32⟩
  | .hbm, ⟨49, _⟩ => ⟨S2x2304x512, .f32⟩
  | .hbm, ⟨50, _⟩ => ⟨S2x2304x512, .f32⟩
  | .hbm, ⟨51, _⟩ => ⟨S2x2304x512, .f32⟩
  | .hbm, ⟨52, _⟩ => ⟨S2x2304x512, .f32⟩
  | .hbm, ⟨53, _⟩ => ⟨S_, .f32⟩
  | .hbm, ⟨54, _⟩ => ⟨S2x2304x512, .f32⟩
  | .hbm, ⟨55, _⟩ => ⟨S2x2304x512, .f32⟩
  | .hbm, ⟨56, _⟩ => ⟨S_, .f32⟩
  | .hbm, ⟨57, _⟩ => ⟨S2x2304x512, .f32⟩
  | .hbm, ⟨58, _⟩ => ⟨S2x2304x512, .f32⟩
  | .hbm, ⟨59, _⟩ => ⟨S2x2304x512, .f32⟩
  | .hbm, ⟨60, _⟩ => ⟨S2x2304x512, .f32⟩
  | .hbm, ⟨61, _⟩ => ⟨S_, .f32⟩
  | .hbm, ⟨62, _⟩ => ⟨S2x2304, .f32⟩
  | .hbm, ⟨63, _⟩ => ⟨S2x2304x1, .f32⟩
  | .hbm, ⟨64, _⟩ => ⟨S_, .f32⟩
  | .hbm, ⟨65, _⟩ => ⟨S2x2304x1, .f32⟩
  | .hbm, ⟨66, _⟩ => ⟨S2x2304x1, .f32⟩
  | .hbm, ⟨67, _⟩ => ⟨S2x2304x256, .f32⟩
  | .hbm, ⟨68, _⟩ => ⟨S2x2304x256, .f32⟩
  | .hbm, ⟨69, _⟩ => ⟨S2x2304x256, .f32⟩
  | .hbm, ⟨70, _⟩ => ⟨S_, .f32⟩
  | .hbm, ⟨71, _⟩ => ⟨S2x2304, .f32⟩
  | .hbm, ⟨72, _⟩ => ⟨S2x2304x1, .f32⟩
  | .hbm, ⟨73, _⟩ => ⟨S_, .f32⟩
  | .hbm, ⟨74, _⟩ => ⟨S2x2304x1, .f32⟩
  | .hbm, ⟨75, _⟩ => ⟨S2x2304x1, .f32⟩
  | .hbm, ⟨76, _⟩ => ⟨S2x2304x256, .f32⟩
  | .hbm, ⟨77, _⟩ => ⟨S2x2304x256, .f32⟩
  | .hbm, ⟨78, _⟩ => ⟨S_, .f32⟩
  | .hbm, ⟨79, _⟩ => ⟨S2x2304x1, .f32⟩
  | .hbm, ⟨80, _⟩ => ⟨S2x2304x1, .f32⟩
  | .hbm, ⟨81, _⟩ => ⟨S2x2304x1, .f32⟩
  | .hbm, ⟨82, _⟩ => ⟨S2x2304x256, .f32⟩
  | .hbm, ⟨83, _⟩ => ⟨S2x2304x256, .f32⟩
  | .hbm, ⟨84, _⟩ => ⟨S1x1x256, .f32⟩
  | .hbm, ⟨85, _⟩ => ⟨S2x2304x256, .f32⟩
  | .hbm, ⟨86, _⟩ => ⟨S2x2304x256, .f32⟩
  | .hbm, ⟨87, _⟩ => ⟨S1x1x256, .f32⟩
  | .hbm, ⟨88, _⟩ => ⟨S2x2304x256, .f32⟩
  | .hbm, ⟨89, _⟩ => ⟨S2x2304x256, .f32⟩
  | .hbm, ⟨90, _⟩ => ⟨S2x2304x256, .f32⟩
  | .hbm, ⟨91, _⟩ => ⟨S2x2304x256, .f32⟩
  | .hbm, ⟨92, _⟩ => ⟨S_, .f32⟩
  | .hbm, ⟨93, _⟩ => ⟨S2x2304x256, .f32⟩
  | .hbm, ⟨94, _⟩ => ⟨S2x2304x256, .f32⟩
  | .hbm, ⟨95, _⟩ => ⟨S_, .f32⟩
  | .hbm, ⟨96, _⟩ => ⟨S2x2304x256, .f32⟩
  | .hbm, ⟨97, _⟩ => ⟨S2x2304x256, .f32⟩
  | .hbm, ⟨98, _⟩ => ⟨S2x2304x256, .f32⟩
  | .hbm, ⟨99, _⟩ => ⟨S2x2304x1024, .f32⟩
  | .hbm, ⟨100, _⟩ => ⟨S2x2304x1024, .f32⟩
  | .hbm, ⟨101, _⟩ => ⟨S2x2304x1024, .f32⟩
  | .hbm, ⟨102, _⟩ => ⟨S2x2304x1024, .f32⟩
  | _, _ => ⟨S2x2304x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v35 : Ref sig .tc := ⟨.hbm, 59, rfl⟩
abbrev main_v36 : Ref sig .tc := ⟨.hbm, 60, rfl⟩
abbrev main_cst_4 : Ref sig .tc := ⟨.hbm, 61, rfl⟩
abbrev main_v37 : Ref sig .tc := ⟨.hbm, 62, rfl⟩
abbrev main_v38 : Ref sig .tc := ⟨.hbm, 63, rfl⟩
abbrev main_cst_5 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_6 : Ref sig .tc := ⟨.hbm, 70, rfl⟩
abbrev main_v44 : Ref sig .tc := ⟨.hbm, 71, rfl⟩
abbrev main_v45 : Ref sig .tc := ⟨.hbm, 72, rfl⟩
abbrev main_cst_7 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst_8 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_call1_v0 : Ref sig .tc := ⟨.hbm, 90, rfl⟩
abbrev main_call1_v1 : Ref sig .tc := ⟨.hbm, 91, rfl⟩
abbrev main_call1_cst : Ref sig .tc := ⟨.hbm, 92, rfl⟩
abbrev main_call1_v2 : Ref sig .tc := ⟨.hbm, 93, rfl⟩
abbrev main_call1_v3 : Ref sig .tc := ⟨.hbm, 94, rfl⟩
abbrev main_call1_cst_0 : Ref sig .tc := ⟨.hbm, 95, rfl⟩
abbrev main_call1_v4 : Ref sig .tc := ⟨.hbm, 96, rfl⟩
abbrev main_call1_v5 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩

abbrev nD : Nat := 1
abbrev τ : Topo := Topo.v7x

variable {F : FTy → Type} [FloatOps F]
-- ==== Proof.WgradArr.lean ====
/- The weight-gradient kernel's result: a product over all tokens, accumulated a block of tokens at a time. -/
module

public import proofs.«01_k».proof.Proof.Gen.KernelWgradIdeal.Value
public import Idealize.ShloMosaic.Lib.Pointwise
public import Idealize.ShloMosaic.Lib.Pipeline.ValueKit

@[expose] public section

set_option maxRecDepth 16384

noncomputable section

namespace Cert.KernelWgradIdeal.Arr

open Cert.KernelWgradIdeal Cert.KernelWgradIdeal.Gen Idealize.ShloMosaic Idealize.ShloMosaic.TcCoe Idealize.ShloMosaic.Tactic

/-! ## One point -/

section Point

variable {F : FTy → Type} [FloatOps F]

/-- A whole block read back from a buffer holding it is that block. -/
theorem readAt_whole {S : Shape} {e : EltTy} {a : Memref sig .tc .vmem S e} (h : a.IsWhole) (x : Vec F S e)
    {off : Fin S.rank → Nat} (inb : ∀ k, off k + S.size k ≤ S.size k) (h0 : ∀ k, off k = 0) :
    View.readAt (Elt F) a.view (Rect.unit off S.size inb).toLoadRect (h.unread x) = x := by
  show View.ld (a.view.read (Elt F) (h.unread x)) (Rect.unit off S.size inb) = x
  rw [h.read_unread]
  exact View.ld_unit_lit inb x h0

variable (c : Dev nD) (i : grid0.Coords) (a2 : Memref sig .tc .vmem S1152x2816 .bf16) (h2 : a2.IsWhole)
  (a3 : Memref sig .tc .vmem S1152x1024 .bf16) (h3 : a3.IsWhole) (a4 : Memref sig .tc .vmem S2816x1024 .bf16) (h4 : a4.IsWhole)
  (a5 : Memref sig .tc .vmem S2816x1024 .f32) (h5 : a5.IsWhole)
  (x0 : Vec F S1152x2816 .bf16) (x1 : Vec F S1152x1024 .bf16) (y : Vec F S2816x1024 .f32)

/-- The first point keeps its block's product. -/
theorem sum_A (k0 : cond0_0 i) (k1 : ¬cond0_1 i) (k2 : ¬cond0_2 i) :
    sout0_A_0 c i a2 h2 a3 h3 a4 h4 a5 h5 k0 k1 k2 x0 x1 = k0_pay2 x0 x1 := by
  refine (View.read_writes_eq_canon VS0_0 _ _ (scover0_A_0 c i a2 h2 a3 h3 a4 h4 a5 h5 k0 k1 k2 x0 x1)).trans ?_
  unfold kernelRun0_A
  dsimp only
  refine (View.canon_cons_unit_lit _ _ _ (by decide)).trans ?_
  exact congrArg₂ _ (readAt_whole h2 x0 _ (by decide)) (readAt_whole h3 x1 _ (by decide))
/-- A later one adds its own to what is kept. -/
theorem sum_B (k0 : ¬cond0_0 i) (k1 : cond0_1 i) (k2 : ¬cond0_2 i) :
    sout0_B_0 c i a2 h2 a3 h3 a4 h4 a5 h5 k0 k1 k2 x0 x1 y = k0_pay3 x0 x1 y := by
  refine (View.read_writes_eq_canon VS0_0 _ _ (scover0_B_0 c i a2 h2 a3 h3 a4 h4 a5 h5 k0 k1 k2 x0 x1 y)).trans ?_
  unfold kernelRun0_B
  dsimp only
  refine (View.canon_cons_unit_lit _ _ _ (by decide)).trans ?_
  exact congr (congrArg₂ _ (readAt_whole h2 x0 _ (by decide)) (readAt_whole h3 x1 _ (by decide))) (readAt_whole h5 y _ (by decide))
/-- The last one writes out what it has then kept. -/
theorem out_C (k0 : ¬cond0_0 i) (k1 : cond0_1 i) (k2 : cond0_2 i) :
    out0_C_2 c i a2 h2 a3 h3 a4 h4 a5 h5 k0 k1 k2 x0 x1 y = k0_pay4 (k0_pay3 x0 x1 y) := by
  refine (View.read_writes_eq_canon VO0_2 _ _ (cover0_C_2 c i a2 h2 a3 h3 a4 h4 a5 h5 k0 k1 k2 x0 x1 y)).trans ?_
  unfold kernelRun0_C
  dsimp only
  refine (View.canon_cons_unit_lit _ _ _ (by decide)).trans ?_
  refine congrArg k0_pay4 ?_
  unfold kernelRun0_C.sl.v12
  refine (View.readCov_unit_lit _ _ _ (by decide)).trans ?_
  exact congr (congrArg₂ _ (readAt_whole h2 x0 _ (by decide)) (readAt_whole h3 x1 _ (by decide))) (readAt_whole h5 y _ (by decide))

end Point

/-! ## Over the extended reals -/

theorem first_at (x0 : Vec Ideal S1152x2816 .bf16) (x1 : Vec Ideal S1152x1024 .bf16) (f : Fin 2816) (d : Fin 1024) :
    k0_pay2 x0 x1 (ix2 f d) = ∑ k : Fin 1152, x0 (ix2 k f) * x1 (ix2 k d) := by
  pointwise [k0_pay2, k0_pay1]
theorem next_at (x0 : Vec Ideal S1152x2816 .bf16) (x1 : Vec Ideal S1152x1024 .bf16) (y : Vec Ideal S2816x1024 .f32) (f : Fin 2816) (d : Fin 1024) :
    k0_pay3 x0 x1 y (ix2 f d) = y (ix2 f d) + ∑ k : Fin 1152, x0 (ix2 k f) * x1 (ix2 k d) := by
  pointwise [k0_pay3, k0_pay1]
theorem last_at (y : Vec Ideal S2816x1024 .f32) (f : Fin 2816) (d : Fin 1024) : k0_pay4 y (ix2 f d) = y (ix2 f d) := by
  pointwise [k0_pay4]

/-! ## Over the grid -/

variable (m : (ℓ : Loc nD τ sig) → Buf (Elt Ideal) ℓ) (c : Dev nD)

/-- The two operands, and the place of a token of a block among all tokens. -/
abbrev U : Vec Ideal S4608x2816 .bf16 := m ((c : Thread nD τ).loc main_arg0)
abbrev X : Vec Ideal S4608x1024 .bf16 := m ((c : Thread nD τ).loc main_arg1)
def tok (t : Fin 4) (k : Fin 1152) : Fin 4608 := ⟨1152 * t.val + k.val, by omega⟩

theorem idx0 : ∀ t, win0_0.index t = ![t.val, 0] := (by decide +kernel : ∀ t : Fin grid0.N, _)
theorem idx1 : ∀ t, win0_1.index t = ![t.val, 0] := (by decide +kernel : ∀ t : Fin grid0.N, _)

theorem U_blk (t : Fin cfg0.N) (k : Fin 1152) (f : Fin 2816) :
    iblk m c 0 t (ix2 k f) = U m c (ix2 (tok t k) f) := by
  show V m c main_arg0 ((win0_0.blk t).view.emb (ix2 k f)) = _
  rw [V_main_arg0]
  congr 1
  blk_ext [idx0, tok]
theorem X_blk (t : Fin cfg0.N) (k : Fin 1152) (d : Fin 1024) :
    iblk m c 1 t (ix2 k d) = X m c (ix2 (tok t k) d) := by
  show V m c main_arg1 ((win0_1.blk t).view.emb (ix2 k d)) = _
  rw [V_main_arg1]
  congr 1
  blk_ext [idx1, tok]

/-- One block's part of an entry of the product. -/
def part (t : Fin 4) (f : Fin 2816) (d : Fin 1024) : EReal := ∑ k : Fin 1152, U m c (ix2 (tok t k) f) * X m c (ix2 (tok t k) d)

/-- All tokens' part is the blocks' parts, added up. -/
theorem part_sum (f : Fin 2816) (d : Fin 1024) :
    part m c 0 f d + part m c 1 f d + part m c 2 f d + part m c 3 f d = ∑ k : Fin 4608, U m c (ix2 k f) * X m c (ix2 k d) := by
  rw [← (finProdFinEquiv (m := 4) (n := 1152)).sum_comp, Fintype.sum_prod_type, Fin.sum_univ_four]
  have h : ∀ t : Fin 4, part m c t f d = ∑ k : Fin 1152, U m c (ix2 (finProdFinEquiv (t, k)) f) * X m c (ix2 (finProdFinEquiv (t, k)) d) := fun t => by
    refine Finset.sum_congr rfl fun k _ => ?_
    have e : tok t k = finProdFinEquiv (t, k) := Fin.ext (by simp [tok, finProdFinEquiv, add_comm])
    rw [e]
  rw [h, h, h, h]

/-- The result array: the product over all tokens. -/
theorem result (f : Fin 2816) (d : Fin 1024) :
    (dats m 0 c).arrAt 2 cfg0.N (ix2 f d) = ∑ k : Fin 4608, U m c (ix2 k f) * X m c (ix2 k d) := by
  rw [Value.final2, Value.G2_last, ← part_sum]
  have e0 := Value.stAt0_A m c ⟨0, by decide⟩ Value.junk0 (by decide) (by decide) (by decide)
  have e1 := fun acc => Value.stAt0_B m c ⟨1, by decide⟩ acc (by decide) (by decide) (by decide)
  have e2 := fun acc => Value.stAt0_B m c ⟨2, by decide⟩ acc (by decide) (by decide) (by decide)
  have e3 := fun acc => Value.stAt0_C m c ⟨3, by decide⟩ acc (by decide) (by decide) (by decide)
  simp only [sum_A, sum_B, out_C] at e0 e1 e2 e3
  refine (congrFun (congrArg Prod.fst (e3 _)) _).trans ?_
  refine (last_at _ f d).trans ((next_at _ _ _ f d).trans (congrArg₂ _ ?_ ?_))
  · refine (congrFun (congrArg Prod.snd (e2 _)) _).trans ((next_at _ _ _ f d).trans (congrArg₂ _ ?_ ?_))
    · refine (congrFun (congrArg Prod.snd (e1 _)) _).trans ((next_at _ _ _ f d).trans (congrArg₂ _ ?_ ?_))
      · refine (congrFun (congrArg Prod.snd e0) _).trans ((first_at _ _ f d).trans ?_)
        exact Finset.sum_congr rfl fun k _ => congrArg₂ _ (U_blk m c _ k f) (X_blk m c _ k d)
      · exact Finset.sum_congr rfl fun k _ => congrArg₂ _ (U_blk m c _ k f) (X_blk m c _ k d)
    · exact Finset.sum_congr rfl fun k _ => congrArg₂ _ (U_blk m c _ k f) (X_blk m c _ k d)
  · exact Finset.sum_congr rfl fun k _ => congrArg₂ _ (U_blk m c _ k f) (X_blk m c _ k d)

end Cert.KernelWgradIdeal.Arr
end
-- ==== Proof.WgradRef.lean ====
/- The reference's weight gradient, read entry by entry: a sum over all tokens. -/
module

public import proofs.«01_k».proof.Proof.Gen.RefWgradIdeal.Run
public import proofs.«01_k».proof.Proof.Gen.RefWgradIdeal.Read
public import Idealize.ShloMosaic.Lib.Pointwise

@[expose] public section

set_option maxRecDepth 16384

noncomputable section

namespace Cert.RefWgradIdeal.Arr

open Cert.RefWgradIdeal Cert.RefWgradIdeal.Read Idealize.ShloMosaic

theorem grad (x0 : Vec Ideal S4608x2816 .bf16) (x1 : Vec Ideal S4608x1024 .bf16) (f : Fin 2816) (d : Fin 1024) :
    val_main_v7 (F := Ideal) x0 x1 (ix2 f d) = ∑ k : Fin 4608, x0 (ix2 k f) * x1 (ix2 k d) := by
  pointwise [val_main_v7, val_main_v6, val_main_v5, val_main_v4, val_main_v3, val_main_v1]

end Cert.RefWgradIdeal.Arr
end
-- ==== Proof.FfnMath.lean ====
/- The feed-forward sublayer at one token, and its gradients, over the extended reals: a normalized and modulated token,
   two projections into the inner features, a gated product and a projection back. Nothing here mentions a program. -/
module

public import Idealize.ShloMosaic.PureOps.Ideal
public import Idealize.ShloMosaic.Lib.Pointwise

@[expose] public section

noncomputable section

namespace Cert.FeedForward

open Idealize.ShloMosaic

/-- A vector over a token's features, and a table of inner features by features. -/
abbrev Row := Fin 1024 → EReal
abbrev In := Fin 1024 → Fin 2816 → EReal
abbrev Out := Fin 2816 → Fin 1024 → EReal

/-- The mean square of a token plus a small number, its inverse root, and the token scaled by that. -/
def msq (z : Row) : EReal := Ideal.div (∑ x, z x * z x) (Ideal.ofBits FTy.f32 1149239296#32) + Ideal.ofBits FTy.f32 897988541#32
def rstd (z : Row) : EReal := Ideal.rsqrt (msq z)
def xhat (z : Row) (d : Fin 1024) : EReal := z d * rstd z

/-- The normalized and modulated token. -/
def hid (z g sh sc : Row) (d : Fin 1024) : EReal := xhat z d * g d * (1 + sc d) + sh d

/-- A projection, the gated product and the sublayer's output. -/
def proj (h : Row) (w : In) (f : Fin 2816) : EReal := ∑ d, h d * w d f
def act (h : Row) (w1 w3 : In) (f : Fin 2816) : EReal := proj h w1 f * Ideal.logistic (proj h w1 f) * proj h w3 f
def ffn (h : Row) (w1 w3 : In) (w2 : Out) (d : Fin 1024) : EReal := ∑ f, act h w1 w3 f * w2 f d

/-- The gradient of the output, of the gated product and of the two projections. -/
def dOut (gt ct : Row) (d : Fin 1024) : EReal := Ideal.ofBits FTy.f32 1056964608#32 * gt d * ct d
def dAct (e : Row) (w2 : Out) (f : Fin 2816) : EReal := ∑ d, e d * w2 f d
def dU3 (h e : Row) (w1 : In) (w2 : Out) (f : Fin 2816) : EReal := dAct e w2 f * (proj h w1 f * Ideal.logistic (proj h w1 f))
def dU1 (h e : Row) (w1 w3 : In) (w2 : Out) (f : Fin 2816) : EReal :=
  dAct e w2 f * proj h w3 f * (Ideal.logistic (proj h w1 f) * (1 + proj h w1 f * (1 - Ideal.logistic (proj h w1 f))))

/-- The gradient of the modulated token, of the normalized one before its gain, and of the token itself. -/
def dHid (h e : Row) (w1 w3 : In) (w2 : Out) (d : Fin 1024) : EReal :=
  ∑ f, dU1 h e w1 w3 w2 f * w1 d f + ∑ f, dU3 h e w1 w2 f * w3 d f
def dNorm (g sc dh : Row) (d : Fin 1024) : EReal := dh d * (1 + sc d) * g d
def drift (z dn : Row) : EReal :=
  Ideal.div ((∑ x, z x * dn x) * (Ideal.ofBits FTy.f32 3204448256#32 * Ideal.div (rstd z) (msq z))) (Ideal.ofBits FTy.f32 1149239296#32)
def dTok (z dn ct : Row) (d : Fin 1024) : EReal := ct d + (dn d * rstd z + z d * drift z dn + drift z dn * z d)

/-- One token's part of the gradients of the gain, the scale and the gate. -/
def dGain (z sc dh : Row) (d : Fin 1024) : EReal := xhat z d * (dh d * (1 + sc d))
def dScale (z g dh : Row) (d : Fin 1024) : EReal := xhat z d * g d * dh d
def dGate (o ct : Row) (d : Fin 1024) : EReal := Ideal.ofBits FTy.f32 1056964608#32 * o d * ct d

/-- A sum over the inner features, each half of them by itself. -/
theorem sum_halves (f : Fin 2816 → EReal) :
    ∑ x, f x = ∑ x : Fin 1408, f ⟨x.val, by omega⟩ + ∑ x : Fin 1408, f ⟨1408 + x.val, by omega⟩ :=
  Fin.sum_univ_add (a := 1408) (b := 1408) f

/-! ## All tokens

The modulation's first two rows: the context's tokens, which come first, and the latents'; its next index the shift, the
scale and the gate. -/

structure Args where
  z : Fin 2 → Fin 2304 → Row
  mod : Fin 2 → Fin 2 → Fin 3 → Row
  g : Row
  w1 : In
  w3 : In
  w2 : Out

/-- The arguments as the arrays that hold them. -/
def argsOf (z : (⟨3, ![2, 2304, 1024]⟩ : Shape).Idx → EReal) (mod : (⟨4, ![2, 2, 3, 1024]⟩ : Shape).Idx → EReal)
    (g : (⟨2, ![1, 1024]⟩ : Shape).Idx → EReal) (w1 w3 : (⟨2, ![1024, 2816]⟩ : Shape).Idx → EReal)
    (w2 : (⟨2, ![2816, 1024]⟩ : Shape).Idx → EReal) : Args where
  z b s d := z (ix3 b s d)
  mod b i k d := mod (ix4 b i k d)
  g d := g (ix2 0 d)
  w1 d f := w1 (ix2 d f)
  w3 d f := w3 (ix2 d f)
  w2 f d := w2 (ix2 f d)

/-- Which modulation a token takes. -/
def seg (s : Fin 2304) : Fin 2 := if s.val < 256 then 0 else 1

namespace Args

variable (A : Args) (ct : Fin 2 → Fin 2304 → Row) (b : Fin 2) (s : Fin 2304)

def sh : Row := A.mod b (seg s) 0
def sc : Row := A.mod b (seg s) 1
def gt : Row := A.mod b (seg s) 2
def h : Row := hid (A.z b s) A.g (A.sh b s) (A.sc b s)
def o : Row := ffn (A.h b s) A.w1 A.w3 A.w2
def y (d : Fin 1024) : EReal := A.z b s d + Ideal.ofBits FTy.f32 1056964608#32 * A.gt b s d * A.o b s d
def e : Row := dOut (A.gt b s) (ct b s)
def dh : Row := dHid (A.h b s) (A.e ct b s) A.w1 A.w3 A.w2
def dn : Row := dNorm A.g (A.sc b s) (A.dh ct b s)
def dz : Row := dTok (A.z b s) (A.dn ct b s) (ct b s)
def dgain : Row := dGain (A.z b s) (A.sc b s) (A.dh ct b s)
/-- One token's part of the modulation's gradient. -/
def dmod (k : Fin 3) : Row :=
  match k with
  | 0 => A.dh ct b s
  | 1 => dScale (A.z b s) A.g (A.dh ct b s)
  | 2 => dGate (A.o b s) (ct b s)
/-- The modulation's gradient: the tokens of the context, and those of the latents; and the gain's. -/
def dmods (j : Fin 2) (k : Fin 3) (d : Fin 1024) : EReal :=
  match j with
  | 0 => ∑ r : Fin 256, A.dmod ct b ⟨r.val, by omega⟩ k d
  | 1 => ∑ r : Fin 2048, A.dmod ct b ⟨256 + r.val, by omega⟩ k d
def dgains (d : Fin 1024) : EReal := ∑ b, ∑ s, A.dgain ct b s d

end Args

/-- Row `r` of a tile of tokens. -/
def tok (t : Fin 9) (r : Fin 256) : Fin 2304 := ⟨256 * t.val + r.val, by omega⟩

theorem seg_tok (t : Fin 9) (r : Fin 256) : (seg (tok t r)).val = min t.val 1 := by
  unfold seg tok
  split <;> rename_i h <;> simp only [] at h ⊢ <;> simp <;> omega

/-- A sum over the tokens, tile by tile. -/
theorem sum_tiles (f : Fin 2304 → EReal) : ∑ t, ∑ r, f (tok t r) = ∑ s, f s := by
  refine (Fintype.sum_prod_type' fun t r => f (tok t r)).symm.trans ?_
  refine Fintype.sum_equiv (finProdFinEquiv (m := 9) (n := 256)) _ _ fun x => congrArg f (Fin.ext ?_)
  show 256 * x.1.val + x.2.val = x.2.val + 256 * x.1.val
  omega
theorem sum_late (f : Fin 2304 → EReal) : ∑ t : Fin 8, ∑ r, f (tok t.succ r) = ∑ r : Fin 2048, f ⟨256 + r.val, by omega⟩ := by
  refine (Fintype.sum_prod_type' fun (t : Fin 8) r => f (tok t.succ r)).symm.trans ?_
  refine Fintype.sum_equiv (finProdFinEquiv (m := 8) (n := 256)) _ _ fun x => congrArg f (Fin.ext ?_)
  show 256 * (x.1.val + 1) + x.2.val = 256 + (x.2.val + 256 * x.1.val)
  omega
theorem sum_early (f : Fin 2304 → EReal) : ∑ r, f (tok 0 r) = ∑ r : Fin 256, f ⟨r.val, by omega⟩ :=
  Finset.sum_congr rfl fun r _ => congrArg f (Fin.ext (by show 256 * 0 + r.val = r.val; omega))

end Cert.FeedForward
end
-- ==== Proof.FfnFwdArr.lean ====
/- The feed-forward kernel's two result arrays: the sublayer's output and its inner product, token by token. -/
module

public import proofs.«01_k».proof.Proof.FfnMath
public import proofs.«01_k».proof.Proof.Gen.KernelFfnFwdIdeal.Value
public import Idealize.ShloMosaic.Lib.Pipeline.ValueKit

@[expose] public section

set_option maxRecDepth 16384

noncomputable section

namespace Cert.KernelFfnFwdIdeal.Arr

open Cert.KernelFfnFwdIdeal Cert.KernelFfnFwdIdeal.Gen Cert.FeedForward Idealize.ShloMosaic Idealize.ShloMosaic.TcCoe

/-! ## One tile of tokens -/

section Tile

/-- The hidden tile, from the loaded vectors: the tokens, the gain, the shift and the scale. -/
theorem hid_at (P0 : Vec Ideal S1x256x1024 .f32) (P2 : Vec Ideal S1x1024 .f32) (P3 P5 : Vec Ideal S1x1x1x1024 .f32) (r : Fin 256) (d : Fin 1024) :
    k0_pay3 P0 P2 P3 P5 (ix2 r d)
      = hid (fun d => P0 (ix3 0 r d)) (fun d => P2 (ix2 0 d)) (fun d => P3 (ix4 0 0 0 d)) (fun d => P5 (ix4 0 0 0 d)) d := by
  pointwise [k0_pay3, k0_pay2]
  rfl

/-- The inner product, each half of the inner features by itself. -/
theorem inner_at (P0 : Vec Ideal S1x256x1024 .f32) (P2 : Vec Ideal S1x1024 .f32) (P3 P5 : Vec Ideal S1x1x1x1024 .f32)
    (Q1 Q3 Q2 R1 R3 R2 : Vec Ideal S1x1408x1024 .bf16) (h : Row) (w1 w3 : In) (w2 : Out) (r : Fin 256)
    (hh : ∀ d, k0_pay3 P0 P2 P3 P5 (ix2 r d) = h d)
    (q1 : ∀ f d, Q1 (ix3 0 f d) = w1 d ⟨f.val, by omega⟩) (q3 : ∀ f d, Q3 (ix3 0 f d) = w3 d ⟨f.val, by omega⟩)
    (q2 : ∀ f d, Q2 (ix3 0 f d) = w2 ⟨f.val, by omega⟩ d) (r1 : ∀ f d, R1 (ix3 0 f d) = w1 d ⟨1408 + f.val, by omega⟩)
    (r3 : ∀ f d, R3 (ix3 0 f d) = w3 d ⟨1408 + f.val, by omega⟩) (r2 : ∀ f d, R2 (ix3 0 f d) = w2 ⟨1408 + f.val, by omega⟩ d) (d : Fin 1024) :
    k0_pay7 (k0_pay3 P0 P2 P3 P5) k0_pay4 (k0_pay5 P0 P2 P3 P5 Q1) (k0_pay6 Q3) (constant S256x1408 .f32 0x00000000#32) Q2 R1 R3 R2 (ix2 r d)
      = ffn h w1 w3 w2 d := by
  unfold ffn
  rw [sum_halves]
  pointwise [k0_pay7, k0_pay6, k0_pay5, k0_pay4]
  simp only [hh, q1, q3, q2, r1, r3, r2]
  rfl

/-- The sublayer's output, from the loaded token and gate and the inner product. -/
theorem out_at (P0 : Vec Ideal S1x256x1024 .f32) (Pg : Vec Ideal S1x1x1x1024 .f32) (H : FVec Ideal S256x1024 .bf16) (O : FVec Ideal S256x1024 .f32)
    (U : FVec Ideal S256x1408 .f32) (W : FVec Ideal S1408x1024 .bf16) (Z : FVec Ideal S256x1408 .f32) (Q2 R1 R3 R2 : Vec Ideal S1x1408x1024 .bf16)
    (r : Fin 256) (d : Fin 1024) : k0_pay1 (k0_pay9 (k0_pay2 P0) H O U W Z Q2 R1 R3 R2 Pg) (ix3 0 r d)
      = P0 (ix3 0 r d) + Ideal.ofBits FTy.f32 1056964608#32 * Pg (ix4 0 0 0 d) * k0_pay7 H O U W Z Q2 R1 R3 R2 (ix2 r d) := by
  pointwise [k0_pay1, k0_pay9, k0_pay2]

variable (x0 : Vec Ideal S1x256x1024 .f32) (x1 : Vec Ideal S1x1x3x1024 .f32) (x2 : Vec Ideal S1x1024 .f32)
  (x3 x4 x5 : Vec Ideal S1x2816x1024 .bf16)

/-- The parts of the blocks the kernel reads. -/
theorem ld_z (r : Fin 256) (d : Fin 1024) : (View.ld x0 r0_0 : Vec Ideal S1x256x1024 .f32) (ix3 0 r d) = x0 (ix3 0 r d) := by
  pointwise [r0_0]
theorem ld_g (d : Fin 1024) : (View.ld x2 r0_1 : Vec Ideal S1x1024 .f32) (ix2 0 d) = x2 (ix2 0 d) := by
  pointwise [r0_1]
theorem ld_sh (d : Fin 1024) : (View.ld x1 r0_2 : Vec Ideal S1x1x1x1024 .f32) (ix4 0 0 0 d) = x1 (ix4 0 0 0 d) := by
  pointwise [r0_2]
theorem ld_sc (d : Fin 1024) : (View.ld x1 r0_3 : Vec Ideal S1x1x1x1024 .f32) (ix4 0 0 0 d) = x1 (ix4 0 0 1 d) := by
  pointwise [r0_3]
theorem ld_gt (d : Fin 1024) : (View.ld x1 r0_6 : Vec Ideal S1x1x1x1024 .f32) (ix4 0 0 0 d) = x1 (ix4 0 0 2 d) := by
  pointwise [r0_6]
theorem ld_wa (f : Fin 1408) (d : Fin 1024) :
    (View.ld x3 r0_4 : Vec Ideal S1x1408x1024 .bf16) (ix3 0 f d) = x3 (ix3 0 ⟨f.val, by omega⟩ d) := by
  pointwise [r0_4]
theorem ld_wb (f : Fin 1408) (d : Fin 1024) :
    (View.ld x3 r0_5 : Vec Ideal S1x1408x1024 .bf16) (ix3 0 f d) = x3 (ix3 0 ⟨1408 + f.val, by omega⟩ d) := by
  pointwise [r0_5]

variable (z g sh sc : Row) (w1 w3 : In) (w2 : Out) (r : Fin 256)
  (e0 : ∀ d, x0 (ix3 0 r d) = z d) (e2 : ∀ d, x2 (ix2 0 d) = g d) (es : ∀ d, x1 (ix4 0 0 0 d) = sh d) (ec : ∀ d, x1 (ix4 0 0 1 d) = sc d)
  (e3 : ∀ f d, x3 (ix3 0 f d) = w1 d f) (e4 : ∀ f d, x4 (ix3 0 f d) = w3 d f) (e5 : ∀ f d, x5 (ix3 0 f d) = w2 f d) (d : Fin 1024)

include e0 e2 es ec e3 e4 e5

theorem inner : k0_pay7 (k0_pay3 (View.ld x0 r0_0) (View.ld x2 r0_1) (View.ld x1 r0_2) (View.ld x1 r0_3)) k0_pay4
      (k0_pay5 (View.ld x0 r0_0) (View.ld x2 r0_1) (View.ld x1 r0_2) (View.ld x1 r0_3) (View.ld x3 r0_4)) (k0_pay6 (View.ld x4 r0_4))
      (constant S256x1408 .f32 0x00000000#32) (View.ld x5 r0_4) (View.ld x3 r0_5) (View.ld x4 r0_5) (View.ld x5 r0_5) (ix2 r d)
    = ffn (hid z g sh sc) w1 w3 w2 d := by
  refine inner_at _ _ _ _ _ _ _ _ _ _ (hid z g sh sc) w1 w3 w2 r (fun d => ?_) (fun f d => ?_) (fun f d => ?_) (fun f d => ?_) (fun f d => ?_) (fun f d => ?_) (fun f d => ?_) d
  · refine (hid_at _ _ _ _ r d).trans ?_
    rw [show (fun d => (View.ld x0 r0_0 : Vec Ideal S1x256x1024 .f32) (ix3 0 r d)) = z from funext fun d => (ld_z x0 r d).trans (e0 d),
      show (fun d => (View.ld x2 r0_1 : Vec Ideal S1x1024 .f32) (ix2 0 d)) = g from funext fun d => (ld_g x2 d).trans (e2 d),
      show (fun d => (View.ld x1 r0_2 : Vec Ideal S1x1x1x1024 .f32) (ix4 0 0 0 d)) = sh from funext fun d => (ld_sh x1 d).trans (es d),
      show (fun d => (View.ld x1 r0_3 : Vec Ideal S1x1x1x1024 .f32) (ix4 0 0 0 d)) = sc from funext fun d => (ld_sc x1 d).trans (ec d)]
  · exact (ld_wa x3 f d).trans (e3 _ _)
  · exact (ld_wa x4 f d).trans (e4 _ _)
  · exact (ld_wa x5 f d).trans (e5 _ _)
  · exact (ld_wb x3 f d).trans (e3 _ _)
  · exact (ld_wb x4 f d).trans (e4 _ _)
  · exact (ld_wb x5 f d).trans (e5 _ _)

theorem o_at : out0_7 x0 x1 x2 x3 x4 x5 (ix3 0 r d) = ffn (hid z g sh sc) w1 w3 w2 d := by
  unfold_out out0_7
  rw [View.canon_cons_unit_lit _ _ _ (by decide), ← inner x0 x1 x2 x3 x4 x5 z g sh sc w1 w3 w2 r e0 e2 es ec e3 e4 e5 d]
  pointwise [k0_pay8]

theorem y_at (gt : Row) (eg : ∀ d, x1 (ix4 0 0 2 d) = gt d) : out0_6 x0 x1 x2 x3 x4 x5 (ix3 0 r d)
    = z d + Ideal.ofBits FTy.f32 1056964608#32 * gt d * ffn (hid z g sh sc) w1 w3 w2 d := by
  unfold_out out0_6
  rw [View.canon_cons_unit_lit _ _ _ (by decide)]
  refine (out_at _ _ _ _ _ _ _ _ _ _ _ r d).trans (congrArg₂ _ ((ld_z x0 r d).trans (e0 d)) (congrArg₂ _ (congrArg _ ((ld_gt x1 d).trans (eg d))) ?_))
  exact inner x0 x1 x2 x3 x4 x5 z g sh sc w1 w3 w2 r e0 e2 es ec e3 e4 e5 d

end Tile

/-! ## The windows' blocks -/

variable (m : (ℓ : Loc nD τ sig) → Buf (Elt Ideal) ℓ) (c : Dev nD)

/-- The arguments. -/
abbrev A : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))

/-- The host's stack of the weights, the first two turned. -/
def layer (x : Vec Ideal S2816x1024 .f32) : Vec Ideal S1x2816x1024 .bf16 :=
  broadcastInDim S1x2816x1024 ![1, 2] bcast_S2816x1024_S1x2816x1024_1_2 (truncf (F := Ideal) .bf16 x bitsLt_bf16_f32 : Vec Ideal S2816x1024 .bf16)
def turned (x : Vec Ideal S1024x2816 .f32) : Vec Ideal S1x2816x1024 .bf16 :=
  layer (transpose S2816x1024 [1, 0] x transposes_S1024x2816_S2816x1024_1_0)
def stack (u v w : Vec Ideal S1x2816x1024 .bf16) : Vec Ideal S3x2816x1024 .bf16 :=
  concatenate S3x2816x1024 0 [⟨S1x2816x1024, u⟩, ⟨S1x2816x1024, v⟩, ⟨S1x2816x1024, w⟩]
    concatenates_S1x2816x1024_S1x2816x1024_S1x2816x1024_S3x2816x1024_d0

theorem V_w : V m c main_v8 = stack (turned (m ((c : Thread nD τ).loc main_arg3))) (turned (m ((c : Thread nD τ).loc main_arg4)))
    (layer (m ((c : Thread nD τ).loc main_arg5))) := by
  unfold_abbrev_sides
  after_results
  rfl

theorem turned_at (x : Vec Ideal S1024x2816 .f32) (f : Fin 2816) (d : Fin 1024) : turned x (ix3 0 f d) = x (ix2 d f) := by
  pointwise [turned, layer]
theorem layer_at (x : Vec Ideal S2816x1024 .f32) (f : Fin 2816) (d : Fin 1024) : layer x (ix3 0 f d) = x (ix2 f d) := by
  pointwise [layer]
theorem stack_0 (u v w : Vec Ideal S1x2816x1024 .bf16) (f : Fin 2816) (d : Fin 1024) : stack u v w (ix3 0 f d) = u (ix3 0 f d) := by
  pointwise [stack]
theorem stack_1 (u v w : Vec Ideal S1x2816x1024 .bf16) (f : Fin 2816) (d : Fin 1024) : stack u v w (ix3 1 f d) = v (ix3 0 f d) := by
  pointwise [stack]
theorem stack_2 (u v w : Vec Ideal S1x2816x1024 .bf16) (f : Fin 2816) (d : Fin 1024) : stack u v w (ix3 2 f d) = w (ix3 0 f d) := by
  pointwise [stack]

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, min (grid0.coords t 1).val 1, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![1, 0, 0] := (by decide +kernel : ∀ t : Fin grid0.N, _)
theorem idx5 : ∀ t : Fin cfg0.N, win0_5.index t = ![2, 0, 0] := (by decide +kernel : ∀ t : Fin grid0.N, _)
theorem idx6 : ∀ t : Fin cfg0.N, win0_6.index t = ![(grid0.coords t 0).val, (grid0.coords t 1).val, 0] := (by decide +kernel : ∀ t : Fin grid0.N, _)
theorem idx7 : ∀ t : Fin cfg0.N, win0_7.index t = ![(grid0.coords t 0).val, (grid0.coords t 1).val, 0] := (by decide +kernel : ∀ t : Fin grid0.N, _)

section

variable (t : Fin cfg0.N) (b : Fin 2) (i : Fin 9) (eb : b.val = (grid0.coords t 0).val) (ei : i.val = (grid0.coords t 1).val)

include eb ei

theorem blk0 (r : Fin 256) (d : Fin 1024) : iblk m c 0 t (ix3 0 r d) = (A m c).z b (tok i r) d := by
  show V m c main_arg0 ((win0_0.blk t).view.emb (ix3 0 r d)) = m ((c : Thread nD τ).loc main_arg0) (ix3 b (tok i r) d)
  rw [V_main_arg0]
  congr 1
  unfold tok
  blk_ext [idx0]
theorem blk1 (r : Fin 256) (k : Fin 3) (d : Fin 1024) : iblk m c 1 t (ix4 0 0 k d) = (A m c).mod b (seg (tok i r)) k d := by
  show V m c main_arg1 ((win0_1.blk t).view.emb (ix4 0 0 k d)) = m ((c : Thread nD τ).loc main_arg1) (ix4 b (seg (tok i r)) k d)
  rw [V_main_arg1]
  congr 1
  have hs := seg_tok i r
  blk_ext [idx1]

end

theorem blk2 (t : Fin cfg0.N) (d : Fin 1024) : iblk m c 2 t (ix2 0 d) = (A m c).g d := by
  show V m c main_arg2 ((win0_2.blk t).view.emb (ix2 0 d)) = m ((c : Thread nD τ).loc main_arg2) (ix2 0 d)
  rw [V_main_arg2]
  congr 1
  blk_ext [idx2]
theorem blk3 (t : Fin cfg0.N) (f : Fin 2816) (d : Fin 1024) : iblk m c 3 t (ix3 0 f d) = (A m c).w1 d f := by
  show V m c main_v8 ((win0_3.blk t).view.emb (ix3 0 f d)) = _
  rw [V_w]
  refine Eq.trans (congrArg _ ?_) ((stack_0 _ _ _ f d).trans (turned_at _ f d))
  blk_ext [idx3]
theorem blk4 (t : Fin cfg0.N) (f : Fin 2816) (d : Fin 1024) : iblk m c 4 t (ix3 0 f d) = (A m c).w3 d f := by
  show V m c main_v8 ((win0_4.blk t).view.emb (ix3 0 f d)) = _
  rw [V_w]
  refine Eq.trans (congrArg _ ?_) ((stack_1 _ _ _ f d).trans (turned_at _ f d))
  blk_ext [idx4]
theorem blk5 (t : Fin cfg0.N) (f : Fin 2816) (d : Fin 1024) : iblk m c 5 t (ix3 0 f d) = (A m c).w2 f d := by
  show V m c main_v8 ((win0_5.blk t).view.emb (ix3 0 f d)) = _
  rw [V_w]
  refine Eq.trans (congrArg _ ?_) ((stack_2 _ _ _ f d).trans (layer_at _ f d))
  blk_ext [idx5]

/-! ## The result arrays -/

theorem final_o : (dats m 0 c).arrAt 7 cfg0.N = fun j => (A m c).o (j 0) (j 1) (j 2) := by
  refine (dats m 0 c).arrAt_eq_of_covers 7 _ (by decide +kernel) fun t _ y => ?_
  blk_simp
  rw [after0_7]
  obtain ⟨z, r, d, rfl⟩ : ∃ (z : Fin 1) (r : Fin 256) (d : Fin 1024), y = ix3 z r d := ⟨_, _, _, eq_ix3 y⟩
  obtain ⟨b, eb⟩ : ∃ b : Fin 2, b.val = (grid0.coords t 0).val := ⟨⟨_, (grid0.coords t 0).isLt⟩, rfl⟩
  obtain ⟨i, ei⟩ : ∃ i : Fin 9, i.val = (grid0.coords t 1).val := ⟨⟨_, (grid0.coords t 1).isLt⟩, rfl⟩
  obtain rfl : z = 0 := Subsingleton.elim _ _
  have emb : (win0_7.blk t).view.emb (ix3 0 r d) = (ix3 b (tok i r) d : S2x2304x1024.Idx) := by
    unfold tok
    blk_ext [idx7]
  rw [emb]
  exact o_at _ _ _ _ _ _ _ _ _ _ _ _ _ r (blk0 m c t b i eb ei r) (blk2 m c t) (blk1 m c t b i eb ei r 0) (blk1 m c t b i eb ei r 1)
    (blk3 m c t) (blk4 m c t) (blk5 m c t) d

theorem final_y : (dats m 0 c).arrAt 6 cfg0.N = fun j => (A m c).y (j 0) (j 1) (j 2) := by
  refine (dats m 0 c).arrAt_eq_of_covers 6 _ (by decide +kernel) fun t _ y => ?_
  blk_simp
  rw [after0_6]
  obtain ⟨z, r, d, rfl⟩ : ∃ (z : Fin 1) (r : Fin 256) (d : Fin 1024), y = ix3 z r d := ⟨_, _, _, eq_ix3 y⟩
  obtain ⟨b, eb⟩ : ∃ b : Fin 2, b.val = (grid0.coords t 0).val := ⟨⟨_, (grid0.coords t 0).isLt⟩, rfl⟩
  obtain ⟨i, ei⟩ : ∃ i : Fin 9, i.val = (grid0.coords t 1).val := ⟨⟨_, (grid0.coords t 1).isLt⟩, rfl⟩
  obtain rfl : z = 0 := Subsingleton.elim _ _
  have emb : (win0_6.blk t).view.emb (ix3 0 r d) = (ix3 b (tok i r) d : S2x2304x1024.Idx) := by
    unfold tok
    blk_ext [idx6]
  rw [emb]
  exact y_at _ _ _ _ _ _ _ _ _ _ _ _ _ r (blk0 m c t b i eb ei r) (blk2 m c t) (blk1 m c t b i eb ei r 0) (blk1 m c t b i eb ei r 1)
    (blk3 m c t) (blk4 m c t) (blk5 m c t) d _ (blk1 m c t b i eb ei r 2)

end Cert.KernelFfnFwdIdeal.Arr
end
-- ==== Proof.FfnFwdRef.lean ====
/- The reference's feed-forward sublayer, read token by token. -/
module

public import proofs.«01_k».proof.Proof.FfnMath
public import proofs.«01_k».proof.Proof.Gen.RefFfnFwdIdeal.Run
public import proofs.«01_k».proof.Proof.Gen.RefFfnFwdIdeal.Read

@[expose] public section

set_option maxRecDepth 16384

noncomputable section

namespace Cert.RefFfnFwdIdeal.Arr

open Cert.RefFfnFwdIdeal Cert.RefFfnFwdIdeal.Read Cert.FeedForward Idealize.ShloMosaic

variable (x0 : Vec Ideal S2x2304x1024 .f32) (x1 : Vec Ideal S2x2x3x1024 .f32) (x2 : Vec Ideal S1x1024 .f32) (x3 x4 : Vec Ideal S1024x2816 .f32)
  (x5 : Vec Ideal S2816x1024 .f32) (b : Fin 2) (s : Fin 2304)

/-- Each token's modulation. -/
theorem mod_at (k : Fin 3) (d : Fin 1024) : val_main_v4 (F := Ideal) x1 (ix4 b s k d) = x1 (ix4 b (seg s) k d) := by
  pointwise [val_main_v4, val_main_v3, val_main_v2, val_main_v1, val_main_v0]
  unfold seg
  split <;> rfl

theorem shift_at (d : Fin 1024) : val_main_v6 (F := Ideal) x1 (ix3 b s d) = x1 (ix4 b (seg s) 0 d) := by
  have h : val_main_v6 (F := Ideal) x1 (ix3 b s d) = val_main_v4 (F := Ideal) x1 (ix4 b s 0 d) := by
    pointwise [val_main_v6, val_main_v5]
  exact h.trans (mod_at x1 b s 0 d)
theorem scale_at (d : Fin 1024) : val_main_v8 (F := Ideal) x1 (ix3 b s d) = x1 (ix4 b (seg s) 1 d) := by
  have h : val_main_v8 (F := Ideal) x1 (ix3 b s d) = val_main_v4 (F := Ideal) x1 (ix4 b s 1 d) := by
    pointwise [val_main_v8, val_main_v7]
  exact h.trans (mod_at x1 b s 1 d)
theorem turn_at (d : Fin 1024) : val_main_v10 (F := Ideal) x1 (ix3 b s d) = x1 (ix4 b (seg s) 2 d) := by
  have h : val_main_v10 (F := Ideal) x1 (ix3 b s d) = val_main_v4 (F := Ideal) x1 (ix4 b s 2 d) := by
    pointwise [val_main_v10, val_main_v9]
  exact h.trans (mod_at x1 b s 2 d)

/-- The hidden token, the shift and the scale being any two arrays. -/
theorem hid_of (S T : Vec Ideal S2x2304x1024 .f32) (d : Fin 1024) :
    addf (F := Ideal) (φ := .f32) (mulf (val_main_v23 (F := Ideal) x0 x2) (addf (val_main_v24 (F := Ideal)) T)) S (ix3 b s d)
      = hid (fun d => x0 (ix3 b s d)) (fun d => x2 (ix2 0 d)) (fun d => S (ix3 b s d)) (fun d => T (ix3 b s d)) d := by
  pointwise [val_main_v24, val_main_v23, val_main_v22, val_main_v21, val_main_v20, val_main_v19, val_main_v18, val_main_v17, val_main_v16, val_main_v15, val_main_v14, val_main_v13, val_main_v12, val_main_v11, val_main_cst, val_main_cst_0, val_main_cst_1, val_main_cst_2]
  rfl

theorem hid_at (d : Fin 1024) : val_main_v27 (F := Ideal) x0 x1 x2 (ix3 b s d) = (argsOf x0 x1 x2 x3 x4 x5).h b s d :=
  (hid_of x0 x2 b s (val_main_v6 x1) (val_main_v8 x1) d).trans (by simp only [shift_at, scale_at]; rfl)

theorem up_at (f : Fin 2816) : val_main_v30 (F := Ideal) x0 x1 x2 x3 (ix3 b s f) = proj ((argsOf x0 x1 x2 x3 x4 x5).h b s) (fun d f => x3 (ix2 d f)) f := by
  pointwise [val_main_v30, val_main_v29, val_main_v28, val_main_cst_3]
  simp only [hid_at x0 x1 x2 x3 x4 x5]
  rfl

theorem gate_at (f : Fin 2816) : val_main_v34 (F := Ideal) x0 x1 x2 x4 (ix3 b s f) = proj ((argsOf x0 x1 x2 x3 x4 x5).h b s) (fun d f => x4 (ix2 d f)) f := by
  pointwise [val_main_v34, val_main_v33, val_main_v32, val_main_cst_4]
  simp only [hid_at x0 x1 x2 x3 x4 x5]
  rfl

theorem act_at (f : Fin 2816) : val_main_v35 (F := Ideal) x0 x1 x2 x3 x4 (ix3 b s f)
    = act ((argsOf x0 x1 x2 x3 x4 x5).h b s) (fun d f => x3 (ix2 d f)) (fun d f => x4 (ix2 d f)) f := by
  pointwise [val_main_v35, val_main_v31, val_main_call0_v5, val_main_call0_v4, val_main_call0_v3, val_main_call0_v2, val_main_call0_v1, val_main_call0_v0, val_main_call0_cst, val_main_call0_cst_0]
  rw [up_at x0 x1 x2 x3 x4 x5, gate_at x0 x1 x2 x3 x4 x5]
  rfl

theorem o_at (d : Fin 1024) : val_main_v38 (F := Ideal) x0 x1 x2 x3 x4 x5 (ix3 b s d) = (argsOf x0 x1 x2 x3 x4 x5).o b s d := by
  pointwise [val_main_v38, val_main_v37, val_main_v36, val_main_cst_5]
  simp only [act_at x0 x1 x2 x3 x4 x5]
  rfl

/-- The output, the gate and the inner product being any two arrays. -/
theorem y_of (G O : Vec Ideal S2x2304x1024 .f32) (d : Fin 1024) :
    addf (F := Ideal) (φ := .f32) x0 (mulf (mulf (val_main_v39 (F := Ideal)) G) O) (ix3 b s d)
      = x0 (ix3 b s d) + Ideal.ofBits FTy.f32 1056964608#32 * G (ix3 b s d) * O (ix3 b s d) := by
  pointwise [val_main_v39, val_main_cst_6]

theorem y_at (d : Fin 1024) : val_main_v42 (F := Ideal) x0 x1 x2 x3 x4 x5 (ix3 b s d) = (argsOf x0 x1 x2 x3 x4 x5).y b s d :=
  (y_of x0 b s (val_main_v10 x1) (val_main_v38 x0 x1 x2 x3 x4 x5) d).trans (by rw [o_at, turn_at]; rfl)

end Cert.RefFfnFwdIdeal.Arr
end
-- ==== Proof.RetMath.lean ====
/- The retention over the reals: a sum over every position with a decaying weight, and the same sum computed chunk by
   chunk with a running state. Nothing here mentions a program. -/
module

public import Mathlib.Analysis.SpecialFunctions.Exp

@[expose] public section

noncomputable section

namespace Cert.Retention

open Finset

/-- Which distances in time count: the positive ones, and zero too unless the diagonal is left out. -/
def counts (strict : Bool) (x : ℝ) : Prop := (0 < x) ∨ (strict = false ∧ x = 0)

open Classical in
/-- The weight of a position at distance `x` in time, with decay `exp lg` per step. -/
def wt (strict : Bool) (lg x : ℝ) : ℝ := if counts strict x then Real.exp (max x 0 * lg) else 0

/-- One element of the retention: position `t` reads every position `u` with the weight of their distance in time. -/
def retSum (strict : Bool) (lg : ℝ) (τ : ℕ → ℝ) (A B C : ℕ → Fin 128 → ℝ) (t : ℕ) (e : Fin 128) : ℝ :=
  ∑ u : Fin 2304, (∑ d, A t d * B u d) * wt strict lg (τ t - τ u) * C u e

/-- The running state before step `m` of a scan over the chunks `π 0, π 1, …`: each step decays it and adds the chunk's
    products. `p j` is the place of row `j` in its chunk's own order. -/
def state (lg : ℝ) (p : ℕ → ℝ) (B C : ℕ → Fin 128 → ℝ) (π : ℕ → ℕ) : ℕ → Fin 128 → Fin 128 → ℝ
  | 0, _, _ => 0
  | m + 1, d, e => Real.exp (256 * lg) * state lg p B C π m d e
      + ∑ j : Fin 256, B (256 * π m + j) d * Real.exp ((255 - p j) * lg) * C (256 * π m + j) e

/-- Row `i` of the chunk met at step `m`: the chunk's own rows, and the state. -/
def chunkRow (strict : Bool) (lg : ℝ) (p : ℕ → ℝ) (A B C : ℕ → Fin 128 → ℝ) (π : ℕ → ℕ) (m i : ℕ) (e : Fin 128) : ℝ :=
  (∑ j : Fin 256, (∑ d, A (256 * π m + i) d * B (256 * π m + j) d) * wt strict lg (p i - p j) * C (256 * π m + j) e)
    + ∑ d, A (256 * π m + i) d * Real.exp ((p i + 1) * lg) * state lg p B C π m d e

variable {strict : Bool} {lg : ℝ} {p τ : ℕ → ℝ} {A B C : ℕ → Fin 128 → ℝ} {π : ℕ → ℕ}

theorem wt_of_neg {x : ℝ} (h : x < 0) : wt strict lg x = 0 := by
  unfold wt counts
  rw [if_neg]
  rintro (h' | ⟨_, h'⟩) <;> linarith

theorem wt_of_pos {x : ℝ} (h : 0 < x) : wt strict lg x = Real.exp (x * lg) := by
  unfold wt counts
  rw [if_pos (Or.inl h), max_eq_left h.le]

/-- The state is the sum over the chunks already met, each row with its decay. -/
theorem state_eq (m : ℕ) (d e : Fin 128) : state lg p B C π m d e
    = ∑ r ∈ range m, ∑ j : Fin 256,
        Real.exp ((256 * ((m : ℝ) - 1 - r) + (255 - p j)) * lg) * (B (256 * π r + j) d * C (256 * π r + j) e) := by
  induction m with
  | zero => simp [state]
  | succ m ih =>
    rw [state, ih, sum_range_succ, mul_sum]
    congr 1
    · refine sum_congr rfl fun r _ => ?_
      rw [mul_sum]
      refine sum_congr rfl fun j _ => ?_
      rw [← mul_assoc, ← Real.exp_add]
      congr 2
      push_cast
      ring
    · refine sum_congr rfl fun j _ => ?_
      have : (256 * (((m + 1 : ℕ) : ℝ) - 1 - m) + (255 - p j)) * lg = (255 - p j) * lg := by push_cast; ring
      rw [this]
      ring

/-- A sum over all the positions, chunk by chunk. -/
theorem sum_chunks (f : ℕ → ℝ) : ∑ u : Fin 2304, f u = ∑ n ∈ range 9, ∑ j : Fin 256, f (256 * n + j) := by
  rw [← Finset.sum_range (fun u => f u)]
  have key : ∀ n : ℕ, ∑ u ∈ range (256 * n), f u = ∑ r ∈ range n, ∑ j : Fin 256, f (256 * r + j) := by
    intro n
    induction n with
    | zero => simp
    | succ n ih =>
      rw [show 256 * (n + 1) = 256 * n + 256 by ring, sum_range_add, ih,
        sum_range_succ (fun r => ∑ j : Fin 256, f (256 * r + j)) n, Finset.sum_range (fun x => f (256 * n + x))]
  exact key 9

/-- THE CHUNKED SCAN IS THE SUM: if time runs through the chunks in the order `π` and through a chunk's rows by `p`, row
    `i` of the chunk met at step `m` is the retention's element at its position. -/
theorem chunkRow_eq (hπ : ∀ f : ℕ → ℝ, ∑ r ∈ range 9, f (π r) = ∑ n ∈ range 9, f n)
    (hp : ∀ j, j < 256 → 0 ≤ p j ∧ p j ≤ 255)
    (hτ : ∀ r, r < 9 → ∀ j, j < 256 → τ (256 * π r + j) = 256 * r + p j)
    (m : ℕ) (hm : m < 9) (i : ℕ) (hi : i < 256) (e : Fin 128) :
    chunkRow strict lg p A B C π m i e = retSum strict lg τ A B C (256 * π m + i) e := by
  unfold retSum
  rw [sum_chunks (fun u => (∑ d, A (256 * π m + i) d * B u d) * wt strict lg (τ (256 * π m + i) - τ u) * C u e),
    ← hπ (fun n => ∑ j : Fin 256, (∑ d, A (256 * π m + i) d * B (256 * n + j) d)
      * wt strict lg (τ (256 * π m + i) - τ (256 * n + j)) * C (256 * n + j) e)]
  have hwt : ∀ r ∈ range 9, ∀ j : Fin 256, wt strict lg (τ (256 * π m + i) - τ (256 * π r + j))
      = wt strict lg (256 * ((m : ℝ) - r) + (p i - p j)) := by
    intro r hr j
    rw [hτ m hm i hi, hτ r (mem_range.mp hr) j j.2]
    congr 1; ring
  rw [← sum_range_add_sum_Ico _ (show m + 1 ≤ 9 by omega), sum_range_succ]
  have hlate : ∑ r ∈ Ico (m + 1) 9, ∑ j : Fin 256, (∑ d, A (256 * π m + i) d * B (256 * π r + j) d)
      * wt strict lg (τ (256 * π m + i) - τ (256 * π r + j)) * C (256 * π r + j) e = 0 := by
    refine sum_eq_zero fun r hr => sum_eq_zero fun j _ => ?_
    have h1 := mem_Ico.mp hr
    rw [hwt r (mem_range.mpr h1.2) j, wt_of_neg, mul_zero, zero_mul]
    have h2 : (m : ℝ) + 1 ≤ r := by exact_mod_cast h1.1
    linarith [(hp i hi).2, (hp j j.2).1]
  rw [hlate, add_zero, add_comm]
  unfold chunkRow
  congr 1
  · refine sum_congr rfl fun j _ => ?_
    rw [hwt m (mem_range.mpr hm) j]
    congr 3; ring
  · have hrow : ∀ r ∈ range m, ∀ j : Fin 256, wt strict lg (τ (256 * π m + i) - τ (256 * π r + j))
        = Real.exp ((p i + 1) * lg) * Real.exp ((256 * ((m : ℝ) - 1 - r) + (255 - p j)) * lg) := by
      intro r hr j
      have h1 := mem_range.mp hr
      have h2 : (r : ℝ) + 1 ≤ m := by exact_mod_cast h1
      rw [hwt r (mem_range.mpr (by omega)) j, wt_of_pos (by linarith [(hp i hi).1, (hp j j.2).2]), ← Real.exp_add]
      congr 1; ring
    simp only [state_eq, mul_sum]
    rw [sum_comm]
    refine sum_congr rfl fun r hr => ?_
    rw [sum_comm]
    refine sum_congr rfl fun j _ => ?_
    rw [hrow r hr j, sum_mul, sum_mul]
    refine sum_congr rfl fun d _ => ?_
    ring

end Cert.Retention
end
-- ==== Proof.RetBlock.lean ====
/- What the retention kernel's body computes for one batch element and one head: nine chunks of 256 rows, scanned in an
   order `π` with a running state. The steps are written once over any float values; over the extended reals, from real
   inputs, each output row is the retention's sum (`Proof/RetMath.lean`). -/
module

public import proofs.«01_k».proof.Proof.Gen.KernelDqIdeal.Frame
public import proofs.«01_k».proof.Proof.RetMath
public import Idealize.ShloMosaic.Lib.Pointwise
public import Idealize.ShloMosaic.Lib.Pipeline.Value

@[expose] public section

set_option maxRecDepth 16384

noncomputable section

namespace Cert.Retention

open Cert.KernelDqIdeal Cert.KernelDqIdeal.Gen Idealize.ShloMosaic

variable {F : FTy → Type} [FloatOps F]

/-! ## The steps of the body -/

/-- The rows of chunk `n`. -/
def rows (n : Fin 9) : Rect S1x2304x128 :=
  Rect.unit (s := S1x2304x128) ![0, 256 * n.val, 0] S1x256x128.size (by
    intro a; have := n.isLt; match a with
    | ⟨0, _⟩ => show 0 + 1 ≤ 1; omega
    | ⟨1, _⟩ => show 256 * n.val + 256 ≤ 2304; omega
    | ⟨2, _⟩ => show 0 + 128 ≤ 128; omega)

/-- A window's rows of chunk `n`. -/
def part (x : Vec F S1x2304x128 .f32) (n : Fin 9) : Vec F S1x256x128 .f32 := View.ld x (rows n)

/-- The logarithm of the decay, on every lane. -/
def logDecay (v : Vec F S1x1x128 .f32) : FVec F S1x128 .f32 :=
  subf (minimumf (shapeCast S1x128 v shapeCasts_S1x1x128_S1x128) (broadcast S1x128 (Scalar.ofBits .f32 0x00000000#32)))
    (log (addf (broadcast S1x128 (Scalar.ofBits .f32 0x3F800000#32))
      (exp (subf (broadcast S1x128 (Scalar.ofBits .f32 0x00000000#32))
        (absf (shapeCast S1x128 v shapeCasts_S1x1x128_S1x128))))))

/-- Its first lane. -/
def logDecay₁ (v : Vec F S1x1x128 .f32) : FVec F S1x1 .f32 :=
  extractStridedSlice S1x1 ![0, 0] (logDecay v) slices_S1x128_o0_0_S1x1

/-- The rows' places in the chunk's own order: upwards, or downwards. -/
def place (up : Bool) : FVec F S256x1 .f32 :=
  match up with
  | true => sitofp .f32 (iota .tc S256x1 32 [0] iota_S256x1_d0_w32)
  | false => subf (broadcast S256x1 (Scalar.ofBits .f32 0x437F0000#32))
      (sitofp .f32 (iota .tc S256x1 32 [0] iota_S256x1_d0_w32))

/-- The distance in time of two rows of one chunk. -/
def dist (up : Bool) : FVec F S256x256 .f32 :=
  match up with
  | true => sitofp .f32 (subi (iota .tc S256x256 32 [0] iota_S256x256_d0_w32) (iota .tc S256x256 32 [1] iota_S256x256_d1_w32))
  | false => sitofp .f32 (subi (iota .tc S256x256 32 [1] iota_S256x256_d1_w32) (iota .tc S256x256 32 [0] iota_S256x256_d0_w32))

/-- The decay between two rows of one chunk, zero where the later one is not met yet. -/
def decayIn (up strict : Bool) (v : Vec F S1x1x128 .f32) : FVec F S256x256 .f32 :=
  select
    (match strict with
      | true => cmpf .ogt (dist (F := F) up) (broadcast S256x256 (Scalar.ofBits .f32 0x00000000#32))
      | false => cmpf .oge (dist (F := F) up) (broadcast S256x256 (Scalar.ofBits .f32 0x00000000#32)))
    (exp (mulf (maximumf (dist (F := F) up) (broadcast S256x256 (Scalar.ofBits .f32 0x00000000#32)))
      (broadcastTo S256x256 (logDecay₁ v) broadcasts_S1x1_S256x256)))
    (broadcast S256x256 (Scalar.ofBits .f32 0x00000000#32))

/-- The decay from the state to each row. -/
def decayQ (up : Bool) (v : Vec F S1x1x128 .f32) : FVec F S256x1 .f32 :=
  exp (mulf (addf (place (F := F) up) (broadcast S256x1 (Scalar.ofBits .f32 0x3F800000#32)))
    (broadcastTo S256x1 (logDecay₁ v) broadcasts_S1x1_S256x1))

/-- The decay from each row to the end of its chunk. -/
def decayK (up : Bool) (v : Vec F S1x1x128 .f32) : FVec F S256x1 .f32 :=
  exp (mulf (subf (broadcast S256x1 (Scalar.ofBits .f32 0x437F0000#32)) (place (F := F) up))
    (broadcastTo S256x1 (logDecay₁ v) broadcasts_S1x1_S256x1))

/-- The decay over a whole chunk. -/
def decayC (v : Vec F S1x1x128 .f32) : FVec F S1x128 .f32 :=
  exp (mulf (broadcast S1x128 (Scalar.ofBits .f32 0x43800000#32)) (logDecay v))

/-- A chunk's rows as the products take them. -/
def chunk (x : Vec F S1x256x128 .f32) : FVec F S256x128 .f32 := shapeCast S256x128 x shapeCasts_S1x256x128_S256x128

/-- One chunk's output: its own rows' products under the decay, and the state's. -/
def stepOut (D : FVec F S256x256 .f32) (wq : FVec F S256x1 .f32) (st : FVec F S128x128 .f32)
    (a b c : Vec F S1x256x128 .f32) : FVec F S1x256x128 .f32 :=
  shapeCast S1x256x128
    (addf
      (matmul dot_S256x256_S256x128_S256x128_1_0_0_1_n_n none
        (truncf .bf16 (mulf
          (matmul dot_S256x128_S256x128_S256x256_1_1_0_0_n_n none (truncf .bf16 (chunk a) bitsLt_bf16_f32)
            (truncf .bf16 (chunk b) bitsLt_bf16_f32) (constant S256x256 .f32 0x00000000#32)) D) bitsLt_bf16_f32)
        (truncf .bf16 (chunk c) bitsLt_bf16_f32) (constant S256x128 .f32 0x00000000#32))
      (matmul dot_S256x128_S128x128_S256x128_1_0_0_1_n_n none
        (truncf .bf16 (mulf (chunk a) (broadcastTo S256x128 wq broadcasts_S256x1_S256x128)) bitsLt_bf16_f32)
        (truncf .bf16 st bitsLt_bf16_f32) (constant S256x128 .f32 0x00000000#32)))
    shapeCasts_S256x128_S1x256x128

/-- The state after one chunk. -/
def stepState (wk : FVec F S256x1 .f32) (cd : FVec F S1x128 .f32) (st : FVec F S128x128 .f32)
    (b c : Vec F S1x256x128 .f32) : FVec F S128x128 .f32 :=
  addf (mulf (broadcastTo S128x128 cd broadcasts_S1x128_S128x128) st)
    (matmul dot_S256x128_S256x128_S128x128_0_0_1_1_n_n none
      (truncf .bf16 (mulf (chunk b) (broadcastTo S256x128 wk broadcasts_S256x1_S256x128)) bitsLt_bf16_f32)
      (truncf .bf16 (chunk c) bitsLt_bf16_f32) (constant S128x128 .f32 0x00000000#32))

/-- The state before step `m` of the scan in the order `π`. -/
def scanState (up : Bool) (π : ℕ → Fin 9) (x1 x2 : Vec F S1x2304x128 .f32) (v : Vec F S1x1x128 .f32) :
    ℕ → FVec F S128x128 .f32
  | 0 => broadcast S128x128 (Scalar.ofBits .f32 0x00000000#32)
  | m + 1 => stepState (decayK up v) (decayC v) (scanState up π x1 x2 v m) (part x1 (π m)) (part x2 (π m))

/-- What step `m` of the scan stores, for the rows of chunk `π m`. -/
def scanOut (up strict : Bool) (π : ℕ → Fin 9) (x0 x1 x2 : Vec F S1x2304x128 .f32) (v : Vec F S1x1x128 .f32) (m : ℕ) :
    FVec F S1x256x128 .f32 :=
  stepOut (decayIn up strict v) (decayQ up v) (scanState up π x1 x2 v m)
    (part x0 (π m)) (part x1 (π m)) (part x2 (π m))

/-! ## The steps over the reals -/

/-- The logarithm of the decay of a parameter `x`: the logistic function's logarithm as the kernel spells it. -/
def lgR (x : ℝ) : ℝ := min x 0 - Real.log (1 + Real.exp (-|x|))

/-- The rows' places, as real numbers. -/
def placeR (up : Bool) (j : ℕ) : ℝ := match up with | true => j | false => 255 - j

theorem ofBits_255 : Ideal.ofBits .f32 0x437F0000#32 = ((255 : ℝ) : EReal) := by
  simp [Ideal.ofBits, Ideal.ieee, -EReal.coe_mul]; norm_num

theorem ofBits_256 : Ideal.ofBits .f32 0x43800000#32 = ((256 : ℝ) : EReal) := by
  simp [Ideal.ofBits, Ideal.ieee, -EReal.coe_mul]; norm_num

theorem min_coe (x y : ℝ) : min (x : EReal) (y : EReal) = ((min x y : ℝ) : EReal) := (EReal.coe_strictMono.monotone.map_min).symm
theorem max_coe (x y : ℝ) : max (x : EReal) (y : EReal) = ((max x y : ℝ) : EReal) := (EReal.coe_strictMono.monotone.map_max).symm

theorem absf_coe (x : ℝ) : (FloatOps.absf (F := Ideal) (φ := .f32) (x : EReal) : EReal) = ((|x| : ℝ) : EReal) := by
  show ((x : EReal) ⊔ -(x : EReal)) = _
  rw [← EReal.coe_neg, max_coe]; rfl

/-- The kernel's logarithm of the logistic function, of a real number. -/
theorem logSigmoid_coe (x : ℝ) :
    min (x : EReal) 0 - Ideal.log (1 + Ideal.exp (0 - (FloatOps.absf (F := Ideal) (φ := .f32) (x : EReal) : EReal))) = ((lgR x : ℝ) : EReal) := by
  have h : ¬ (1 + Real.exp (-|x|) ≤ 0) := not_le.mpr (by positivity)
  rw [absf_coe, ← EReal.coe_zero, ← EReal.coe_sub, Ideal.exp_coe, ← EReal.coe_one, ← EReal.coe_add, zero_sub, Ideal.log_coe,
    if_neg h, min_coe, ← EReal.coe_sub]
  rfl

theorem toInt_256 (i : Fin 256) : (BitVec.ofNat 32 i.val).toInt = (i.val : ℤ) := by
  have := i.isLt
  rw [BitVec.toInt_eq_toNat_bmod, BitVec.toNat_ofNat, Nat.mod_eq_of_lt (by omega), Int.bmod]
  split_ifs <;> omega

theorem sub_toInt (i j : Fin 256) : (BitVec.ofNat 32 i.val - BitVec.ofNat 32 j.val).toInt = (i.val : ℤ) - j.val := by
  have := i.isLt; have := j.isLt
  rw [BitVec.toInt_sub, toInt_256, toInt_256, Int.bmod]
  split_ifs <;> omega

/-- The decays, from a decay parameter that is the real number `x`. -/
theorem decayIn_at (up strict : Bool) (v : Vec Ideal S1x1x128 .f32) (x : ℝ) (hv : ∀ l, v (ix3 0 0 l) = ((x : ℝ) : EReal))
    (i j : Fin 256) :
    decayIn up strict v (ix2 i j) = ((wt strict (lgR x) (placeR up i - placeR up j) : ℝ) : EReal) := by
  have key : ∀ y : ℝ, Ideal.exp (max (y : EReal) 0 * ((lgR x : ℝ) : EReal)) = ((Real.exp (max y 0 * lgR x) : ℝ) : EReal) := by
    intro y; rw [← EReal.coe_zero, max_coe, ← EReal.coe_mul, Ideal.exp_coe]
  have hu : placeR true i - placeR true j = (((i.val : ℤ) - j.val : ℤ) : ℝ) := by simp [placeR]
  have hd : placeR false i - placeR false j = (((j.val : ℤ) - i.val : ℤ) : ℝ) := by simp [placeR]
  have e1 : FloatOps.sitofp (F := Ideal) FTy.f32 (IntOp.subi (BitVec.ofNat 32 i.val) (BitVec.ofNat 32 j.val))
      = (((((i.val : ℤ) - j.val : ℤ) : ℝ)) : EReal) := by
    show (((IntOp.subi (BitVec.ofNat 32 i.val) (BitVec.ofNat 32 j.val)).toInt : ℝ) : EReal) = _
    rw [show (IntOp.subi (BitVec.ofNat 32 i.val) (BitVec.ofNat 32 j.val)).toInt = _ from sub_toInt i j]
  have e2 : FloatOps.sitofp (F := Ideal) FTy.f32 (IntOp.subi (BitVec.ofNat 32 j.val) (BitVec.ofNat 32 i.val))
      = (((((j.val : ℤ) - i.val : ℤ) : ℝ)) : EReal) := by
    show (((IntOp.subi (BitVec.ofNat 32 j.val) (BitVec.ofNat 32 i.val)).toInt : ℝ) : EReal) = _
    rw [show (IntOp.subi (BitVec.ofNat 32 j.val) (BitVec.ofNat 32 i.val)).toInt = _ from sub_toInt j i]
  have fin : ∀ (s : Bool) (y : ℝ) (P : Prop) [Decidable P], (P ↔ counts s y) →
      (if P then ((Real.exp (max y 0 * lgR x) : ℝ) : EReal) else 0) = ((wt s (lgR x) y : ℝ) : EReal) := by
    intro s y P _ h
    unfold wt
    by_cases hP : P
    · rw [if_pos hP, if_pos (h.mp hP)]
    · rw [if_neg hP, if_neg (fun h' => hP (h.mpr h')), EReal.coe_zero]
  have ge : ∀ y : ℝ, (0 : EReal) ≤ (y : EReal) ↔ counts false y := by
    intro y
    rw [← EReal.coe_zero, EReal.coe_le_coe_iff, le_iff_lt_or_eq]
    simp [counts, eq_comm]
  have gt : ∀ y : ℝ, (0 : EReal) < (y : EReal) ↔ counts true y := by
    intro y
    rw [← EReal.coe_zero, EReal.coe_lt_coe_iff]
    simp [counts]
  cases up <;> cases strict <;> pointwise [decayIn, dist, logDecay₁, logDecay] <;> rw [hv, logSigmoid_coe]
  · simp only [e2, key, ← hd]; exact fin _ _ _ (ge _)
  · simp only [e2, key, ← hd]; exact fin _ _ _ (gt _)
  · simp only [e1, key, ← hu]; exact fin _ _ _ (ge _)
  · simp only [e1, key, ← hu]; exact fin _ _ _ (gt _)

theorem sitofp_at (i : Fin 256) : FloatOps.sitofp (F := Ideal) FTy.f32 (BitVec.ofNat 32 i.val) = ((i.val : ℝ) : EReal) := by
  show (((BitVec.ofNat 32 i.val).toInt : ℝ) : EReal) = _
  rw [toInt_256]; norm_cast

theorem decayQ_at (up : Bool) (v : Vec Ideal S1x1x128 .f32) (x : ℝ) (hv : ∀ l, v (ix3 0 0 l) = ((x : ℝ) : EReal))
    (i : Fin 256) (z : Fin 1) : decayQ up v (ix2 i z) = ((Real.exp ((placeR up i + 1) * lgR x) : ℝ) : EReal) := by
  cases up <;> pointwise [decayQ, place, logDecay₁, logDecay] <;>
    rw [hv, logSigmoid_coe, sitofp_at] <;>
    simp only [ofBits_255, ← EReal.coe_one, ← EReal.coe_sub, ← EReal.coe_add, ← EReal.coe_mul, Ideal.exp_coe, placeR]

theorem decayK_at (up : Bool) (v : Vec Ideal S1x1x128 .f32) (x : ℝ) (hv : ∀ l, v (ix3 0 0 l) = ((x : ℝ) : EReal))
    (i : Fin 256) (z : Fin 1) : decayK up v (ix2 i z) = ((Real.exp ((255 - placeR up i) * lgR x) : ℝ) : EReal) := by
  cases up <;> pointwise [decayK, place, logDecay₁, logDecay] <;>
    rw [hv, logSigmoid_coe, sitofp_at] <;>
    simp only [ofBits_255, ← EReal.coe_one, ← EReal.coe_sub, ← EReal.coe_add, ← EReal.coe_mul, Ideal.exp_coe, placeR]

theorem decayC_at (v : Vec Ideal S1x1x128 .f32) (x : ℝ) (hv : ∀ l, v (ix3 0 0 l) = ((x : ℝ) : EReal))
    (i : Fin 128) (z : Fin 1) : decayC v (ix2 z i) = ((Real.exp (256 * lgR x) : ℝ) : EReal) := by
  pointwise [decayC, logDecay]
  rw [hv, logSigmoid_coe, ofBits_256, ← EReal.coe_mul, Ideal.exp_coe]

theorem rows_at (x : Vec Ideal S1x2304x128 .f32) (A : ℕ → Fin 128 → ℝ)
    (hx : ∀ (t : Fin 2304) d, x (ix3 0 t d) = ((A t d : ℝ) : EReal)) (n : Fin 9) (z : Fin 1) (i : Fin 256) (d : Fin 128) :
    part x n (ix3 z i d) = ((A (256 * n.val + i.val) d : ℝ) : EReal) := by
  pointwise [part, rows]
  exact hx _ _

theorem coe_sum {ι : Type} (s : Finset ι) (f : ι → ℝ) : ∑ i ∈ s, ((f i : ℝ) : EReal) = ((∑ i ∈ s, f i : ℝ) : EReal) :=
  (map_sum (⟨⟨Real.toEReal, EReal.coe_zero⟩, EReal.coe_add⟩ : ℝ →+ EReal) f s).symm

/-- One chunk's output at an element, as the two products' sums. -/
theorem stepOut_at (D : FVec Ideal S256x256 .f32) (wq : FVec Ideal S256x1 .f32) (st : FVec Ideal S128x128 .f32)
    (a b c : Vec Ideal S1x256x128 .f32) (z : Fin 1) (i : Fin 256) (e : Fin 128) : stepOut D wq st a b c (ix3 z i e)
      = ∑ j, (∑ d, a (ix3 0 i d) * b (ix3 0 j d)) * D (ix2 i j) * c (ix3 0 j e)
        + ∑ d, a (ix3 0 i d) * wq (ix2 i 0) * st (ix2 d e) := by
  pointwise [stepOut, chunk]

/-- The state after one chunk at an element. -/
theorem stepState_at (wk : FVec Ideal S256x1 .f32) (cd : FVec Ideal S1x128 .f32) (st : FVec Ideal S128x128 .f32)
    (b c : Vec Ideal S1x256x128 .f32) (d e : Fin 128) : stepState wk cd st b c (ix2 d e)
      = cd (ix2 0 e) * st (ix2 d e) + ∑ j, b (ix3 0 j d) * wk (ix2 j 0) * c (ix3 0 j e) := by
  pointwise [stepState, chunk]

section Scan

variable {up strict : Bool} {π : ℕ → Fin 9} {x0 x1 x2 : Vec Ideal S1x2304x128 .f32} {v : Vec Ideal S1x1x128 .f32}
  {A B C : ℕ → Fin 128 → ℝ} {x : ℝ}

theorem scanState_at (h1 : ∀ (t : Fin 2304) d, x1 (ix3 0 t d) = ((B t d : ℝ) : EReal))
    (h2 : ∀ (t : Fin 2304) d, x2 (ix3 0 t d) = ((C t d : ℝ) : EReal)) (hv : ∀ l, v (ix3 0 0 l) = ((x : ℝ) : EReal))
    (m : ℕ) (d e : Fin 128) :
    scanState up π x1 x2 v m (ix2 d e) = ((state (lgR x) (placeR up) B C (fun r => (π r).val) m d e : ℝ) : EReal) := by
  induction m generalizing d e with
  | zero => pointwise [scanState]; simp [state]
  | succ m ih =>
    have step : scanState up π x1 x2 v (m + 1) = stepState (decayK up v) (decayC v) (scanState up π x1 x2 v m)
      (part x1 (π m)) (part x2 (π m)) := rfl
    rw [step, stepState_at]
    simp only [ih, decayC_at v x hv, decayK_at up v x hv, rows_at x1 B h1, rows_at x2 C h2, ← EReal.coe_mul, coe_sum, ← EReal.coe_add]
    rfl

theorem scanOut_at (h0 : ∀ (t : Fin 2304) d, x0 (ix3 0 t d) = ((A t d : ℝ) : EReal))
    (h1 : ∀ (t : Fin 2304) d, x1 (ix3 0 t d) = ((B t d : ℝ) : EReal))
    (h2 : ∀ (t : Fin 2304) d, x2 (ix3 0 t d) = ((C t d : ℝ) : EReal)) (hv : ∀ l, v (ix3 0 0 l) = ((x : ℝ) : EReal))
    (m : ℕ) (z : Fin 1) (i : Fin 256) (e : Fin 128) :
    scanOut up strict π x0 x1 x2 v m (ix3 z i e)
      = ((chunkRow strict (lgR x) (placeR up) A B C (fun r => (π r).val) m i e : ℝ) : EReal) := by
  unfold scanOut
  rw [stepOut_at]
  simp only [scanState_at h1 h2 hv, decayIn_at up strict v x hv, decayQ_at up v x hv, rows_at x0 A h0, rows_at x1 B h1,
    rows_at x2 C h2, ← EReal.coe_mul, coe_sum, ← EReal.coe_add]
  rfl

end Scan

/-! ## The whole scan -/

/-- The nine chunks' outputs, put in their places. -/
def scan (up strict : Bool) (π : ℕ → Fin 9) (x0 x1 x2 : Vec F S1x2304x128 .f32) (v : Vec F S1x1x128 .f32) :
    Vec F S1x2304x128 .f32 :=
  View.canon [⟨rows (π 8), scanOut up strict π x0 x1 x2 v 8⟩, ⟨rows (π 7), scanOut up strict π x0 x1 x2 v 7⟩,
    ⟨rows (π 6), scanOut up strict π x0 x1 x2 v 6⟩, ⟨rows (π 5), scanOut up strict π x0 x1 x2 v 5⟩,
    ⟨rows (π 4), scanOut up strict π x0 x1 x2 v 4⟩, ⟨rows (π 3), scanOut up strict π x0 x1 x2 v 3⟩,
    ⟨rows (π 2), scanOut up strict π x0 x1 x2 v 2⟩, ⟨rows (π 1), scanOut up strict π x0 x1 x2 v 1⟩,
    ⟨rows (π 0), scanOut up strict π x0 x1 x2 v 0⟩]

theorem scan_at {up strict : Bool} {π : ℕ → Fin 9} {x0 x1 x2 : Vec Ideal S1x2304x128 .f32} {v : Vec Ideal S1x1x128 .f32}
    {A B C : ℕ → Fin 128 → ℝ} {x : ℝ} {τ : ℕ → ℝ}
    (hπ : ∀ f : ℕ → ℝ, ∑ r ∈ Finset.range 9, f (π r) = ∑ n ∈ Finset.range 9, f n)
    (onto : ∀ n : Fin 9, ∃ m : Fin 9, π m = n)
    (hτ : ∀ r, r < 9 → ∀ j, j < 256 → τ (256 * (π r).val + j) = 256 * r + placeR up j)
    (h0 : ∀ (t : Fin 2304) d, x0 (ix3 0 t d) = ((A t d : ℝ) : EReal))
    (h1 : ∀ (t : Fin 2304) d, x1 (ix3 0 t d) = ((B t d : ℝ) : EReal))
    (h2 : ∀ (t : Fin 2304) d, x2 (ix3 0 t d) = ((C t d : ℝ) : EReal)) (hv : ∀ l, v (ix3 0 0 l) = ((x : ℝ) : EReal))
    (z : Fin 1) (t : Fin 2304) (e : Fin 128) :
    scan up strict π x0 x1 x2 v (ix3 z t e) = ((retSum strict (lgR x) τ A B C t e : ℝ) : EReal) := by
  let G : Vec Ideal S1x2304x128 .f32 := fun y => ((retSum strict (lgR x) τ A B C (y 1).val (y 2) : ℝ) : EReal)
  have hp : ∀ j, j < 256 → 0 ≤ placeR up j ∧ placeR up j ≤ 255 := by
    intro j hj
    have h : (j : ℝ) ≤ 255 := by exact_mod_cast (by omega : j ≤ 255)
    have h' : (0 : ℝ) ≤ j := by positivity
    cases up <;> simp only [placeR] <;> constructor <;> linarith
  have piece : ∀ m, m < 9 → ∀ y : S1x256x128.Idx, scanOut up strict π x0 x1 x2 v m y = G ((rows (π m)).emb y) := by
    intro m hm y
    obtain ⟨a, i, e, rfl⟩ : ∃ a i e, y = ix3 a i e := ⟨_, _, _, eq_ix3 y⟩
    have e1 : ((rows (π m)).emb (ix3 a i e) 1).val = 256 * (π m).val + i.val := by
      show 256 * (π m).val + 1 * i.val = _; omega
    have e2 : (rows (π m)).emb (ix3 a i e) 2 = e := Fin.ext (by show 0 + 1 * e.val = _; omega)
    rw [scanOut_at h0 h1 h2 hv, chunkRow_eq (π := fun r => (π r).val) hπ hp hτ m hm _ i.isLt]
    show _ = ((retSum strict (lgR x) τ A B C ((rows (π m)).emb (ix3 a i e) 1).val ((rows (π m)).emb (ix3 a i e) 2) : ℝ) : EReal)
    rw [e1, e2]
  show scan up strict π x0 x1 x2 v (ix3 z t e) = G (ix3 z t e)
  refine View.canon_apply_of_pieces G _ ?_ _ ?_
  · intro p hp
    simp only [List.mem_cons, List.not_mem_nil, or_false] at hp
    rcases hp with rfl | rfl | rfl | rfl | rfl | rfl | rfl | rfl | rfl
    · exact piece 8 (by omega)
    · exact piece 7 (by omega)
    · exact piece 6 (by omega)
    · exact piece 5 (by omega)
    · exact piece 4 (by omega)
    · exact piece 3 (by omega)
    · exact piece 2 (by omega)
    · exact piece 1 (by omega)
    · exact piece 0 (by omega)
  · obtain ⟨m, hm⟩ := onto ⟨t.val / 256, by have := t.isLt; omega⟩
    have mem : (ix3 z t e : S1x2304x128.Idx) ∈ (rows (π m)).set := by
      have h : (rows (π m)).idx (ix3 z ⟨t.val % 256, Nat.mod_lt _ (by omega)⟩ e) = (ix3 z t e : S1x2304x128.Idx) := by
        rw [hm]
        funext k
        match k with
        | ⟨0, _⟩ => exact Fin.ext (by show 0 + 1 * z.val = z.val; omega)
        | ⟨1, _⟩ => exact Fin.ext (by show 256 * (t.val / 256) + 1 * (t.val % 256) = t.val; omega)
        | ⟨2, _⟩ => exact Fin.ext (by show 0 + 1 * e.val = e.val; omega)
      rw [← h]; exact (rows (π m)).idx_mem _
    refine ⟨⟨rows (π m), scanOut up strict π x0 x1 x2 v m⟩, ?_, mem⟩
    match m with
    | ⟨0, _⟩ | ⟨1, _⟩ | ⟨2, _⟩ | ⟨3, _⟩ | ⟨4, _⟩ | ⟨5, _⟩ | ⟨6, _⟩ | ⟨7, _⟩ | ⟨8, _⟩ => simp only [List.mem_cons, true_or, or_true]

end Cert.Retention
end
-- ==== Proof.RetOut.lean ====
/- The two outputs of each of the three kernels' bodies are scans (`Proof/RetBlock.lean`). -/
module

public import proofs.«01_k».proof.Proof.RetBlock
public import proofs.«01_k».proof.Proof.Gen.KernelDkIdeal.Frame
public import proofs.«01_k».proof.Proof.Gen.KernelDvIdeal.Frame

@[expose] public section

set_option maxRecDepth 16384

noncomputable section

namespace Cert.Retention

open Idealize.ShloMosaic

variable {F : FTy → Type} [FloatOps F]

/-- The orders in which the chunks are met: the forward pass's two directions, and the same two reversed. -/
def ordFwd : ℕ → Fin 9
  | 0 => 0 | 1 => 1 | 2 => 2 | 3 => 3 | 4 => 4 | 5 => 5 | 6 => 6 | 7 => 7 | _ => 8
def ordBwd : ℕ → Fin 9
  | 0 => 0 | 1 => 8 | 2 => 7 | 3 => 6 | 4 => 5 | 5 => 4 | 6 => 3 | 7 => 2 | _ => 1
def ordFwdRev : ℕ → Fin 9
  | 0 => 8 | 1 => 7 | 2 => 6 | 3 => 5 | 4 => 4 | 5 => 3 | 6 => 2 | 7 => 1 | _ => 0
def ordBwdRev : ℕ → Fin 9
  | 0 => 1 | 1 => 2 | 2 => 3 | 3 => 4 | 4 => 5 | 5 => 6 | 6 => 7 | 7 => 8 | _ => 0

variable (x0 x1 x2 : Vec F Cert.KernelDqIdeal.S1x2304x128 .f32) (x3 x4 : Vec F Cert.KernelDqIdeal.S1x1x128 .f32)

theorem dq_a : Cert.KernelDqIdeal.Gen.out0_5 x0 x1 x2 x3 x4 = scan true false ordFwd x0 x1 x2 (View.ld x3 Cert.KernelDqIdeal.Gen.r0_0) := by sl_kernel_rfl
theorem dq_b : Cert.KernelDqIdeal.Gen.out0_6 x0 x1 x2 x3 x4 = scan false true ordBwd x0 x1 x2 (View.ld x4 Cert.KernelDqIdeal.Gen.r0_0) := by sl_kernel_rfl
theorem dk_a : Cert.KernelDkIdeal.Gen.out0_5 x0 x1 x2 x3 x4 = scan false false ordFwdRev x0 x1 x2 (View.ld x3 Cert.KernelDkIdeal.Gen.r0_0) := by sl_kernel_rfl
theorem dk_b : Cert.KernelDkIdeal.Gen.out0_6 x0 x1 x2 x3 x4 = scan true true ordBwdRev x0 x1 x2 (View.ld x4 Cert.KernelDkIdeal.Gen.r0_0) := by sl_kernel_rfl
theorem dv_a : Cert.KernelDvIdeal.Gen.out0_5 x0 x1 x2 x3 x4 = scan false false ordFwdRev x0 x1 x2 (View.ld x3 Cert.KernelDvIdeal.Gen.r0_0) := by sl_kernel_rfl
theorem dv_b : Cert.KernelDvIdeal.Gen.out0_6 x0 x1 x2 x3 x4 = scan true true ordBwdRev x0 x1 x2 (View.ld x4 Cert.KernelDvIdeal.Gen.r0_0) := by sl_kernel_rfl

end Cert.Retention
end
-- ==== Proof.RetArr.lean ====
/- The retention on whole arrays: two batch elements, 2304 positions, four heads of 128 lanes side by side; and the scans'
   orders as times. -/
module

public import proofs.«01_k».proof.Proof.RetOut

@[expose] public section

set_option maxRecDepth 16384

noncomputable section

namespace Cert.Retention

open Idealize.ShloMosaic Finset

/-- The arrays' shape. -/
abbrev SArr : Shape := ⟨3, ![2, 2304, 512]⟩

/-- Lane `d` of head `h`. -/
def lane (h : Fin 4) (d : Fin 128) : Fin 512 := ⟨128 * h.val + d.val, by omega⟩

/-- One head of one batch element. -/
def headOf (A : SArr.Idx → ℝ) (b : Fin 2) (h : Fin 4) (t : ℕ) (d : Fin 128) : ℝ :=
  if ht : t < 2304 then A (ix3 b ⟨t, ht⟩ (lane h d)) else 0

theorem headOf_val (A : SArr.Idx → ℝ) (b : Fin 2) (h : Fin 4) (t : Fin 2304) (d : Fin 128) :
    headOf A b h t.val d = A (ix3 b t (lane h d)) := by
  unfold headOf; rw [dif_pos t.isLt]

/-- The retention of three arrays, head by head. -/
def retArr (strict : Bool) (τ : ℕ → ℝ) (dec : Fin 4 → ℝ) (A B C : SArr.Idx → ℝ) (b : Fin 2) (t : Fin 2304) (h : Fin 4)
    (e : Fin 128) : ℝ :=
  retSum strict (lgR (dec h)) τ (headOf A b h) (headOf B b h) (headOf C b h) t.val e

/-- The head and the place in it of a lane. -/
def headIx (j : Fin 512) : Fin 4 := ⟨j.val / 128, by omega⟩
def laneIx (j : Fin 512) : Fin 128 := ⟨j.val % 128, by omega⟩

theorem headIx_lane (h : Fin 4) (d : Fin 128) : headIx (lane h d) = h := Fin.ext (by simp only [headIx, lane]; omega)
theorem laneIx_lane (h : Fin 4) (d : Fin 128) : laneIx (lane h d) = d := Fin.ext (by simp only [laneIx, lane]; omega)
theorem lane_ix (j : Fin 512) : lane (headIx j) (laneIx j) = j := Fin.ext (by simp only [headIx, laneIx, lane]; omega)

/-- The retention as an array. -/
def outArr (strict : Bool) (τ : ℕ → ℝ) (dec : Fin 4 → ℝ) (A B C : SArr.Idx → ℝ) : SArr.Idx → EReal :=
  fun y => ((retArr strict τ dec A B C (y 0) (y 1) (headIx (y 2)) (laneIx (y 2)) : ℝ) : EReal)

theorem outArr_at (strict : Bool) (τ : ℕ → ℝ) (dec : Fin 4 → ℝ) (A B C : SArr.Idx → ℝ) (b : Fin 2) (t : Fin 2304) (h : Fin 4)
    (e : Fin 128) : outArr strict τ dec A B C (ix3 b t (lane h e)) = ((retArr strict τ dec A B C b t h e : ℝ) : EReal) := by
  show ((retArr strict τ dec A B C b t (headIx (lane h e)) (laneIx (lane h e)) : ℝ) : EReal) = _
  rw [headIx_lane, laneIx_lane]

/-! ## The four orders' times -/

/-- The forward direction's time. -/
def timeFwd (t : ℕ) : ℝ := t
/-- The backward direction's: the context flipped, then the latents flipped. -/
def timeBwd (t : ℕ) : ℝ := if t < 256 then 255 - t else 2559 - t
/-- The same two, run back. -/
def timeFwdRev (t : ℕ) : ℝ := 2303 - t
def timeBwdRev (t : ℕ) : ℝ := if t < 256 then 2048 + t else t - 256

theorem nine (f : ℕ → ℝ) : ∑ r ∈ range 9, f r = f 0 + f 1 + f 2 + f 3 + f 4 + f 5 + f 6 + f 7 + f 8 := by
  simp only [sum_range_succ, sum_range_zero, zero_add]

theorem ordFwd_sum (f : ℕ → ℝ) : ∑ r ∈ range 9, f (ordFwd r) = ∑ n ∈ range 9, f n := by
  rw [nine, nine f]; rfl
theorem ordBwd_sum (f : ℕ → ℝ) : ∑ r ∈ range 9, f (ordBwd r) = ∑ n ∈ range 9, f n := by
  rw [nine, nine f]
  show f 0 + f 8 + f 7 + f 6 + f 5 + f 4 + f 3 + f 2 + f 1 = _; ring
theorem ordFwdRev_sum (f : ℕ → ℝ) : ∑ r ∈ range 9, f (ordFwdRev r) = ∑ n ∈ range 9, f n := by
  rw [nine, nine f]
  show f 8 + f 7 + f 6 + f 5 + f 4 + f 3 + f 2 + f 1 + f 0 = _; ring
theorem ordBwdRev_sum (f : ℕ → ℝ) : ∑ r ∈ range 9, f (ordBwdRev r) = ∑ n ∈ range 9, f n := by
  rw [nine, nine f]
  show f 1 + f 2 + f 3 + f 4 + f 5 + f 6 + f 7 + f 8 + f 0 = _; ring

theorem ordFwd_onto : ∀ n : Fin 9, ∃ m : Fin 9, ordFwd m = n := by decide
theorem ordBwd_onto : ∀ n : Fin 9, ∃ m : Fin 9, ordBwd m = n := by decide
theorem ordFwdRev_onto : ∀ n : Fin 9, ∃ m : Fin 9, ordFwdRev m = n := by decide
theorem ordBwdRev_onto : ∀ n : Fin 9, ∃ m : Fin 9, ordBwdRev m = n := by decide

theorem timeFwd_at : ∀ r, r < 9 → ∀ j, j < 256 → timeFwd (256 * (ordFwd r).val + j) = 256 * r + placeR true j := by
  intro r hr j hj
  interval_cases r <;> simp [timeFwd, ordFwd, placeR] <;> ring_nf
theorem timeBwd_at : ∀ r, r < 9 → ∀ j, j < 256 → timeBwd (256 * (ordBwd r).val + j) = 256 * r + placeR false j := by
  intro r hr j hj
  unfold timeBwd
  interval_cases r <;> split_ifs with h <;> simp [ordBwd] at h <;> first | omega | (simp [ordBwd, placeR] <;> ring_nf)
theorem timeFwdRev_at : ∀ r, r < 9 → ∀ j, j < 256 → timeFwdRev (256 * (ordFwdRev r).val + j) = 256 * r + placeR false j := by
  intro r hr j hj
  interval_cases r <;> simp [timeFwdRev, ordFwdRev, placeR] <;> ring_nf
theorem timeBwdRev_at : ∀ r, r < 9 → ∀ j, j < 256 → timeBwdRev (256 * (ordBwdRev r).val + j) = 256 * r + placeR true j := by
  intro r hr j hj
  unfold timeBwdRev
  interval_cases r <;> split_ifs with h <;> simp [ordBwdRev] at h <;> first | omega | (simp [ordBwdRev, placeR] <;> ring_nf)

end Cert.Retention
end
-- ==== Proof.DqArr.lean ====
/- The two result arrays of the kernel that computes the gradient of `q`, from real arguments: retentions of the upstream gradient,
   `v` and `k`. -/
module

public import proofs.«01_k».proof.Proof.RetArr
public import proofs.«01_k».proof.Proof.Gen.KernelDqIdeal.Value
public import Idealize.ShloMosaic.Lib.Pipeline.ValueKit

@[expose] public section

set_option maxRecDepth 16384

noncomputable section

namespace Cert.KernelDqIdeal.Arr

open Cert.KernelDqIdeal Cert.KernelDqIdeal.Gen Cert.Retention Idealize.ShloMosaic Idealize.ShloMosaic.TcCoe

variable (m : (ℓ : Loc nD τ sig) → Buf (Elt Ideal) ℓ)

/-! ## The host's lanes of the decay parameters -/

theorem V_a (c : Dev nD) : V m c main_v1 = (broadcastInDim S4x1x128 ![0, 1, 2] bcast_S4x1x1_S4x1x128_0_1_2
    (shapeCast S4x1x1 (m ((c : Thread nD τ).loc main_arg4)) shapeCasts_S4_S4x1x1) : Vec Ideal S4x1x128 .f32) := by
  unfold_abbrev_sides
  after_results
  rfl

theorem V_b (c : Dev nD) : V m c main_v3 = (broadcastInDim S4x1x128 ![0, 1, 2] bcast_S4x1x1_S4x1x128_0_1_2
    (shapeCast S4x1x1 (m ((c : Thread nD τ).loc main_arg5)) shapeCasts_S4_S4x1x1) : Vec Ideal S4x1x128 .f32) := by
  unfold_abbrev_sides
  after_results
  rfl

theorem lanes_at (x : Vec Ideal S4 .f32) (h : Fin 4) (l : Fin 128) :
    (broadcastInDim S4x1x128 ![0, 1, 2] bcast_S4x1x1_S4x1x128_0_1_2 (shapeCast S4x1x1 x shapeCasts_S4_S4x1x1) :
      Vec Ideal S4x1x128 .f32) (ix3 h 0 l) = x (ix1 h) := by
  pointwise

theorem whole_at (x : Vec Ideal S1x1x128 .f32) (l : Fin 128) : (View.ld x r0_0 : Vec Ideal S1x1x128 .f32) (ix3 0 0 l) = x (ix3 0 0 l) := by
  pointwise [r0_0]

/-! ## The windows' blocks -/

theorem idx0 : ∀ t : Fin cfg0.N, win0_0.index t = ![(grid0.coords t 0).val, 0, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx5 : ∀ t : Fin cfg0.N, win0_5.index t = ![(grid0.coords t 0).val, 0, (grid0.coords t 1).val] :=
  (by decide +kernel : ∀ t : Fin grid0.N, _)
theorem idx6 : ∀ t : Fin cfg0.N, win0_6.index t = ![(grid0.coords t 0).val, 0, (grid0.coords t 1).val] :=
  (by decide +kernel : ∀ t : Fin grid0.N, _)
theorem idx3 : ∀ t : Fin cfg0.N, win0_3.index t = ![(grid0.coords t 1).val, 0, 0] :=
  (by decide +kernel : ∀ t : Fin grid0.N, _)
theorem idx4 : ∀ t : Fin cfg0.N, win0_4.index t = ![(grid0.coords t 1).val, 0, 0] :=
  (by decide +kernel : ∀ t : Fin grid0.N, _)

theorem blk0 (c : Dev nD) (t : Fin cfg0.N) (b : Fin 2) (h : Fin 4) (eb : b.val = (grid0.coords t 0).val)
    (eh : h.val = (grid0.coords t 1).val) (r : Fin 2304) (d : Fin 128) :
    iblk m c 0 t (ix3 0 r d) = m ((c : Thread nD τ).loc main_arg3) (ix3 b r (lane h d)) := by
  show V m c main_arg3 ((win0_0.blk t).view.emb (ix3 0 r d)) = _
  rw [V_main_arg3]
  congr 1
  unfold lane
  blk_ext [idx0]

theorem blk1 (c : Dev nD) (t : Fin cfg0.N) (b : Fin 2) (h : Fin 4) (eb : b.val = (grid0.coords t 0).val)
    (eh : h.val = (grid0.coords t 1).val) (r : Fin 2304) (d : Fin 128) :
    iblk m c 1 t (ix3 0 r d) = m ((c : Thread nD τ).loc main_arg2) (ix3 b r (lane h d)) := by
  show V m c main_arg2 ((win0_1.blk t).view.emb (ix3 0 r d)) = _
  rw [V_main_arg2]
  congr 1
  unfold lane
  blk_ext [idx1]

theorem blk2 (c : Dev nD) (t : Fin cfg0.N) (b : Fin 2) (h : Fin 4) (eb : b.val = (grid0.coords t 0).val)
    (eh : h.val = (grid0.coords t 1).val) (r : Fin 2304) (d : Fin 128) :
    iblk m c 2 t (ix3 0 r d) = m ((c : Thread nD τ).loc main_arg1) (ix3 b r (lane h d)) := by
  show V m c main_arg1 ((win0_2.blk t).view.emb (ix3 0 r d)) = _
  rw [V_main_arg1]
  congr 1
  unfold lane
  blk_ext [idx2]

theorem blk3 (c : Dev nD) (t : Fin cfg0.N) (h : Fin 4) (eh : h.val = (grid0.coords t 1).val) (d : Fin 128) :
    iblk m c 3 t (ix3 0 0 d) = m ((c : Thread nD τ).loc main_arg4) (ix1 h) := by
  show V m c main_v1 ((win0_3.blk t).view.emb (ix3 0 0 d)) = _
  rw [V_a]
  refine Eq.trans ?_ (lanes_at (m ((c : Thread nD τ).loc main_arg4)) h d)
  congr 1
  blk_ext [idx3]

theorem blk4 (c : Dev nD) (t : Fin cfg0.N) (h : Fin 4) (eh : h.val = (grid0.coords t 1).val) (d : Fin 128) :
    iblk m c 4 t (ix3 0 0 d) = m ((c : Thread nD τ).loc main_arg5) (ix1 h) := by
  show V m c main_v3 ((win0_4.blk t).view.emb (ix3 0 0 d)) = _
  rw [V_b]
  refine Eq.trans ?_ (lanes_at (m ((c : Thread nD τ).loc main_arg5)) h d)
  congr 1
  blk_ext [idx4]

/-! ## The result arrays -/

section

variable (c : Dev nD) (A B C : SArr.Idx → ℝ) (dec : Fin 4 → ℝ)
  (hA : ∀ b r j, m ((c : Thread nD τ).loc main_arg3) (ix3 b r j) = ((A (ix3 b r j) : ℝ) : EReal))
  (hB : ∀ b r j, m ((c : Thread nD τ).loc main_arg2) (ix3 b r j) = ((B (ix3 b r j) : ℝ) : EReal))
  (hC : ∀ b r j, m ((c : Thread nD τ).loc main_arg1) (ix3 b r j) = ((C (ix3 b r j) : ℝ) : EReal))

include hA hB hC

theorem block_a (hd : ∀ h, m ((c : Thread nD τ).loc main_arg4) (ix1 h) = ((dec h : ℝ) : EReal)) (t : Fin cfg0.N) (b : Fin 2) (h : Fin 4)
    (eb : b.val = (grid0.coords t 0).val) (eh : h.val = (grid0.coords t 1).val) (z : Fin 1) (r : Fin 2304) (e : Fin 128) :
    out0_5 (iblk m c 0 t) (iblk m c 1 t) (iblk m c 2 t) (iblk m c 3 t) (iblk m c 4 t) (ix3 z r e)
      = ((retArr false timeFwd dec A B C b r h e : ℝ) : EReal) := by
  rw [dq_a]
  unfold retArr
  refine scan_at ordFwd_sum ordFwd_onto timeFwd_at (fun r d => ?_) (fun r d => ?_) (fun r d => ?_) (fun l => ?_) z r e
  · rw [headOf_val]; exact (blk0 m c t b h eb eh r d).trans (hA _ _ _)
  · rw [headOf_val]; exact (blk1 m c t b h eb eh r d).trans (hB _ _ _)
  · rw [headOf_val]; exact (blk2 m c t b h eb eh r d).trans (hC _ _ _)
  · exact (whole_at _ l).trans ((blk3 m c t h eh l).trans (hd _))

theorem final_a (hd : ∀ h, m ((c : Thread nD τ).loc main_arg4) (ix1 h) = ((dec h : ℝ) : EReal)) :
    (dats m 0 c).arrAt 5 cfg0.N = outArr false timeFwd dec A B C := by
  refine (dats m 0 c).arrAt_eq_of_covers 5 _ (by decide +kernel) fun t _ y => ?_
  blk_simp
  rw [after0_5]
  obtain ⟨z, r, e, rfl⟩ : ∃ (z : Fin 1) (r : Fin 2304) (e : Fin 128), y = ix3 z r e := ⟨_, _, _, eq_ix3 y⟩
  obtain ⟨b, eb⟩ : ∃ b : Fin 2, b.val = (grid0.coords t 0).val := ⟨⟨_, (grid0.coords t 0).isLt⟩, rfl⟩
  obtain ⟨h, eh⟩ : ∃ h : Fin 4, h.val = (grid0.coords t 1).val := ⟨⟨_, (grid0.coords t 1).isLt⟩, rfl⟩
  have emb : (win0_5.blk t).view.emb (ix3 z r e) = (ix3 b r (lane h e) : SArr.Idx) := by
    have hz : z.val = 0 := by omega
    unfold lane
    blk_ext [idx5]
  rw [emb, outArr_at]
  exact block_a m c A B C dec hA hB hC hd t b h eb eh z r e

theorem block_b (hd : ∀ h, m ((c : Thread nD τ).loc main_arg5) (ix1 h) = ((dec h : ℝ) : EReal)) (t : Fin cfg0.N) (b : Fin 2) (h : Fin 4)
    (eb : b.val = (grid0.coords t 0).val) (eh : h.val = (grid0.coords t 1).val) (z : Fin 1) (r : Fin 2304) (e : Fin 128) :
    out0_6 (iblk m c 0 t) (iblk m c 1 t) (iblk m c 2 t) (iblk m c 3 t) (iblk m c 4 t) (ix3 z r e)
      = ((retArr true timeBwd dec A B C b r h e : ℝ) : EReal) := by
  rw [dq_b]
  unfold retArr
  refine scan_at ordBwd_sum ordBwd_onto timeBwd_at (fun r d => ?_) (fun r d => ?_) (fun r d => ?_) (fun l => ?_) z r e
  · rw [headOf_val]; exact (blk0 m c t b h eb eh r d).trans (hA _ _ _)
  · rw [headOf_val]; exact (blk1 m c t b h eb eh r d).trans (hB _ _ _)
  · rw [headOf_val]; exact (blk2 m c t b h eb eh r d).trans (hC _ _ _)
  · exact (whole_at _ l).trans ((blk4 m c t h eh l).trans (hd _))

theorem final_b (hd : ∀ h, m ((c : Thread nD τ).loc main_arg5) (ix1 h) = ((dec h : ℝ) : EReal)) :
    (dats m 0 c).arrAt 6 cfg0.N = outArr true timeBwd dec A B C := by
  refine (dats m 0 c).arrAt_eq_of_covers 6 _ (by decide +kernel) fun t _ y => ?_
  blk_simp
  rw [after0_6]
  obtain ⟨z, r, e, rfl⟩ : ∃ (z : Fin 1) (r : Fin 2304) (e : Fin 128), y = ix3 z r e := ⟨_, _, _, eq_ix3 y⟩
  obtain ⟨b, eb⟩ : ∃ b : Fin 2, b.val = (grid0.coords t 0).val := ⟨⟨_, (grid0.coords t 0).isLt⟩, rfl⟩
  obtain ⟨h, eh⟩ : ∃ h : Fin 4, h.val = (grid0.coords t 1).val := ⟨⟨_, (grid0.coords t 1).isLt⟩, rfl⟩
  have emb : (win0_6.blk t).view.emb (ix3 z r e) = (ix3 b r (lane h e) : SArr.Idx) := by
    have hz : z.val = 0 := by omega
    unfold lane
    blk_ext [idx6]
  rw [emb, outArr_at]
  exact block_b m c A B C dec hA hB hC hd t b h eb eh z r e

end

end Cert.KernelDqIdeal.Arr
end
-- ==== Proof.RetRef.lean ====
/- What the references share: the logarithm of the decay as they spell it, the decay between two positions in either
   direction, and the sums over positions put in the order of `retSum`. -/
module

public import proofs.«01_k».proof.Proof.RetArr
public import Idealize.ShloMosaic.Lib.Pointwise

@[expose] public section

set_option maxRecDepth 16384

noncomputable section

namespace Cert.Retention

open Idealize.ShloMosaic

theorem ofBits_2559 : Ideal.ofBits .f32 0x451FF000#32 = ((2559 : ℝ) : EReal) := by
  simp [Ideal.ofBits, Ideal.ieee, -EReal.coe_mul]; norm_num

/-- The reference's logarithm of the logistic function: minus the softplus of minus `x`, whose guard against a number that
    differs from itself never fires. -/
theorem logSigmoidRef_coe (x : ℝ) :
    (-(if -(x : EReal) ≠ -(x : EReal) then -(x : EReal)
      else max (-(x : EReal)) 0 + Ideal.log1p (Ideal.exp (-(FloatOps.absf (F := Ideal) (φ := .f32) (-(x : EReal)) : EReal))))) = ((lgR x : ℝ) : EReal) := by
  have h : ¬ (1 + Real.exp (-|x|) ≤ 0) := not_le.mpr (by positivity)
  rw [if_neg (fun h => h rfl), ← EReal.coe_neg, absf_coe, ← EReal.coe_neg, Ideal.exp_coe, show Ideal.log1p ((Real.exp (-|-x|) : ℝ) : EReal) = Ideal.log (1 + ((Real.exp (-|-x|) : ℝ) : EReal)) from rfl, ← EReal.coe_one, ← EReal.coe_add,
    Ideal.log_coe, abs_neg, if_neg h, ← EReal.coe_zero, max_coe, ← EReal.coe_add, ← EReal.coe_neg, EReal.coe_eq_coe_iff]
  unfold lgR
  rw [neg_add, ← min_neg_neg, neg_neg, neg_zero]; ring

theorem sitofp_pos (i : Fin 2304) : FloatOps.sitofp (F := Ideal) FTy.f32 (BitVec.ofNat 32 i.val) = ((i.val : ℝ) : EReal) := by
  show (((BitVec.ofNat 32 i.val).toInt : ℝ) : EReal) = _
  have : (BitVec.ofNat 32 i.val).toInt = (i.val : ℤ) := by
    have := i.isLt
    rw [BitVec.toInt_eq_toNat_bmod, BitVec.toNat_ofNat, Nat.mod_eq_of_lt (by omega), Int.bmod]
    split_ifs <;> omega
  rw [this]; norm_cast

/-- The decay of the forward direction. -/
theorem decayFwd_coe (g : ℝ) (i j : Fin 2304) :
    (if (0 : EReal) ≤ FloatOps.sitofp (F := Ideal) FTy.f32 (BitVec.ofNat 32 i.val) - FloatOps.sitofp (F := Ideal) FTy.f32 (BitVec.ofNat 32 j.val) then
      Ideal.exp (max (FloatOps.sitofp (F := Ideal) FTy.f32 (BitVec.ofNat 32 i.val) - FloatOps.sitofp (F := Ideal) FTy.f32 (BitVec.ofNat 32 j.val) : EReal) 0 * (g : EReal))
    else 0) = ((wt false g (timeFwd i - timeFwd j) : ℝ) : EReal) := by
  rw [sitofp_pos, sitofp_pos, ← EReal.coe_sub, ← EReal.coe_zero, max_coe, ← EReal.coe_mul, Ideal.exp_coe]
  simp only [EReal.coe_le_coe_iff]
  unfold wt counts timeFwd
  by_cases h : (0 : ℝ) ≤ i.val - j.val
  · rw [if_pos h, if_pos (h.lt_or_eq.imp id fun e => ⟨rfl, e.symm⟩)]
  · rw [if_neg h, if_neg (by rintro (h' | ⟨_, h'⟩) <;> exact h (by linarith))]

/-- The time of the backward direction, as the reference spells it. -/
theorem timeBwd_coe (i : Fin 2304) :
    (if FloatOps.sitofp (F := Ideal) FTy.f32 (BitVec.ofNat 32 i.val) < Ideal.ofBits .f32 0x43800000#32 then
      Ideal.ofBits .f32 0x437F0000#32 - FloatOps.sitofp (F := Ideal) FTy.f32 (BitVec.ofNat 32 i.val)
    else Ideal.ofBits .f32 0x451FF000#32 - FloatOps.sitofp (F := Ideal) FTy.f32 (BitVec.ofNat 32 i.val) : EReal) = ((timeBwd i : ℝ) : EReal) := by
  rw [sitofp_pos, ofBits_256, ofBits_255, ofBits_2559, ← EReal.coe_sub, ← EReal.coe_sub]
  simp only [EReal.coe_lt_coe_iff]
  unfold timeBwd
  by_cases h : i.val < 256
  · rw [if_pos h, if_pos (by exact_mod_cast h)]
  · rw [if_neg h, if_neg (by exact_mod_cast h)]

/-- The decay of the backward direction. -/
theorem decayBwd_coe (g x y : ℝ) :
    (if (0 : EReal) < (x : EReal) - (y : EReal) then Ideal.exp (max ((x : EReal) - (y : EReal)) 0 * (g : EReal)) else 0)
      = ((wt true g (x - y) : ℝ) : EReal) := by
  rw [← EReal.coe_sub, ← EReal.coe_zero, max_coe, ← EReal.coe_mul, Ideal.exp_coe]
  simp only [EReal.coe_lt_coe_iff]
  unfold wt counts
  by_cases h : (0 : ℝ) < x - y
  · rw [if_pos h, if_pos (Or.inl h)]
  · rw [if_neg h, if_neg (by rintro (h' | ⟨h', _⟩); exacts [h h', Bool.noConfusion h'])]

theorem timeFwdRev_sub (t u : ℕ) : timeFwdRev t - timeFwdRev u = timeFwd u - timeFwd t := by unfold timeFwdRev timeFwd; ring
theorem timeBwdRev_sub (t u : ℕ) : timeBwdRev t - timeBwdRev u = timeBwd u - timeBwd t := by
  unfold timeBwdRev timeBwd; split_ifs <;> ring

/-- The lane `d` of the head that the lane `j` belongs to. -/
theorem lane_of (j : Fin 512) (d : Fin 128) (h : j.val / 128 * 128 + d.val < 512) :
    (⟨j.val / 128 * 128 + d.val, h⟩ : Fin 512) = lane (headIx j) d := by
  apply Fin.ext; show j.val / 128 * 128 + d.val = (lane (headIx j) d).val; simp [lane, headIx]; omega

/-- Positions `t` as rows of an array of reals, head by head. -/
theorem outArr_eq (strict : Bool) (τ : ℕ → ℝ) (dec : Fin 4 → ℝ) (A B C : SArr.Idx → ℝ) (b : Fin 2) (t : Fin 2304) (j : Fin 512) :
    outArr strict τ dec A B C (ix3 b t j) = ((∑ u : Fin 2304, (∑ d : Fin 128, A (ix3 b t (lane (headIx j) d)) * B (ix3 b u (lane (headIx j) d)))
      * wt strict (lgR (dec (headIx j))) (τ t - τ u) * C (ix3 b u j) : ℝ) : EReal) := by
  show ((retArr strict τ dec A B C b t (headIx j) (laneIx j) : ℝ) : EReal) = _
  unfold retArr retSum
  simp only [headOf_val, lane_ix]

end Cert.Retention
end
-- ==== Proof.DqRef.lean ====
/- The reference's gradients of the queries, read as the sums over positions that the kernel's arrays hold. -/
module

public import proofs.«01_k».proof.Proof.RetRef
public import proofs.«01_k».proof.Proof.Gen.RefDqIdeal.Read

@[expose] public section

set_option maxRecDepth 16384

noncomputable section

namespace Cert.RefDqIdeal.Arr

open Cert.RefDqIdeal Cert.RefDqIdeal.Read Cert.Retention Idealize.ShloMosaic

/-- The logarithm of the decay, forward direction. -/
theorem lg_a (x4 : Vec Ideal S4 .f32) (h : Fin 4) (x : ℝ) (hx : x4 (ix1 h) = (x : EReal)) :
    val_main_v1 (F := Ideal) x4 (ix1 h) = ((lgR x : ℝ) : EReal) := by
  pointwise [val_main_v1, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [hx]
  exact logSigmoidRef_coe x

/-- The decay between two positions, forward direction. -/
theorem decay_a (x4 : Vec Ideal S4 .f32) (h : Fin 4) (x : ℝ) (hx : x4 (ix1 h) = (x : EReal)) (i j : Fin 2304) :
    val_main_v18 (F := Ideal) x4 (ix3 h i j) = ((wt false (lgR x) (timeFwd i - timeFwd j) : ℝ) : EReal) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1, val_main_call1_v0, val_main_call1_v1, val_main_call1_v2]
  rw [lg_a x4 h x hx, ← decayFwd_coe]
  simp [constant]

/-- The logarithm of the decay, backward direction. -/
theorem lg_b (x5 : Vec Ideal S4 .f32) (h : Fin 4) (x : ℝ) (hx : x5 (ix1 h) = (x : EReal)) :
    val_main_v45 (F := Ideal) x5 (ix1 h) = ((lgR x : ℝ) : EReal) := by
  pointwise [val_main_v45, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [hx]
  exact logSigmoidRef_coe x

/-- The time of a position in the backward direction. -/
theorem time_b (i : Fin 2304) : val_main_v44 (F := Ideal) (ix1 i) = ((timeBwd i : ℝ) : EReal) := by
  pointwise [val_main_v44, val_main_v43, val_main_v42, val_main_v41, val_main_v40, val_main_v39, val_main_v38, val_main_v37, val_main_cst_2, val_main_cst_3, val_main_cst_4]
  exact timeBwd_coe i

/-- The decay between two positions, backward direction. -/
theorem decay_b (x5 : Vec Ideal S4 .f32) (h : Fin 4) (x : ℝ) (hx : x5 (ix1 h) = (x : EReal)) (i j : Fin 2304) :
    val_main_v62 (F := Ideal) x5 (ix3 h i j) = ((wt true (lgR x) (timeBwd i - timeBwd j) : ℝ) : EReal) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_5, val_main_cst_6, val_main_cst_7, val_main_call4_v0, val_main_call4_v1, val_main_call4_v2]
  rw [time_b, time_b, lg_b x5 h x hx, ← decayBwd_coe]
  simp [constant]

/-- The gradient of the queries, forward direction. -/
theorem grad_a (x1 x2 x3 : Vec Ideal S2x2304x512 .f32) (x4 : Vec Ideal S4 .f32) (A B C : SArr.Idx → ℝ) (dec : Fin 4 → ℝ)
    (hA : ∀ b r j, x3 (ix3 b r j) = ((A (ix3 b r j) : ℝ) : EReal))
    (hB : ∀ b r j, x2 (ix3 b r j) = ((B (ix3 b r j) : ℝ) : EReal))
    (hC : ∀ b r j, x1 (ix3 b r j) = ((C (ix3 b r j) : ℝ) : EReal))
    (hd : ∀ h, x4 (ix1 h) = ((dec h : ℝ) : EReal)) :
    val_main_v36 (F := Ideal) x1 x2 x3 x4 = outArr false timeFwd dec A B C := by
  funext i
  obtain ⟨b, t, j, rfl⟩ : ∃ (b : Fin 2) (t : Fin 2304) (j : Fin 512), i = ix3 b t j := ⟨_, _, _, eq_ix3 i⟩
  rw [outArr_eq]
  pointwise [val_main_v36, val_main_v35, val_main_v34, val_main_v33, val_main_v31, val_main_v30, val_main_v29, val_main_v25, val_main_v32, val_main_v22, val_main_v20]
  simp only [hA, hB, hC, decay_a x4 _ _ (hd _), ← EReal.coe_mul, coe_sum, lane_of]
  rfl

/-- The gradient of the queries, backward direction. -/
theorem grad_b (x1 x2 x3 : Vec Ideal S2x2304x512 .f32) (x5 : Vec Ideal S4 .f32) (A B C : SArr.Idx → ℝ) (dec : Fin 4 → ℝ)
    (hA : ∀ b r j, x3 (ix3 b r j) = ((A (ix3 b r j) : ℝ) : EReal))
    (hB : ∀ b r j, x2 (ix3 b r j) = ((B (ix3 b r j) : ℝ) : EReal))
    (hC : ∀ b r j, x1 (ix3 b r j) = ((C (ix3 b r j) : ℝ) : EReal))
    (hd : ∀ h, x5 (ix1 h) = ((dec h : ℝ) : EReal)) :
    val_main_v80 (F := Ideal) x1 x2 x3 x5 = outArr true timeBwd dec A B C := by
  funext i
  obtain ⟨b, t, j, rfl⟩ : ∃ (b : Fin 2) (t : Fin 2304) (j : Fin 512), i = ix3 b t j := ⟨_, _, _, eq_ix3 i⟩
  rw [outArr_eq]
  pointwise [val_main_v80, val_main_v79, val_main_v78, val_main_v77, val_main_v75, val_main_v74, val_main_v73, val_main_v69, val_main_v76, val_main_v66, val_main_v64]
  simp only [hA, hB, hC, decay_b x5 _ _ (hd _), ← EReal.coe_mul, coe_sum, lane_of]
  rfl

end Cert.RefDqIdeal.Arr
end
-- ==== Proof.Pre.lean ====
/- The precondition decoded: every element of every argument is a real number, so each argument is the array of the real
   numbers it holds. -/
module

public import proofs.«01_k».proof.Proof.Gen.Pre_finite
public import proofs.«01_k».proof.Proof.RetArr
public import Idealize.ShloMosaic.Lib.Pointwise
public import Idealize.ShloMosaic.Lib.ReduceAll

@[expose] public section

set_option maxRecDepth 16384

noncomputable section

namespace Cert.Retention

open Idealize.ShloMosaic

theorem ofBits_inf : Ideal.ofBits .f32 0x7F800000#32 = (⊤ : EReal) := by
  simp [Ideal.ofBits, Ideal.ieee]

/-- A number whose absolute value is below infinity is a real number. -/
theorem real_of_absf_lt (x : EReal) (h : (FloatOps.absf (F := Ideal) (φ := .f32) x : EReal) < ⊤) : x = ((x.toReal : ℝ) : EReal) := by
  induction x with
  | coe x => rfl
  | top => exact absurd h (by simp [FloatOps.absf])
  | bot => exact absurd h (by simp [FloatOps.absf])

/-- An array every element of which compares below infinity in absolute value is an array of real numbers. -/
theorem reals_of_all {s u : Shape} {axes : List (Fin s.rank)} (x : Vec Ideal s .f32)
    (hb : (⟨0, ![]⟩ : Shape).BroadcastsInDim s (![] : Fin 0 → Fin s.rank)) (init : u.Idx → BitVec 1) (h : s.ReducesTo axes ⟨0, ![]⟩) (hu : 0 < u.numel)
    (j : (⟨0, ![]⟩ : Shape).Idx)
    (e : Host.reduce IntOp.andi (cmpf .olt (Host.absf (F := Ideal) x) (broadcastInDim s ![] hb (constant (F := Ideal) ⟨0, ![]⟩ .f32 0x7F800000#32))) init h hu j = 1#1)
    (i : s.Idx) : x i = (((x i).toReal : ℝ) : EReal) := by
  haveI : Subsingleton (⟨0, ![]⟩ : Shape).Idx := ⟨fun a b => funext fun k => k.elim0⟩
  have := Host.reduce_andi_all _ _ _ _ _ e i
  refine real_of_absf_lt _ ?_
  by_contra hn
  have e' : BitVec.ofBool (decide ((FloatOps.absf (F := Ideal) (φ := .f32) (x i) : EReal) < Ideal.ofBits .f32 0x7F800000#32)) = 1#1 := this
  rw [ofBits_inf, decide_eq_false hn] at e'
  exact absurd e' (by decide)

/-- The precondition of the three kernels, argument by argument. -/
theorem reals_of_pre (x0 x1 x2 x3 : Vec Ideal ⟨3, ![2, 2304, 512]⟩ .f32) (x4 x5 : Vec Ideal ⟨1, ![4]⟩ .f32)
    (h : Cert.Pre_finite.fn (F := Ideal) x0 x1 x2 x3 x4 x5 = fun _ => 1#1) :
    (∀ i, x0 i = (((x0 i).toReal : ℝ) : EReal)) ∧ (∀ i, x1 i = (((x1 i).toReal : ℝ) : EReal)) ∧ (∀ i, x2 i = (((x2 i).toReal : ℝ) : EReal))
      ∧ (∀ i, x3 i = (((x3 i).toReal : ℝ) : EReal)) ∧ (∀ i, x4 i = (((x4 i).toReal : ℝ) : EReal)) ∧ (∀ i, x5 i = (((x5 i).toReal : ℝ) : EReal)) := by
  have h := congrFun h ix0
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨_, h0⟩ := IntOp.andi_eq_one.1 h
  exact ⟨reals_of_all _ _ _ _ _ _ h0, reals_of_all _ _ _ _ _ _ h1, reals_of_all _ _ _ _ _ _ h2, reals_of_all _ _ _ _ _ _ h3,
    reals_of_all _ _ _ _ _ _ h4, reals_of_all _ _ _ _ _ _ h5⟩

end Cert.Retention
end
-- ==== Proof.DqEq.lean ====
/- The gradients of the queries: the claims about the kernel and its reference. -/
module

public import proofs.«01_k».proof.Defs
public import proofs.«01_k».proof.Proof.DqArr
public import proofs.«01_k».proof.Proof.DqRef
public import proofs.«01_k».proof.Proof.Pre
public import proofs.«01_k».proof.Proof.Gen.KernelDqIdeal.Value
public import proofs.«01_k».proof.Proof.Gen.RefDqIdeal.Run

@[expose] public section

set_option maxRecDepth 16384

noncomputable section

namespace Cert.Proof.Dq

open Idealize.ShloMosaic Idealize.SL.Sem Cert.Retention

/-- The reference ends with its arguments unchanged; it has no semaphore. -/
theorem frame_ref : Cert.quiescent_RefDqIdeal := by
  intro m g _
  exact (θ_run Cert.RefDqIdeal.defs _ _).mono (fun r h => ⟨fun c => ⟨(h c).2.2.1, (h c).2.2.2.1, (h c).2.2.2.2.1, (h c).2.2.2.2.2.1, (h c).2.2.2.2.2.2.1, (h c).2.2.2.2.2.2.2⟩,
    sem_eq_zero_of_no_sems (by decide) r.2⟩) (Cert.RefDqIdeal.Value.run m g)

/-- What the kernel leaves is what the reference computes, both directions. -/
theorem equal : Cert.algebraic_KernelDqIdeal_RefDqIdeal_pre_finite := by
  intro m g m' g' hpre hag
  have real := fun c => reals_of_pre _ _ _ _ _ _ (hpre c)
  refine ⟨fun c => outArr false timeFwd (fun h => (m ((c.tc : Thread Cert.KernelDqIdeal.nD Cert.KernelDqIdeal.τ).loc Cert.KernelDqIdeal.main_arg4) (ix1 h)).toReal)
      (fun j => (m ((c.tc : Thread Cert.KernelDqIdeal.nD Cert.KernelDqIdeal.τ).loc Cert.KernelDqIdeal.main_arg3) j).toReal) (fun j => (m ((c.tc : Thread Cert.KernelDqIdeal.nD Cert.KernelDqIdeal.τ).loc Cert.KernelDqIdeal.main_arg2) j).toReal)
      (fun j => (m ((c.tc : Thread Cert.KernelDqIdeal.nD Cert.KernelDqIdeal.τ).loc Cert.KernelDqIdeal.main_arg1) j).toReal),
    fun c => outArr true timeBwd (fun h => (m ((c.tc : Thread Cert.KernelDqIdeal.nD Cert.KernelDqIdeal.τ).loc Cert.KernelDqIdeal.main_arg5) (ix1 h)).toReal)
      (fun j => (m ((c.tc : Thread Cert.KernelDqIdeal.nD Cert.KernelDqIdeal.τ).loc Cert.KernelDqIdeal.main_arg3) j).toReal) (fun j => (m ((c.tc : Thread Cert.KernelDqIdeal.nD Cert.KernelDqIdeal.τ).loc Cert.KernelDqIdeal.main_arg2) j).toReal)
      (fun j => (m ((c.tc : Thread Cert.KernelDqIdeal.nD Cert.KernelDqIdeal.τ).loc Cert.KernelDqIdeal.main_arg1) j).toReal), ?_, ?_⟩
  · refine (θ_run Cert.KernelDqIdeal.defs _ _).mono (fun r h c => ?_) (Cert.KernelDqIdeal.Value.run_blocks m g)
    obtain ⟨r0, r1, r2, r3, r4, r5⟩ := real c
    refine ⟨(h c).1.trans ?_, (h c).2.1.trans ?_, (h c).2.2⟩
    · exact Cert.KernelDqIdeal.Arr.final_a m c _ _ _ _ (fun _ _ _ => r3 _) (fun _ _ _ => r2 _) (fun _ _ _ => r1 _) (fun _ => r4 _)
    · exact Cert.KernelDqIdeal.Arr.final_b m c _ _ _ _ (fun _ _ _ => r3 _) (fun _ _ _ => r2 _) (fun _ _ _ => r1 _) (fun _ => r5 _)
  · refine (θ_run Cert.RefDqIdeal.defs _ _).mono (fun r h c => ?_) (Cert.RefDqIdeal.Value.run m' g')
    obtain ⟨r0, r1, r2, r3, r4, r5⟩ := real c
    obtain ⟨e0, e1, e2, e3, e4, e5⟩ := hag c
    refine ⟨(h c).1.trans ?_, (h c).2.1.trans ?_, (h c).2.2⟩
    · rw [Cert.RefDqIdeal.Read.val_main_v36_eq]
      exact Cert.RefDqIdeal.Arr.grad_a _ _ _ _ _ _ _ _ (fun _ _ _ => (congrFun e3 _).trans (r3 _)) (fun _ _ _ => (congrFun e2 _).trans (r2 _))
        (fun _ _ _ => (congrFun e1 _).trans (r1 _)) (fun _ => (congrFun e4 _).trans (r4 _))
    · rw [Cert.RefDqIdeal.Read.val_main_v80_eq]
      exact Cert.RefDqIdeal.Arr.grad_b _ _ _ _ _ _ _ _ (fun _ _ _ => (congrFun e3 _).trans (r3 _)) (fun _ _ _ => (congrFun e2 _).trans (r2 _))
        (fun _ _ _ => (congrFun e1 _).trans (r1 _)) (fun _ => (congrFun e5 _).trans (r5 _))

end Cert.Proof.Dq
end
-- ==== Proof.DkArr.lean ====
/- The two result arrays of the kernel that computes the gradient of `k`, from real arguments: retentions of `v`, the upstream gradient
   and `q`, run back. -/
module

public import proofs.«01_k».proof.Proof.RetArr
public import proofs.«01_k».proof.Proof.Gen.KernelDkIdeal.Value
public import Idealize.ShloMosaic.Lib.Pipeline.ValueKit

@[expose] public section

set_option maxRecDepth 16384

noncomputable section

namespace Cert.KernelDkIdeal.Arr

open Cert.KernelDkIdeal Cert.KernelDkIdeal.Gen Cert.Retention Idealize.ShloMosaic Idealize.ShloMosaic.TcCoe

variable (m : (ℓ : Loc nD τ sig) → Buf (Elt Ideal) ℓ)

/-! ## The host's lanes of the decay parameters -/

theorem V_a (c : Dev nD) : V m c main_v1 = (broadcastInDim S4x1x128 ![0, 1, 2] bcast_S4x1x1_S4x1x128_0_1_2
    (shapeCast S4x1x1 (m ((c : Thread nD τ).loc main_arg4)) shapeCasts_S4_S4x1x1) : Vec Ideal S4x1x128 .f32) := by
  unfold_abbrev_sides
  after_results
  rfl

theorem V_b (c : Dev nD) : V m c main_v3 = (broadcastInDim S4x1x128 ![0, 1, 2] bcast_S4x1x1_S4x1x128_0_1_2
    (shapeCast S4x1x1 (m ((c : Thread nD τ).loc main_arg5)) shapeCasts_S4_S4x1x1) : Vec Ideal S4x1x128 .f32) := by
  unfold_abbrev_sides
  after_results
  rfl

theorem lanes_at (x : Vec Ideal S4 .f32) (h : Fin 4) (l : Fin 128) :
    (broadcastInDim S4x1x128 ![0, 1, 2] bcast_S4x1x1_S4x1x128_0_1_2 (shapeCast S4x1x1 x shapeCasts_S4_S4x1x1) :
      Vec Ideal S4x1x128 .f32) (ix3 h 0 l) = x (ix1 h) := by
  pointwise

theorem whole_at (x : Vec Ideal S1x1x128 .f32) (l : Fin 128) : (View.ld x r0_0 : Vec Ideal S1x1x128 .f32) (ix3 0 0 l) = x (ix3 0 0 l) := by
  pointwise [r0_0]

/-! ## The windows' blocks -/

theorem idx0 : ∀ t : Fin cfg0.N, win0_0.index t = ![(grid0.coords t 0).val, 0, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx5 : ∀ t : Fin cfg0.N, win0_5.index t = ![(grid0.coords t 0).val, 0, (grid0.coords t 1).val] :=
  (by decide +kernel : ∀ t : Fin grid0.N, _)
theorem idx6 : ∀ t : Fin cfg0.N, win0_6.index t = ![(grid0.coords t 0).val, 0, (grid0.coords t 1).val] :=
  (by decide +kernel : ∀ t : Fin grid0.N, _)
theorem idx3 : ∀ t : Fin cfg0.N, win0_3.index t = ![(grid0.coords t 1).val, 0, 0] :=
  (by decide +kernel : ∀ t : Fin grid0.N, _)
theorem idx4 : ∀ t : Fin cfg0.N, win0_4.index t = ![(grid0.coords t 1).val, 0, 0] :=
  (by decide +kernel : ∀ t : Fin grid0.N, _)

theorem blk0 (c : Dev nD) (t : Fin cfg0.N) (b : Fin 2) (h : Fin 4) (eb : b.val = (grid0.coords t 0).val)
    (eh : h.val = (grid0.coords t 1).val) (r : Fin 2304) (d : Fin 128) :
    iblk m c 0 t (ix3 0 r d) = m ((c : Thread nD τ).loc main_arg2) (ix3 b r (lane h d)) := by
  show V m c main_arg2 ((win0_0.blk t).view.emb (ix3 0 r d)) = _
  rw [V_main_arg2]
  congr 1
  unfold lane
  blk_ext [idx0]

theorem blk1 (c : Dev nD) (t : Fin cfg0.N) (b : Fin 2) (h : Fin 4) (eb : b.val = (grid0.coords t 0).val)
    (eh : h.val = (grid0.coords t 1).val) (r : Fin 2304) (d : Fin 128) :
    iblk m c 1 t (ix3 0 r d) = m ((c : Thread nD τ).loc main_arg3) (ix3 b r (lane h d)) := by
  show V m c main_arg3 ((win0_1.blk t).view.emb (ix3 0 r d)) = _
  rw [V_main_arg3]
  congr 1
  unfold lane
  blk_ext [idx1]

theorem blk2 (c : Dev nD) (t : Fin cfg0.N) (b : Fin 2) (h : Fin 4) (eb : b.val = (grid0.coords t 0).val)
    (eh : h.val = (grid0.coords t 1).val) (r : Fin 2304) (d : Fin 128) :
    iblk m c 2 t (ix3 0 r d) = m ((c : Thread nD τ).loc main_arg0) (ix3 b r (lane h d)) := by
  show V m c main_arg0 ((win0_2.blk t).view.emb (ix3 0 r d)) = _
  rw [V_main_arg0]
  congr 1
  unfold lane
  blk_ext [idx2]

theorem blk3 (c : Dev nD) (t : Fin cfg0.N) (h : Fin 4) (eh : h.val = (grid0.coords t 1).val) (d : Fin 128) :
    iblk m c 3 t (ix3 0 0 d) = m ((c : Thread nD τ).loc main_arg4) (ix1 h) := by
  show V m c main_v1 ((win0_3.blk t).view.emb (ix3 0 0 d)) = _
  rw [V_a]
  refine Eq.trans ?_ (lanes_at (m ((c : Thread nD τ).loc main_arg4)) h d)
  congr 1
  blk_ext [idx3]

theorem blk4 (c : Dev nD) (t : Fin cfg0.N) (h : Fin 4) (eh : h.val = (grid0.coords t 1).val) (d : Fin 128) :
    iblk m c 4 t (ix3 0 0 d) = m ((c : Thread nD τ).loc main_arg5) (ix1 h) := by
  show V m c main_v3 ((win0_4.blk t).view.emb (ix3 0 0 d)) = _
  rw [V_b]
  refine Eq.trans ?_ (lanes_at (m ((c : Thread nD τ).loc main_arg5)) h d)
  congr 1
  blk_ext [idx4]

/-! ## The result arrays -/

section

variable (c : Dev nD) (A B C : SArr.Idx → ℝ) (dec : Fin 4 → ℝ)
  (hA : ∀ b r j, m ((c : Thread nD τ).loc main_arg2) (ix3 b r j) = ((A (ix3 b r j) : ℝ) : EReal))
  (hB : ∀ b r j, m ((c : Thread nD τ).loc main_arg3) (ix3 b r j) = ((B (ix3 b r j) : ℝ) : EReal))
  (hC : ∀ b r j, m ((c : Thread nD τ).loc main_arg0) (ix3 b r j) = ((C (ix3 b r j) : ℝ) : EReal))

include hA hB hC

theorem block_a (hd : ∀ h, m ((c : Thread nD τ).loc main_arg4) (ix1 h) = ((dec h : ℝ) : EReal)) (t : Fin cfg0.N) (b : Fin 2) (h : Fin 4)
    (eb : b.val = (grid0.coords t 0).val) (eh : h.val = (grid0.coords t 1).val) (z : Fin 1) (r : Fin 2304) (e : Fin 128) :
    out0_5 (iblk m c 0 t) (iblk m c 1 t) (iblk m c 2 t) (iblk m c 3 t) (iblk m c 4 t) (ix3 z r e)
      = ((retArr false timeFwdRev dec A B C b r h e : ℝ) : EReal) := by
  rw [dk_a]
  unfold retArr
  refine scan_at ordFwdRev_sum ordFwdRev_onto timeFwdRev_at (fun r d => ?_) (fun r d => ?_) (fun r d => ?_) (fun l => ?_) z r e
  · rw [headOf_val]; exact (blk0 m c t b h eb eh r d).trans (hA _ _ _)
  · rw [headOf_val]; exact (blk1 m c t b h eb eh r d).trans (hB _ _ _)
  · rw [headOf_val]; exact (blk2 m c t b h eb eh r d).trans (hC _ _ _)
  · exact (whole_at _ l).trans ((blk3 m c t h eh l).trans (hd _))

theorem final_a (hd : ∀ h, m ((c : Thread nD τ).loc main_arg4) (ix1 h) = ((dec h : ℝ) : EReal)) :
    (dats m 0 c).arrAt 5 cfg0.N = outArr false timeFwdRev dec A B C := by
  refine (dats m 0 c).arrAt_eq_of_covers 5 _ (by decide +kernel) fun t _ y => ?_
  blk_simp
  rw [after0_5]
  obtain ⟨z, r, e, rfl⟩ : ∃ (z : Fin 1) (r : Fin 2304) (e : Fin 128), y = ix3 z r e := ⟨_, _, _, eq_ix3 y⟩
  obtain ⟨b, eb⟩ : ∃ b : Fin 2, b.val = (grid0.coords t 0).val := ⟨⟨_, (grid0.coords t 0).isLt⟩, rfl⟩
  obtain ⟨h, eh⟩ : ∃ h : Fin 4, h.val = (grid0.coords t 1).val := ⟨⟨_, (grid0.coords t 1).isLt⟩, rfl⟩
  have emb : (win0_5.blk t).view.emb (ix3 z r e) = (ix3 b r (lane h e) : SArr.Idx) := by
    have hz : z.val = 0 := by omega
    unfold lane
    blk_ext [idx5]
  rw [emb, outArr_at]
  exact block_a m c A B C dec hA hB hC hd t b h eb eh z r e

theorem block_b (hd : ∀ h, m ((c : Thread nD τ).loc main_arg5) (ix1 h) = ((dec h : ℝ) : EReal)) (t : Fin cfg0.N) (b : Fin 2) (h : Fin 4)
    (eb : b.val = (grid0.coords t 0).val) (eh : h.val = (grid0.coords t 1).val) (z : Fin 1) (r : Fin 2304) (e : Fin 128) :
    out0_6 (iblk m c 0 t) (iblk m c 1 t) (iblk m c 2 t) (iblk m c 3 t) (iblk m c 4 t) (ix3 z r e)
      = ((retArr true timeBwdRev dec A B C b r h e : ℝ) : EReal) := by
  rw [dk_b]
  unfold retArr
  refine scan_at ordBwdRev_sum ordBwdRev_onto timeBwdRev_at (fun r d => ?_) (fun r d => ?_) (fun r d => ?_) (fun l => ?_) z r e
  · rw [headOf_val]; exact (blk0 m c t b h eb eh r d).trans (hA _ _ _)
  · rw [headOf_val]; exact (blk1 m c t b h eb eh r d).trans (hB _ _ _)
  · rw [headOf_val]; exact (blk2 m c t b h eb eh r d).trans (hC _ _ _)
  · exact (whole_at _ l).trans ((blk4 m c t h eh l).trans (hd _))

theorem final_b (hd : ∀ h, m ((c : Thread nD τ).loc main_arg5) (ix1 h) = ((dec h : ℝ) : EReal)) :
    (dats m 0 c).arrAt 6 cfg0.N = outArr true timeBwdRev dec A B C := by
  refine (dats m 0 c).arrAt_eq_of_covers 6 _ (by decide +kernel) fun t _ y => ?_
  blk_simp
  rw [after0_6]
  obtain ⟨z, r, e, rfl⟩ : ∃ (z : Fin 1) (r : Fin 2304) (e : Fin 128), y = ix3 z r e := ⟨_, _, _, eq_ix3 y⟩
  obtain ⟨b, eb⟩ : ∃ b : Fin 2, b.val = (grid0.coords t 0).val := ⟨⟨_, (grid0.coords t 0).isLt⟩, rfl⟩
  obtain ⟨h, eh⟩ : ∃ h : Fin 4, h.val = (grid0.coords t 1).val := ⟨⟨_, (grid0.coords t 1).isLt⟩, rfl⟩
  have emb : (win0_6.blk t).view.emb (ix3 z r e) = (ix3 b r (lane h e) : SArr.Idx) := by
    have hz : z.val = 0 := by omega
    unfold lane
    blk_ext [idx6]
  rw [emb, outArr_at]
  exact block_b m c A B C dec hA hB hC hd t b h eb eh z r e

end

end Cert.KernelDkIdeal.Arr
end
-- ==== Proof.DkRef.lean ====
/- The reference's gradients of the keys, read as the sums over positions that the kernel's arrays hold. -/
module

public import proofs.«01_k».proof.Proof.RetRef
public import proofs.«01_k».proof.Proof.Gen.RefDkIdeal.Read

@[expose] public section

set_option maxRecDepth 16384

noncomputable section

namespace Cert.RefDkIdeal.Arr

open Cert.RefDkIdeal Cert.RefDkIdeal.Read Cert.Retention Idealize.ShloMosaic

/-- The logarithm of the decay, forward direction. -/
theorem lg_a (x4 : Vec Ideal S4 .f32) (h : Fin 4) (x : ℝ) (hx : x4 (ix1 h) = (x : EReal)) :
    val_main_v1 (F := Ideal) x4 (ix1 h) = ((lgR x : ℝ) : EReal) := by
  pointwise [val_main_v1, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [hx]
  exact logSigmoidRef_coe x

/-- The decay between two positions, forward direction. -/
theorem decay_a (x4 : Vec Ideal S4 .f32) (h : Fin 4) (x : ℝ) (hx : x4 (ix1 h) = (x : EReal)) (i j : Fin 2304) :
    val_main_v18 (F := Ideal) x4 (ix3 h i j) = ((wt false (lgR x) (timeFwd i - timeFwd j) : ℝ) : EReal) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1, val_main_call1_v0, val_main_call1_v1, val_main_call1_v2]
  rw [lg_a x4 h x hx, ← decayFwd_coe]
  simp [constant]

/-- The logarithm of the decay, backward direction. -/
theorem lg_b (x5 : Vec Ideal S4 .f32) (h : Fin 4) (x : ℝ) (hx : x5 (ix1 h) = (x : EReal)) :
    val_main_v45 (F := Ideal) x5 (ix1 h) = ((lgR x : ℝ) : EReal) := by
  pointwise [val_main_v45, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [hx]
  exact logSigmoidRef_coe x

/-- The time of a position in the backward direction. -/
theorem time_b (i : Fin 2304) : val_main_v44 (F := Ideal) (ix1 i) = ((timeBwd i : ℝ) : EReal) := by
  pointwise [val_main_v44, val_main_v43, val_main_v42, val_main_v41, val_main_v40, val_main_v39, val_main_v38, val_main_v37, val_main_cst_2, val_main_cst_3, val_main_cst_4]
  exact timeBwd_coe i

/-- The decay between two positions, backward direction. -/
theorem decay_b (x5 : Vec Ideal S4 .f32) (h : Fin 4) (x : ℝ) (hx : x5 (ix1 h) = (x : EReal)) (i j : Fin 2304) :
    val_main_v62 (F := Ideal) x5 (ix3 h i j) = ((wt true (lgR x) (timeBwd i - timeBwd j) : ℝ) : EReal) := by
  pointwise [val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_5, val_main_cst_6, val_main_cst_7, val_main_call4_v0, val_main_call4_v1, val_main_call4_v2]
  rw [time_b, time_b, lg_b x5 h x hx, ← decayBwd_coe]
  simp [constant]

/-- The gradient of the keys, forward direction. -/
theorem grad_a (x0 x2 x3 : Vec Ideal S2x2304x512 .f32) (x4 : Vec Ideal S4 .f32) (A B C : SArr.Idx → ℝ) (dec : Fin 4 → ℝ)
    (hA : ∀ b r j, x2 (ix3 b r j) = ((A (ix3 b r j) : ℝ) : EReal))
    (hB : ∀ b r j, x3 (ix3 b r j) = ((B (ix3 b r j) : ℝ) : EReal))
    (hC : ∀ b r j, x0 (ix3 b r j) = ((C (ix3 b r j) : ℝ) : EReal))
    (hd : ∀ h, x4 (ix1 h) = ((dec h : ℝ) : EReal)) :
    val_main_v36 (F := Ideal) x0 x2 x3 x4 = outArr false timeFwdRev dec A B C := by
  funext i
  obtain ⟨b, t, j, rfl⟩ : ∃ (b : Fin 2) (t : Fin 2304) (j : Fin 512), i = ix3 b t j := ⟨_, _, _, eq_ix3 i⟩
  rw [outArr_eq]
  pointwise [val_main_v36, val_main_v35, val_main_v34, val_main_v33, val_main_v31, val_main_v30, val_main_v29, val_main_v25, val_main_v32, val_main_v22, val_main_v19]
  simp only [hA, hB, hC, decay_a x4 _ _ (hd _), ← EReal.coe_mul, coe_sum, lane_of]
  refine congrArg _ (Finset.sum_congr rfl fun u _ => ?_)
  rw [timeFwdRev_sub]
  refine congrArg₂ _ (congrArg₂ _ (Finset.sum_congr rfl fun d _ => mul_comm _ _) rfl) rfl

/-- The gradient of the keys, backward direction. -/
theorem grad_b (x0 x2 x3 : Vec Ideal S2x2304x512 .f32) (x5 : Vec Ideal S4 .f32) (A B C : SArr.Idx → ℝ) (dec : Fin 4 → ℝ)
    (hA : ∀ b r j, x2 (ix3 b r j) = ((A (ix3 b r j) : ℝ) : EReal))
    (hB : ∀ b r j, x3 (ix3 b r j) = ((B (ix3 b r j) : ℝ) : EReal))
    (hC : ∀ b r j, x0 (ix3 b r j) = ((C (ix3 b r j) : ℝ) : EReal))
    (hd : ∀ h, x5 (ix1 h) = ((dec h : ℝ) : EReal)) :
    val_main_v80 (F := Ideal) x0 x2 x3 x5 = outArr true timeBwdRev dec A B C := by
  funext i
  obtain ⟨b, t, j, rfl⟩ : ∃ (b : Fin 2) (t : Fin 2304) (j : Fin 512), i = ix3 b t j := ⟨_, _, _, eq_ix3 i⟩
  rw [outArr_eq]
  pointwise [val_main_v80, val_main_v79, val_main_v78, val_main_v77, val_main_v75, val_main_v74, val_main_v73, val_main_v69, val_main_v76, val_main_v66, val_main_v63]
  simp only [hA, hB, hC, decay_b x5 _ _ (hd _), ← EReal.coe_mul, coe_sum, lane_of]
  refine congrArg _ (Finset.sum_congr rfl fun u _ => ?_)
  rw [timeBwdRev_sub]
  refine congrArg₂ _ (congrArg₂ _ (Finset.sum_congr rfl fun d _ => mul_comm _ _) rfl) rfl

end Cert.RefDkIdeal.Arr
end
-- ==== Proof.DkEq.lean ====
/- The gradients of the keys: the claims about the kernel and its reference. -/
module

public import proofs.«01_k».proof.Defs
public import proofs.«01_k».proof.Proof.DkArr
public import proofs.«01_k».proof.Proof.DkRef
public import proofs.«01_k».proof.Proof.Pre
public import proofs.«01_k».proof.Proof.Gen.KernelDkIdeal.Value
public import proofs.«01_k».proof.Proof.Gen.RefDkIdeal.Run

@[expose] public section

set_option maxRecDepth 16384

noncomputable section

namespace Cert.Proof.Dk

open Idealize.ShloMosaic Idealize.SL.Sem Cert.Retention

/-- The reference ends with its arguments unchanged; it has no semaphore. -/
theorem frame_ref : Cert.quiescent_RefDkIdeal := by
  intro m g _
  exact (θ_run Cert.RefDkIdeal.defs _ _).mono (fun r h => ⟨fun c => ⟨(h c).2.2.1, (h c).2.2.2.1, (h c).2.2.2.2.1, (h c).2.2.2.2.2.1, (h c).2.2.2.2.2.2.1, (h c).2.2.2.2.2.2.2⟩,
    sem_eq_zero_of_no_sems (by decide) r.2⟩) (Cert.RefDkIdeal.Value.run m g)

/-- What the kernel leaves is what the reference computes, both directions. -/
theorem equal : Cert.algebraic_KernelDkIdeal_RefDkIdeal_pre_finite := by
  intro m g m' g' hpre hag
  have real := fun c => reals_of_pre _ _ _ _ _ _ (hpre c)
  refine ⟨fun c => outArr false timeFwdRev (fun h => (m ((c.tc : Thread Cert.KernelDkIdeal.nD Cert.KernelDkIdeal.τ).loc Cert.KernelDkIdeal.main_arg4) (ix1 h)).toReal)
      (fun j => (m ((c.tc : Thread Cert.KernelDkIdeal.nD Cert.KernelDkIdeal.τ).loc Cert.KernelDkIdeal.main_arg2) j).toReal) (fun j => (m ((c.tc : Thread Cert.KernelDkIdeal.nD Cert.KernelDkIdeal.τ).loc Cert.KernelDkIdeal.main_arg3) j).toReal)
      (fun j => (m ((c.tc : Thread Cert.KernelDkIdeal.nD Cert.KernelDkIdeal.τ).loc Cert.KernelDkIdeal.main_arg0) j).toReal),
    fun c => outArr true timeBwdRev (fun h => (m ((c.tc : Thread Cert.KernelDkIdeal.nD Cert.KernelDkIdeal.τ).loc Cert.KernelDkIdeal.main_arg5) (ix1 h)).toReal)
      (fun j => (m ((c.tc : Thread Cert.KernelDkIdeal.nD Cert.KernelDkIdeal.τ).loc Cert.KernelDkIdeal.main_arg2) j).toReal) (fun j => (m ((c.tc : Thread Cert.KernelDkIdeal.nD Cert.KernelDkIdeal.τ).loc Cert.KernelDkIdeal.main_arg3) j).toReal)
      (fun j => (m ((c.tc : Thread Cert.KernelDkIdeal.nD Cert.KernelDkIdeal.τ).loc Cert.KernelDkIdeal.main_arg0) j).toReal), ?_, ?_⟩
  · refine (θ_run Cert.KernelDkIdeal.defs _ _).mono (fun r h c => ?_) (Cert.KernelDkIdeal.Value.run_blocks m g)
    obtain ⟨r0, r1, r2, r3, r4, r5⟩ := real c
    refine ⟨(h c).1.trans ?_, (h c).2.1.trans ?_, (h c).2.2⟩
    · exact Cert.KernelDkIdeal.Arr.final_a m c _ _ _ _ (fun _ _ _ => r2 _) (fun _ _ _ => r3 _) (fun _ _ _ => r0 _) (fun _ => r4 _)
    · exact Cert.KernelDkIdeal.Arr.final_b m c _ _ _ _ (fun _ _ _ => r2 _) (fun _ _ _ => r3 _) (fun _ _ _ => r0 _) (fun _ => r5 _)
  · refine (θ_run Cert.RefDkIdeal.defs _ _).mono (fun r h c => ?_) (Cert.RefDkIdeal.Value.run m' g')
    obtain ⟨r0, r1, r2, r3, r4, r5⟩ := real c
    obtain ⟨e0, e1, e2, e3, e4, e5⟩ := hag c
    refine ⟨(h c).1.trans ?_, (h c).2.1.trans ?_, (h c).2.2⟩
    · rw [Cert.RefDkIdeal.Read.val_main_v36_eq]
      exact Cert.RefDkIdeal.Arr.grad_a _ _ _ _ _ _ _ _ (fun _ _ _ => (congrFun e2 _).trans (r2 _)) (fun _ _ _ => (congrFun e3 _).trans (r3 _))
        (fun _ _ _ => (congrFun e0 _).trans (r0 _)) (fun _ => (congrFun e4 _).trans (r4 _))
    · rw [Cert.RefDkIdeal.Read.val_main_v80_eq]
      exact Cert.RefDkIdeal.Arr.grad_b _ _ _ _ _ _ _ _ (fun _ _ _ => (congrFun e2 _).trans (r2 _)) (fun _ _ _ => (congrFun e3 _).trans (r3 _))
        (fun _ _ _ => (congrFun e0 _).trans (r0 _)) (fun _ => (congrFun e5 _).trans (r5 _))

end Cert.Proof.Dk
end
-- ==== Proof.DvArr.lean ====
/- The two result arrays of the kernel that computes the gradient of `v`, from real arguments: retentions of `k`, `q` and the upstream
   gradient, run back. -/
module

public import proofs.«01_k».proof.Proof.RetArr
public import proofs.«01_k».proof.Proof.Gen.KernelDvIdeal.Value
public import Idealize.ShloMosaic.Lib.Pipeline.ValueKit

@[expose] public section

set_option maxRecDepth 16384

noncomputable section

namespace Cert.KernelDvIdeal.Arr

open Cert.KernelDvIdeal Cert.KernelDvIdeal.Gen Cert.Retention Idealize.ShloMosaic Idealize.ShloMosaic.TcCoe

variable (m : (ℓ : Loc nD τ sig) → Buf (Elt Ideal) ℓ)

/-! ## The host's lanes of the decay parameters -/

theorem V_a (c : Dev nD) : V m c main_v1 = (broadcastInDim S4x1x128 ![0, 1, 2] bcast_S4x1x1_S4x1x128_0_1_2
    (shapeCast S4x1x1 (m ((c : Thread nD τ).loc main_arg4)) shapeCasts_S4_S4x1x1) : Vec Ideal S4x1x128 .f32) := by
  unfold_abbrev_sides
  after_results
  rfl

theorem V_b (c : Dev nD) : V m c main_v3 = (broadcastInDim S4x1x128 ![0, 1, 2] bcast_S4x1x1_S4x1x128_0_1_2
    (shapeCast S4x1x1 (m ((c : Thread nD τ).loc main_arg5)) shapeCasts_S4_S4x1x1) : Vec Ideal S4x1x128 .f32) := by
  unfold_abbrev_sides
  after_results
  rfl

theorem lanes_at (x : Vec Ideal S4 .f32) (h : Fin 4) (l : Fin 128) :
    (broadcastInDim S4x1x128 ![0, 1, 2] bcast_S4x1x1_S4x1x128_0_1_2 (shapeCast S4x1x1 x shapeCasts_S4_S4x1x1) :
      Vec Ideal S4x1x128 .f32) (ix3 h 0 l) = x (ix1 h) := by
  pointwise

theorem whole_at (x : Vec Ideal S1x1x128 .f32) (l : Fin 128) : (View.ld x r0_0 : Vec Ideal S1x1x128 .f32) (ix3 0 0 l) = x (ix3 0 0 l) := by
  pointwise [r0_0]

/-! ## The windows' blocks -/

theorem idx0 : ∀ t : Fin cfg0.N, win0_0.index t = ![(grid0.coords t 0).val, 0, (grid0.coords t 1).val] :=
  (by decide +kernel : ∀ t : Fin grid0.N, _)
theorem idx1 : ∀ t : Fin cfg0.N, win0_1.index t = ![(grid0.coords t 0).val, 0, (grid0.coords t 1).val] :=
  (by decide +kernel : ∀ t : Fin grid0.N, _)
theorem idx2 : ∀ t : Fin cfg0.N, win0_2.index t = ![(grid0.coords t 0).val, 0, (grid0.coords t 1).val] :=
  (by decide +kernel : ∀ t : Fin grid0.N, _)
theorem idx5 : ∀ t : Fin cfg0.N, win0_5.index t = ![(grid0.coords t 0).val, 0, (grid0.coords t 1).val] :=
  (by decide +kernel : ∀ t : Fin grid0.N, _)
theorem idx6 : ∀ t : Fin cfg0.N, win0_6.index t = ![(grid0.coords t 0).val, 0, (grid0.coords t 1).val] :=
  (by decide +kernel : ∀ t : Fin grid0.N, _)
theorem idx3 : ∀ t : Fin cfg0.N, win0_3.index t = ![(grid0.coords t 1).val, 0, 0] :=
  (by decide +kernel : ∀ t : Fin grid0.N, _)
theorem idx4 : ∀ t : Fin cfg0.N, win0_4.index t = ![(grid0.coords t 1).val, 0, 0] :=
  (by decide +kernel : ∀ t : Fin grid0.N, _)

theorem blk0 (c : Dev nD) (t : Fin cfg0.N) (b : Fin 2) (h : Fin 4) (eb : b.val = (grid0.coords t 0).val)
    (eh : h.val = (grid0.coords t 1).val) (r : Fin 2304) (d : Fin 128) :
    iblk m c 0 t (ix3 0 r d) = m ((c : Thread nD τ).loc main_arg1) (ix3 b r (lane h d)) := by
  show V m c main_arg1 ((win0_0.blk t).view.emb (ix3 0 r d)) = _
  rw [V_main_arg1]
  congr 1
  unfold lane
  blk_ext [idx0]

theorem blk1 (c : Dev nD) (t : Fin cfg0.N) (b : Fin 2) (h : Fin 4) (eb : b.val = (grid0.coords t 0).val)
    (eh : h.val = (grid0.coords t 1).val) (r : Fin 2304) (d : Fin 128) :
    iblk m c 1 t (ix3 0 r d) = m ((c : Thread nD τ).loc main_arg0) (ix3 b r (lane h d)) := by
  show V m c main_arg0 ((win0_1.blk t).view.emb (ix3 0 r d)) = _
  rw [V_main_arg0]
  congr 1
  unfold lane
  blk_ext [idx1]

theorem blk2 (c : Dev nD) (t : Fin cfg0.N) (b : Fin 2) (h : Fin 4) (eb : b.val = (grid0.coords t 0).val)
    (eh : h.val = (grid0.coords t 1).val) (r : Fin 2304) (d : Fin 128) :
    iblk m c 2 t (ix3 0 r d) = m ((c : Thread nD τ).loc main_arg3) (ix3 b r (lane h d)) := by
  show V m c main_arg3 ((win0_2.blk t).view.emb (ix3 0 r d)) = _
  rw [V_main_arg3]
  congr 1
  unfold lane
  blk_ext [idx2]

theorem blk3 (c : Dev nD) (t : Fin cfg0.N) (h : Fin 4) (eh : h.val = (grid0.coords t 1).val) (d : Fin 128) :
    iblk m c 3 t (ix3 0 0 d) = m ((c : Thread nD τ).loc main_arg4) (ix1 h) := by
  show V m c main_v1 ((win0_3.blk t).view.emb (ix3 0 0 d)) = _
  rw [V_a]
  refine Eq.trans ?_ (lanes_at (m ((c : Thread nD τ).loc main_arg4)) h d)
  congr 1
  blk_ext [idx3]

theorem blk4 (c : Dev nD) (t : Fin cfg0.N) (h : Fin 4) (eh : h.val = (grid0.coords t 1).val) (d : Fin 128) :
    iblk m c 4 t (ix3 0 0 d) = m ((c : Thread nD τ).loc main_arg5) (ix1 h) := by
  show V m c main_v3 ((win0_4.blk t).view.emb (ix3 0 0 d)) = _
  rw [V_b]
  refine Eq.trans ?_ (lanes_at (m ((c : Thread nD τ).loc main_arg5)) h d)
  congr 1
  blk_ext [idx4]

/-! ## The result arrays -/

section

variable (c : Dev nD) (A B C : SArr.Idx → ℝ) (dec : Fin 4 → ℝ)
  (hA : ∀ b r j, m ((c : Thread nD τ).loc main_arg1) (ix3 b r j) = ((A (ix3 b r j) : ℝ) : EReal))
  (hB : ∀ b r j, m ((c : Thread nD τ).loc main_arg0) (ix3 b r j) = ((B (ix3 b r j) : ℝ) : EReal))
  (hC : ∀ b r j, m ((c : Thread nD τ).loc main_arg3) (ix3 b r j) = ((C (ix3 b r j) : ℝ) : EReal))

include hA hB hC

theorem block_a (hd : ∀ h, m ((c : Thread nD τ).loc main_arg4) (ix1 h) = ((dec h : ℝ) : EReal)) (t : Fin cfg0.N) (b : Fin 2) (h : Fin 4)
    (eb : b.val = (grid0.coords t 0).val) (eh : h.val = (grid0.coords t 1).val) (z : Fin 1) (r : Fin 2304) (e : Fin 128) :
    out0_5 (iblk m c 0 t) (iblk m c 1 t) (iblk m c 2 t) (iblk m c 3 t) (iblk m c 4 t) (ix3 z r e)
      = ((retArr false timeFwdRev dec A B C b r h e : ℝ) : EReal) := by
  rw [dv_a]
  unfold retArr
  refine scan_at ordFwdRev_sum ordFwdRev_onto timeFwdRev_at (fun r d => ?_) (fun r d => ?_) (fun r d => ?_) (fun l => ?_) z r e
  · rw [headOf_val]; exact (blk0 m c t b h eb eh r d).trans (hA _ _ _)
  · rw [headOf_val]; exact (blk1 m c t b h eb eh r d).trans (hB _ _ _)
  · rw [headOf_val]; exact (blk2 m c t b h eb eh r d).trans (hC _ _ _)
  · exact (whole_at _ l).trans ((blk3 m c t h eh l).trans (hd _))

theorem final_a (hd : ∀ h, m ((c : Thread nD τ).loc main_arg4) (ix1 h) = ((dec h : ℝ) : EReal)) :
    (dats m 0 c).arrAt 5 cfg0.N = outArr false timeFwdRev dec A B C := by
  refine (dats m 0 c).arrAt_eq_of_covers 5 _ (by decide +kernel) fun t _ y => ?_
  blk_simp
  rw [after0_5]
  obtain ⟨z, r, e, rfl⟩ : ∃ (z : Fin 1) (r : Fin 2304) (e : Fin 128), y = ix3 z r e := ⟨_, _, _, eq_ix3 y⟩
  obtain ⟨b, eb⟩ : ∃ b : Fin 2, b.val = (grid0.coords t 0).val := ⟨⟨_, (grid0.coords t 0).isLt⟩, rfl⟩
  obtain ⟨h, eh⟩ : ∃ h : Fin 4, h.val = (grid0.coords t 1).val := ⟨⟨_, (grid0.coords t 1).isLt⟩, rfl⟩
  have emb : (win0_5.blk t).view.emb (ix3 z r e) = (ix3 b r (lane h e) : SArr.Idx) := by
    have hz : z.val = 0 := by omega
    unfold lane
    blk_ext [idx5]
  rw [emb, outArr_at]
  exact block_a m c A B C dec hA hB hC hd t b h eb eh z r e

theorem block_b (hd : ∀ h, m ((c : Thread nD τ).loc main_arg5) (ix1 h) = ((dec h : ℝ) : EReal)) (t : Fin cfg0.N) (b : Fin 2) (h : Fin 4)
    (eb : b.val = (grid0.coords t 0).val) (eh : h.val = (grid0.coords t 1).val) (z : Fin 1) (r : Fin 2304) (e : Fin 128) :
    out0_6 (iblk m c 0 t) (iblk m c 1 t) (iblk m c 2 t) (iblk m c 3 t) (iblk m c 4 t) (ix3 z r e)
      = ((retArr true timeBwdRev dec A B C b r h e : ℝ) : EReal) := by
  rw [dv_b]
  unfold retArr
  refine scan_at ordBwdRev_sum ordBwdRev_onto timeBwdRev_at (fun r d => ?_) (fun r d => ?_) (fun r d => ?_) (fun l => ?_) z r e
  · rw [headOf_val]; exact (blk0 m c t b h eb eh r d).trans (hA _ _ _)
  · rw [headOf_val]; exact (blk1 m c t b h eb eh r d).trans (hB _ _ _)
  · rw [headOf_val]; exact (blk2 m c t b h eb eh r d).trans (hC _ _ _)
  · exact (whole_at _ l).trans ((blk4 m c t h eh l).trans (hd _))

theorem final_b (hd : ∀ h, m ((c : Thread nD τ).loc main_arg5) (ix1 h) = ((dec h : ℝ) : EReal)) :
    (dats m 0 c).arrAt 6 cfg0.N = outArr true timeBwdRev dec A B C := by
  refine (dats m 0 c).arrAt_eq_of_covers 6 _ (by decide +kernel) fun t _ y => ?_
  blk_simp
  rw [after0_6]
  obtain ⟨z, r, e, rfl⟩ : ∃ (z : Fin 1) (r : Fin 2304) (e : Fin 128), y = ix3 z r e := ⟨_, _, _, eq_ix3 y⟩
  obtain ⟨b, eb⟩ : ∃ b : Fin 2, b.val = (grid0.coords t 0).val := ⟨⟨_, (grid0.coords t 0).isLt⟩, rfl⟩
  obtain ⟨h, eh⟩ : ∃ h : Fin 4, h.val = (grid0.coords t 1).val := ⟨⟨_, (grid0.coords t 1).isLt⟩, rfl⟩
  have emb : (win0_6.blk t).view.emb (ix3 z r e) = (ix3 b r (lane h e) : SArr.Idx) := by
    have hz : z.val = 0 := by omega
    unfold lane
    blk_ext [idx6]
  rw [emb, outArr_at]
  exact block_b m c A B C dec hA hB hC hd t b h eb eh z r e

end

end Cert.KernelDvIdeal.Arr
end
-- ==== Proof.DvRef.lean ====
/- The reference's gradients of the values, read as the sums over positions that the kernel's arrays hold. -/
module

public import proofs.«01_k».proof.Proof.RetRef
public import proofs.«01_k».proof.Proof.Gen.RefDvIdeal.Read

@[expose] public section

set_option maxRecDepth 16384

noncomputable section

namespace Cert.RefDvIdeal.Arr

open Cert.RefDvIdeal Cert.RefDvIdeal.Read Cert.Retention Idealize.ShloMosaic

/-- The logarithm of the decay, forward direction. -/
theorem lg_a (x4 : Vec Ideal S4 .f32) (h : Fin 4) (x : ℝ) (hx : x4 (ix1 h) = (x : EReal)) :
    val_main_v1 (F := Ideal) x4 (ix1 h) = ((lgR x : ℝ) : EReal) := by
  pointwise [val_main_v1, val_main_call0_v1, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0]
  rw [hx]
  exact logSigmoidRef_coe x

/-- The decay between two positions, forward direction. -/
theorem decay_a (x4 : Vec Ideal S4 .f32) (h : Fin 4) (x : ℝ) (hx : x4 (ix1 h) = (x : EReal)) (i j : Fin 2304) :
    val_main_v18 (F := Ideal) x4 (ix3 h i j) = ((wt false (lgR x) (timeFwd i - timeFwd j) : ℝ) : EReal) := by
  pointwise [val_main_v18, val_main_v17, val_main_v16, val_main_v15, val_main_v14, val_main_v13, val_main_v12, val_main_v11, val_main_v10, val_main_v9, val_main_v8, val_main_v7, val_main_v6, val_main_v5, val_main_v4, val_main_v3, val_main_v2, val_main_v0, val_main_cst, val_main_cst_0, val_main_cst_1, val_main_call1_v0, val_main_call1_v1, val_main_call1_v2]
  rw [lg_a x4 h x hx, ← decayFwd_coe]
  simp [constant]

/-- The logarithm of the decay, backward direction. -/
theorem lg_b (x5 : Vec Ideal S4 .f32) (h : Fin 4) (x : ℝ) (hx : x5 (ix1 h) = (x : EReal)) :
    val_main_v42 (F := Ideal) x5 (ix1 h) = ((lgR x : ℝ) : EReal) := by
  pointwise [val_main_v42, val_main_call3_v1, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [hx]
  exact logSigmoidRef_coe x

/-- The time of a position in the backward direction. -/
theorem time_b (i : Fin 2304) : val_main_v41 (F := Ideal) (ix1 i) = ((timeBwd i : ℝ) : EReal) := by
  pointwise [val_main_v41, val_main_v40, val_main_v39, val_main_v38, val_main_v37, val_main_v36, val_main_v35, val_main_v34, val_main_cst_2, val_main_cst_3, val_main_cst_4]
  exact timeBwd_coe i

/-- The decay between two positions, backward direction. -/
theorem decay_b (x5 : Vec Ideal S4 .f32) (h : Fin 4) (x : ℝ) (hx : x5 (ix1 h) = (x : EReal)) (i j : Fin 2304) :
    val_main_v59 (F := Ideal) x5 (ix3 h i j) = ((wt true (lgR x) (timeBwd i - timeBwd j) : ℝ) : EReal) := by
  pointwise [val_main_v59, val_main_v58, val_main_v57, val_main_v56, val_main_v55, val_main_v54, val_main_v53, val_main_v52, val_main_v51, val_main_v50, val_main_v49, val_main_v48, val_main_v47, val_main_v46, val_main_v45, val_main_v44, val_main_v43, val_main_cst_5, val_main_cst_6, val_main_cst_7, val_main_call4_v0, val_main_call4_v1, val_main_call4_v2]
  rw [time_b, time_b, lg_b x5 h x hx, ← decayBwd_coe]
  simp [constant]

/-- The gradient of the values, forward direction. -/
theorem grad_a (x0 x1 x3 : Vec Ideal S2x2304x512 .f32) (x4 : Vec Ideal S4 .f32) (A B C : SArr.Idx → ℝ) (dec : Fin 4 → ℝ)
    (hA : ∀ b r j, x1 (ix3 b r j) = ((A (ix3 b r j) : ℝ) : EReal))
    (hB : ∀ b r j, x0 (ix3 b r j) = ((B (ix3 b r j) : ℝ) : EReal))
    (hC : ∀ b r j, x3 (ix3 b r j) = ((C (ix3 b r j) : ℝ) : EReal))
    (hd : ∀ h, x4 (ix1 h) = ((dec h : ℝ) : EReal)) :
    val_main_v33 (F := Ideal) x0 x1 x3 x4 = outArr false timeFwdRev dec A B C := by
  funext i
  obtain ⟨b, t, j, rfl⟩ : ∃ (b : Fin 2) (t : Fin 2304) (j : Fin 512), i = ix3 b t j := ⟨_, _, _, eq_ix3 i⟩
  rw [outArr_eq]
  pointwise [val_main_v33, val_main_v32, val_main_v31, val_main_v30, val_main_v29, val_main_v24, val_main_v21, val_main_v19, val_main_v20, val_main_v23, val_main_v22]
  simp only [hA, hB, hC, decay_a x4 _ _ (hd _), ← EReal.coe_mul, coe_sum, lane_of]
  refine congrArg _ (Finset.sum_congr rfl fun u _ => ?_)
  rw [timeFwdRev_sub, mul_comm]
  refine congrArg₂ _ (congrArg₂ _ (Finset.sum_congr rfl fun d _ => mul_comm _ _) rfl) rfl

/-- The gradient of the values, backward direction. -/
theorem grad_b (x0 x1 x3 : Vec Ideal S2x2304x512 .f32) (x5 : Vec Ideal S4 .f32) (A B C : SArr.Idx → ℝ) (dec : Fin 4 → ℝ)
    (hA : ∀ b r j, x1 (ix3 b r j) = ((A (ix3 b r j) : ℝ) : EReal))
    (hB : ∀ b r j, x0 (ix3 b r j) = ((B (ix3 b r j) : ℝ) : EReal))
    (hC : ∀ b r j, x3 (ix3 b r j) = ((C (ix3 b r j) : ℝ) : EReal))
    (hd : ∀ h, x5 (ix1 h) = ((dec h : ℝ) : EReal)) :
    val_main_v74 (F := Ideal) x0 x1 x3 x5 = outArr true timeBwdRev dec A B C := by
  funext i
  obtain ⟨b, t, j, rfl⟩ : ∃ (b : Fin 2) (t : Fin 2304) (j : Fin 512), i = ix3 b t j := ⟨_, _, _, eq_ix3 i⟩
  rw [outArr_eq]
  pointwise [val_main_v74, val_main_v73, val_main_v72, val_main_v71, val_main_v70, val_main_v65, val_main_v62, val_main_v60, val_main_v61, val_main_v64, val_main_v63]
  simp only [hA, hB, hC, decay_b x5 _ _ (hd _), ← EReal.coe_mul, coe_sum, lane_of]
  refine congrArg _ (Finset.sum_congr rfl fun u _ => ?_)
  rw [timeBwdRev_sub, mul_comm]
  refine congrArg₂ _ (congrArg₂ _ (Finset.sum_congr rfl fun d _ => mul_comm _ _) rfl) rfl

end Cert.RefDvIdeal.Arr
end
-- ==== Proof.DvEq.lean ====
/- The gradients of the values: the claims about the kernel and its reference. -/
module

public import proofs.«01_k».proof.Defs
public import proofs.«01_k».proof.Proof.DvArr
public import proofs.«01_k».proof.Proof.DvRef
public import proofs.«01_k».proof.Proof.Pre
public import proofs.«01_k».proof.Proof.Gen.KernelDvIdeal.Value
public import proofs.«01_k».proof.Proof.Gen.RefDvIdeal.Run

@[expose] public section

set_option maxRecDepth 16384

noncomputable section

namespace Cert.Proof.Dv

open Idealize.ShloMosaic Idealize.SL.Sem Cert.Retention

/-- The reference ends with its arguments unchanged; it has no semaphore. -/
theorem frame_ref : Cert.quiescent_RefDvIdeal := by
  intro m g _
  exact (θ_run Cert.RefDvIdeal.defs _ _).mono (fun r h => ⟨fun c => ⟨(h c).2.2.1, (h c).2.2.2.1, (h c).2.2.2.2.1, (h c).2.2.2.2.2.1, (h c).2.2.2.2.2.2.1, (h c).2.2.2.2.2.2.2⟩,
    sem_eq_zero_of_no_sems (by decide) r.2⟩) (Cert.RefDvIdeal.Value.run m g)

/-- What the kernel leaves is what the reference computes, both directions. -/
theorem equal : Cert.algebraic_KernelDvIdeal_RefDvIdeal_pre_finite := by
  intro m g m' g' hpre hag
  have real := fun c => reals_of_pre _ _ _ _ _ _ (hpre c)
  refine ⟨fun c => outArr false timeFwdRev (fun h => (m ((c.tc : Thread Cert.KernelDvIdeal.nD Cert.KernelDvIdeal.τ).loc Cert.KernelDvIdeal.main_arg4) (ix1 h)).toReal)
      (fun j => (m ((c.tc : Thread Cert.KernelDvIdeal.nD Cert.KernelDvIdeal.τ).loc Cert.KernelDvIdeal.main_arg1) j).toReal) (fun j => (m ((c.tc : Thread Cert.KernelDvIdeal.nD Cert.KernelDvIdeal.τ).loc Cert.KernelDvIdeal.main_arg0) j).toReal)
      (fun j => (m ((c.tc : Thread Cert.KernelDvIdeal.nD Cert.KernelDvIdeal.τ).loc Cert.KernelDvIdeal.main_arg3) j).toReal),
    fun c => outArr true timeBwdRev (fun h => (m ((c.tc : Thread Cert.KernelDvIdeal.nD Cert.KernelDvIdeal.τ).loc Cert.KernelDvIdeal.main_arg5) (ix1 h)).toReal)
      (fun j => (m ((c.tc : Thread Cert.KernelDvIdeal.nD Cert.KernelDvIdeal.τ).loc Cert.KernelDvIdeal.main_arg1) j).toReal) (fun j => (m ((c.tc : Thread Cert.KernelDvIdeal.nD Cert.KernelDvIdeal.τ).loc Cert.KernelDvIdeal.main_arg0) j).toReal)
      (fun j => (m ((c.tc : Thread Cert.KernelDvIdeal.nD Cert.KernelDvIdeal.τ).loc Cert.KernelDvIdeal.main_arg3) j).toReal), ?_, ?_⟩
  · refine (θ_run Cert.KernelDvIdeal.defs _ _).mono (fun r h c => ?_) (Cert.KernelDvIdeal.Value.run_blocks m g)
    obtain ⟨r0, r1, r2, r3, r4, r5⟩ := real c
    refine ⟨(h c).1.trans ?_, (h c).2.1.trans ?_, (h c).2.2⟩
    · exact Cert.KernelDvIdeal.Arr.final_a m c _ _ _ _ (fun _ _ _ => r1 _) (fun _ _ _ => r0 _) (fun _ _ _ => r3 _) (fun _ => r4 _)
    · exact Cert.KernelDvIdeal.Arr.final_b m c _ _ _ _ (fun _ _ _ => r1 _) (fun _ _ _ => r0 _) (fun _ _ _ => r3 _) (fun _ => r5 _)
  · refine (θ_run Cert.RefDvIdeal.defs _ _).mono (fun r h c => ?_) (Cert.RefDvIdeal.Value.run m' g')
    obtain ⟨r0, r1, r2, r3, r4, r5⟩ := real c
    obtain ⟨e0, e1, e2, e3, e4, e5⟩ := hag c
    refine ⟨(h c).1.trans ?_, (h c).2.1.trans ?_, (h c).2.2⟩
    · rw [Cert.RefDvIdeal.Read.val_main_v33_eq]
      exact Cert.RefDvIdeal.Arr.grad_a _ _ _ _ _ _ _ _ (fun _ _ _ => (congrFun e1 _).trans (r1 _)) (fun _ _ _ => (congrFun e0 _).trans (r0 _))
        (fun _ _ _ => (congrFun e3 _).trans (r3 _)) (fun _ => (congrFun e4 _).trans (r4 _))
    · rw [Cert.RefDvIdeal.Read.val_main_v74_eq]
      exact Cert.RefDvIdeal.Arr.grad_b _ _ _ _ _ _ _ _ (fun _ _ _ => (congrFun e1 _).trans (r1 _)) (fun _ _ _ => (congrFun e0 _).trans (r0 _))
        (fun _ _ _ => (congrFun e3 _).trans (r3 _)) (fun _ => (congrFun e5 _).trans (r5 _))

end Cert.Proof.Dv
end
-- ==== Proof.FfnBwdBody.lean ====
/- The feed-forward backward kernel's body, run once at a grid point over any float values. -/
module

public import proofs.«01_k».proof.Proof.Gen.KernelFfnBwdIdeal.Launch
public import proofs.«01_k».proof.Proof.Gen.KernelFfnBwdIdeal.Skeleton
public import proofs.«01_k».proof.Proof.Gen.KernelFfnBwdIdeal.Points
public import Idealize.ShloMosaic.Lib.Pipeline.FrameBody
public import Idealize.ShloMosaic.Lib.Claim
public import Idealize.ShloMosaic.Lib.Tactic
public import Idealize.ShloMosaic.Lib.WordCmp

/-!
# One grid point of the feed-forward backward kernel

The kernel body is run once, at a generic grid point and at whatever the two accumulators held before. What it leaves in
each output buffer is named as a function of the input blocks: `dz`, `h`, `du1`, `du3`, `a`, `dO` are overwritten at every
point; `dmod` and `dg` are written at some points and added to at the others.
-/

@[expose] public section

set_option maxRecDepth 16384

noncomputable section

namespace Cert.FfnBwd

open Cert.KernelFfnBwdIdeal Cert.KernelFfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The boxes the body reads and writes -/

/-- A whole block of 256 tokens. -/
abbrev rX : Rect S1x256x1024 := Rect.unit (s := S1x256x1024) ![0, 0, 0] S1x256x1024.size inb_S1x256x1024_S1x256x1024_0_0_0
/-- The norm's weight. -/
abbrev rG : Rect S1x1024 := Rect.unit (s := S1x1024) ![0, 0] S1x1024.size inb_S1x1024_S1x1024_0_0
/-- The three rows of a modulation block: shift, scale, gate. -/
abbrev rM0 : Rect S1x1x3x1024 := Rect.unit (s := S1x1x3x1024) ![0, 0, 0, 0] S1x1x1x1024.size inb_S1x1x3x1024_S1x1x1x1024_0_0_0_0
abbrev rM1 : Rect S1x1x3x1024 := Rect.unit (s := S1x1x3x1024) ![0, 0, 1, 0] S1x1x1x1024.size inb_S1x1x3x1024_S1x1x1x1024_0_0_1_0
abbrev rM2 : Rect S1x1x3x1024 := Rect.unit (s := S1x1x3x1024) ![0, 0, 2, 0] S1x1x1x1024.size inb_S1x1x3x1024_S1x1x1x1024_0_0_2_0
/-- A whole modulation block. -/
abbrev rM : Rect S1x1x3x1024 := Rect.unit (s := S1x1x3x1024) ![0, 0, 0, 0] S1x1x3x1024.size inb_S1x1x3x1024_S1x1x3x1024_0_0_0_0
/-- The two halves of a weight, by hidden unit. -/
abbrev rWa : Rect S1x2816x1024 := Rect.unit (s := S1x2816x1024) ![0, 0, 0] S1x1408x1024.size inb_S1x2816x1024_S1x1408x1024_0_0_0
abbrev rWb : Rect S1x2816x1024 := Rect.unit (s := S1x2816x1024) ![0, 1408, 0] S1x1408x1024.size inb_S1x2816x1024_S1x1408x1024_0_1408_0
/-- The two halves of a block of hidden units. -/
abbrev rUa : Rect S1x256x2816 := Rect.unit (s := S1x256x2816) ![0, 0, 0] S1x256x1408.size inb_S1x256x2816_S1x256x1408_0_0_0
abbrev rUb : Rect S1x256x2816 := Rect.unit (s := S1x256x2816) ![0, 0, 1408] S1x256x1408.size inb_S1x256x2816_S1x256x1408_0_0_1408

/-! ## What the body computes -/

section Values

variable (x0 : Vec F S1x256x1024 .f32) (x1 : Vec F S1x256x1024 .f32) (x2 : Vec F S1x256x1024 .f32) (x3 : Vec F S1x1x3x1024 .f32) (x4 : Vec F S1x1024 .f32) (x5 : Vec F S1x2816x1024 .bf16) (x6 : Vec F S1x2816x1024 .bf16) (x7 : Vec F S1x2816x1024 .bf16)

/-- The modulated, normalized tokens. -/
def hV : FVec F S256x1024 .bf16 := k0_pay11 (View.ld x0 rX) (View.ld x4 rG) (View.ld x3 rM0) (View.ld x3 rM1)
/-- The cotangent of the feed-forward's output before the gate. -/
def doV : FVec F S256x1024 .bf16 := k0_pay13 (k0_pay3 (View.ld x1 rX)) (k0_pay4 (View.ld x3 rM2))
/-- The gate's cotangent, summed over the block. -/
def dgateV : FVec F S1x1024 .f32 := k0_pay15 (k0_pay3 (View.ld x1 rX)) (View.ld x2 rX)
/-- The first half's contribution to the cotangent of `h`. -/
def dhaV : FVec F S256x1024 .f32 :=
  k0_pay27 (doV x1 x3) (k0_pay16 (F := F)) (k0_pay17 (hV x0 x3 x4) (View.ld x5 rWa)) (k0_pay18 (hV x0 x3 x4) (View.ld x6 rWa))
    (k0_pay19 (hV x0 x3 x4) (View.ld x5 rWa)) (k0_pay20 (hV x0 x3 x4) (View.ld x5 rWa)) (View.ld x7 rWa) (View.ld x5 rWa) (View.ld x6 rWa)
/-- The second half's first hidden product. -/
def ubV : FVec F S256x1408 .f32 := k0_pay28 (hV x0 x3 x4) (View.ld x5 rWb)
/-- The second half's cotangent of the third product's output. -/
def du3bV : FVec F S256x1408 .bf16 := k0_pay34 (doV x1 x3) (ubV x0 x3 x4 x5) (View.ld x7 rWb)
/-- The cotangent of `h` but for the last product. -/
def dhV : FVec F S256x1024 .f32 :=
  k0_pay38 (hV x0 x3 x4) (doV x1 x3) (dhaV x0 x1 x3 x4 x5 x6 x7) (ubV x0 x3 x4 x5) (View.ld x6 rWb) (View.ld x7 rWb) (View.ld x5 rWb)

def dz : Vec F S1x256x1024 .f32 :=
  View.canon [⟨rX, k0_pay42 (k0_pay2 (View.ld x0 rX)) (k0_pay3 (View.ld x1 rX)) (View.ld x4 rG) (k0_pay6 (View.ld x0 rX)) (k0_pay7 (View.ld x0 rX))
    (k0_pay10 (View.ld x3 rM1)) (du3bV x0 x1 x3 x4 x5 x7) (dhV x0 x1 x3 x4 x5 x6 x7) (View.ld x6 rWb)⟩]
def h : Vec F S1x256x1024 .bf16 := View.canon [⟨rX, k0_pay12 (hV x0 x3 x4)⟩]
def du1 : Vec F S1x256x2816 .bf16 :=
  View.canon [⟨rUb, k0_pay36 (hV x0 x3 x4) (doV x1 x3) (ubV x0 x3 x4 x5) (View.ld x6 rWb) (View.ld x7 rWb)⟩,
    ⟨rUa, k0_pay25 (doV x1 x3) (k0_pay17 (hV x0 x3 x4) (View.ld x5 rWa)) (k0_pay18 (hV x0 x3 x4) (View.ld x6 rWa))
      (k0_pay19 (hV x0 x3 x4) (View.ld x5 rWa)) (View.ld x7 rWa)⟩]
def du3 : Vec F S1x256x2816 .bf16 :=
  View.canon [⟨rUb, k0_pay37 (doV x1 x3) (ubV x0 x3 x4 x5) (View.ld x7 rWb)⟩,
    ⟨rUa, k0_pay26 (doV x1 x3) (k0_pay20 (hV x0 x3 x4) (View.ld x5 rWa)) (View.ld x7 rWa)⟩]
def a : Vec F S1x256x2816 .bf16 :=
  View.canon [⟨rUb, k0_pay32 (hV x0 x3 x4) (ubV x0 x3 x4 x5) (View.ld x6 rWb)⟩,
    ⟨rUa, k0_pay21 (hV x0 x3 x4) (View.ld x5 rWa) (View.ld x6 rWa)⟩]
def dO : Vec F S1x256x1024 .bf16 := View.canon [⟨rX, k0_pay14 (k0_pay3 (View.ld x1 rX)) (k0_pay4 (View.ld x3 rM2))⟩]
/-- A point's own contribution to the norm weight's cotangent. -/
def dgV : FVec F S1x1024 .f32 :=
  k0_pay41 (k0_pay8 (View.ld x0 rX)) (k0_pay10 (View.ld x3 rM1)) (du3bV x0 x1 x3 x4 x5 x7) (dhV x0 x1 x3 x4 x5 x6 x7) (View.ld x6 rWb)
/-- The modulation's cotangent after the body, from the one before: overwritten, or added to. -/
def dmod (i : grid0.Coords) (y : Vec F S1x1x3x1024 .f32) : Vec F S1x1x3x1024 .f32 :=
  if k0_cond1 i = 1#1 then
    View.canon [⟨rM, k0_pay44 (k0_pay9 (View.ld x0 rX) (View.ld x4 rG)) (dgateV x1 x2) (du3bV x0 x1 x3 x4 x5 x7) (dhV x0 x1 x3 x4 x5 x6 x7) (View.ld x6 rWb)⟩]
  else
    View.canon [⟨rM, k0_pay45 (k0_pay9 (View.ld x0 rX) (View.ld x4 rG)) (dgateV x1 x2) (du3bV x0 x1 x3 x4 x5 x7) (dhV x0 x1 x3 x4 x5 x6 x7) (View.ld x6 rWb) (View.ld y rM)⟩]
/-- The norm weight's cotangent likewise. -/
def dg (i : grid0.Coords) (y : Vec F S1x1024 .f32) : Vec F S1x1024 .f32 :=
  if k0_cond3 i = 1#1 then View.canon [⟨rG, dgV x0 x1 x3 x4 x5 x6 x7⟩]
  else View.canon [⟨rG, k0_pay1 (dgV x0 x1 x3 x4 x5 x6 x7) (View.ld y rG)⟩]

end Values

/-! ## Every store list covers its buffer -/

theorem cover_x (e : EltTy) (p : S1x256x1024.Idx → Elt F e) (y : S1x256x1024.Idx) :
    ∃ pc ∈ ([⟨rX, p⟩] : List (View.Piece (Elt F) S1x256x1024 e)), y ∈ pc.1.set :=
  View.cover_of_tiled [⟨rX, p⟩] S1x256x1024.size (by rfl) y
theorem cover_u (p q : Vec F S1x256x1408 .bf16) (y : S1x256x2816.Idx) :
    ∃ pc ∈ ([⟨rUb, p⟩, ⟨rUa, q⟩] : List (View.Piece (Elt F) S1x256x2816 .bf16)), y ∈ pc.1.set :=
  View.cover_of_tiled [⟨rUb, p⟩, ⟨rUa, q⟩] S1x256x1408.size (by rfl) y
theorem cover_m (p : Vec F S1x1x3x1024 .f32) (y : S1x1x3x1024.Idx) :
    ∃ pc ∈ ([⟨rM, p⟩] : List (View.Piece (Elt F) S1x1x3x1024 .f32)), y ∈ pc.1.set :=
  View.cover_of_tiled [⟨rM, p⟩] S1x1x3x1024.size (by rfl) y
theorem cover_g (p : Vec F S1x1024 .f32) (y : S1x1024.Idx) :
    ∃ pc ∈ ([⟨rG, p⟩] : List (View.Piece (Elt F) S1x1024 .f32)), y ∈ pc.1.set :=
  View.cover_of_tiled [⟨rG, p⟩] S1x1024.size (by rfl) y

/-! ## The conditions: each accumulator is either started or added to -/

theorem cond2_of (i : grid0.Coords) (h : k0_cond1 i = 1#1) : ¬ k0_cond2 i = 1#1 := by
  revert i; decide +kernel
theorem cond2_of_not (i : grid0.Coords) (h : ¬ k0_cond1 i = 1#1) : k0_cond2 i = 1#1 := by
  revert i; decide +kernel
theorem cond4_of (i : grid0.Coords) (h : k0_cond3 i = 1#1) : ¬ k0_cond4 i = 1#1 := by
  revert i; decide +kernel
theorem cond4_of_not (i : grid0.Coords) (h : ¬ k0_cond3 i = 1#1) : k0_cond4 i = 1#1 := by
  revert i; decide +kernel

/-! ## The body's triple -/

set_option maxHeartbeats 4000000 in
/-- The kernel body on whole staging buffers: the inputs are left as they were and each output is left at its value above. -/
theorem sound_kernel (c : Dev nD) (E : Set ℕ) (i : grid0.Coords) (arg2 : Memref sig .tc .vmem S1x256x1024 .f32) (harg2 : arg2.IsWhole) (arg3 : Memref sig .tc .vmem S1x256x1024 .f32) (harg3 : arg3.IsWhole) (arg4 : Memref sig .tc .vmem S1x256x1024 .f32) (harg4 : arg4.IsWhole) (arg5 : Memref sig .tc .vmem S1x1x3x1024 .f32) (harg5 : arg5.IsWhole) (arg6 : Memref sig .tc .vmem S1x1024 .f32) (harg6 : arg6.IsWhole) (arg7 : Memref sig .tc .vmem S1x2816x1024 .bf16) (harg7 : arg7.IsWhole) (arg8 : Memref sig .tc .vmem S1x2816x1024 .bf16) (harg8 : arg8.IsWhole) (arg9 : Memref sig .tc .vmem S1x2816x1024 .bf16) (harg9 : arg9.IsWhole) (arg10 : Memref sig .tc .vmem S1x256x1024 .f32) (harg10 : arg10.IsWhole) (arg11 : Memref sig .tc .vmem S1x256x1024 .bf16) (harg11 : arg11.IsWhole) (arg12 : Memref sig .tc .vmem S1x256x2816 .bf16) (harg12 : arg12.IsWhole) (arg13 : Memref sig .tc .vmem S1x256x2816 .bf16) (harg13 : arg13.IsWhole) (arg14 : Memref sig .tc .vmem S1x256x2816 .bf16) (harg14 : arg14.IsWhole) (arg15 : Memref sig .tc .vmem S1x256x1024 .bf16) (harg15 : arg15.IsWhole) (arg16 : Memref sig .tc .vmem S1x1x3x1024 .f32) (harg16 : arg16.IsWhole) (arg17 : Memref sig .tc .vmem S1x1024 .f32) (harg17 : arg17.IsWhole)
    (x0 : Vec F S1x256x1024 .f32) (x1 : Vec F S1x256x1024 .f32) (x2 : Vec F S1x256x1024 .f32) (x3 : Vec F S1x1x3x1024 .f32) (x4 : Vec F S1x1024 .f32) (x5 : Vec F S1x2816x1024 .bf16) (x6 : Vec F S1x2816x1024 .bf16) (x7 : Vec F S1x2816x1024 .bf16)
    (y14 : Vec F S1x1x3x1024 .f32) (y15 : Vec F S1x1024 .f32) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ owns (c : Thread nD τ) arg16 fullShare y14 ∗ owns (c : Thread nD τ) arg17 fullShare y15
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare (dz x0 x1 x3 x4 x5 x6 x7) ∗ owns (c : Thread nD τ) arg11 fullShare (h x0 x3 x4) ∗ owns (c : Thread nD τ) arg12 fullShare (du1 x0 x1 x3 x4 x5 x6 x7) ∗ owns (c : Thread nD τ) arg13 fullShare (du3 x0 x1 x3 x4 x5 x7) ∗ owns (c : Thread nD τ) arg14 fullShare (a x0 x3 x4 x5 x6) ∗ owns (c : Thread nD τ) arg15 fullShare (dO x1 x3) ∗ owns (c : Thread nD τ) arg16 fullShare (dmod x0 x1 x2 x3 x4 x5 x6 x7 i y14) ∗ owns (c : Thread nD τ) arg17 fullShare (dg x0 x1 x3 x4 x5 x6 x7 i y15)) -∗ K ⟨⟩))
      ⊢ wp frame (wpE (defs₀ (F := F)) Variants.none c none) E (cc0_ffn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0_ffn_bwd_eq_skeleton]; unfold cc0_ffn_bwd_skel
  simp only [k0_part1_eq_skeleton, k0_part2_eq_skeleton, k0_part3_eq_skeleton, k0_part4_eq_skeleton, k0_part5_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%f14, %hf14, H14⟩, ⟨%f15, %hf15, H15⟩, Hk⟩
  subst hf0 hf1 hf2 hf3 hf4 hf5 hf6 hf7 hf14 hf15
  by_cases hc1 : k0_cond1 i = 1#1 <;> by_cases hc3 : k0_cond3 i = 1#1
  all_goals
    first
    | have hc2 := cond2_of i hc1
    | have hc2 := cond2_of_not i hc1
    first
    | have hc4 := cond4_of i hc3
    | have hc4 := cond4_of_not i hc3
    sl_exec (disch := first | sl_exact hc1 | sl_exact hc2 | sl_exact hc3 | sl_exact hc4)
    sl_step
    iapply Hk
    isplitl [H0]
    · iexists f0; isplitr; · ipureintro; rfl
      iexact H0
    isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists f6; isplitr; · ipureintro; rfl
      iexact H6
    isplitl [H7]
    · iexists f7; isplitr; · ipureintro; rfl
      iexact H7
    isplitl [H8]
    · iexists _; isplitr
      swap; · iexact H8
      ipureintro
      exact (View.read_writes_eq_canon _ _ _ (cover_x _ _)).trans rfl
    isplitl [H9]
    · iexists _; isplitr
      swap; · iexact H9
      ipureintro
      exact (View.read_writes_eq_canon _ _ _ (cover_x _ _)).trans rfl
    isplitl [H10]
    · iexists _; isplitr
      swap; · iexact H10
      ipureintro
      exact (View.read_writes_eq_canon _ _ _ (cover_u _ _)).trans rfl
    isplitl [H11]
    · iexists _; isplitr
      swap; · iexact H11
      ipureintro
      exact (View.read_writes_eq_canon _ _ _ (cover_u _ _)).trans rfl
    isplitl [H12]
    · iexists _; isplitr
      swap; · iexact H12
      ipureintro
      exact (View.read_writes_eq_canon _ _ _ (cover_u _ _)).trans rfl
    isplitl [H13]
    · iexists _; isplitr
      swap; · iexact H13
      ipureintro
      exact (View.read_writes_eq_canon _ _ _ (cover_x _ _)).trans rfl
    isplitl [H14]
    · iexists _; isplitr
      swap; · iexact H14
      ipureintro
      refine (View.read_writes_eq_canon _ _ _ (cover_m _)).trans ?_
      unfold dmod
      first
      | rw [if_pos hc1]; rfl
      | rw [if_neg hc1]; rfl
    iexists _; isplitr
    swap; · iexact H15
    ipureintro
    refine (View.read_writes_eq_canon _ _ _ (cover_g _)).trans ?_
    unfold dg
    first
    | rw [if_pos hc3]; rfl
    | rw [if_neg hc3]; rfl

end Cert.FfnBwd

end
-- ==== Proof.FfnBwdRun.lean ====
/- The feed-forward backward program's run: the host's lines, the launch and what it leaves. -/
module

public import proofs.«01_k».proof.Proof.FfnBwdBody

/-!
# The feed-forward backward kernel's run

What the region finds, what every staging buffer holds at every grid point, and the run itself. The two accumulators follow
a recursion over the grid points: a point either starts the block it accumulates into afresh, or adds to what the point
before it left.
-/

@[expose] public section

set_option maxRecDepth 16384

noncomputable section

namespace Cert.FfnBwd

open Cert.KernelFfnBwdIdeal Cert.KernelFfnBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host operations before the region -/

/-- The three stretches of host operations before the region. -/
abbrev hostOps : List (List (HloOp τ sig (Elt F))) := [hostOps0, hostOps0_1, hostOps0_2]

/-- Core `c`'s buffers when the region is entered. -/
abbrev V (c : Dev nD) (b : Ref sig .tc) : Buf (Elt F) ((c : Thread nD τ).loc b) :=
  StableHlo.after (hostOps (F := F)).flatten (fun b => m (c, b)) b

theorem hostOps_fresh : (hostOps (F := F)).Forall fun ops => ops.Forall fun op => op.fresh = ∅ := by
  simp only [List.Forall]; repeat' constructor

theorem hostOps_sub : (hostOps (F := F)).Forall fun ops => ops.Forall fun op => op.bufs ⊆ StableHlo.tcRefs τ sig :=
  ⟨hostOps0_sub, hostOps0_1_sub, hostOps0_2_sub⟩

set_option maxHeartbeats 1600000 in
/-- The program up to the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main hostOps hostOps_sub hostOps_fresh main_chain

set_option maxHeartbeats 1600000 in
/-- No host operation writes an argument array. -/
theorem V_arg (c : Dev nD) (b : Ref sig .tc)
    (hb : b = main_arg0 ∨ b = main_arg1 ∨ b = main_arg2 ∨ b = main_arg3 ∨ b = main_arg4 ∨ b = main_arg5 ∨ b = main_arg6) :
    V m c b = m ((c : Thread nD τ).loc b) :=
  StableHlo.after_of_forall_not_mem (b := Proc.devRef .tc b) _ _ (List.forall_iff_forall_mem.mp (by
    simp only [hostOps, hostOps0, hostOps0_1, hostOps0_2, List.flatten_cons, List.flatten_nil, List.append_nil, List.cons_append,
      List.nil_append, List.Forall, StableHlo.nullary_writes, StableHlo.unary_writes, StableHlo.binary_writes,
      StableHlo.ternary_writes, StableHlo.reshape_writes, StableHlo.nary_writes, StableHlo.TRef.nullary, StableHlo.TRef.unary,
      StableHlo.TRef.binary, Finset.mem_singleton]
    rcases hb with rfl | rfl | rfl | rfl | rfl | rfl | rfl
    all_goals
      repeat' apply And.intro
      all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The accumulators over the grid points -/

/-- One point's step of the modulation's cotangent. -/
def stepM (c : Dev nD) (t : Fin cfg0.N) (y : Vec F S1x1x3x1024 .f32) : Vec F S1x1x3x1024 .f32 :=
  dmod (iblk m c 0 t) (iblk m c 1 t) (iblk m c 2 t) (iblk m c 3 t) (iblk m c 4 t) (iblk m c 5 t) (iblk m c 6 t) (iblk m c 7 t) (grid0.coords t) y
/-- One point's step of the norm weight's cotangent. -/
def stepG (c : Dev nD) (t : Fin cfg0.N) (y : Vec F S1x1024 .f32) : Vec F S1x1024 .f32 :=
  dg (iblk m c 0 t) (iblk m c 1 t) (iblk m c 3 t) (iblk m c 4 t) (iblk m c 5 t) (iblk m c 6 t) (iblk m c 7 t) (grid0.coords t) y

/-- The modulation's cotangent after point `n`. -/
def accM (c : Dev nD) : (n : ℕ) → n < cfg0.N → Vec F S1x1x3x1024 .f32
  | 0, hn => stepM m c ⟨0, hn⟩ (View.canon [])
  | n + 1, hn => stepM m c ⟨n + 1, hn⟩ (accM c n (Nat.lt_of_succ_lt hn))
/-- The norm weight's cotangent after point `n`. -/
def accG (c : Dev nD) : (n : ℕ) → n < cfg0.N → Vec F S1x1024 .f32
  | 0, hn => stepG m c ⟨0, hn⟩ (View.canon [])
  | n + 1, hn => stepG m c ⟨n + 1, hn⟩ (accG c n (Nat.lt_of_succ_lt hn))

/-! ## The pipeline's proof data -/

/-- The arrays as the region finds them; each input's buffer at its block, each output's at its value. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => dz (iblk m c 0 t) (iblk m c 1 t) (iblk m c 3 t) (iblk m c 4 t) (iblk m c 5 t) (iblk m c 6 t) (iblk m c 7 t)
    | ⟨9, _⟩ => h (iblk m c 0 t) (iblk m c 3 t) (iblk m c 4 t)
    | ⟨10, _⟩ => du1 (iblk m c 0 t) (iblk m c 1 t) (iblk m c 3 t) (iblk m c 4 t) (iblk m c 5 t) (iblk m c 6 t) (iblk m c 7 t)
    | ⟨11, _⟩ => du3 (iblk m c 0 t) (iblk m c 1 t) (iblk m c 3 t) (iblk m c 4 t) (iblk m c 5 t) (iblk m c 7 t)
    | ⟨12, _⟩ => a (iblk m c 0 t) (iblk m c 3 t) (iblk m c 4 t) (iblk m c 5 t) (iblk m c 6 t)
    | ⟨13, _⟩ => dO (iblk m c 1 t) (iblk m c 3 t)
    | ⟨14, _⟩ => accM m c t.val t.isLt
    | ⟨15, _⟩ => accG m c t.val t.isLt
    | ⟨_ + 16, hw⟩ => absurd hw (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = dz (iblk m c 0 t) (iblk m c 1 t) (iblk m c 3 t) (iblk m c 4 t) (iblk m c 5 t) (iblk m c 6 t) (iblk m c 7 t) := by dsimp only [dats]
theorem after_9 (c : Dev nD) (t : Fin cfg0.N) : (dats m 0 c).after 9 t = h (iblk m c 0 t) (iblk m c 3 t) (iblk m c 4 t) := by dsimp only [dats]
theorem after_10 (c : Dev nD) (t : Fin cfg0.N) : (dats m 0 c).after 10 t = du1 (iblk m c 0 t) (iblk m c 1 t) (iblk m c 3 t) (iblk m c 4 t) (iblk m c 5 t) (iblk m c 6 t) (iblk m c 7 t) := by dsimp only [dats]
theorem after_11 (c : Dev nD) (t : Fin cfg0.N) : (dats m 0 c).after 11 t = du3 (iblk m c 0 t) (iblk m c 1 t) (iblk m c 3 t) (iblk m c 4 t) (iblk m c 5 t) (iblk m c 7 t) := by dsimp only [dats]
theorem after_12 (c : Dev nD) (t : Fin cfg0.N) : (dats m 0 c).after 12 t = a (iblk m c 0 t) (iblk m c 3 t) (iblk m c 4 t) (iblk m c 5 t) (iblk m c 6 t) := by dsimp only [dats]
theorem after_13 (c : Dev nD) (t : Fin cfg0.N) : (dats m 0 c).after 13 t = dO (iblk m c 1 t) (iblk m c 3 t) := by dsimp only [dats]
theorem after_14 (c : Dev nD) (t : Fin cfg0.N) : (dats m 0 c).after 14 t = accM m c t.val t.isLt := by dsimp only [dats]
theorem after_15 (c : Dev nD) (t : Fin cfg0.N) : (dats m 0 c).after 15 t = accG m c t.val t.isLt := by dsimp only [dats]

/-- The block the pipeline fetches is the array's as the region finds it. -/
theorem blockOf_eq (c : Dev nD) (w : Fin cfg0.W) (t : Fin cfg0.N) : iblk m c w t = (dats m 0 c).blockOf w t := by
  unfold Dat.blockOf iblk; rw [A_eq]

/-! An input's staging buffer holds its block at every point. -/

theorem before_0 (c : Dev nD) (t : Fin cfg0.N) (d) : (dats m 0 c).before 0 t d = iblk m c 0 t :=
  ((dats m 0 c).before_in_eq_fetched 0 rfl (fun _ => rfl) (fun _ _ _ => rfl) (fun t => (after_0 m c t).trans (blockOf_eq m c 0 t)) t d).trans (blockOf_eq m c 0 t).symm
theorem before_1 (c : Dev nD) (t : Fin cfg0.N) (d) : (dats m 0 c).before 1 t d = iblk m c 1 t :=
  ((dats m 0 c).before_in_eq_fetched 1 rfl (fun _ => rfl) (fun _ _ _ => rfl) (fun t => (after_1 m c t).trans (blockOf_eq m c 1 t)) t d).trans (blockOf_eq m c 1 t).symm
theorem before_2 (c : Dev nD) (t : Fin cfg0.N) (d) : (dats m 0 c).before 2 t d = iblk m c 2 t :=
  ((dats m 0 c).before_in_eq_fetched 2 rfl (fun _ => rfl) (fun _ _ _ => rfl) (fun t => (after_2 m c t).trans (blockOf_eq m c 2 t)) t d).trans (blockOf_eq m c 2 t).symm
theorem before_3 (c : Dev nD) (t : Fin cfg0.N) (d) : (dats m 0 c).before 3 t d = iblk m c 3 t :=
  ((dats m 0 c).before_in_eq_fetched 3 rfl (fun _ => rfl) (fun _ _ _ => rfl) (fun t => (after_3 m c t).trans (blockOf_eq m c 3 t)) t d).trans (blockOf_eq m c 3 t).symm
theorem before_4 (c : Dev nD) (t : Fin cfg0.N) (d) : (dats m 0 c).before 4 t d = iblk m c 4 t :=
  ((dats m 0 c).before_in_eq_fetched 4 rfl (fun _ => rfl) (fun _ _ _ => rfl) (fun t => (after_4 m c t).trans (blockOf_eq m c 4 t)) t d).trans (blockOf_eq m c 4 t).symm
theorem before_5 (c : Dev nD) (t : Fin cfg0.N) (d) : (dats m 0 c).before 5 t d = iblk m c 5 t :=
  ((dats m 0 c).before_in_eq_fetched 5 rfl (fun _ => rfl) (fun _ _ _ => rfl) (fun t => (after_5 m c t).trans (blockOf_eq m c 5 t)) t d).trans (blockOf_eq m c 5 t).symm
theorem before_6 (c : Dev nD) (t : Fin cfg0.N) (d) : (dats m 0 c).before 6 t d = iblk m c 6 t :=
  ((dats m 0 c).before_in_eq_fetched 6 rfl (fun _ => rfl) (fun _ _ _ => rfl) (fun t => (after_6 m c t).trans (blockOf_eq m c 6 t)) t d).trans (blockOf_eq m c 6 t).symm
theorem before_7 (c : Dev nD) (t : Fin cfg0.N) (d) : (dats m 0 c).before 7 t d = iblk m c 7 t :=
  ((dats m 0 c).before_in_eq_fetched 7 rfl (fun _ => rfl) (fun _ _ _ => rfl) (fun t => (after_7 m c t).trans (blockOf_eq m c 7 t)) t d).trans (blockOf_eq m c 7 t).symm

/-! ## The accumulators' buffers -/

/-- No window is idle at any point: an accumulator is started or added to everywhere. -/
theorem live : ∀ (w : Fin cfg0.W) (i : grid0.Coords), cfg0.idle w i = false := by
  decide +kernel

/-- Where the modulation's cotangent is added to, the buffer was not written back at the point before. -/
theorem kept_M : ∀ t : Fin cfg0.N, ¬ k0_cond1 (grid0.coords t) = 1#1 →
    t.val ≠ 0 ∧ (cfg0.win 14).flush ⟨t.val - 1, Nat.lt_of_le_of_lt (Nat.sub_le _ _) t.isLt⟩ = false := by
  decide +kernel
theorem kept_G : ∀ t : Fin cfg0.N, ¬ k0_cond3 (grid0.coords t) = 1#1 →
    t.val ≠ 0 ∧ (cfg0.win 15).flush ⟨t.val - 1, Nat.lt_of_le_of_lt (Nat.sub_le _ _) t.isLt⟩ = false := by
  decide +kernel

/-- A step that starts afresh does not look at what was there. -/
theorem stepM_start (c : Dev nD) (t : Fin cfg0.N) (h : k0_cond1 (grid0.coords t) = 1#1) (y y') : stepM m c t y = stepM m c t y' := by
  unfold stepM dmod; rw [if_pos h, if_pos h]
theorem stepG_start (c : Dev nD) (t : Fin cfg0.N) (h : k0_cond3 (grid0.coords t) = 1#1) (y y') : stepG m c t y = stepG m c t y' := by
  unfold stepG dg; rw [if_pos h, if_pos h]

/-- The accumulator after a point is the point's step from the accumulator after the point before. -/
theorem accM_succ (c : Dev nD) (t : Fin cfg0.N) (ht : t.val ≠ 0) :
    accM m c t.val t.isLt = stepM m c t (accM m c (t.val - 1) (Nat.lt_of_le_of_lt (Nat.sub_le _ _) t.isLt)) := by
  obtain ⟨n, hn⟩ := t
  cases n with
  | zero => exact absurd rfl ht
  | succ n => rfl
theorem accG_succ (c : Dev nD) (t : Fin cfg0.N) (ht : t.val ≠ 0) :
    accG m c t.val t.isLt = stepG m c t (accG m c (t.val - 1) (Nat.lt_of_le_of_lt (Nat.sub_le _ _) t.isLt)) := by
  obtain ⟨n, hn⟩ := t
  cases n with
  | zero => exact absurd rfl ht
  | succ n => rfl

/-- A started accumulator is the step from anything. -/
theorem accM_start (c : Dev nD) (t : Fin cfg0.N) (h : k0_cond1 (grid0.coords t) = 1#1) (y) : accM m c t.val t.isLt = stepM m c t y := by
  obtain ⟨n, hn⟩ := t
  cases n with
  | zero => exact stepM_start m c _ h _ _
  | succ n => exact stepM_start m c _ h _ _
theorem accG_start (c : Dev nD) (t : Fin cfg0.N) (h : k0_cond3 (grid0.coords t) = 1#1) (y) : accG m c t.val t.isLt = stepG m c t y := by
  obtain ⟨n, hn⟩ := t
  cases n with
  | zero => exact stepG_start m c _ h _ _
  | succ n => exact stepG_start m c _ h _ _

/-- What the body leaves in an accumulator's buffer, from what it finds there. -/
theorem found_M (c : Dev nD) (t : Fin cfg0.N) (d) : stepM m c t ((dats m 0 c).before 14 t d) = accM m c t.val t.isLt := by
  by_cases h : k0_cond1 (grid0.coords t) = 1#1
  · exact (accM_start m c t h _).symm
  · obtain ⟨ht, hf⟩ := kept_M t h
    rw [(dats m 0 c).before_out_kept 14 rfl t ht hf (live 14) (fun _ _ => rfl) d, after_14]
    exact (accM_succ m c t ht).symm
theorem found_G (c : Dev nD) (t : Fin cfg0.N) (d) : stepG m c t ((dats m 0 c).before 15 t d) = accG m c t.val t.isLt := by
  by_cases h : k0_cond3 (grid0.coords t) = 1#1
  · exact (accG_start m c t h _).symm
  · obtain ⟨ht, hf⟩ := kept_G t h
    rw [(dats m 0 c).before_out_kept 15 rfl t ht hf (live 15) (fun _ _ => rfl) d, after_15]
    exact (accG_succ m c t ht).symm

/-! ## The body obligation -/

theorem leaves_eq (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; rw [live w (cfg0.grid.coords t)]

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t)

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [leaves_eq, before_0, before_1, before_2, before_3, before_4, before_5, before_6, before_7]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9, after_10, after_11, after_12, after_13, after_14, after_15]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩⟩
  rw [← found_M m c t d14, ← found_G m c t d15]
  unfold stepM stepG
  iapply (sound_kernel c Set.univ (grid0.coords t) _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) ((dats m 0 c).before 14 t d14) ((dats m 0 c).before 15 t d15) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  isplitl [H12]; · iexists _; iexact H12
  isplitl [H13]; · iexists _; iexact H13
  isplitl [H14]; · iexact H14
  isplitl [H15]; · iexact H15
  iintro ⟨H0, H1, H2, H3, H4, H5, H6, H7, H8, H9, H10, H11, H12, H13, H14, H15⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexact H15

/-- The body table's row at point `t`'s slots is the body. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
set_option maxHeartbeats 1600000 in
/-- Every array of the pipeline ends at what the proof data say, every other array as the region found it, every semaphore
    at zero. -/
theorem run_main : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- No array that holds an argument is changed. -/
theorem args_kept (r : PUnit × MemSt nD τ sig (Elt F)) (h : Pipeline.FramePost cfgs (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
    ⟨((h c).1 0).trans (((dats m 0 c).arrAt_in 0 rfl _).trans ((A_eq m c 0).trans (V_arg m c main_arg0 (by decide)))),
    ((h c).1 3).trans (((dats m 0 c).arrAt_in 3 rfl _).trans ((A_eq m c 3).trans (V_arg m c main_arg1 (by decide)))),
    ((h c).1 4).trans (((dats m 0 c).arrAt_in 4 rfl _).trans ((A_eq m c 4).trans (V_arg m c main_arg2 (by decide)))),
    ((h c).2 main_arg3 (Pipeline.mem_restRefs_of main_arg3 (by decide) (by decide))).trans (V_arg m c main_arg3 (by decide)),
    ((h c).2 main_arg4 (Pipeline.mem_restRefs_of main_arg4 (by decide) (by decide))).trans (V_arg m c main_arg4 (by decide)),
    ((h c).2 main_arg5 (Pipeline.mem_restRefs_of main_arg5 (by decide) (by decide))).trans (V_arg m c main_arg5 (by decide)),
    ((h c).1 1).trans (((dats m 0 c).arrAt_in 1 rfl _).trans ((A_eq m c 1).trans (V_arg m c main_arg6 (by decide))))⟩

/-- The argument arrays end unchanged, and every semaphore is at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨args_kept m r h.1, h.2⟩) (run_main m ρ)

end Cert.FfnBwd

end
-- ==== Proof.FfnBwdSame.lean ====
/- The feed-forward gradients: the program read over the bits and the program read over the extended reals are one text. -/
module

public import proofs.«01_k».proof.Defs
public import proofs.«01_k».proof.Proof.Gen.KernelFfnBwd
public import proofs.«01_k».proof.Proof.FfnBwdRun

@[expose] public section

set_option maxRecDepth 16384
set_option maxHeartbeats 4000000

noncomputable section

namespace Cert.Proof.FfnBwd

open Idealize.ShloMosaic Idealize.SL.Sem Cert.FfnBwd

theorem bodies_eq : Cert.KernelFfnBwdIdeal.defs₀ (F := Bits) = Cert.KernelFfnBwd.defs₀ := by
  unfold Cert.KernelFfnBwd.defs₀ Cert.KernelFfnBwdIdeal.defs₀
  refine congrArg _ ?_
  funext l x
  match l with
  | 0 => rfl

theorem defs_eq : Cert.KernelFfnBwdIdeal.defs (F := Bits) = Cert.KernelFfnBwd.defs := congrArg (Pipeline.defs _) bodies_eq

/-- The host's lines before the launch: the silu is called with a record of buffers of each program's own, so it is unfolded. -/
theorem lines_eq : Cert.KernelFfnBwdIdeal.main_part0 (F := Bits) = Cert.KernelFfnBwd.main_part0 := by
  unfold Cert.KernelFfnBwd.main_part0 Cert.KernelFfnBwdIdeal.main_part0
  unfold Cert.KernelFfnBwd.fn_silu.body Cert.KernelFfnBwdIdeal.fn_silu.body
  unfold Cert.KernelFfnBwd.main_call0 Cert.KernelFfnBwdIdeal.main_call0
  dsimp only
  rfl

theorem launch_eq : Cert.KernelFfnBwdIdeal.main_part1 (F := Bits) = Cert.KernelFfnBwd.main_part1 := rfl

theorem main_eq : Cert.KernelFfnBwdIdeal.main (F := Bits) = Cert.KernelFfnBwd.main := by
  unfold Cert.KernelFfnBwd.main Cert.KernelFfnBwdIdeal.main
  rw [lines_eq, launch_eq]
  rfl

/-- The kernel over the bits ends with its arguments unchanged and its semaphores at zero: the same run, read over the bits. -/
theorem frame_kernel : Cert.quiescent_KernelFfnBwd := by
  intro m g _
  have h := frame_main (F := Bits) m g
  rw [main_eq, defs_eq] at h
  exact h

end Cert.Proof.FfnBwd

end
-- ==== Proof.FfnBwdTile.lean ====
/- One tile of 256 tokens in the feed-forward backward kernel: what the body leaves in each output buffer, token by token. -/
module

public import proofs.«01_k».proof.Proof.FfnMath
public import proofs.«01_k».proof.Proof.FfnBwdBody

@[expose] public section

set_option maxRecDepth 16384

noncomputable section

namespace Cert.FfnBwd.Tile

open Cert.KernelFfnBwdIdeal Cert.KernelFfnBwdIdeal.Gen Cert.FfnBwd Cert.FeedForward Idealize.ShloMosaic

/-! ## Tokens -/

section Tokens

variable (P0 P1 P2 : Vec Ideal S1x256x1024 .f32) (G : Vec Ideal S1x1024 .f32) (M0 M1 M2 : Vec Ideal S1x1x1x1024 .f32)
  (z ct o : Fin 256 → Row) (g sh sc gt : Row) (e0 : ∀ r d, P0 (ix3 0 r d) = z r d) (e1 : ∀ r d, P1 (ix3 0 r d) = ct r d)
  (e2 : ∀ r d, P2 (ix3 0 r d) = o r d) (eg : ∀ d, G (ix2 0 d) = g d) (es : ∀ d, M0 (ix4 0 0 0 d) = sh d)
  (ec : ∀ d, M1 (ix4 0 0 0 d) = sc d) (et : ∀ d, M2 (ix4 0 0 0 d) = gt d) (r : Fin 256) (d : Fin 1024)

include e0 eg es ec in
theorem hid_at : k0_pay11 P0 G M0 M1 (ix2 r d) = hid (z r) g sh sc d := by
  pointwise [k0_pay11, k0_pay10, k0_pay9, k0_pay8, k0_pay6, k0_pay5, k0_pay2]
  simp only [e0, eg, es, ec]
  rfl

include e1 et in
theorem dOut_at : k0_pay13 (k0_pay3 P1) (k0_pay4 M2) (ix2 r d) = dOut gt (ct r) d := by
  pointwise [k0_pay13, k0_pay4, k0_pay3]
  simp only [e1, et]
  rfl

include e1 et in
theorem dOut_out : k0_pay14 (k0_pay3 P1) (k0_pay4 M2) (ix3 0 r d) = dOut gt (ct r) d := by
  pointwise [k0_pay14]
  exact dOut_at P1 M2 ct gt e1 et r d

include e1 e2 in
theorem dGate_at : k0_pay15 (k0_pay3 P1) P2 (ix2 0 d) = ∑ r, dGate (o r) (ct r) d := by
  pointwise [k0_pay15, k0_pay3]
  simp only [e1, e2]
  rfl

end Tokens

/-! ## Half of the inner features -/

section Half

variable (H D : FVec Ideal S256x1024 .bf16) (Q1 Q3 Q2 : Vec Ideal S1x1408x1024 .bf16) (h e : Row) (w1 w3 : In) (w2 : Out)
  (φ : Fin 1408 → Fin 2816) (r : Fin 256) (hh : ∀ d, H (ix2 r d) = h d) (hd : ∀ d, D (ix2 r d) = e d)
  (q1 : ∀ f d, Q1 (ix3 0 f d) = w1 d (φ f)) (q3 : ∀ f d, Q3 (ix3 0 f d) = w3 d (φ f)) (q2 : ∀ f d, Q2 (ix3 0 f d) = w2 (φ f) d)
  (f : Fin 1408) (d : Fin 1024)

include hh q1 in
theorem u1_first : k0_pay17 H Q1 (ix2 r f) = proj h w1 (φ f) := by
  pointwise [k0_pay17]
  simp only [hh, q1]
  rfl
include hh q3 in
theorem u3_first : k0_pay18 H Q3 (ix2 r f) = proj h w3 (φ f) := by
  pointwise [k0_pay18]
  simp only [hh, q3]
  rfl
include hd q2 in
theorem dAct_first : k0_pay22 D Q2 (ix2 r f) = dAct e w2 (φ f) := by
  pointwise [k0_pay22]
  simp only [hd, q2]
  rfl
include hh q1 in
theorem u1_second : k0_pay28 H Q1 (ix2 r f) = proj h w1 (φ f) := by
  pointwise [k0_pay28]
  simp only [hh, q1]
  rfl
include hh q3 in
theorem u3_second : k0_pay29 H Q3 (ix2 r f) = proj h w3 (φ f) := by
  pointwise [k0_pay29]
  simp only [hh, q3]
  rfl
include hd q2 in
theorem dAct_second : k0_pay33 D Q2 (ix2 r f) = dAct e w2 (φ f) := by
  pointwise [k0_pay33]
  simp only [hd, q2]
  rfl

include hh q1 q3 in
theorem act_first : k0_pay21 H Q1 Q3 (ix3 0 r f) = act h w1 w3 (φ f) := by
  pointwise [k0_pay21, k0_pay20, k0_pay19]
  rw [u1_first H Q1 h w1 φ r hh q1, u3_first H Q3 h w3 φ r hh q3]
  rfl
include hh q1 q3 in
theorem act_second : k0_pay32 H (k0_pay28 H Q1) Q3 (ix3 0 r f) = act h w1 w3 (φ f) := by
  pointwise [k0_pay32, k0_pay31, k0_pay30]
  rw [u1_second H Q1 h w1 φ r hh q1, u3_second H Q3 h w3 φ r hh q3]
  rfl

include hh hd q1 q2 in
theorem dU3_first : k0_pay23 D (k0_pay20 H Q1) Q2 (ix2 r f) = dU3 h e w1 w2 (φ f) := by
  pointwise [k0_pay23, k0_pay20, k0_pay19]
  rw [u1_first H Q1 h w1 φ r hh q1, dAct_first D Q2 e w2 φ r hd q2]
  rfl
include hh hd q1 q2 in
theorem dU3_second : k0_pay34 D (k0_pay28 H Q1) Q2 (ix2 r f) = dU3 h e w1 w2 (φ f) := by
  pointwise [k0_pay34, k0_pay31, k0_pay30]
  rw [u1_second H Q1 h w1 φ r hh q1, dAct_second D Q2 e w2 φ r hd q2]
  rfl
include hh hd q1 q2 in
theorem dU3_out_first : k0_pay26 D (k0_pay20 H Q1) Q2 (ix3 0 r f) = dU3 h e w1 w2 (φ f) := by
  pointwise [k0_pay26]
  exact dU3_first H D Q1 Q2 h e w1 w2 φ r hh hd q1 q2 f
include hh hd q1 q2 in
theorem dU3_out_second : k0_pay37 D (k0_pay28 H Q1) Q2 (ix3 0 r f) = dU3 h e w1 w2 (φ f) := by
  pointwise [k0_pay37]
  exact dU3_second H D Q1 Q2 h e w1 w2 φ r hh hd q1 q2 f

include hh hd q1 q3 q2

theorem dU1_first : k0_pay24 D (k0_pay17 H Q1) (k0_pay18 H Q3) (k0_pay19 H Q1) Q2 (ix2 r f) = dU1 h e w1 w3 w2 (φ f) := by
  pointwise [k0_pay24, k0_pay19]
  rw [u1_first H Q1 h w1 φ r hh q1, u3_first H Q3 h w3 φ r hh q3, dAct_first D Q2 e w2 φ r hd q2]
  rfl
theorem dU1_second : k0_pay35 H D (k0_pay28 H Q1) Q3 Q2 (ix2 r f) = dU1 h e w1 w3 w2 (φ f) := by
  pointwise [k0_pay35, k0_pay30]
  rw [u1_second H Q1 h w1 φ r hh q1, u3_second H Q3 h w3 φ r hh q3, dAct_second D Q2 e w2 φ r hd q2]
  rfl
theorem dU1_out_first : k0_pay25 D (k0_pay17 H Q1) (k0_pay18 H Q3) (k0_pay19 H Q1) Q2 (ix3 0 r f) = dU1 h e w1 w3 w2 (φ f) := by
  pointwise [k0_pay25]
  exact dU1_first H D Q1 Q3 Q2 h e w1 w3 w2 φ r hh hd q1 q3 q2 f
theorem dU1_out_second : k0_pay36 H D (k0_pay28 H Q1) Q3 Q2 (ix3 0 r f) = dU1 h e w1 w3 w2 (φ f) := by
  pointwise [k0_pay36]
  exact dU1_second H D Q1 Q3 Q2 h e w1 w3 w2 φ r hh hd q1 q3 q2 f

theorem dHid_first : k0_pay27 D (k0_pay16 (F := Ideal)) (k0_pay17 H Q1) (k0_pay18 H Q3) (k0_pay19 H Q1) (k0_pay20 H Q1) Q2 Q1 Q3 (ix2 r d)
    = ∑ f, dU1 h e w1 w3 w2 (φ f) * w1 d (φ f) + ∑ f, dU3 h e w1 w2 (φ f) * w3 d (φ f) := by
  pointwise [k0_pay27, k0_pay16]
  simp only [dU1_first H D Q1 Q3 Q2 h e w1 w3 w2 φ r hh hd q1 q3 q2, dU3_first H D Q1 Q2 h e w1 w2 φ r hh hd q1 q2, q1, q3, zero_add]
theorem dHid_second (X : FVec Ideal S256x1024 .f32) :
    k0_pay39 (k0_pay34 D (k0_pay28 H Q1) Q2) (k0_pay38 H D X (k0_pay28 H Q1) Q3 Q2 Q1) Q3 (ix2 r d)
      = X (ix2 r d) + ∑ f, dU1 h e w1 w3 w2 (φ f) * w1 d (φ f) + ∑ f, dU3 h e w1 w2 (φ f) * w3 d (φ f) := by
  pointwise [k0_pay39, k0_pay38]
  simp only [dU1_second H D Q1 Q3 Q2 h e w1 w3 w2 φ r hh hd q1 q3 q2, dU3_second H D Q1 Q2 h e w1 w2 φ r hh hd q1 q2, q1, q3]

end Half

/-! ## Back through the norm -/

section Norm

variable (P0 P1 : Vec Ideal S1x256x1024 .f32) (G : Vec Ideal S1x1024 .f32) (M1 : Vec Ideal S1x1x1x1024 .f32) (DG : FVec Ideal S1x1024 .f32)
  (U : FVec Ideal S256x1408 .bf16) (W : FVec Ideal S256x1024 .f32) (Q : Vec Ideal S1x1408x1024 .bf16)
  (z ct dh : Fin 256 → Row) (g sc dgt : Row) (e0 : ∀ r d, P0 (ix3 0 r d) = z r d) (e1 : ∀ r d, P1 (ix3 0 r d) = ct r d)
  (eg : ∀ d, G (ix2 0 d) = g d) (ec : ∀ d, M1 (ix4 0 0 0 d) = sc d) (ed : ∀ d, DG (ix2 0 d) = dgt d)
  (hdh : ∀ r d, k0_pay39 U W Q (ix2 r d) = dh r d) (r : Fin 256) (d : Fin 1024)

include e0 e1 eg ec hdh in
theorem dTok_at : k0_pay42 (k0_pay2 P0) (k0_pay3 P1) G (k0_pay6 P0) (k0_pay7 P0) (k0_pay10 M1) U W Q (ix3 0 r d)
    = dTok (z r) (dNorm g sc (dh r)) (ct r) d := by
  pointwise [k0_pay42, k0_pay40, k0_pay10, k0_pay7, k0_pay6, k0_pay5, k0_pay3, k0_pay2]
  simp only [e0, e1, eg, ec, hdh, Finset.univ_unique, Finset.sum_singleton]
  rfl

include e0 ec hdh in
theorem dGain_at : k0_pay41 (k0_pay8 P0) (k0_pay10 M1) U W Q (ix2 0 d) = ∑ r, dGain (z r) sc (dh r) d := by
  pointwise [k0_pay41, k0_pay40, k0_pay10, k0_pay8, k0_pay6, k0_pay5, k0_pay2]
  simp only [e0, ec, hdh]
  rfl

/-- The tile's part of the modulation's gradient: its shift, its scale and its gate. -/
def tileMod (k : Fin 3) : Row := fun d =>
  match k with
  | 0 => ∑ r, dh r d
  | 1 => ∑ r, dScale (z r) g (dh r) d
  | 2 => dgt d

include e0 eg ed hdh in
theorem dMod_at (k : Fin 3) : k0_pay43 (k0_pay9 P0 G) DG U W Q (ix2 k d) = tileMod z dh g dgt k d := by
  have H : ∀ k : Fin 3, k = 0 ∨ k = 1 ∨ k = 2 := by decide
  obtain rfl | rfl | rfl := H k
  · pointwise [k0_pay43]
    simp only [hdh]
    rfl
  · pointwise [k0_pay43, k0_pay9, k0_pay8, k0_pay6, k0_pay5, k0_pay2]
    simp only [hdh, e0, eg]
    rfl
  · pointwise [k0_pay43]
    exact ed d

include e0 eg ed hdh in
theorem dMod_start (k : Fin 3) : k0_pay44 (k0_pay9 P0 G) DG U W Q (ix4 0 0 k d) = tileMod z dh g dgt k d := by
  pointwise [k0_pay44]
  exact dMod_at P0 G DG U W Q z dh g dgt e0 eg ed hdh d k

include e0 eg ed hdh in
theorem dMod_add (Y : Vec Ideal S1x1x3x1024 .f32) (k : Fin 3) :
    k0_pay45 (k0_pay9 P0 G) DG U W Q Y (ix4 0 0 k d) = Y (ix4 0 0 k d) + tileMod z dh g dgt k d := by
  pointwise [k0_pay45]
  rw [dMod_at P0 G DG U W Q z dh g dgt e0 eg ed hdh d k]

end Norm

end Cert.FfnBwd.Tile
end
-- ==== Proof.FfnBwdBlock.lean ====
/- What one grid point of the feed-forward backward kernel leaves in each output buffer, from the blocks it is given. -/
module

public import proofs.«01_k».proof.Proof.FfnBwdTile
public import Idealize.ShloMosaic.Lib.Pipeline.ValueKit

@[expose] public section

set_option maxRecDepth 16384

noncomputable section

namespace Cert.FfnBwd.Block

open Cert.KernelFfnBwdIdeal Cert.KernelFfnBwdIdeal.Gen Cert.FfnBwd Cert.FfnBwd.Tile Cert.FeedForward Idealize.ShloMosaic

/-! ## The parts of the blocks the kernel reads -/

section Parts

variable (x : Vec Ideal S1x256x1024 .f32) (y : Vec Ideal S1x1x3x1024 .f32) (g : Vec Ideal S1x1024 .f32) (w : Vec Ideal S1x2816x1024 .bf16)
  (r : Fin 256) (d : Fin 1024) (f : Fin 1408) (k : Fin 3)

theorem ld_x : (View.ld x rX : Vec Ideal S1x256x1024 .f32) (ix3 0 r d) = x (ix3 0 r d) := by
  pointwise [rX]
theorem ld_g : (View.ld g rG : Vec Ideal S1x1024 .f32) (ix2 0 d) = g (ix2 0 d) := by
  pointwise [rG]
theorem ld_m : (View.ld y rM : Vec Ideal S1x1x3x1024 .f32) (ix4 0 0 k d) = y (ix4 0 0 k d) := by
  pointwise [rM]
theorem ld_m0 : (View.ld y rM0 : Vec Ideal S1x1x1x1024 .f32) (ix4 0 0 0 d) = y (ix4 0 0 0 d) := by
  pointwise [rM0]
theorem ld_m1 : (View.ld y rM1 : Vec Ideal S1x1x1x1024 .f32) (ix4 0 0 0 d) = y (ix4 0 0 1 d) := by
  pointwise [rM1]
theorem ld_m2 : (View.ld y rM2 : Vec Ideal S1x1x1x1024 .f32) (ix4 0 0 0 d) = y (ix4 0 0 2 d) := by
  pointwise [rM2]

/-- The two halves of the inner features. -/
def lo (f : Fin 1408) : Fin 2816 := ⟨f.val, by omega⟩
def hi (f : Fin 1408) : Fin 2816 := ⟨1408 + f.val, by omega⟩

theorem ld_wa : (View.ld w rWa : Vec Ideal S1x1408x1024 .bf16) (ix3 0 f d) = w (ix3 0 (lo f) d) := by
  unfold lo
  pointwise [rWa]
theorem ld_wb : (View.ld w rWb : Vec Ideal S1x1408x1024 .bf16) (ix3 0 f d) = w (ix3 0 (hi f) d) := by
  unfold hi
  pointwise [rWb]

end Parts

/-- A block of inner features written in two halves. -/
theorem halves_at (p q : Vec Ideal S1x256x1408 .bf16) (G : Fin 256 → Fin 2816 → EReal) (hp : ∀ r f, p (ix3 0 r f) = G r (hi f))
    (hq : ∀ r f, q (ix3 0 r f) = G r (lo f)) (r : Fin 256) (f : Fin 2816) :
    (View.canon [⟨rUb, p⟩, ⟨rUa, q⟩] : Vec Ideal S1x256x2816 .bf16) (ix3 0 r f) = G r f := by
  refine View.canon_apply_of_pieces (Val := Elt Ideal) (e := .bf16) (fun y : S1x256x2816.Idx => G (y 1) (y 2)) _ ?_ _ (cover_u _ _ _)
  intro pc hpc x
  obtain rfl | rfl : pc = ⟨rUb, p⟩ ∨ pc = ⟨rUa, q⟩ := by simpa using hpc
  · obtain ⟨z, r, f, rfl⟩ : ∃ (z : Fin 1) (r : Fin 256) (f : Fin 1408), x = ix3 z r f := ⟨_, _, _, eq_ix3 x⟩
    obtain rfl : z = 0 := Subsingleton.elim _ _
    refine (hp r f).trans (congrArg₂ _ (Fin.ext ?_) (Fin.ext ?_))
    · show r.val = 0 + 1 * r.val; omega
    · show 1408 + f.val = 1408 + 1 * f.val; omega
  · obtain ⟨z, r, f, rfl⟩ : ∃ (z : Fin 1) (r : Fin 256) (f : Fin 1408), x = ix3 z r f := ⟨_, _, _, eq_ix3 x⟩
    obtain rfl : z = 0 := Subsingleton.elim _ _
    refine (hq r f).trans (congrArg₂ _ (Fin.ext ?_) (Fin.ext ?_))
    · show r.val = 0 + 1 * r.val; omega
    · show f.val = 0 + 1 * f.val; omega

/-! ## The outputs -/

/-- What the blocks of one grid point hold. -/
structure Holds (x0 x1 x2 : Vec Ideal S1x256x1024 .f32) (x3 : Vec Ideal S1x1x3x1024 .f32) (x4 : Vec Ideal S1x1024 .f32)
    (x5 x6 x7 : Vec Ideal S1x2816x1024 .bf16) (z ct o : Fin 256 → Row) (sh sc gt g : Row) (w1 w3 : In) (w2 : Out) : Prop where
  z : ∀ r d, x0 (ix3 0 r d) = z r d
  ct : ∀ r d, x1 (ix3 0 r d) = ct r d
  o : ∀ r d, x2 (ix3 0 r d) = o r d
  sh : ∀ d, x3 (ix4 0 0 0 d) = sh d
  sc : ∀ d, x3 (ix4 0 0 1 d) = sc d
  gt : ∀ d, x3 (ix4 0 0 2 d) = gt d
  g : ∀ d, x4 (ix2 0 d) = g d
  w1 : ∀ f d, x5 (ix3 0 f d) = w1 d f
  w3 : ∀ f d, x6 (ix3 0 f d) = w3 d f
  w2 : ∀ f d, x7 (ix3 0 f d) = w2 f d

variable {x0 x1 x2 : Vec Ideal S1x256x1024 .f32} {x3 : Vec Ideal S1x1x3x1024 .f32} {x4 : Vec Ideal S1x1024 .f32}
  {x5 x6 x7 : Vec Ideal S1x2816x1024 .bf16} {z ct o : Fin 256 → Row} {sh sc gt g : Row} {w1 w3 : In} {w2 : Out}
  (B : Holds x0 x1 x2 x3 x4 x5 x6 x7 z ct o sh sc gt g w1 w3 w2) (r : Fin 256) (d : Fin 1024)

include B

theorem hV_at : hV x0 x3 x4 (ix2 r d) = hid (z r) g sh sc d :=
  hid_at _ _ _ _ z g sh sc (fun r d => (ld_x x0 r d).trans (B.z r d)) (fun d => (ld_g x4 d).trans (B.g d))
    (fun d => (ld_m0 x3 d).trans (B.sh d)) (fun d => (ld_m1 x3 d).trans (B.sc d)) r d

theorem doV_at : doV x1 x3 (ix2 r d) = dOut gt (ct r) d :=
  dOut_at _ _ ct gt (fun r d => (ld_x x1 r d).trans (B.ct r d)) (fun d => (ld_m2 x3 d).trans (B.gt d)) r d

theorem h_at : h x0 x3 x4 (ix3 0 r d) = hid (z r) g sh sc d := by
  unfold h
  rw [View.canon_cons_unit_lit _ _ _ (by decide)]
  refine Eq.trans ?_ (hV_at B r d)
  pointwise [k0_pay12]

theorem dO_at : dO x1 x3 (ix3 0 r d) = dOut gt (ct r) d := by
  unfold dO
  rw [View.canon_cons_unit_lit _ _ _ (by decide)]
  exact dOut_out _ _ ct gt (fun r d => (ld_x x1 r d).trans (B.ct r d)) (fun d => (ld_m2 x3 d).trans (B.gt d)) r d

section Weights

variable (f : Fin 1408)
theorem w1a : (View.ld x5 rWa : Vec Ideal S1x1408x1024 .bf16) (ix3 0 f d) = w1 d (lo f) := (ld_wa x5 d f).trans (B.w1 _ _)
theorem w1b : (View.ld x5 rWb : Vec Ideal S1x1408x1024 .bf16) (ix3 0 f d) = w1 d (hi f) := (ld_wb x5 d f).trans (B.w1 _ _)
theorem w3a : (View.ld x6 rWa : Vec Ideal S1x1408x1024 .bf16) (ix3 0 f d) = w3 d (lo f) := (ld_wa x6 d f).trans (B.w3 _ _)
theorem w3b : (View.ld x6 rWb : Vec Ideal S1x1408x1024 .bf16) (ix3 0 f d) = w3 d (hi f) := (ld_wb x6 d f).trans (B.w3 _ _)
theorem w2a : (View.ld x7 rWa : Vec Ideal S1x1408x1024 .bf16) (ix3 0 f d) = w2 (lo f) d := (ld_wa x7 d f).trans (B.w2 _ _)
theorem w2b : (View.ld x7 rWb : Vec Ideal S1x1408x1024 .bf16) (ix3 0 f d) = w2 (hi f) d := (ld_wb x7 d f).trans (B.w2 _ _)

end Weights

theorem a_at (f : Fin 2816) : a x0 x3 x4 x5 x6 (ix3 0 r f) = act (hid (z r) g sh sc) w1 w3 f := by
  unfold a ubV
  refine halves_at _ _ (fun r f => act (hid (z r) g sh sc) w1 w3 f) (fun r f => ?_) (fun r f => ?_) r f
  · exact act_second _ _ _ (hid (z r) g sh sc) w1 w3 hi r (hV_at B r) (fun f d => w1b B d f) (fun f d => w3b B d f) f
  · exact act_first _ _ _ (hid (z r) g sh sc) w1 w3 lo r (hV_at B r) (fun f d => w1a B d f) (fun f d => w3a B d f) f

theorem du3_at (f : Fin 2816) : du3 x0 x1 x3 x4 x5 x7 (ix3 0 r f) = dU3 (hid (z r) g sh sc) (dOut gt (ct r)) w1 w2 f := by
  unfold du3 ubV
  refine halves_at _ _ (fun r f => dU3 (hid (z r) g sh sc) (dOut gt (ct r)) w1 w2 f) (fun r f => ?_) (fun r f => ?_) r f
  · exact dU3_out_second _ _ _ _ (hid (z r) g sh sc) (dOut gt (ct r)) w1 w2 hi r (hV_at B r) (doV_at B r) (fun f d => w1b B d f) (fun f d => w2b B d f) f
  · exact dU3_out_first _ _ _ _ (hid (z r) g sh sc) (dOut gt (ct r)) w1 w2 lo r (hV_at B r) (doV_at B r) (fun f d => w1a B d f) (fun f d => w2a B d f) f

theorem du1_at (f : Fin 2816) : du1 x0 x1 x3 x4 x5 x6 x7 (ix3 0 r f) = dU1 (hid (z r) g sh sc) (dOut gt (ct r)) w1 w3 w2 f := by
  unfold du1 ubV
  refine halves_at _ _ (fun r f => dU1 (hid (z r) g sh sc) (dOut gt (ct r)) w1 w3 w2 f) (fun r f => ?_) (fun r f => ?_) r f
  · exact dU1_out_second _ _ _ _ _ (hid (z r) g sh sc) (dOut gt (ct r)) w1 w3 w2 hi r (hV_at B r) (doV_at B r) (fun f d => w1b B d f) (fun f d => w3b B d f) (fun f d => w2b B d f) f
  · exact dU1_out_first _ _ _ _ _ (hid (z r) g sh sc) (dOut gt (ct r)) w1 w3 w2 lo r (hV_at B r) (doV_at B r) (fun f d => w1a B d f) (fun f d => w3a B d f) (fun f d => w2a B d f) f

/-- The gradient of the modulated token. -/
theorem dh_at : k0_pay39 (du3bV x0 x1 x3 x4 x5 x7) (dhV x0 x1 x3 x4 x5 x6 x7) (View.ld x6 rWb) (ix2 r d)
    = dHid (hid (z r) g sh sc) (dOut gt (ct r)) w1 w3 w2 d := by
  unfold du3bV dhV ubV
  refine (dHid_second _ _ _ _ _ (hid (z r) g sh sc) (dOut gt (ct r)) w1 w3 w2 hi r (hV_at B r) (doV_at B r) (fun f d => w1b B d f) (fun f d => w3b B d f) (fun f d => w2b B d f) d _).trans ?_
  rw [show dhaV x0 x1 x3 x4 x5 x6 x7 (ix2 r d) = _ from
    dHid_first _ _ _ _ _ (hid (z r) g sh sc) (dOut gt (ct r)) w1 w3 w2 lo r (hV_at B r) (doV_at B r) (fun f d => w1a B d f) (fun f d => w3a B d f) (fun f d => w2a B d f) d]
  unfold dHid
  rw [sum_halves (fun f => dU1 _ _ _ _ _ f * _), sum_halves (fun f => dU3 _ _ _ _ f * _)]
  rw [add_add_add_comm, ← add_assoc]
  rfl

theorem dz_at : dz x0 x1 x3 x4 x5 x6 x7 (ix3 0 r d)
    = dTok (z r) (dNorm g sc (dHid (hid (z r) g sh sc) (dOut gt (ct r)) w1 w3 w2)) (ct r) d := by
  unfold dz
  rw [View.canon_cons_unit_lit _ _ _ (by decide)]
  exact dTok_at _ _ _ _ _ _ _ z ct (fun r => dHid (hid (z r) g sh sc) (dOut gt (ct r)) w1 w3 w2) g sc (fun r d => (ld_x x0 r d).trans (B.z r d))
    (fun r d => (ld_x x1 r d).trans (B.ct r d)) (fun d => (ld_g x4 d).trans (B.g d)) (fun d => (ld_m1 x3 d).trans (B.sc d)) (dh_at B) r d

/-- One grid point's part of the gain's gradient. -/
theorem dgV_at : dgV x0 x1 x3 x4 x5 x6 x7 (ix2 0 d) = ∑ r, dGain (z r) sc (dHid (hid (z r) g sh sc) (dOut gt (ct r)) w1 w3 w2) d :=
  dGain_at _ _ _ _ _ z (fun r => dHid (hid (z r) g sh sc) (dOut gt (ct r)) w1 w3 w2) sc (fun r d => (ld_x x0 r d).trans (B.z r d))
    (fun d => (ld_m1 x3 d).trans (B.sc d)) (dh_at B) d

omit B in
theorem dg_start (i : grid0.Coords) (hi : k0_cond3 i = 1#1) (y : Vec Ideal S1x1024 .f32) :
    dg x0 x1 x3 x4 x5 x6 x7 i y (ix2 0 d) = dgV x0 x1 x3 x4 x5 x6 x7 (ix2 0 d) := by
  unfold dg
  rw [if_pos hi, View.canon_cons_unit_lit _ _ _ (by decide)]

omit B in
theorem dg_add (i : grid0.Coords) (hi : ¬ k0_cond3 i = 1#1) (y : Vec Ideal S1x1024 .f32) :
    dg x0 x1 x3 x4 x5 x6 x7 i y (ix2 0 d) = y (ix2 0 d) + dgV x0 x1 x3 x4 x5 x6 x7 (ix2 0 d) := by
  unfold dg
  rw [if_neg hi, View.canon_cons_unit_lit _ _ _ (by decide)]
  refine Eq.trans ?_ (congrArg (· + _) (ld_g y d))
  pointwise [k0_pay1]

theorem dgate_at : dgateV x1 x2 (ix2 0 d) = ∑ r, dGate (o r) (ct r) d :=
  dGate_at _ _ ct o (fun r d => (ld_x x1 r d).trans (B.ct r d)) (fun r d => (ld_x x2 r d).trans (B.o r d)) d

theorem dmod_start (i : grid0.Coords) (hi : k0_cond1 i = 1#1) (y : Vec Ideal S1x1x3x1024 .f32) (k : Fin 3) :
    dmod x0 x1 x2 x3 x4 x5 x6 x7 i y (ix4 0 0 k d)
      = tileMod z (fun r => dHid (hid (z r) g sh sc) (dOut gt (ct r)) w1 w3 w2) g (fun d => ∑ r, dGate (o r) (ct r) d) k d := by
  unfold dmod
  rw [if_pos hi, View.canon_cons_unit_lit _ _ _ (by decide)]
  exact dMod_start _ _ _ _ _ _ z (fun r => dHid (hid (z r) g sh sc) (dOut gt (ct r)) w1 w3 w2) g _ (fun r d => (ld_x x0 r d).trans (B.z r d))
    (fun d => (ld_g x4 d).trans (B.g d)) (dgate_at B) (dh_at B) d k

theorem dmod_add (i : grid0.Coords) (hi : ¬ k0_cond1 i = 1#1) (y : Vec Ideal S1x1x3x1024 .f32) (k : Fin 3) :
    dmod x0 x1 x2 x3 x4 x5 x6 x7 i y (ix4 0 0 k d) = y (ix4 0 0 k d)
      + tileMod z (fun r => dHid (hid (z r) g sh sc) (dOut gt (ct r)) w1 w3 w2) g (fun d => ∑ r, dGate (o r) (ct r) d) k d := by
  unfold dmod
  rw [if_neg hi, View.canon_cons_unit_lit _ _ _ (by decide)]
  exact (dMod_add _ _ _ _ _ _ z (fun r => dHid (hid (z r) g sh sc) (dOut gt (ct r)) w1 w3 w2) g _ (fun r d => (ld_x x0 r d).trans (B.z r d))
    (fun d => (ld_g x4 d).trans (B.g d)) (dgate_at B) (dh_at B) d _ k).trans (congrArg (· + _) (ld_m y d k))

end Cert.FfnBwd.Block
end
-- ==== Proof.FfnBwdArr.lean ====
/- The feed-forward backward kernel's windows: the arrays the region finds, and each window's block at a grid point. -/
module

public import proofs.«01_k».proof.Proof.FfnBwdRun
public import proofs.«01_k».proof.Proof.FfnBwdBlock
public import proofs.«01_k».proof.Proof.FfnFwdRef

@[expose] public section

set_option maxRecDepth 16384

noncomputable section

namespace Cert.FfnBwd.Arr

open Cert.KernelFfnBwdIdeal Cert.KernelFfnBwdIdeal.Gen Cert.FfnBwd Cert.FfnBwd.Block Cert.FeedForward Idealize.ShloMosaic Idealize.ShloMosaic.TcCoe

variable (m : (ℓ : Loc nD τ sig) → Buf (Elt Ideal) ℓ) (c : Dev nD)

/-- The arguments, and the cotangent of the sublayer's output. -/
abbrev A : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
abbrev Ct : Fin 2 → Fin 2304 → Row := fun b s d => (m ((c : Thread nD τ).loc main_arg6) : Vec Ideal S2x2304x1024 .f32) (ix3 b s d)

/-! ## What the host leaves -/

/-- The stack of the weights, the first two turned. -/
def layer (x : Vec Ideal S2816x1024 .f32) : Vec Ideal S1x2816x1024 .bf16 :=
  broadcastInDim S1x2816x1024 ![1, 2] bcast_S2816x1024_S1x2816x1024_1_2 (truncf (F := Ideal) .bf16 x bitsLt_bf16_f32 : Vec Ideal S2816x1024 .bf16)
def turned (x : Vec Ideal S1024x2816 .f32) : Vec Ideal S1x2816x1024 .bf16 :=
  layer (transpose S2816x1024 [1, 0] x transposes_S1024x2816_S2816x1024_1_0)
def stack (u v w : Vec Ideal S1x2816x1024 .bf16) : Vec Ideal S3x2816x1024 .bf16 :=
  concatenate S3x2816x1024 0 [⟨S1x2816x1024, u⟩, ⟨S1x2816x1024, v⟩, ⟨S1x2816x1024, w⟩]
    concatenates_S1x2816x1024_S1x2816x1024_S1x2816x1024_S3x2816x1024_d0

set_option maxHeartbeats 4000000 in
theorem V_w : V m c main_v8 = stack (turned (m ((c : Thread nD τ).loc main_arg3))) (turned (m ((c : Thread nD τ).loc main_arg4)))
    (layer (m ((c : Thread nD τ).loc main_arg5))) := by
  unfold_abbrev_sides
  simp only [hostOps, hostOps0, hostOps0_1, hostOps0_2, List.flatten_cons, List.flatten_nil, List.append_nil, List.cons_append, List.nil_append]
  after_results
  rfl

set_option maxHeartbeats 4000000 in
/-- The product that the gate scales, saved by the forward lines. -/
theorem V_f : V m c main_v47 = Cert.RefFfnFwdIdeal.Read.val_main_v38 (F := Ideal) (m ((c : Thread nD τ).loc main_arg0)) (m ((c : Thread nD τ).loc main_arg1))
    (m ((c : Thread nD τ).loc main_arg2)) (m ((c : Thread nD τ).loc main_arg3)) (m ((c : Thread nD τ).loc main_arg4)) (m ((c : Thread nD τ).loc main_arg5)) := by
  unfold_abbrev_sides
  simp only [hostOps, hostOps0, hostOps0_1, hostOps0_2, List.flatten_cons, List.flatten_nil, List.append_nil, List.cons_append, List.nil_append]
  after_results
  rfl

theorem turned_at (x : Vec Ideal S1024x2816 .f32) (f : Fin 2816) (d : Fin 1024) : turned x (ix3 0 f d) = x (ix2 d f) := by
  pointwise [turned, layer]
theorem layer_at (x : Vec Ideal S2816x1024 .f32) (f : Fin 2816) (d : Fin 1024) : layer x (ix3 0 f d) = x (ix2 f d) := by
  pointwise [layer]
theorem stack_0 (u v w : Vec Ideal S1x2816x1024 .bf16) (f : Fin 2816) (d : Fin 1024) : stack u v w (ix3 0 f d) = u (ix3 0 f d) := by
  pointwise [stack]
theorem stack_1 (u v w : Vec Ideal S1x2816x1024 .bf16) (f : Fin 2816) (d : Fin 1024) : stack u v w (ix3 1 f d) = v (ix3 0 f d) := by
  pointwise [stack]
theorem stack_2 (u v w : Vec Ideal S1x2816x1024 .bf16) (f : Fin 2816) (d : Fin 1024) : stack u v w (ix3 2 f d) = w (ix3 0 f d) := by
  pointwise [stack]

/-! ## The windows' blocks -/

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx3 : ∀ t : Fin cfg0.N, win0_3.index t = ![(grid0.coords t 0).val, min (grid0.coords t 1).val 1, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0, 0] := (by decide +kernel : ∀ t : Fin grid0.N, _)
theorem idx6 : ∀ t : Fin cfg0.N, win0_6.index t = ![1, 0, 0] := (by decide +kernel : ∀ t : Fin grid0.N, _)
theorem idx7 : ∀ t : Fin cfg0.N, win0_7.index t = ![2, 0, 0] := (by decide +kernel : ∀ t : Fin grid0.N, _)
theorem idx8 : ∀ t : Fin cfg0.N, win0_8.index t = ![(grid0.coords t 0).val, (grid0.coords t 1).val, 0] := (by decide +kernel : ∀ t : Fin grid0.N, _)
theorem idx9 : ∀ t : Fin cfg0.N, win0_9.index t = ![(grid0.coords t 0).val, (grid0.coords t 1).val, 0] := (by decide +kernel : ∀ t : Fin grid0.N, _)
theorem idx10 : ∀ t : Fin cfg0.N, win0_10.index t = ![(grid0.coords t 0).val, (grid0.coords t 1).val, 0] := (by decide +kernel : ∀ t : Fin grid0.N, _)
theorem idx11 : ∀ t : Fin cfg0.N, win0_11.index t = ![(grid0.coords t 0).val, (grid0.coords t 1).val, 0] := (by decide +kernel : ∀ t : Fin grid0.N, _)
theorem idx12 : ∀ t : Fin cfg0.N, win0_12.index t = ![(grid0.coords t 0).val, (grid0.coords t 1).val, 0] := (by decide +kernel : ∀ t : Fin grid0.N, _)
theorem idx13 : ∀ t : Fin cfg0.N, win0_13.index t = ![(grid0.coords t 0).val, (grid0.coords t 1).val, 0] := (by decide +kernel : ∀ t : Fin grid0.N, _)
theorem idx14 : ∀ t : Fin cfg0.N, win0_14.index t = ![(grid0.coords t 0).val, min (grid0.coords t 1).val 1, 0, 0] := (by decide +kernel : ∀ t : Fin grid0.N, _)
theorem idx15 : ∀ t : Fin cfg0.N, win0_15.index t = ![0, 0] := (by decide +kernel : ∀ t : Fin grid0.N, _)

section

variable (t : Fin cfg0.N) (b : Fin 2) (i : Fin 9) (eb : b.val = (grid0.coords t 0).val) (ei : i.val = (grid0.coords t 1).val)

include eb ei

theorem blk0 (r : Fin 256) (d : Fin 1024) : iblk m c 0 t (ix3 0 r d) = (A m c).z b (tok i r) d := by
  show V m c main_arg0 ((win0_0.blk t).view.emb (ix3 0 r d)) = m ((c : Thread nD τ).loc main_arg0) (ix3 b (tok i r) d)
  rw [V_arg m c main_arg0 (by decide)]
  congr 1
  unfold tok
  blk_ext [idx0]
theorem blk1 (r : Fin 256) (d : Fin 1024) : iblk m c 1 t (ix3 0 r d) = Ct m c b (tok i r) d := by
  show V m c main_arg6 ((win0_1.blk t).view.emb (ix3 0 r d)) = m ((c : Thread nD τ).loc main_arg6) (ix3 b (tok i r) d)
  rw [V_arg m c main_arg6 (by decide)]
  congr 1
  unfold tok
  blk_ext [idx1]
theorem blk2 (r : Fin 256) (d : Fin 1024) : iblk m c 2 t (ix3 0 r d) = (A m c).o b (tok i r) d := by
  show V m c main_v47 ((win0_2.blk t).view.emb (ix3 0 r d)) = _
  rw [V_f]
  refine Eq.trans (congrArg _ ?_) (Cert.RefFfnFwdIdeal.Arr.o_at _ _ _ _ _ _ b (tok i r) d)
  unfold tok
  blk_ext [idx2]
theorem blk3 (r : Fin 256) (k : Fin 3) (d : Fin 1024) : iblk m c 3 t (ix4 0 0 k d) = (A m c).mod b (seg (tok i r)) k d := by
  show V m c main_arg1 ((win0_3.blk t).view.emb (ix4 0 0 k d)) = m ((c : Thread nD τ).loc main_arg1) (ix4 b (seg (tok i r)) k d)
  rw [V_arg m c main_arg1 (by decide)]
  congr 1
  have hs := seg_tok i r
  blk_ext [idx3]

end

theorem blk4 (t : Fin cfg0.N) (d : Fin 1024) : iblk m c 4 t (ix2 0 d) = (A m c).g d := by
  show V m c main_arg2 ((win0_4.blk t).view.emb (ix2 0 d)) = m ((c : Thread nD τ).loc main_arg2) (ix2 0 d)
  rw [V_arg m c main_arg2 (by decide)]
  congr 1
  blk_ext [idx4]
theorem blk5 (t : Fin cfg0.N) (f : Fin 2816) (d : Fin 1024) : iblk m c 5 t (ix3 0 f d) = (A m c).w1 d f := by
  show V m c main_v8 ((win0_5.blk t).view.emb (ix3 0 f d)) = _
  rw [V_w]
  refine Eq.trans (congrArg _ ?_) ((stack_0 _ _ _ f d).trans (turned_at _ f d))
  blk_ext [idx5]
theorem blk6 (t : Fin cfg0.N) (f : Fin 2816) (d : Fin 1024) : iblk m c 6 t (ix3 0 f d) = (A m c).w3 d f := by
  show V m c main_v8 ((win0_6.blk t).view.emb (ix3 0 f d)) = _
  rw [V_w]
  refine Eq.trans (congrArg _ ?_) ((stack_1 _ _ _ f d).trans (turned_at _ f d))
  blk_ext [idx6]
theorem blk7 (t : Fin cfg0.N) (f : Fin 2816) (d : Fin 1024) : iblk m c 7 t (ix3 0 f d) = (A m c).w2 f d := by
  show V m c main_v8 ((win0_7.blk t).view.emb (ix3 0 f d)) = _
  rw [V_w]
  refine Eq.trans (congrArg _ ?_) ((stack_2 _ _ _ f d).trans (layer_at _ f d))
  blk_ext [idx7]

/-- All blocks at a grid point, the modulation's row named by the tile. -/
theorem holds (t : Fin cfg0.N) (b : Fin 2) (i : Fin 9) (eb : b.val = (grid0.coords t 0).val) (ei : i.val = (grid0.coords t 1).val) :
    Holds (iblk m c 0 t) (iblk m c 1 t) (iblk m c 2 t) (iblk m c 3 t) (iblk m c 4 t) (iblk m c 5 t) (iblk m c 6 t) (iblk m c 7 t)
      (fun r => (A m c).z b (tok i r)) (fun r => Ct m c b (tok i r)) (fun r => (A m c).o b (tok i r)) ((A m c).sh b (tok i 0))
      ((A m c).sc b (tok i 0)) ((A m c).gt b (tok i 0)) (A m c).g (A m c).w1 (A m c).w3 (A m c).w2 where
  z := blk0 m c t b i eb ei
  ct := blk1 m c t b i eb ei
  o := blk2 m c t b i eb ei
  sh := blk3 m c t b i eb ei 0 0
  sc := blk3 m c t b i eb ei 0 1
  gt := blk3 m c t b i eb ei 0 2
  g := blk4 m c t
  w1 := blk5 m c t
  w3 := blk6 m c t
  w2 := blk7 m c t

/-- The tokens of a tile take the same modulation. -/
theorem seg_eq (i : Fin 9) (r : Fin 256) : seg (tok i r) = seg (tok i 0) := Fin.ext ((seg_tok i r).trans (seg_tok i 0).symm)

theorem sh_eq (a : Args) (b : Fin 2) (i : Fin 9) (r : Fin 256) : a.sh b (tok i r) = a.sh b (tok i 0) := by unfold Args.sh; rw [seg_eq]
theorem sc_eq (a : Args) (b : Fin 2) (i : Fin 9) (r : Fin 256) : a.sc b (tok i r) = a.sc b (tok i 0) := by unfold Args.sc; rw [seg_eq]
theorem gt_eq (a : Args) (b : Fin 2) (i : Fin 9) (r : Fin 256) : a.gt b (tok i r) = a.gt b (tok i 0) := by unfold Args.gt; rw [seg_eq]

/-! ## The result arrays that no point adds to -/

theorem final_dz : (dats m 0 c).arrAt 8 cfg0.N = fun j => ((A m c).dz (Ct m c)) (j 0) (j 1) (j 2) := by
  refine (dats m 0 c).arrAt_eq_of_covers 8 _ (by decide +kernel) fun t _ y => ?_
  blk_simp
  rw [after_8]
  obtain ⟨z, r, d, rfl⟩ : ∃ (z : Fin 1) (r : Fin 256) (d : Fin 1024), y = ix3 z r d := ⟨_, _, _, eq_ix3 y⟩
  obtain ⟨b, eb⟩ : ∃ b : Fin 2, b.val = (grid0.coords t 0).val := ⟨⟨_, (grid0.coords t 0).isLt⟩, rfl⟩
  obtain ⟨i, ei⟩ : ∃ i : Fin 9, i.val = (grid0.coords t 1).val := ⟨⟨_, (grid0.coords t 1).isLt⟩, rfl⟩
  obtain rfl : z = 0 := Subsingleton.elim _ _
  have emb : (win0_8.blk t).view.emb (ix3 0 r d) = (ix3 b (tok i r) d : S2x2304x1024.Idx) := by
    unfold tok
    blk_ext [idx8]
  rw [emb]
  refine (dz_at (holds m c t b i eb ei) r d).trans ?_
  show _ = ((A m c).dz (Ct m c)) b (tok i r) d
  unfold Args.dz Args.dn Args.dh Args.h Args.e
  simp only [sh_eq _ b i r, sc_eq _ b i r, gt_eq _ b i r]

theorem final_h : (dats m 0 c).arrAt 9 cfg0.N = fun j => ((A m c).h) (j 0) (j 1) (j 2) := by
  refine (dats m 0 c).arrAt_eq_of_covers 9 _ (by decide +kernel) fun t _ y => ?_
  blk_simp
  rw [after_9]
  obtain ⟨z, r, d, rfl⟩ : ∃ (z : Fin 1) (r : Fin 256) (d : Fin 1024), y = ix3 z r d := ⟨_, _, _, eq_ix3 y⟩
  obtain ⟨b, eb⟩ : ∃ b : Fin 2, b.val = (grid0.coords t 0).val := ⟨⟨_, (grid0.coords t 0).isLt⟩, rfl⟩
  obtain ⟨i, ei⟩ : ∃ i : Fin 9, i.val = (grid0.coords t 1).val := ⟨⟨_, (grid0.coords t 1).isLt⟩, rfl⟩
  obtain rfl : z = 0 := Subsingleton.elim _ _
  have emb : (win0_9.blk t).view.emb (ix3 0 r d) = (ix3 b (tok i r) d : S2x2304x1024.Idx) := by
    unfold tok
    blk_ext [idx9]
  rw [emb]
  refine (h_at (holds m c t b i eb ei) r d).trans ?_
  show _ = ((A m c).h) b (tok i r) d
  unfold Args.h
  simp only [sh_eq _ b i r, sc_eq _ b i r, gt_eq _ b i r]

theorem final_du1 : (dats m 0 c).arrAt 10 cfg0.N = fun j => (fun b s => dU1 ((A m c).h b s) ((A m c).e (Ct m c) b s) (A m c).w1 (A m c).w3 (A m c).w2) (j 0) (j 1) (j 2) := by
  refine (dats m 0 c).arrAt_eq_of_covers 10 _ (by decide +kernel) fun t _ y => ?_
  blk_simp
  rw [after_10]
  obtain ⟨z, r, d, rfl⟩ : ∃ (z : Fin 1) (r : Fin 256) (d : Fin 2816), y = ix3 z r d := ⟨_, _, _, eq_ix3 y⟩
  obtain ⟨b, eb⟩ : ∃ b : Fin 2, b.val = (grid0.coords t 0).val := ⟨⟨_, (grid0.coords t 0).isLt⟩, rfl⟩
  obtain ⟨i, ei⟩ : ∃ i : Fin 9, i.val = (grid0.coords t 1).val := ⟨⟨_, (grid0.coords t 1).isLt⟩, rfl⟩
  obtain rfl : z = 0 := Subsingleton.elim _ _
  have emb : (win0_10.blk t).view.emb (ix3 0 r d) = (ix3 b (tok i r) d : S2x2304x2816.Idx) := by
    unfold tok
    blk_ext [idx10]
  rw [emb]
  refine (du1_at (holds m c t b i eb ei) r d).trans ?_
  show _ = (fun b s => dU1 ((A m c).h b s) ((A m c).e (Ct m c) b s) (A m c).w1 (A m c).w3 (A m c).w2) b (tok i r) d
  unfold Args.h Args.e
  simp only [sh_eq _ b i r, sc_eq _ b i r, gt_eq _ b i r]

theorem final_du3 : (dats m 0 c).arrAt 11 cfg0.N = fun j => (fun b s => dU3 ((A m c).h b s) ((A m c).e (Ct m c) b s) (A m c).w1 (A m c).w2) (j 0) (j 1) (j 2) := by
  refine (dats m 0 c).arrAt_eq_of_covers 11 _ (by decide +kernel) fun t _ y => ?_
  blk_simp
  rw [after_11]
  obtain ⟨z, r, d, rfl⟩ : ∃ (z : Fin 1) (r : Fin 256) (d : Fin 2816), y = ix3 z r d := ⟨_, _, _, eq_ix3 y⟩
  obtain ⟨b, eb⟩ : ∃ b : Fin 2, b.val = (grid0.coords t 0).val := ⟨⟨_, (grid0.coords t 0).isLt⟩, rfl⟩
  obtain ⟨i, ei⟩ : ∃ i : Fin 9, i.val = (grid0.coords t 1).val := ⟨⟨_, (grid0.coords t 1).isLt⟩, rfl⟩
  obtain rfl : z = 0 := Subsingleton.elim _ _
  have emb : (win0_11.blk t).view.emb (ix3 0 r d) = (ix3 b (tok i r) d : S2x2304x2816.Idx) := by
    unfold tok
    blk_ext [idx11]
  rw [emb]
  refine (du3_at (holds m c t b i eb ei) r d).trans ?_
  show _ = (fun b s => dU3 ((A m c).h b s) ((A m c).e (Ct m c) b s) (A m c).w1 (A m c).w2) b (tok i r) d
  unfold Args.h Args.e
  simp only [sh_eq _ b i r, sc_eq _ b i r, gt_eq _ b i r]

theorem final_a : (dats m 0 c).arrAt 12 cfg0.N = fun j => (fun b s => act ((A m c).h b s) (A m c).w1 (A m c).w3) (j 0) (j 1) (j 2) := by
  refine (dats m 0 c).arrAt_eq_of_covers 12 _ (by decide +kernel) fun t _ y => ?_
  blk_simp
  rw [after_12]
  obtain ⟨z, r, d, rfl⟩ : ∃ (z : Fin 1) (r : Fin 256) (d : Fin 2816), y = ix3 z r d := ⟨_, _, _, eq_ix3 y⟩
  obtain ⟨b, eb⟩ : ∃ b : Fin 2, b.val = (grid0.coords t 0).val := ⟨⟨_, (grid0.coords t 0).isLt⟩, rfl⟩
  obtain ⟨i, ei⟩ : ∃ i : Fin 9, i.val = (grid0.coords t 1).val := ⟨⟨_, (grid0.coords t 1).isLt⟩, rfl⟩
  obtain rfl : z = 0 := Subsingleton.elim _ _
  have emb : (win0_12.blk t).view.emb (ix3 0 r d) = (ix3 b (tok i r) d : S2x2304x2816.Idx) := by
    unfold tok
    blk_ext [idx12]
  rw [emb]
  refine (a_at (holds m c t b i eb ei) r d).trans ?_
  show _ = (fun b s => act ((A m c).h b s) (A m c).w1 (A m c).w3) b (tok i r) d
  unfold Args.h
  simp only [sh_eq _ b i r, sc_eq _ b i r, gt_eq _ b i r]

theorem final_do : (dats m 0 c).arrAt 13 cfg0.N = fun j => ((A m c).e (Ct m c)) (j 0) (j 1) (j 2) := by
  refine (dats m 0 c).arrAt_eq_of_covers 13 _ (by decide +kernel) fun t _ y => ?_
  blk_simp
  rw [after_13]
  obtain ⟨z, r, d, rfl⟩ : ∃ (z : Fin 1) (r : Fin 256) (d : Fin 1024), y = ix3 z r d := ⟨_, _, _, eq_ix3 y⟩
  obtain ⟨b, eb⟩ : ∃ b : Fin 2, b.val = (grid0.coords t 0).val := ⟨⟨_, (grid0.coords t 0).isLt⟩, rfl⟩
  obtain ⟨i, ei⟩ : ∃ i : Fin 9, i.val = (grid0.coords t 1).val := ⟨⟨_, (grid0.coords t 1).isLt⟩, rfl⟩
  obtain rfl : z = 0 := Subsingleton.elim _ _
  have emb : (win0_13.blk t).view.emb (ix3 0 r d) = (ix3 b (tok i r) d : S2x2304x1024.Idx) := by
    unfold tok
    blk_ext [idx13]
  rw [emb]
  refine (dO_at (holds m c t b i eb ei) r d).trans ?_
  show _ = ((A m c).e (Ct m c)) b (tok i r) d
  unfold Args.e
  simp only [sh_eq _ b i r, sc_eq _ b i r, gt_eq _ b i r]

end Cert.FfnBwd.Arr
end
-- ==== Proof.FfnBwdAcc.lean ====
/- The feed-forward backward kernel's two accumulated results: the gradients of the modulation and of the gain. -/
module

public import proofs.«01_k».proof.Proof.FfnBwdArr

@[expose] public section

set_option maxRecDepth 16384

noncomputable section

namespace Cert.FfnBwd.Arr

open Cert.KernelFfnBwdIdeal Cert.KernelFfnBwdIdeal.Gen Cert.FfnBwd Cert.FfnBwd.Block Cert.FeedForward Idealize.ShloMosaic Idealize.ShloMosaic.TcCoe

variable (m : (ℓ : Loc nD τ sig) → Buf (Elt Ideal) ℓ) (c : Dev nD)

/-- The grid point of a tile of a row of the batch. -/
def pt (b : Fin 2) (i : Fin 9) : Fin grid0.N := ⟨9 * b.val + i.val, by have h : grid0.N = 18 := (by decide +kernel); omega⟩

theorem pt_coords : ∀ (b : Fin 2) (i : Fin 9), (grid0.coords (pt b i) 0).val = b.val ∧ (grid0.coords (pt b i) 1).val = i.val := by
  decide +kernel
theorem pt_cond1 : ∀ (b : Fin 2) (i : Fin 9), k0_cond1 (grid0.coords (pt b i)) = 1#1 ↔ i.val ≤ 1 := by
  decide +kernel
theorem pt_cond3 : ∀ (b : Fin 2) (i : Fin 9), k0_cond3 (grid0.coords (pt b i)) = 1#1 ↔ (b.val = 0 ∧ i.val = 0) := by
  decide +kernel
theorem exists_pt : ∀ t : Fin grid0.N, ∃ (b : Fin 2) (i : Fin 9), t = pt b i := by
  decide +kernel

/-- What one tile adds. -/
def partM (b : Fin 2) (i : Fin 9) (k : Fin 3) (d : Fin 1024) : EReal := ∑ r, (A m c).dmod (Ct m c) b (tok i r) k d
def partG (b : Fin 2) (i : Fin 9) (d : Fin 1024) : EReal := ∑ r, (A m c).dgain (Ct m c) b (tok i r) d

theorem dh_eq (b : Fin 2) (i : Fin 9) (r : Fin 256) :
    dHid (hid ((A m c).z b (tok i r)) (A m c).g ((A m c).sh b (tok i 0)) ((A m c).sc b (tok i 0))) (dOut ((A m c).gt b (tok i 0)) (Ct m c b (tok i r)))
      (A m c).w1 (A m c).w3 (A m c).w2 = (A m c).dh (Ct m c) b (tok i r) := by
  unfold Args.dh Args.h Args.e
  simp only [sh_eq _ b i r, sc_eq _ b i r, gt_eq _ b i r]

theorem tile_part (b : Fin 2) (i : Fin 9) (k : Fin 3) (d : Fin 1024) :
    Tile.tileMod (fun r => (A m c).z b (tok i r)) (fun r => (A m c).dh (Ct m c) b (tok i r)) (A m c).g
      (fun d => ∑ r, dGate ((A m c).o b (tok i r)) (Ct m c b (tok i r)) d) k d = partM m c b i k d :=
  match k with
  | 0 => rfl
  | 1 => rfl
  | 2 => rfl

theorem stepM_start' (b : Fin 2) (i : Fin 9) (hi : i.val ≤ 1) (y : Vec Ideal S1x1x3x1024 .f32) (k : Fin 3) (d : Fin 1024) :
    stepM m c (pt b i) y (ix4 0 0 k d) = partM m c b i k d := by
  unfold stepM
  refine (dmod_start (holds m c (pt b i) b i (pt_coords b i).1.symm (pt_coords b i).2.symm) d _ ((pt_cond1 b i).2 hi) y k).trans ?_
  simp only [dh_eq]
  exact tile_part m c b i k d
theorem stepM_add (b : Fin 2) (i : Fin 9) (hi : ¬ i.val ≤ 1) (y : Vec Ideal S1x1x3x1024 .f32) (k : Fin 3) (d : Fin 1024) :
    stepM m c (pt b i) y (ix4 0 0 k d) = y (ix4 0 0 k d) + partM m c b i k d := by
  unfold stepM
  refine (dmod_add (holds m c (pt b i) b i (pt_coords b i).1.symm (pt_coords b i).2.symm) d _ (fun h => hi ((pt_cond1 b i).1 h)) y k).trans ?_
  simp only [dh_eq]
  exact congrArg (y (ix4 0 0 k d) + ·) (tile_part m c b i k d)

theorem dgV_part (b : Fin 2) (i : Fin 9) (d : Fin 1024) :
    dgV (iblk m c 0 (pt b i)) (iblk m c 1 (pt b i)) (iblk m c 3 (pt b i)) (iblk m c 4 (pt b i)) (iblk m c 5 (pt b i)) (iblk m c 6 (pt b i)) (iblk m c 7 (pt b i)) (ix2 0 d)
      = partG m c b i d := by
  refine (dgV_at (holds m c (pt b i) b i (pt_coords b i).1.symm (pt_coords b i).2.symm) d).trans ?_
  simp only [dh_eq]
  unfold partG Args.dgain
  simp only [sc_eq _ b i]

theorem stepG_start' (b : Fin 2) (i : Fin 9) (hi : b.val = 0 ∧ i.val = 0) (y : Vec Ideal S1x1024 .f32) (d : Fin 1024) :
    stepG m c (pt b i) y (ix2 0 d) = partG m c b i d := by
  unfold stepG
  exact (dg_start d _ ((pt_cond3 b i).2 hi) y).trans (dgV_part m c b i d)
theorem stepG_add (b : Fin 2) (i : Fin 9) (hi : ¬ (b.val = 0 ∧ i.val = 0)) (y : Vec Ideal S1x1024 .f32) (d : Fin 1024) :
    stepG m c (pt b i) y (ix2 0 d) = y (ix2 0 d) + partG m c b i d := by
  unfold stepG
  exact (dg_add d _ (fun h => hi ((pt_cond3 b i).1 h)) y).trans (congrArg (y (ix2 0 d) + ·) (dgV_part m c b i d))

/-! ## The modulation's gradient -/

/-- The context's tile stands alone; -/
theorem accM_zero (b : Fin 2) (k : Fin 3) (d : Fin 1024) : accM m c (pt b 0).val (pt b 0).isLt (ix4 0 0 k d) = partM m c b 0 k d :=
  (congrFun (accM_start m c (pt b 0) ((pt_cond1 b 0).2 (by decide)) (View.canon [])) _).trans (stepM_start' m c b 0 (by decide) _ k d)

/-- the latents' tiles add up, from the first of them on. -/
theorem accM_late (b : Fin 2) (n : ℕ) (hn : n < 8) (k : Fin 3) (d : Fin 1024) :
    accM m c (pt b ⟨n + 1, by omega⟩).val (pt b ⟨n + 1, by omega⟩).isLt (ix4 0 0 k d)
      = ∑ i ∈ Finset.range (n + 1), if h : i < 8 then partM m c b ⟨i + 1, by omega⟩ k d else 0 := by
  induction n with
  | zero =>
    rw [Finset.sum_range_one, dif_pos (by omega)]
    exact (congrFun (accM_start m c (pt b 1) ((pt_cond1 b 1).2 (by decide)) (View.canon [])) _).trans (stepM_start' m c b 1 (by decide) _ k d)
  | succ n ih =>
    rw [Finset.sum_range_succ, dif_pos (by omega), ← ih (by omega)]
    refine (congrFun (accM_succ m c (pt b ⟨n + 1 + 1, by omega⟩) (by show 9 * b.val + (n + 1 + 1) ≠ 0; omega)) _).trans ?_
    exact stepM_add m c b ⟨n + 1 + 1, by omega⟩ (by show ¬ n + 1 + 1 ≤ 1; omega) _ k d

/-! ## The gain's gradient -/

/-- The tile of a grid point. -/
def batch (n : ℕ) (hn : n < 18) : Fin 2 := ⟨n / 9, by omega⟩
def tile (n : ℕ) : Fin 9 := ⟨n % 9, by omega⟩

theorem pt_eq (n : ℕ) (hn : n < 18) : (pt (batch n hn) (tile n)).val = n := by
  show 9 * (n / 9) + n % 9 = n
  omega

theorem accG_of (n n' : ℕ) (hn : n < cfg0.N) (hn' : n' < cfg0.N) (e : n = n') : accG m c n hn = accG m c n' hn' := by
  subst e; rfl

theorem accG_at (n : ℕ) (hn : n < 18) (d : Fin 1024) :
    accG m c (pt (batch n hn) (tile n)).val (pt (batch n hn) (tile n)).isLt (ix2 0 d)
      = ∑ p ∈ Finset.range (n + 1), if h : p < 18 then partG m c (batch p h) (tile p) d else 0 := by
  induction n with
  | zero =>
    rw [Finset.sum_range_one, dif_pos (by omega)]
    exact (congrFun (accG_start m c (pt (batch 0 hn) (tile 0)) ((pt_cond3 _ _).2 ⟨rfl, rfl⟩) (View.canon [])) _).trans
      (stepG_start' m c _ _ ⟨rfl, rfl⟩ _ d)
  | succ n ih =>
    rw [Finset.sum_range_succ, dif_pos hn, ← ih (by omega)]
    refine (congrFun (accG_succ m c (pt (batch (n + 1) hn) (tile (n + 1))) (by rw [pt_eq]; omega)) _).trans ?_
    refine (stepG_add m c _ _ (by show ¬ ((n + 1) / 9 = 0 ∧ (n + 1) % 9 = 0); omega) _ d).trans ?_
    refine congrArg (· + _) (congrFun (accG_of m c _ _ _ _ ?_) _)
    rw [pt_eq, pt_eq]
    omega

/-! ## The two arrays -/

/-- The points at which each is written out. -/
theorem flushed_M : ∀ t : Fin grid0.N, (cfg0.win 14).flush t = true → ∃ b : Fin 2, t = pt b 0 ∨ t = pt b 8 := by decide +kernel
theorem flushed_G : ∀ t : Fin grid0.N, (cfg0.win 15).flush t = true → t = pt 1 8 := by decide +kernel

set_option maxHeartbeats 1600000 in
theorem final_dmod : (dats m 0 c).arrAt 14 cfg0.N = fun j => (A m c).dmods (Ct m c) (j 0) (j 1) (j 2) (j 3) := by
  refine (dats m 0 c).arrAt_eq_of_covers 14 _ (by decide +kernel) fun t ht y => ?_
  blk_simp
  rw [after_14]
  obtain ⟨z, z', k, d, rfl⟩ : ∃ (z z' : Fin 1) (k : Fin 3) (d : Fin 1024), y = ix4 z z' k d := ⟨_, _, _, _, eq_ix4 y⟩
  obtain rfl : z = 0 := Subsingleton.elim _ _
  obtain rfl : z' = 0 := Subsingleton.elim _ _
  obtain ⟨b, e | e⟩ := flushed_M t ht
  · have e0 : (grid0.coords t 0).val = b.val := by rw [e]; exact (pt_coords b 0).1
    have e1 : (grid0.coords t 1).val = 0 := by rw [e]; exact (pt_coords b 0).2
    have emb : (win0_14.blk t).view.emb (ix4 0 0 k d) = (ix4 b 0 k d : S2x2x3x1024.Idx) := by
      blk_ext [idx14]
    refine Eq.trans ?_ (congrArg (fun j : S2x2x3x1024.Idx => (A m c).dmods (Ct m c) (j 0) (j 1) (j 2) (j 3)) emb).symm
    clear emb
    subst e
    refine (accM_zero m c b k d).trans ?_
    exact sum_early fun s => (A m c).dmod (Ct m c) b s k d
  · have e0 : (grid0.coords t 0).val = b.val := by rw [e]; exact (pt_coords b 8).1
    have e1 : (grid0.coords t 1).val = 8 := by rw [e]; exact (pt_coords b 8).2
    have emb : (win0_14.blk t).view.emb (ix4 0 0 k d) = (ix4 b 1 k d : S2x2x3x1024.Idx) := by
      blk_ext [idx14]
    refine Eq.trans ?_ (congrArg (fun j : S2x2x3x1024.Idx => (A m c).dmods (Ct m c) (j 0) (j 1) (j 2) (j 3)) emb).symm
    clear emb
    subst e
    refine (accM_late m c b 7 (by omega) k d).trans ?_
    rw [Finset.sum_range]
    refine Eq.trans (Finset.sum_congr rfl fun i _ => dif_pos i.isLt) ?_
    exact sum_late fun s => (A m c).dmod (Ct m c) b s k d

set_option maxHeartbeats 1600000 in
theorem final_dg : (dats m 0 c).arrAt 15 cfg0.N = fun j => (A m c).dgains (Ct m c) (j 1) := by
  refine (dats m 0 c).arrAt_eq_of_covers 15 _ (by decide +kernel) fun t ht y => ?_
  blk_simp
  rw [after_15]
  obtain ⟨z, d, rfl⟩ : ∃ (z : Fin 1) (d : Fin 1024), y = ix2 z d := ⟨_, _, eq_ix2 y⟩
  obtain rfl : z = 0 := Subsingleton.elim _ _
  have e := flushed_G t ht
  have emb : (win0_15.blk t).view.emb (ix2 0 d) = (ix2 0 d : S1x1024.Idx) := by
    blk_ext [idx15]
  refine Eq.trans ?_ (congrArg (fun j : S1x1024.Idx => (A m c).dgains (Ct m c) (j 1)) emb).symm
  clear emb
  subst e
  refine (accG_at m c 17 (by omega) d).trans ?_
  rw [Finset.sum_range]
  refine Eq.trans (Finset.sum_congr rfl fun p _ => dif_pos p.isLt) ?_
  show _ = ∑ b, ∑ s, (A m c).dgain (Ct m c) b s d
  rw [← (finProdFinEquiv (m := 2) (n := 9)).sum_comp, Fintype.sum_prod_type]
  refine Finset.sum_congr rfl fun b _ => ?_
  rw [← sum_tiles fun s => (A m c).dgain (Ct m c) b s d]
  refine Finset.sum_congr rfl fun i _ => ?_
  have hb : batch (finProdFinEquiv (m := 2) (n := 9) (b, i)).val (Fin.isLt _) = b := Fin.ext (by show (i.val + 9 * b.val) / 9 = b.val; omega)
  have hi : tile (finProdFinEquiv (m := 2) (n := 9) (b, i)).val = i := Fin.ext (by show (i.val + 9 * b.val) % 9 = i.val; omega)
  rw [hb, hi]
  rfl

end Cert.FfnBwd.Arr
end
-- ==== Proof.FfnReal.lean ====
/- The gated product's gradient over real numbers: where every argument is a real number, so are the projections, and the
   two ways to write the derivative of the gate agree. -/
module

public import proofs.«01_k».proof.Proof.FfnMath

@[expose] public section

noncomputable section

namespace Cert.FeedForward

open Idealize.ShloMosaic

/-- A number that is neither infinity. -/
def IsReal (x : EReal) : Prop := ∃ r : ℝ, x = (r : EReal)

theorem IsReal.add {x y : EReal} (hx : IsReal x) (hy : IsReal y) : IsReal (x + y) := by
  obtain ⟨a, rfl⟩ := hx
  obtain ⟨b, rfl⟩ := hy
  exact ⟨a + b, (EReal.coe_add a b).symm⟩
theorem IsReal.mul {x y : EReal} (hx : IsReal x) (hy : IsReal y) : IsReal (x * y) := by
  obtain ⟨a, rfl⟩ := hx
  obtain ⟨b, rfl⟩ := hy
  exact ⟨a * b, (EReal.coe_mul a b).symm⟩
theorem IsReal.sum {ι : Type} [Fintype ι] {v : ι → EReal} (h : ∀ i, IsReal (v i)) : IsReal (∑ i, v i) := by
  choose r hr using h
  refine ⟨∑ i, r i, ?_⟩
  rw [Finset.sum_congr rfl fun i _ => hr i]
  exact (map_sum (⟨⟨(fun x : ℝ => (x : EReal)), rfl⟩, EReal.coe_add⟩ : ℝ →+ EReal) r Finset.univ).symm

theorem one_real : IsReal 1 := ⟨1, rfl⟩
theorem half_real : IsReal (Ideal.ofBits FTy.f32 1056964608#32) := by
  refine ⟨1 / 2, ?_⟩
  simp [Ideal.ofBits, Ideal.ieee, -EReal.coe_mul]; norm_num
theorem count_real : Ideal.ofBits FTy.f32 1149239296#32 = ((1024 : ℝ) : EReal) := by
  simp [Ideal.ofBits, Ideal.ieee, -EReal.coe_mul]; norm_num
theorem small_real : ∃ r : ℝ, 0 < r ∧ Ideal.ofBits FTy.f32 897988541#32 = (r : EReal) := by
  refine ⟨8796093 * 2 ^ (-43 : ℤ), by positivity, ?_⟩
  simp [Ideal.ofBits, Ideal.ieee, -EReal.coe_mul]

/-- A token's mean square plus a small number is above zero, so its inverse root is a real number. -/
theorem rstd_real {z : Row} (h : ∀ d, IsReal (z d)) : IsReal (rstd z) := by
  choose r hr using h
  obtain ⟨p, hp, ep⟩ := small_real
  have es : ∑ x, z x * z x = ((∑ x, r x * r x : ℝ) : EReal) := by
    refine (Finset.sum_congr rfl fun x _ => by rw [hr x, ← EReal.coe_mul]).trans ?_
    exact (map_sum (⟨⟨(fun x : ℝ => (x : EReal)), rfl⟩, EReal.coe_add⟩ : ℝ →+ EReal) (fun x => r x * r x) Finset.univ).symm
  have hs : 0 ≤ ∑ x, r x * r x := Finset.sum_nonneg fun x _ => mul_self_nonneg _
  have em : msq z = (((∑ x, r x * r x) * (1 / 1024) + p : ℝ) : EReal) := by
    rw [msq, es, count_real, Ideal.div_coe (by norm_num), ep, ← EReal.coe_mul, ← EReal.coe_add]
  have hm : 0 < (∑ x, r x * r x) * (1 / 1024) + p := by positivity
  exact ⟨_, by rw [rstd, em, Ideal.rsqrt_coe, if_neg hm.not_gt, if_neg hm.ne']⟩

theorem proj_real {h : Row} {w : In} (hh : ∀ d, IsReal (h d)) (hw : ∀ d f, IsReal (w d f)) (f : Fin 2816) : IsReal (proj h w f) :=
  IsReal.sum fun d => (hh d).mul (hw d f)

/-- The derivative of the gate, as one product and as two. -/
theorem gate_derivative {u d : EReal} (hu : IsReal u) (hd : IsReal d) :
    d * Ideal.logistic u + u * d * (Ideal.logistic u * (1 - Ideal.logistic u)) = d * (Ideal.logistic u * (1 + u * (1 - Ideal.logistic u))) := by
  obtain ⟨u, rfl⟩ := hu
  obtain ⟨d, rfl⟩ := hd
  rw [Ideal.logistic_coe]
  norm_cast
  ring

namespace Args

/-- Every element of every argument is a real number. -/
structure Finite (A : Args) (ct : Fin 2 → Fin 2304 → Row) : Prop where
  z : ∀ b s d, IsReal (A.z b s d)
  mod : ∀ b i k d, IsReal (A.mod b i k d)
  g : ∀ d, IsReal (A.g d)
  w1 : ∀ d f, IsReal (A.w1 d f)
  w3 : ∀ d f, IsReal (A.w3 d f)
  w2 : ∀ f d, IsReal (A.w2 f d)
  ct : ∀ b s d, IsReal (ct b s d)

variable {A : Args} {ct : Fin 2 → Fin 2304 → Row} (H : A.Finite ct) (b : Fin 2) (s : Fin 2304)
include H

theorem Finite.h (d : Fin 1024) : IsReal (A.h b s d) :=
  ((((H.z b s d).mul (rstd_real (H.z b s))).mul (H.g d)).mul (one_real.add (H.mod b _ 1 d))).add (H.mod b _ 0 d)
theorem Finite.dAct (f : Fin 2816) : IsReal (dAct (A.e ct b s) A.w2 f) :=
  IsReal.sum fun d => ((half_real.mul (H.mod b _ 2 d)).mul (H.ct b s d)).mul (H.w2 f d)

/-- The first projection's gradient, its derivative written as two products. -/
theorem Finite.dU1 (f : Fin 2816) :
    FeedForward.dAct (A.e ct b s) A.w2 f * proj (A.h b s) A.w3 f * Ideal.logistic (proj (A.h b s) A.w1 f)
        + proj (A.h b s) A.w1 f * (FeedForward.dAct (A.e ct b s) A.w2 f * proj (A.h b s) A.w3 f)
          * (Ideal.logistic (proj (A.h b s) A.w1 f) * (1 - Ideal.logistic (proj (A.h b s) A.w1 f)))
      = FeedForward.dU1 (A.h b s) (A.e ct b s) A.w1 A.w3 A.w2 f :=
  gate_derivative (proj_real (H.h b s) H.w1 f) ((H.dAct b s f).mul (proj_real (H.h b s) H.w3 f))

end Args

end Cert.FeedForward
end
-- ==== Proof.FfnBwdRef.lean ====
/- The reference's feed-forward gradients, read token by token. -/
module

public import proofs.«01_k».proof.Proof.FfnFwdRef
public import proofs.«01_k».proof.Proof.FfnReal
public import proofs.«01_k».proof.Proof.Gen.RefFfnBwdIdeal.Run
public import proofs.«01_k».proof.Proof.Gen.RefFfnBwdIdeal.Read

@[expose] public section

set_option maxRecDepth 16384

noncomputable section

namespace Cert.RefFfnBwdIdeal.Arr

open Cert.RefFfnBwdIdeal Cert.RefFfnBwdIdeal.Gen Cert.RefFfnBwdIdeal.Read Cert.FeedForward Idealize.ShloMosaic

/-- A sum over the first two of three axes. -/
theorem drop_two {n0 n1 n2 : ℕ} (h : (⟨3, ![n0, n1, n2]⟩ : Shape).ReducesTo [0, 1] ⟨1, ![n2]⟩) (i : (⟨3, ![n0, n1, n2]⟩ : Shape).Idx) :
    (h.drop i 0).val = (i 2).val := rfl
theorem reduce_two {n0 n1 n2 : ℕ} (h : (⟨3, ![n0, n1, n2]⟩ : Shape).ReducesTo [0, 1] ⟨1, ![n2]⟩) (x : (⟨3, ![n0, n1, n2]⟩ : Shape).Idx → EReal)
    (init : EReal) (d : Fin n2) : Ideal.hostReduceAdd h x init (ix1 d) = init + ∑ a, ∑ b, x (ix3 a b d) := by
  refine congrArg (init + ·) ?_
  rw [← Fintype.sum_prod_type' fun a b => x (ix3 a b d)]
  refine (Finset.sum_bij (fun (p : Fin n0 × Fin n1) _ => ix3 p.1 p.2 d) (fun p _ => ?_) (fun p _ q _ e => ?_) (fun i hi => ?_) (fun _ _ => rfl)).symm
  · refine Finset.mem_filter.2 ⟨Finset.mem_univ _, funext fun a => ?_⟩
    obtain rfl : a = 0 := Subsingleton.elim _ _
    exact Fin.ext rfl
  · exact Prod.ext (congrFun e 0) (congrFun e 1)
  · have e := congrArg Fin.val (congrFun (Finset.mem_filter.1 hi).2 0)
    refine ⟨(i 0, i 1), Finset.mem_univ _, ?_⟩
    refine Eq.trans ?_ (eq_ix3 i).symm
    exact congrArg (ix3 (i 0) (i 1)) (Fin.ext (e.symm.trans (drop_two h i)))

/-! ## The reference's steps, each over any arrays -/

section Steps

variable (x0 : Vec Ideal S2x2304x1024 .f32) (x2 : Vec Ideal S1x1024 .f32) (x3 : Vec Ideal S1024x2816 .f32)
  (x5 : Vec Ideal S2816x1024 .f32) (P Q R : Vec Ideal S2x2304x1024 .f32) (U V W X : Vec Ideal S2x2304x2816 .f32) (b : Fin 2) (s : Fin 2304)
  (d : Fin 1024) (f : Fin 2816)

theorem add_at : addf (F := Ideal) (φ := .f32) P Q (ix3 b s d) = P (ix3 b s d) + Q (ix3 b s d) := by pointwise []
theorem mul_at : mulf (F := Ideal) (φ := .f32) P Q (ix3 b s d) = P (ix3 b s d) * Q (ix3 b s d) := by pointwise []
theorem mul_at' : mulf (F := Ideal) (φ := .f32) U V (ix3 b s f) = U (ix3 b s f) * V (ix3 b s f) := by pointwise []

theorem sg_of : Host.divf (F := Ideal) (φ := .f32) (val_main_call0_v4 (F := Ideal)) (addf (val_main_call0_v2 (F := Ideal)) (Host.exp (Host.negf U))) (ix3 b s f)
    = Ideal.logistic (U (ix3 b s f)) := by
  pointwise [val_main_call0_v4, val_main_call0_v2, val_main_call0_cst, val_main_call0_cst_0]
  rfl
theorem sg'_of : mulf (F := Ideal) (φ := .f32) U (subf (val_main_call0_v6 (F := Ideal)) U) (ix3 b s f) = U (ix3 b s f) * (1 - U (ix3 b s f)) := by
  pointwise [val_main_call0_v6, val_main_call0_cst_1]
theorem du1_of : addf (F := Ideal) (φ := .f32) (mulf W V) (mulf (mulf U W) X) (ix3 b s f)
    = W (ix3 b s f) * V (ix3 b s f) + U (ix3 b s f) * W (ix3 b s f) * X (ix3 b s f) := by
  pointwise []

theorem dOut_of : mulf (F := Ideal) (φ := .f32) (mulf (val_main_v41 (F := Ideal)) P) (val_main_v45 (F := Ideal) Q) (ix3 b s d)
    = dOut (fun d => P (ix3 b s d)) (fun d => Q (ix3 b s d)) d := by
  pointwise [val_main_v41, val_main_v45, val_main_cst_6]
  rfl
theorem dGate_of : mulf (F := Ideal) (φ := .f32) (val_main_v48 (F := Ideal)) (mulf (val_main_v45 (F := Ideal) Q) P) (ix3 b s d)
    = dGate (fun d => P (ix3 b s d)) (fun d => Q (ix3 b s d)) d := by
  pointwise [val_main_v48, val_main_v45, val_main_cst_7]
  unfold dGate
  rw [mul_assoc, mul_comm (P (ix3 b s d))]

theorem dAct_of : Host.dotGeneral (F := Ideal) (φ₁ := .f32) (φ₂ := .f32) dot_S2x2304x1024_S2816x1024_S2x2304x2816_2_1_01_0_n_n none P x5 (ix3 b s f)
    = ∑ d, P (ix3 b s d) * x5 (ix2 f d) := by
  pointwise []
theorem back_of : Host.dotGeneral (F := Ideal) (φ₁ := .f32) (φ₂ := .f32) dot_S2x2304x2816_S1024x2816_S2x2304x1024_2_1_01_0_n_n none U x3 (ix3 b s d)
    = ∑ f, U (ix3 b s f) * x3 (ix2 d f) := by
  pointwise []

theorem scaled_of : mulf (F := Ideal) (φ := .f32) P (addf (val_main_v29 (F := Ideal)) Q) (ix3 b s d) = P (ix3 b s d) * (1 + Q (ix3 b s d)) := by
  pointwise [val_main_v29, val_main_cst_5]
theorem xhat_at : val_main_v25 (F := Ideal) x0 (ix3 b s d) = xhat (fun d => x0 (ix3 b s d)) d := by
  pointwise [val_main_v25, val_main_v24, val_main_v20, val_main_v19, val_main_v18, val_main_v17, val_main_v16, val_main_v15, val_main_v14, val_main_v13, val_main_cst_1, val_main_cst_2, val_main_cst_3]
  rfl
theorem gain_at : val_main_v27 (F := Ideal) x2 (ix3 b s d) = x2 (ix2 0 d) := by
  pointwise [val_main_v27, val_main_v26]
theorem gain_at' : val_main_v62 (F := Ideal) x2 (ix3 b s d) = x2 (ix2 0 d) := by
  pointwise [val_main_v62, val_main_v26]
theorem rstd_at : val_main_v69 (F := Ideal) x0 (ix3 b s d) = rstd (fun d => x0 (ix3 b s d)) := by
  pointwise [val_main_v69, val_main_v20, val_main_v19, val_main_v18, val_main_v17, val_main_v16, val_main_v15, val_main_v14, val_main_v13, val_main_cst_1, val_main_cst_2, val_main_cst_3]
  rfl

/-- What the norm takes back from a token's gradient. -/
theorem drift_of : (broadcastInDim S2x2304x1024 ![0, 1] bcast_S2x2304_S2x2304x1024_0_1
      (Host.reduceAdd (F := Ideal) (Host.divf (mulf (shapeCast S2x2304x1 (Host.reduceAdd (F := Ideal) (mulf x0 P) (val_main_cst_10 (F := Ideal)) reducesTo_S2x2304x1024_S2x2304_d2 h_S_ : FVec Ideal S2x2304 .f32) shapeCasts_S2x2304_S2x2304x1) (val_main_v23 (F := Ideal) x0)) (val_main_v73 (F := Ideal)) : FVec Ideal S2x2304x1 .f32)
        (val_main_cst_12 (F := Ideal)) reducesTo_S2x2304x1_S2x2304_d2 h_S_ : FVec Ideal S2x2304 .f32) : FVec Ideal S2x2304x1024 .f32) (ix3 b s d)
    = drift (fun d => x0 (ix3 b s d)) (fun d => P (ix3 b s d)) := by
  pointwise [val_main_cst_10, val_main_cst_12, val_main_v73, val_main_cst_11, val_main_v23, val_main_v22, val_main_cst_4, val_main_v21, val_main_v20, val_main_v19, val_main_v18, val_main_v17, val_main_v16, val_main_v15, val_main_v14, val_main_v13, val_main_cst_1, val_main_cst_2, val_main_cst_3]
  exact Fin.sum_univ_one _

/-- The gain's gradient: the sum over all tokens. -/
theorem dg_of : (broadcastInDim S1x1024 ![1] bcast_S1024_S1x1024_1
      (Host.reduceAdd (F := Ideal) (shapeCast S1x1x1024 (Host.reduceAdd (F := Ideal) P (val_main_cst_8 (F := Ideal)) reducesTo_S2x2304x1024_S1024_d0_1 h_S_ : FVec Ideal S1024 .f32) shapeCasts_S1024_S1x1x1024)
        (val_main_cst_9 (F := Ideal)) reducesTo_S1x1x1024_S1024_d0_1 h_S_ : FVec Ideal S1024 .f32) : FVec Ideal S1x1024 .f32) (ix2 0 d)
    = ∑ b, ∑ s, P (ix3 b s d) := by
  pointwise [val_main_cst_8, val_main_cst_9]
  refine (reduce_two (n0 := 1) (n1 := 1) (n2 := 1024) reducesTo_S1x1x1024_S1024_d0_1 _ _ d).trans ?_
  rw [Fin.sum_univ_one, Fin.sum_univ_one, zero_add]
  pointwise []
  exact (reduce_two (n0 := 2) (n1 := 2304) (n2 := 1024) reducesTo_S2x2304x1024_S1024_d0_1 _ _ d).trans (zero_add _)

/-- The modulation's gradient, row by row: the three rows of a token, then the tokens of the context and of the latents. -/
def rows : FVec Ideal S2x2304x3x1024 .f32 :=
  addf (addf (pad S2x2304x3x1024 ![0, 0, 2, 0] ![0, 0, 0, 0] ![0, 0, 0, 0] (broadcastInDim S2x2304x1x1024 ![0, 1, 3] bcast_S2x2304x1024_S2x2304x1x1024_0_1_3 R) (val_main_cst_13 (F := Ideal)) pads_S2x2304x1x1024_S2x2304x3x1024_000_000_200_000 h_S_)
    (pad S2x2304x3x1024 ![0, 0, 1, 0] ![0, 0, 1, 0] ![0, 0, 0, 0] (broadcastInDim S2x2304x1x1024 ![0, 1, 3] bcast_S2x2304x1024_S2x2304x1x1024_0_1_3 Q) (val_main_cst_14 (F := Ideal)) pads_S2x2304x1x1024_S2x2304x3x1024_000_000_110_000 h_S_))
    (pad S2x2304x3x1024 ![0, 0, 0, 0] ![0, 0, 2, 0] ![0, 0, 0, 0] (broadcastInDim S2x2304x1x1024 ![0, 1, 3] bcast_S2x2304x1024_S2x2304x1x1024_0_1_3 P) (val_main_cst_15 (F := Ideal)) pads_S2x2304x1x1024_S2x2304x3x1024_000_000_020_000 h_S_)

theorem rows_0 : rows P Q R (ix4 b s 0 d) = P (ix3 b s d) := by
  pointwise [rows, val_main_cst_13, val_main_cst_14, val_main_cst_15]
theorem rows_1 : rows P Q R (ix4 b s 1 d) = Q (ix3 b s d) := by
  pointwise [rows, val_main_cst_13, val_main_cst_14, val_main_cst_15]
theorem rows_2 : rows P Q R (ix4 b s 2 d) = R (ix3 b s d) := by
  pointwise [rows, val_main_cst_13, val_main_cst_14, val_main_cst_15]

end Steps

section Segments

variable (T : FVec Ideal S2x2304x3x1024 .f32) (b : Fin 2) (k : Fin 3) (d : Fin 1024)

/-- What the two segments add up to, each over its own tokens. -/
def segments : FVec Ideal S2x2x3x1024 .f32 :=
  addf (pad S2x2x3x1024 ![0, 1, 0, 0] ![0, 0, 0, 0] ![0, 0, 0, 0] (broadcastInDim S2x1x3x1024 ![0, 2, 3] bcast_S2x3x1024_S2x1x3x1024_0_2_3
      (Host.reduceAdd (F := Ideal) (extractStridedSlice S2x2048x3x1024 ![0, 256, 0, 0] T slices_S2x2304x3x1024_S2x2048x3x1024_0_256_0_0) (val_main_cst_16 (F := Ideal)) reducesTo_S2x2048x3x1024_S2x3x1024_d1 h_S_ : FVec Ideal S2x3x1024 .f32)) (val_main_cst_17 (F := Ideal)) pads_S2x1x3x1024_S2x2x3x1024_000_100_000_000 h_S_)
    (pad S2x2x3x1024 ![0, 0, 0, 0] ![0, 1, 0, 0] ![0, 0, 0, 0] (broadcastInDim S2x1x3x1024 ![0, 2, 3] bcast_S2x3x1024_S2x1x3x1024_0_2_3
      (Host.reduceAdd (F := Ideal) (extractStridedSlice S2x256x3x1024 ![0, 0, 0, 0] T slices_S2x2304x3x1024_S2x256x3x1024_0_0_0_0) (val_main_cst_18 (F := Ideal)) reducesTo_S2x256x3x1024_S2x3x1024_d1 h_S_ : FVec Ideal S2x3x1024 .f32)) (val_main_cst_19 (F := Ideal)) pads_S2x1x3x1024_S2x2x3x1024_000_010_000_000 h_S_)

theorem segments_0 : segments T (ix4 b 0 k d) = ∑ r : Fin 256, T (ix4 b ⟨r.val, by omega⟩ k d) := by
  pointwise [segments, val_main_cst_16, val_main_cst_17, val_main_cst_18, val_main_cst_19]
theorem segments_1 : segments T (ix4 b 1 k d) = ∑ r : Fin 2048, T (ix4 b ⟨256 + r.val, by omega⟩ k d) := by
  pointwise [segments, val_main_cst_16, val_main_cst_17, val_main_cst_18, val_main_cst_19]

end Segments

/-! ## The reference's arrays -/

variable (x0 : Vec Ideal S2x2304x1024 .f32) (x1 : Vec Ideal S2x2x3x1024 .f32) (x2 : Vec Ideal S1x1024 .f32) (x3 x4 : Vec Ideal S1024x2816 .f32)
  (x5 : Vec Ideal S2816x1024 .f32) (x6 : Vec Ideal S2x2304x1024 .f32) (b : Fin 2) (s : Fin 2304) (d : Fin 1024) (f : Fin 2816)

/-- The gradient the sublayer is given. -/
def Ct (b : Fin 2) (s : Fin 2304) (d : Fin 1024) : EReal := x6 (ix3 b s d)

theorem hid_at : val_main_v32 (F := Ideal) x0 x1 x2 (ix3 b s d) = (argsOf x0 x1 x2 x3 x4 x5).h b s d :=
  Cert.RefFfnFwdIdeal.Arr.hid_at x0 x1 x2 x3 x4 x5 b s d
theorem up_at : val_main_v34 (F := Ideal) x0 x1 x2 x3 (ix3 b s f) = proj ((argsOf x0 x1 x2 x3 x4 x5).h b s) (fun d f => x3 (ix2 d f)) f :=
  Cert.RefFfnFwdIdeal.Arr.up_at x0 x1 x2 x3 x4 x5 b s f
theorem gate_at : val_main_v37 (F := Ideal) x0 x1 x2 x4 (ix3 b s f) = proj ((argsOf x0 x1 x2 x3 x4 x5).h b s) (fun d f => x4 (ix2 d f)) f :=
  Cert.RefFfnFwdIdeal.Arr.gate_at x0 x1 x2 x3 x4 x5 b s f
theorem act_at : val_main_v38 (F := Ideal) x0 x1 x2 x3 x4 (ix3 b s f)
    = act ((argsOf x0 x1 x2 x3 x4 x5).h b s) (fun d f => x3 (ix2 d f)) (fun d f => x4 (ix2 d f)) f :=
  Cert.RefFfnFwdIdeal.Arr.act_at x0 x1 x2 x3 x4 x5 b s f
theorem o_at : val_main_v40 (F := Ideal) x0 x1 x2 x3 x4 x5 (ix3 b s d) = (argsOf x0 x1 x2 x3 x4 x5).o b s d :=
  Cert.RefFfnFwdIdeal.Arr.o_at x0 x1 x2 x3 x4 x5 b s d

theorem sg_at : val_main_v35_2 (F := Ideal) x0 x1 x2 x3 (ix3 b s f) = Ideal.logistic (val_main_v34 (F := Ideal) x0 x1 x2 x3 (ix3 b s f)) :=
  sg_of (val_main_v34 x0 x1 x2 x3) b s f
theorem sg'_at : val_main_v35_1 (F := Ideal) x0 x1 x2 x3 (ix3 b s f)
    = Ideal.logistic (val_main_v34 (F := Ideal) x0 x1 x2 x3 (ix3 b s f)) * (1 - Ideal.logistic (val_main_v34 (F := Ideal) x0 x1 x2 x3 (ix3 b s f))) :=
  (sg'_of (val_main_v35_2 x0 x1 x2 x3) b s f).trans (by rw [sg_at])

theorem e_at : val_main_v46 (F := Ideal) x1 x6 (ix3 b s d) = (argsOf x0 x1 x2 x3 x4 x5).e (Ct x6) b s d :=
  (dOut_of (val_main_v12 x1) x6 b s d).trans (congrArg (fun r => dOut r (Ct x6 b s) d) (funext fun d => Cert.RefFfnFwdIdeal.Arr.turn_at x1 b s d))
theorem da_at : val_main_v50 (F := Ideal) x1 x5 x6 (ix3 b s f) = dAct ((argsOf x0 x1 x2 x3 x4 x5).e (Ct x6) b s) (fun f d => x5 (ix2 f d)) f :=
  (dAct_of x5 (val_main_v46 x1 x6) b s f).trans (Finset.sum_congr rfl fun d _ => by rw [e_at x0 x1 x2 x3 x4 x5])

theorem du3_at : val_main_v51 (F := Ideal) x0 x1 x2 x3 x5 x6 (ix3 b s f)
    = dU3 ((argsOf x0 x1 x2 x3 x4 x5).h b s) ((argsOf x0 x1 x2 x3 x4 x5).e (Ct x6) b s) (fun d f => x3 (ix2 d f)) (fun f d => x5 (ix2 f d)) f := by
  refine (mul_at' (val_main_v35_0 x0 x1 x2 x3) (val_main_v50 x1 x5 x6) b s f).trans ?_
  have g : val_main_v35_0 (F := Ideal) x0 x1 x2 x3 (ix3 b s f) = _ := mul_at' (val_main_v34 x0 x1 x2 x3) (val_main_v35_2 x0 x1 x2 x3) b s f
  rw [g, sg_at, up_at x0 x1 x2 x3 x4 x5, da_at x0 x1 x2 x3 x4 x5, mul_comm]
  rfl

section Finite

variable (H : (argsOf x0 x1 x2 x3 x4 x5).Finite (Ct x6))
include H

theorem du1_at : val_main_v54 (F := Ideal) x0 x1 x2 x3 x4 x5 x6 (ix3 b s f)
    = dU1 ((argsOf x0 x1 x2 x3 x4 x5).h b s) ((argsOf x0 x1 x2 x3 x4 x5).e (Ct x6) b s) (fun d f => x3 (ix2 d f)) (fun d f => x4 (ix2 d f)) (fun f d => x5 (ix2 f d)) f := by
  refine (du1_of (val_main_v34 x0 x1 x2 x3) (val_main_v35_2 x0 x1 x2 x3) (val_main_v52 x0 x1 x2 x4 x5 x6) (val_main_v35_1 x0 x1 x2 x3) b s f).trans ?_
  have g : val_main_v52 (F := Ideal) x0 x1 x2 x4 x5 x6 (ix3 b s f) = _ := mul_at' (val_main_v50 x1 x5 x6) (val_main_v37 x0 x1 x2 x4) b s f
  rw [sg_at, sg'_at, g, up_at x0 x1 x2 x3 x4 x5, gate_at x0 x1 x2 x3 x4 x5, da_at x0 x1 x2 x3 x4 x5]
  exact H.dU1 b s f

theorem dh_at : val_main_v56 (F := Ideal) x0 x1 x2 x3 x4 x5 x6 (ix3 b s d) = (argsOf x0 x1 x2 x3 x4 x5).dh (Ct x6) b s d := by
  refine (add_at (val_main_v53 x0 x1 x2 x3 x4 x5 x6) (val_main_v55 x0 x1 x2 x3 x4 x5 x6) b s d).trans ((add_comm _ _).trans ?_)
  have g1 : val_main_v55 (F := Ideal) x0 x1 x2 x3 x4 x5 x6 (ix3 b s d) = _ := back_of x3 (val_main_v54 x0 x1 x2 x3 x4 x5 x6) b s d
  have g2 : val_main_v53 (F := Ideal) x0 x1 x2 x3 x4 x5 x6 (ix3 b s d) = _ := back_of x4 (val_main_v51 x0 x1 x2 x3 x5 x6) b s d
  rw [g1, g2]
  simp only [du1_at x0 x1 x2 x3 x4 x5 x6 _ _ _ H, du3_at x0 x1 x2 x3 x4 x5 x6]
  rfl

theorem dscaled_at : val_main_v58 (F := Ideal) x0 x1 x2 x3 x4 x5 x6 (ix3 b s d)
    = (argsOf x0 x1 x2 x3 x4 x5).dh (Ct x6) b s d * (1 + (argsOf x0 x1 x2 x3 x4 x5).sc b s d) := by
  refine (scaled_of (val_main_v56 x0 x1 x2 x3 x4 x5 x6) (val_main_v10 x1) b s d).trans ?_
  rw [dh_at x0 x1 x2 x3 x4 x5 x6 b s d H]
  exact congrArg (fun x => _ * (1 + x)) (Cert.RefFfnFwdIdeal.Arr.scale_at x1 b s d)

theorem dn_at : val_main_v63 (F := Ideal) x0 x1 x2 x3 x4 x5 x6 (ix3 b s d) = (argsOf x0 x1 x2 x3 x4 x5).dn (Ct x6) b s d := by
  refine (mul_at (val_main_v58 x0 x1 x2 x3 x4 x5 x6) (val_main_v62 x2) b s d).trans ?_
  rw [dscaled_at x0 x1 x2 x3 x4 x5 x6 b s d H, gain_at']
  rfl

theorem drift_at : val_main_v76 (F := Ideal) x0 x1 x2 x3 x4 x5 x6 (ix3 b s d)
    = drift ((argsOf x0 x1 x2 x3 x4 x5).z b s) ((argsOf x0 x1 x2 x3 x4 x5).dn (Ct x6) b s) :=
  (drift_of x0 (val_main_v63 x0 x1 x2 x3 x4 x5 x6) b s d).trans
    (congrArg (drift _) (funext fun d => dn_at x0 x1 x2 x3 x4 x5 x6 b s d H))

/-- The gradient of the tokens. -/
theorem dz_at : val_main_v80 (F := Ideal) x0 x1 x2 x3 x4 x5 x6 (ix3 b s d) = (argsOf x0 x1 x2 x3 x4 x5).dz (Ct x6) b s d := by
  refine (add_at (val_main_v78 x0 x1 x2 x3 x4 x5 x6) (val_main_v79 x0 x1 x2 x3 x4 x5 x6) b s d).trans ?_
  have g1 : val_main_v78 (F := Ideal) x0 x1 x2 x3 x4 x5 x6 (ix3 b s d) = _ := add_at (val_main_v71 x0 x1 x2 x3 x4 x5 x6) (val_main_v77 x0 x1 x2 x3 x4 x5 x6) b s d
  have g2 : val_main_v79 (F := Ideal) x0 x1 x2 x3 x4 x5 x6 (ix3 b s d) = _ := mul_at (val_main_v76 x0 x1 x2 x3 x4 x5 x6) x0 b s d
  have g3 : val_main_v71 (F := Ideal) x0 x1 x2 x3 x4 x5 x6 (ix3 b s d) = _ := add_at x6 (val_main_v70 x0 x1 x2 x3 x4 x5 x6) b s d
  have g4 : val_main_v77 (F := Ideal) x0 x1 x2 x3 x4 x5 x6 (ix3 b s d) = _ := mul_at x0 (val_main_v76 x0 x1 x2 x3 x4 x5 x6) b s d
  have g5 : val_main_v70 (F := Ideal) x0 x1 x2 x3 x4 x5 x6 (ix3 b s d) = _ := mul_at (val_main_v63 x0 x1 x2 x3 x4 x5 x6) (val_main_v69 x0) b s d
  rw [g1, g2, g3, g4, g5, rstd_at, drift_at x0 x1 x2 x3 x4 x5 x6 b s d H, dn_at x0 x1 x2 x3 x4 x5 x6 b s d H, add_assoc, add_assoc, ← add_assoc (_ * _)]
  rfl

/-- The gradient of the gain. -/
theorem dgains_at : val_main_v65 (F := Ideal) x0 x1 x2 x3 x4 x5 x6 (ix2 0 d) = (argsOf x0 x1 x2 x3 x4 x5).dgains (Ct x6) d := by
  refine (dg_of (val_main_v59 x0 x1 x2 x3 x4 x5 x6) d).trans (Finset.sum_congr rfl fun b _ => Finset.sum_congr rfl fun s _ => ?_)
  refine (mul_at (val_main_v25 x0) (val_main_v58 x0 x1 x2 x3 x4 x5 x6) b s d).trans ?_
  rw [dscaled_at x0 x1 x2 x3 x4 x5 x6 b s d H, xhat_at]
  rfl

theorem rows_at (k : Fin 3) : val_main_v88 (F := Ideal) x0 x1 x2 x3 x4 x5 x6 (ix4 b s k d) = (argsOf x0 x1 x2 x3 x4 x5).dmod (Ct x6) b s k d := by
  show rows (val_main_v56 x0 x1 x2 x3 x4 x5 x6) (val_main_v57 x0 x1 x2 x3 x4 x5 x6) (val_main_v49 x0 x1 x2 x3 x4 x5 x6) (ix4 b s k d) = _
  match k with
  | 0 => exact (rows_0 _ _ _ b s d).trans (dh_at x0 x1 x2 x3 x4 x5 x6 b s d H)
  | 1 =>
    refine (rows_1 _ _ _ b s d).trans ((mul_at (val_main_v28 x0 x2) (val_main_v56 x0 x1 x2 x3 x4 x5 x6) b s d).trans ?_)
    have g : val_main_v28 (F := Ideal) x0 x2 (ix3 b s d) = _ := mul_at (val_main_v25 x0) (val_main_v27 x2) b s d
    rw [g, xhat_at, gain_at, dh_at x0 x1 x2 x3 x4 x5 x6 b s d H]
    rfl
  | 2 =>
    refine (rows_2 _ _ _ b s d).trans ((dGate_of (val_main_v40 x0 x1 x2 x3 x4 x5) x6 b s d).trans ?_)
    exact congrArg (fun r => dGate r (Ct x6 b s) d) (funext fun d => o_at x0 x1 x2 x3 x4 x5 b s d)

/-- The gradient of the modulation. -/
theorem dmods_at (j : Fin 2) (k : Fin 3) : val_main_v97 (F := Ideal) x0 x1 x2 x3 x4 x5 x6 (ix4 b j k d)
    = (argsOf x0 x1 x2 x3 x4 x5).dmods (Ct x6) b j k d := by
  show segments (val_main_v88 x0 x1 x2 x3 x4 x5 x6) (ix4 b j k d) = _
  match j with
  | 0 => exact (segments_0 _ b k d).trans (Finset.sum_congr rfl fun r _ => rows_at x0 x1 x2 x3 x4 x5 x6 b _ d H k)
  | 1 => exact (segments_1 _ b k d).trans (Finset.sum_congr rfl fun r _ => rows_at x0 x1 x2 x3 x4 x5 x6 b _ d H k)

end Finite

end Cert.RefFfnBwdIdeal.Arr
end
-- ==== Proof.FfnBwdEq.lean ====
/- The feed-forward gradients: the claims about the kernel and its reference. -/
module

public import proofs.«01_k».proof.Defs
public import proofs.«01_k».proof.Proof.Gen.Pre_finite_ffn
public import proofs.«01_k».proof.Proof.Pre
public import proofs.«01_k».proof.Proof.FfnBwdAcc
public import proofs.«01_k».proof.Proof.FfnBwdRef

@[expose] public section

set_option maxRecDepth 16384

noncomputable section

namespace Cert.Proof.FfnBwd

open Idealize.ShloMosaic Idealize.SL.Sem Cert.FeedForward Cert.FfnBwd Cert.FfnBwd.Arr

/-- The precondition decoded: every element of every argument is a real number. -/
theorem finite_of_pre (x0 : Vec Ideal ⟨3, ![2, 2304, 1024]⟩ .f32) (x1 : Vec Ideal ⟨4, ![2, 2, 3, 1024]⟩ .f32) (x2 : Vec Ideal ⟨2, ![1, 1024]⟩ .f32)
    (x3 x4 : Vec Ideal ⟨2, ![1024, 2816]⟩ .f32) (x5 : Vec Ideal ⟨2, ![2816, 1024]⟩ .f32) (x6 : Vec Ideal ⟨3, ![2, 2304, 1024]⟩ .f32)
    (h : Cert.Pre_finite_ffn.fn (F := Ideal) x0 x1 x2 x3 x4 x5 x6 = fun _ => 1#1) :
    (argsOf x0 x1 x2 x3 x4 x5).Finite (fun b s d => x6 (ix3 b s d)) := by
  have h := congrFun h ix0
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h, h1⟩ := IntOp.andi_eq_one.1 h
  obtain ⟨_, h0⟩ := IntOp.andi_eq_one.1 h
  exact ⟨fun _ _ _ => ⟨_, Cert.Retention.reals_of_all _ _ _ _ _ _ h0 _⟩, fun _ _ _ _ => ⟨_, Cert.Retention.reals_of_all _ _ _ _ _ _ h1 _⟩,
    fun _ => ⟨_, Cert.Retention.reals_of_all _ _ _ _ _ _ h2 _⟩, fun _ _ => ⟨_, Cert.Retention.reals_of_all _ _ _ _ _ _ h3 _⟩,
    fun _ _ => ⟨_, Cert.Retention.reals_of_all _ _ _ _ _ _ h4 _⟩, fun _ _ => ⟨_, Cert.Retention.reals_of_all _ _ _ _ _ _ h5 _⟩,
    fun _ _ _ => ⟨_, Cert.Retention.reals_of_all _ _ _ _ _ _ h6 _⟩⟩

section Results

open Cert.KernelFfnBwdIdeal Cert.KernelFfnBwdIdeal.Gen Idealize.ShloMosaic.TcCoe

variable (m : (ℓ : Loc nD τ sig) → Buf (Elt Ideal) ℓ) (r : PUnit × MemSt nD τ sig (Elt Ideal)) (h : Pipeline.FramePost cfgs (dats m) 0 (V m) r) (c : Dev nD)
include h

theorem post_dz : r.2.mem ((c : Thread nD τ).loc main_v52_0) = (dats m 0 c).arrAt 8 cfg0.N := (h c).1 8
theorem post_h : r.2.mem ((c : Thread nD τ).loc main_v52_1) = (dats m 0 c).arrAt 9 cfg0.N := (h c).1 9
theorem post_du1 : r.2.mem ((c : Thread nD τ).loc main_v52_2) = (dats m 0 c).arrAt 10 cfg0.N := (h c).1 10
theorem post_du3 : r.2.mem ((c : Thread nD τ).loc main_v52_3) = (dats m 0 c).arrAt 11 cfg0.N := (h c).1 11
theorem post_a : r.2.mem ((c : Thread nD τ).loc main_v52_4) = (dats m 0 c).arrAt 12 cfg0.N := (h c).1 12
theorem post_do : r.2.mem ((c : Thread nD τ).loc main_v52_5) = (dats m 0 c).arrAt 13 cfg0.N := (h c).1 13
theorem post_dmod : r.2.mem ((c : Thread nD τ).loc main_v52_6) = (dats m 0 c).arrAt 14 cfg0.N := (h c).1 14
theorem post_dg : r.2.mem ((c : Thread nD τ).loc main_v52_7) = (dats m 0 c).arrAt 15 cfg0.N := (h c).1 15

end Results

/-- The kernel over the extended reals ends with its arguments unchanged and its semaphores at zero. -/
theorem frame_ideal : Cert.quiescent_KernelFfnBwdIdeal := fun m g _ => frame_main (F := Ideal) m g

/-- The reference ends with its arguments unchanged; it has no semaphore. -/
theorem frame_ref : Cert.quiescent_RefFfnBwdIdeal := by
  intro m g _
  exact (θ_run Cert.RefFfnBwdIdeal.defs _ _).mono (fun r h => ⟨fun c => (h c).2.2.2.2.2.2.2.2, sem_eq_zero_of_no_sems (by decide) r.2⟩)
    (Cert.RefFfnBwdIdeal.Value.run m g)

set_option maxHeartbeats 4000000 in
/-- What the kernel leaves is what the reference computes, all eight results. -/
theorem equal : Cert.algebraic_KernelFfnBwdIdeal_RefFfnBwdIdeal_pre_finite_ffn := by
  intro m g m' g' hpre hag
  refine ⟨fun c j => (A m c).dz (Ct m c) (j 0) (j 1) (j 2), fun c j => (A m c).h (j 0) (j 1) (j 2),
    fun c j => dU1 ((A m c).h (j 0) (j 1)) ((A m c).e (Ct m c) (j 0) (j 1)) (A m c).w1 (A m c).w3 (A m c).w2 (j 2),
    fun c j => dU3 ((A m c).h (j 0) (j 1)) ((A m c).e (Ct m c) (j 0) (j 1)) (A m c).w1 (A m c).w2 (j 2),
    fun c j => act ((A m c).h (j 0) (j 1)) (A m c).w1 (A m c).w3 (j 2), fun c j => (A m c).e (Ct m c) (j 0) (j 1) (j 2),
    fun c j => (A m c).dmods (Ct m c) (j 0) (j 1) (j 2) (j 3), fun c j => (A m c).dgains (Ct m c) (j 1), ?_, ?_⟩
  · refine (θ_run Cert.KernelFfnBwdIdeal.defs _ _).mono (fun r h c => ?_) (run_main (F := Ideal) m g)
    refine ⟨?_, ?_, ?_, ?_, ?_, ?_, ?_, ?_, args_kept m r h.1 c⟩
    · exact (post_dz m r h.1 c).trans (final_dz m c)
    · exact (post_h m r h.1 c).trans (final_h m c)
    · exact (post_du1 m r h.1 c).trans (final_du1 m c)
    · exact (post_du3 m r h.1 c).trans (final_du3 m c)
    · exact (post_a m r h.1 c).trans (final_a m c)
    · exact (post_do m r h.1 c).trans (final_do m c)
    · exact (post_dmod m r h.1 c).trans (final_dmod m c)
    · exact (post_dg m r h.1 c).trans (final_dg m c)
  · refine (θ_run Cert.RefFfnBwdIdeal.defs _ _).mono (fun r h c => ?_) (Cert.RefFfnBwdIdeal.Value.run m' g')
    have H := finite_of_pre _ _ _ _ _ _ _ (hpre c)
    have e0 : StableHlo.launchContents m' c (Proc.devRef .tc Cert.RefFfnBwdIdeal.main_arg0) = _ := (hag c).1
    have e1 : StableHlo.launchContents m' c (Proc.devRef .tc Cert.RefFfnBwdIdeal.main_arg1) = _ := (hag c).2.1
    have e2 : StableHlo.launchContents m' c (Proc.devRef .tc Cert.RefFfnBwdIdeal.main_arg2) = _ := (hag c).2.2.1
    have e3 : StableHlo.launchContents m' c (Proc.devRef .tc Cert.RefFfnBwdIdeal.main_arg3) = _ := (hag c).2.2.2.1
    have e4 : StableHlo.launchContents m' c (Proc.devRef .tc Cert.RefFfnBwdIdeal.main_arg4) = _ := (hag c).2.2.2.2.1
    have e5 : StableHlo.launchContents m' c (Proc.devRef .tc Cert.RefFfnBwdIdeal.main_arg5) = _ := (hag c).2.2.2.2.2.1
    have e6 : StableHlo.launchContents m' c (Proc.devRef .tc Cert.RefFfnBwdIdeal.main_arg6) = _ := (hag c).2.2.2.2.2.2
    obtain ⟨r0, r1, r2, r3, r4, r5, r6, r7, rest⟩ := h c
    refine ⟨r0.trans ?_, r1.trans ?_, r2.trans ?_, r3.trans ?_, r4.trans ?_, r5.trans ?_, r6.trans ?_, r7.trans ?_, rest⟩
    · rw [Cert.RefFfnBwdIdeal.Read.val_main_v80_eq, e0, e1, e2, e3, e4, e5, e6]
      funext j
      obtain ⟨b, s, d, rfl⟩ : ∃ (b : Fin 2) (s : Fin 2304) (d : Fin 1024), j = ix3 b s d := ⟨_, _, _, eq_ix3 j⟩
      exact Cert.RefFfnBwdIdeal.Arr.dz_at _ _ _ _ _ _ _ b s d H
    · rw [Cert.RefFfnBwdIdeal.Read.val_main_v98_eq, e0, e1, e2]
      funext j
      obtain ⟨b, s, d, rfl⟩ : ∃ (b : Fin 2) (s : Fin 2304) (d : Fin 1024), j = ix3 b s d := ⟨_, _, _, eq_ix3 j⟩
      exact Cert.RefFfnBwdIdeal.Arr.hid_at _ _ _ _ _ _ b s d
    · rw [Cert.RefFfnBwdIdeal.Read.val_main_v99_eq, e0, e1, e2, e3, e4, e5, e6]
      funext j
      obtain ⟨b, s, f, rfl⟩ : ∃ (b : Fin 2) (s : Fin 2304) (f : Fin 2816), j = ix3 b s f := ⟨_, _, _, eq_ix3 j⟩
      exact Cert.RefFfnBwdIdeal.Arr.du1_at _ _ _ _ _ _ _ b s f H
    · rw [Cert.RefFfnBwdIdeal.Read.val_main_v100_eq, e0, e1, e2, e3, e5, e6]
      funext j
      obtain ⟨b, s, f, rfl⟩ : ∃ (b : Fin 2) (s : Fin 2304) (f : Fin 2816), j = ix3 b s f := ⟨_, _, _, eq_ix3 j⟩
      exact Cert.RefFfnBwdIdeal.Arr.du3_at _ _ _ _ _ _ _ b s f
    · rw [Cert.RefFfnBwdIdeal.Read.val_main_v101_eq, e0, e1, e2, e3, e4]
      funext j
      obtain ⟨b, s, f, rfl⟩ : ∃ (b : Fin 2) (s : Fin 2304) (f : Fin 2816), j = ix3 b s f := ⟨_, _, _, eq_ix3 j⟩
      exact Cert.RefFfnBwdIdeal.Arr.act_at _ _ _ _ _ _ b s f
    · rw [Cert.RefFfnBwdIdeal.Read.val_main_v102_eq, e1, e6]
      funext j
      obtain ⟨b, s, d, rfl⟩ : ∃ (b : Fin 2) (s : Fin 2304) (d : Fin 1024), j = ix3 b s d := ⟨_, _, _, eq_ix3 j⟩
      exact Cert.RefFfnBwdIdeal.Arr.e_at _ _ _ _ _ _ _ b s d
    · rw [Cert.RefFfnBwdIdeal.Read.val_main_v97_eq, e0, e1, e2, e3, e4, e5, e6]
      funext j
      obtain ⟨b, i, k, d, rfl⟩ : ∃ (b : Fin 2) (i : Fin 2) (k : Fin 3) (d : Fin 1024), j = ix4 b i k d := ⟨_, _, _, _, eq_ix4 j⟩
      exact Cert.RefFfnBwdIdeal.Arr.dmods_at _ _ _ _ _ _ _ b d H i k
    · funext j
      obtain ⟨z, d, rfl⟩ : ∃ (z : Fin 1) (d : Fin 1024), j = ix2 z d := ⟨_, _, eq_ix2 j⟩
      obtain rfl : z = 0 := Subsingleton.elim _ _
      refine Eq.trans ?_ (Cert.RefFfnBwdIdeal.Arr.dgains_at _ _ _ _ _ _ _ d H)
      rw [Cert.RefFfnBwdIdeal.Read.val_main_v65_eq, e0, e1, e2, e3, e4, e5, e6]

end Cert.Proof.FfnBwd
end
-- ==== Proof.WgradEq.lean ====
/- The weight gradients: the claims about the kernel and its reference. -/
module

public import proofs.«01_k».proof.Defs
public import proofs.«01_k».proof.Proof.WgradArr
public import proofs.«01_k».proof.Proof.WgradRef

@[expose] public section

set_option maxRecDepth 16384

noncomputable section

namespace Cert.Proof.Wgrad

open Idealize.ShloMosaic Idealize.SL.Sem

/-- The reference ends with its arguments unchanged; it has no semaphore. -/
theorem frame_ref : Cert.quiescent_RefWgradIdeal := by
  intro m g _
  exact (θ_run Cert.RefWgradIdeal.defs _ _).mono (fun r h => ⟨fun c => ⟨(h c).2.1, (h c).2.2⟩, sem_eq_zero_of_no_sems (by decide) r.2⟩)
    (Cert.RefWgradIdeal.Value.run m g)

/-- What the kernel leaves is what the reference computes. -/
theorem equal : Cert.algebraic_KernelWgradIdeal_RefWgradIdeal := by
  intro m g m' g' _ hag
  refine ⟨fun c => (Cert.KernelWgradIdeal.Gen.dats m 0 c).arrAt 2 Cert.KernelWgradIdeal.cfg0.N, ?_, ?_⟩
  · exact (θ_run Cert.KernelWgradIdeal.defs _ _).mono (fun r h c => h c) (Cert.KernelWgradIdeal.Value.run_blocks m g)
  · refine (θ_run Cert.RefWgradIdeal.defs _ _).mono (fun r h c => ?_) (Cert.RefWgradIdeal.Value.run m' g')
    obtain ⟨e0, e1⟩ := hag c
    refine ⟨(h c).1.trans ?_, (h c).2⟩
    rw [Cert.RefWgradIdeal.Read.val_main_v7_eq, e0, e1]
    funext j
    obtain ⟨f, d, rfl⟩ : ∃ (f : Fin 2816) (d : Fin 1024), j = ix2 f d := ⟨_, _, eq_ix2 j⟩
    exact (Cert.RefWgradIdeal.Arr.grad _ _ f d).trans (Cert.KernelWgradIdeal.Arr.result m c f d).symm

end Cert.Proof.Wgrad
end
-- ==== Proof.FfnFwdEq.lean ====
/- The feed-forward sublayer: the claims about the kernel and its reference. -/
module

public import proofs.«01_k».proof.Defs
public import proofs.«01_k».proof.Proof.FfnFwdArr
public import proofs.«01_k».proof.Proof.FfnFwdRef

@[expose] public section

set_option maxRecDepth 16384

noncomputable section

namespace Cert.Proof.FfnFwd

open Idealize.ShloMosaic Idealize.SL.Sem Cert.FeedForward

/-- The reference ends with its arguments unchanged; it has no semaphore. -/
theorem frame_ref : Cert.quiescent_RefFfnFwdIdeal := by
  intro m g _
  exact (θ_run Cert.RefFfnFwdIdeal.defs _ _).mono (fun r h => ⟨fun c => (h c).2.2, sem_eq_zero_of_no_sems (by decide) r.2⟩)
    (Cert.RefFfnFwdIdeal.Value.run m g)

/-- What the kernel leaves is what the reference computes. -/
theorem equal : Cert.algebraic_KernelFfnFwdIdeal_RefFfnFwdIdeal := by
  intro m g m' g' _ hag
  refine ⟨fun c j => (Cert.KernelFfnFwdIdeal.Arr.A m c).y (j 0) (j 1) (j 2), fun c j => (Cert.KernelFfnFwdIdeal.Arr.A m c).o (j 0) (j 1) (j 2), ?_, ?_⟩
  · exact (θ_run Cert.KernelFfnFwdIdeal.defs _ _).mono (fun r h c => ⟨(h c).1.trans (Cert.KernelFfnFwdIdeal.Arr.final_y m c),
      (h c).2.1.trans (Cert.KernelFfnFwdIdeal.Arr.final_o m c), (h c).2.2⟩) (Cert.KernelFfnFwdIdeal.Value.run_blocks m g)
  · refine (θ_run Cert.RefFfnFwdIdeal.defs _ _).mono (fun r h c => ?_) (Cert.RefFfnFwdIdeal.Value.run m' g')
    obtain ⟨e0, e1, e2, e3, e4, e5⟩ := hag c
    refine ⟨(h c).1.trans ?_, (h c).2.1.trans ?_, (h c).2.2⟩
    · rw [Cert.RefFfnFwdIdeal.Read.val_main_v42_eq, e0, e1, e2, e3, e4, e5]
      funext j
      obtain ⟨b, s, d, rfl⟩ : ∃ (b : Fin 2) (s : Fin 2304) (d : Fin 1024), j = ix3 b s d := ⟨_, _, _, eq_ix3 j⟩
      exact Cert.RefFfnFwdIdeal.Arr.y_at _ _ _ _ _ _ b s d
    · rw [Cert.RefFfnFwdIdeal.Read.val_main_v38_eq, e0, e1, e2, e3, e4, e5]
      funext j
      obtain ⟨b, s, d, rfl⟩ : ∃ (b : Fin 2) (s : Fin 2304) (d : Fin 1024), j = ix3 b s d := ⟨_, _, _, eq_ix3 j⟩
      exact Cert.RefFfnFwdIdeal.Arr.o_at _ _ _ _ _ _ b s d

end Cert.Proof.FfnFwd
end
-- ==== Proof.MixMath.lean ====
/- The mixers' inputs at one token, over the extended reals: a projection of the modulated token, its parts, and the turning of
   a head's lanes by the token's place in the grid. Nothing here mentions a program. -/
module

public import proofs.«01_k».proof.Proof.FfnMath

@[expose] public section

noncomputable section

namespace Cert.Mixers

open Idealize.ShloMosaic Cert.FeedForward

/-- A whole number as it is converted from a word. -/
def num (n : ℕ) : EReal := (((BitVec.ofNat 32 n).toInt : ℝ) : EReal)

/-- The frequencies, and the angle of a lane at a latent: by the latent's row for a head's first half, by its column for the
    second. -/
def freq (k : ℕ) : EReal := Ideal.pow (Ideal.ofBits FTy.f32 1176256512#32) (Ideal.div (-num k) (Ideal.ofBits FTy.f32 1107296256#32))
def ang (n e : ℕ) : EReal := num (if e < 64 then n / 64 else n % 64) * freq (e % 32)

/-- The lane that a lane is turned with. -/
def partner (f : Fin 512) : Fin 512 := ⟨if f.val % 64 < 32 then (f.val + 32) % 512 else (f.val + 480) % 512, by split <;> omega⟩

/-- The lanes of a token, turned if it is a latent. -/
def rope (x : Fin 512 → EReal) (s : Fin 2304) (f : Fin 512) : EReal :=
  if s.val < 256 then x f
  else if f.val % 64 < 32 then x f * Ideal.cos (ang (s.val - 256) (f.val % 128)) - x (partner f) * Ideal.sin (ang (s.val - 256) (f.val % 128))
  else x (partner f) * Ideal.sin (ang (s.val - 256) (f.val % 128)) + x f * Ideal.cos (ang (s.val - 256) (f.val % 128))

/-- The same from tables: the cosines and the signed sines, those of no angle for the context. -/
def cosAt (s : Fin 2304) (e : ℕ) : EReal := if s.val < 256 then 1 else Ideal.cos (ang (s.val - 256) e)
def sinAt (s : Fin 2304) (e : ℕ) : EReal := if s.val < 256 then 0 else Ideal.sin (ang (s.val - 256) e) * (if e % 64 < 32 then -1 else 1)

theorem rope_eq (x : Fin 512 → EReal) (s : Fin 2304) (f : Fin 512) :
    x f * cosAt s (f.val % 128) + x (partner f) * sinAt s (f.val % 128) = rope x s f := by
  unfold rope cosAt sinAt
  have e : f.val % 128 % 64 = f.val % 64 := by omega
  rw [e]
  split
  · rw [mul_one, mul_zero, add_zero]
  · split
    · rw [mul_neg, mul_one, mul_neg, sub_eq_add_neg]
    · rw [mul_one, add_comm]

/-- The parts of a projected token: the pooling's, the retention's three and its gate, the convolution's. -/
structure Args where
  z : Fin 2 → Fin 2304 → Row
  mod : Fin 2 → Fin 2 → Fin 3 → Row
  g : Row
  w : In

def argsOf (z : (⟨3, ![2, 2304, 1024]⟩ : Shape).Idx → EReal) (mod : (⟨4, ![2, 2, 3, 1024]⟩ : Shape).Idx → EReal)
    (g : (⟨2, ![1, 1024]⟩ : Shape).Idx → EReal) (w : (⟨2, ![1024, 2816]⟩ : Shape).Idx → EReal) : Args where
  z b s d := z (ix3 b s d)
  mod b i k d := mod (ix4 b i k d)
  g d := g (ix2 0 d)
  w d f := w (ix2 d f)

namespace Args

variable (A : Args) (b : Fin 2) (s : Fin 2304)

def p : Fin 2816 → EReal := proj (hid (A.z b s) A.g (A.mod b (seg s) 0) (A.mod b (seg s) 1)) A.w
def pool (f : Fin 256) : EReal := A.p b s ⟨f.val, by omega⟩
/-- The part of 512 lanes from lane `o` on. -/
def part (o : ℕ) (ho : o + 512 ≤ 2816) (f : Fin 512) : EReal := A.p b s ⟨o + f.val, by omega⟩
def q : Fin 512 → EReal := rope (A.part b s 256 (by omega)) s
def k (f : Fin 512) : EReal := rope (A.part b s 768 (by omega)) s f * Ideal.ofBits FTy.f32 1035273459#32

end Args

end Cert.Mixers
end
-- ==== Proof.MixInTab.lean ====
/- The tables of cosines and sines the mixers' kernel is called with. -/
module

public import proofs.«01_k».proof.Proof.MixMath
public import proofs.«01_k».proof.Proof.Gen.KernelMixInIdeal.Value
public import Idealize.ShloMosaic.Lib.Pipeline.ValueKit

@[expose] public section

set_option maxRecDepth 16384

noncomputable section

namespace Cert.KernelMixInIdeal.Arr

open Cert.KernelMixInIdeal Cert.KernelMixInIdeal.Gen Cert.Mixers Idealize.ShloMosaic Idealize.ShloMosaic.TcCoe

/-! ## The host's operations -/

def wide (a : IVec S_ 32) : IVec S2048 32 := broadcastInDim S2048 ![] bcast_S_S2048 a
def lanes (a : IVec S_ 32) : IVec S128 32 := broadcastInDim S128 ![] bcast_S_S128 a

/-- The quotient rounded down, and the remainder of that sign, as the host computes them. -/
def rowOf (x : IVec S2048 32) (y : IVec S_ 32) : IVec S2048 32 :=
  select (andi (cmpi .ne (signi x) (wide (signi y))) (cmpi .ne (Host.remsi x (wide y)) (wide (constantI S_ 32 0#32))))
    (subi (Host.divsi x (wide y)) (wide (constantI S_ 32 1#32))) (Host.divsi x (wide y))
def divisor (y : IVec S_ 32) : IVec S_ 32 := select (cmpi .eq y (constantI S_ 32 0#32)) (constantI S_ 32 1#32) y
def colOf (x : IVec S2048 32) (y : IVec S_ 32) : IVec S2048 32 :=
  select (andi (cmpi .ne (cmpi .slt (Host.remsi x (wide (divisor y))) (wide (constantI S_ 32 0#32)))
        (broadcastInDim S2048 ![] bcast_S_S2048 (cmpi .slt (divisor y) (constantI S_ 32 0#32))))
      (cmpi .ne (Host.remsi x (wide (divisor y))) (wide (constantI S_ 32 0#32))))
    (addi (Host.remsi x (wide (divisor y))) (wide (divisor y))) (Host.remsi x (wide (divisor y)))
def laneOf (x : IVec S128 32) (y : IVec S_ 32) : IVec S128 32 :=
  select (andi (cmpi .ne (cmpi .slt (Host.remsi x (lanes (divisor y))) (lanes (constantI S_ 32 0#32)))
        (broadcastInDim S128 ![] bcast_S_S128 (cmpi .slt (divisor y) (constantI S_ 32 0#32))))
      (cmpi .ne (Host.remsi x (lanes (divisor y))) (lanes (constantI S_ 32 0#32))))
    (addi (Host.remsi x (lanes (divisor y))) (lanes (divisor y))) (Host.remsi x (lanes (divisor y)))

/-- The frequencies, the angles at each latent, and all tokens' angles. -/
def freqs : Vec Ideal S32 .f32 :=
  Host.powf (F := Ideal) (φ := .f32) (broadcastInDim S32 ![] bcast_S_S32 (constant (F := Ideal) S_ .f32 0x461C4000#32))
    (Host.divf (Host.negf (sitofp (F := Ideal) .f32 (iotaInDim S32 32 0))) (broadcastInDim S32 ![] bcast_S_S32 (constant (F := Ideal) S_ .f32 0x42000000#32)))
def angles (p : IVec S2048 32) : Vec Ideal S2048x32 .f32 :=
  mulf (F := Ideal) (φ := .f32) (broadcastInDim S2048x32 ![0, 1] bcast_S2048x1_S2048x32_0_1 (broadcastInDim S2048x1 ![0] bcast_S2048_S2048x1_0 (sitofp (F := Ideal) .f32 p)))
    (broadcastInDim S2048x32 ![0, 1] bcast_S1x32_S2048x32_0_1 (broadcastInDim S1x32 ![1] bcast_S32_S1x32_1 freqs))
def turns (r c : Vec Ideal S2048x32 .f32) : Vec Ideal S2304x128 .f32 :=
  concatenate S2304x128 0 [⟨S256x128, broadcastInDim S256x128 ![] bcast_S_S256x128 (constant (F := Ideal) S_ .f32 0x00000000#32)⟩,
    ⟨S2048x128, concatenate S2048x128 1 [⟨S2048x32, r⟩, ⟨S2048x32, r⟩, ⟨S2048x32, c⟩, ⟨S2048x32, c⟩]
      concatenates_S2048x32_S2048x32_S2048x32_S2048x32_S2048x128_d1⟩] concatenates_S256x128_S2048x128_S2304x128_d0
def signs : Vec Ideal S128 .f32 :=
  select (cmpi .slt (laneOf (iotaInDim S128 32 0) (constantI S_ 32 64#32)) (lanes (constantI S_ 32 32#32)))
    (broadcastInDim S128 ![] bcast_S_S128 (constant (F := Ideal) S_ .f32 0xBF800000#32)) (broadcastInDim S128 ![] bcast_S_S128 (constant (F := Ideal) S_ .f32 0x3F800000#32))

def allTurns : Vec Ideal S2304x128 .f32 :=
  turns (angles (rowOf (iotaInDim S2048 32 0) (constantI S_ 32 64#32))) (angles (colOf (iotaInDim S2048 32 0) (constantI S_ 32 64#32)))
def cosines : Vec Ideal S2304x128 .f32 := Host.cos (F := Ideal) (φ := .f32) allTurns
def sines : Vec Ideal S2304x128 .f32 :=
  mulf (F := Ideal) (φ := .f32) (Host.sin (F := Ideal) (φ := .f32) allTurns)
    (broadcastInDim S2304x128 ![0, 1] bcast_S1x128_S2304x128_0_1 (broadcastInDim S1x128 ![1] bcast_S128_S1x128_1 signs))

section

variable (m : (ℓ : Loc nD τ sig) → Buf (Elt Ideal) ℓ) (c : Dev nD)

set_option maxHeartbeats 1000000 in
theorem V_cos : V m c main_v30 = cosines := by
  unfold_abbrev_sides
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

set_option maxHeartbeats 1000000 in
theorem V_sin : V m c main_v34 = sines := by
  unfold_abbrev_sides
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

end

/-! ## Their elements -/

theorem row_at : ∀ n : Fin 2048, rowOf (iotaInDim S2048 32 0) (constantI S_ 32 64#32) (ix1 n) = BitVec.ofNat 32 (n.val / 64) := by
  decide +kernel
theorem col_at : ∀ n : Fin 2048, colOf (iotaInDim S2048 32 0) (constantI S_ 32 64#32) (ix1 n) = BitVec.ofNat 32 (n.val % 64) := by
  decide +kernel
theorem lane_at : ∀ e : Fin 128, cmpi .slt (laneOf (iotaInDim S128 32 0) (constantI S_ 32 64#32)) (lanes (constantI S_ 32 32#32)) (ix1 e)
    = if e.val % 64 < 32 then 1#1 else 0#1 := by
  decide +kernel

theorem freqs_at (k : Fin 32) : freqs (ix1 k) = freq k.val := by
  pointwise [freqs]
  rfl

theorem angles_at (p : IVec S2048 32) (n : Fin 2048) (k : Fin 32) : angles p (ix2 n k) = (((p (ix1 n)).toInt : ℝ) : EReal) * freq k.val := by
  have h : angles p (ix2 n k) = (((p (ix1 n)).toInt : ℝ) : EReal) * freqs (ix1 k) := by
    pointwise [angles]
    rfl
  rw [h, freqs_at]

theorem turns_of (r c : Vec Ideal S2048x32 .f32) (s : Fin 2304) (e : Fin 128) : turns r c (ix2 s e)
    = if h : s.val < 256 then 0 else if h0 : e.val < 32 then r (ix2 ⟨s.val - 256, by omega⟩ ⟨e.val, h0⟩)
      else if h1 : e.val - 32 < 32 then r (ix2 ⟨s.val - 256, by omega⟩ ⟨e.val - 32, h1⟩)
      else if h2 : e.val - 32 - 32 < 32 then c (ix2 ⟨s.val - 256, by omega⟩ ⟨e.val - 32 - 32, h2⟩)
      else c (ix2 ⟨s.val - 256, by omega⟩ ⟨e.val - 32 - 32 - 32, by omega⟩) := by
  pointwise [turns]

theorem turns_at (r c : Vec Ideal S2048x32 .f32) (s : Fin 2304) (e : Fin 128) : turns r c (ix2 s e)
    = if h : s.val < 256 then 0 else if e.val < 64 then r (ix2 ⟨s.val - 256, by omega⟩ ⟨e.val % 32, by omega⟩)
      else c (ix2 ⟨s.val - 256, by omega⟩ ⟨e.val % 32, by omega⟩) := by
  rw [turns_of]
  refine dite_congr rfl (fun _ => rfl) fun _ => ?_
  by_cases h0 : e.val < 32
  · rw [dif_pos h0, if_pos (by omega)]
    exact congrArg (fun k => r (ix2 _ k)) (Fin.ext (show e.val = e.val % 32 by omega))
  by_cases h1 : e.val - 32 < 32
  · rw [dif_neg h0, dif_pos h1, if_pos (by omega)]
    exact congrArg (fun k => r (ix2 _ k)) (Fin.ext (show e.val - 32 = e.val % 32 by omega))
  by_cases h2 : e.val - 32 - 32 < 32
  · rw [dif_neg h0, dif_neg h1, dif_pos h2, if_neg (by omega)]
    exact congrArg (fun k => c (ix2 _ k)) (Fin.ext (show e.val - 32 - 32 = e.val % 32 by omega))
  · rw [dif_neg h0, dif_neg h1, dif_neg h2, if_neg (by omega)]
    exact congrArg (fun k => c (ix2 _ k)) (Fin.ext (show e.val - 32 - 32 - 32 = e.val % 32 by omega))

theorem allTurns_at (s : Fin 2304) (e : Fin 128) : allTurns (ix2 s e) = if s.val < 256 then 0 else ang (s.val - 256) e.val := by
  unfold allTurns ang
  rw [turns_at]
  split
  · rfl
  · split
    · rw [angles_at, row_at]; rfl
    · rw [angles_at, col_at]; rfl

theorem minus_one : Ideal.ofBits FTy.f32 0xBF800000#32 = -1 := by
  have h : Ideal.ofBits FTy.f32 0xBF800000#32 = ((-(1 : ℝ)) : EReal) := by
    simp [Ideal.ofBits, Ideal.ieee, -EReal.coe_mul, -EReal.coe_neg]; norm_num
  rw [h]; rfl

theorem plus_one : Ideal.ofBits FTy.f32 0x3F800000#32 = 1 := by
  rw [show (1 : EReal) = ((1 : ℝ) : EReal) by norm_cast]
  simp [Ideal.ofBits, Ideal.ieee, -EReal.coe_mul]; norm_num

theorem signs_at (e : Fin 128) : signs (ix1 e) = if e.val % 64 < 32 then -1 else 1 := by
  have h : signs (ix1 e) = Scalar.select (cmpi .slt (laneOf (iotaInDim S128 32 0) (constantI S_ 32 64#32)) (lanes (constantI S_ 32 32#32)) (ix1 e))
      (Ideal.ofBits FTy.f32 0xBF800000#32) (Ideal.ofBits FTy.f32 0x3F800000#32) := rfl
  rw [h, lane_at, minus_one, plus_one]
  split <;> rfl

theorem cosines_at (s : Fin 2304) (e : Fin 128) : cosines (ix2 s e) = cosAt s e.val := by
  have h : cosines (ix2 s e) = Ideal.cos (allTurns (ix2 s e)) := rfl
  rw [h, allTurns_at]
  unfold cosAt
  split
  · show ((Real.cos 0 : ℝ) : EReal) = 1
    rw [Real.cos_zero]; rfl
  · rfl

theorem sines_at (s : Fin 2304) (e : Fin 128) : sines (ix2 s e) = sinAt s e.val := by
  have h : sines (ix2 s e) = Ideal.sin (allTurns (ix2 s e)) * signs (ix1 e) := by
    pointwise [sines]
  rw [h, allTurns_at, signs_at]
  unfold sinAt
  split
  · have h0 : Ideal.sin 0 = 0 := by
      show ((Real.sin 0 : ℝ) : EReal) = 0
      rw [Real.sin_zero]; rfl
    rw [h0, zero_mul]
  · rfl

end Cert.KernelMixInIdeal.Arr
end
-- ==== Proof.MixInArr.lean ====
/- The mixers' kernel's six result arrays: the parts of each projected token, the queries and the keys turned. -/
module

public import proofs.«01_k».proof.Proof.MixInTab

@[expose] public section

set_option maxRecDepth 16384

noncomputable section

namespace Cert.KernelMixInIdeal.Arr

open Cert.KernelMixInIdeal Cert.KernelMixInIdeal.Gen Cert.Mixers Idealize.ShloMosaic Idealize.ShloMosaic.TcCoe
open Cert.FeedForward hiding argsOf Args

/-! ## One tile of tokens -/

section Tile

/-- The projected tile, from the loaded vectors: the tokens, the gain, the shift, the scale and the weight. -/
theorem p_of (P0 : Vec Ideal S1x256x1024 .f32) (P2 : Vec Ideal S1x1024 .f32) (P3 P5 : Vec Ideal S1x1x1x1024 .f32) (W : Vec Ideal S1x2816x1024 .bf16)
    (r : Fin 256) (f : Fin 2816) : k0_pay1 P0 P2 P3 P5 W (ix2 r f)
      = proj (hid (fun d => P0 (ix3 0 r d)) (fun d => P2 (ix2 0 d)) (fun d => P3 (ix4 0 0 0 d)) (fun d => P5 (ix4 0 0 0 d))) (fun d f => W (ix3 0 f d)) f := by
  pointwise [k0_pay1]
  rfl

/-- Which of its two neighbours a lane is turned with. -/
def near (f : ℕ) : BitVec 1 :=
  let d := Scalar.select (Scalar.cmpi .eq 64#32 0#32) 1#32 64#32
  let w := IntOp.remsi .vector (BitVec.ofNat 32 f) d
  IntOp.cmpi .slt (Scalar.select (IntOp.andi (IntOp.xori (IntOp.cmpi .slt w 0#32) (Scalar.cmpi .slt d 0#32)) (IntOp.cmpi .ne w 0#32)) (IntOp.addi w d) w) 32#32
theorem near_eq : ∀ f : Fin 512, near f.val = if f.val % 64 < 32 then 1#1 else 0#1 := by decide +kernel

theorem select_near {α : Type} (f : Fin 512) (x : Fin 512 → α) :
    Scalar.select (near f.val) (x ⟨(f.val + 512 - 480) % 512, by omega⟩) (x ⟨(f.val + 512 - 32) % 512, by omega⟩) = x (partner f) := by
  rw [near_eq]
  unfold partner
  split
  · exact congrArg x (Fin.ext (by show (f.val + 512 - 480) % 512 = (f.val + 32) % 512; omega))
  · exact congrArg x (Fin.ext (by show (f.val + 512 - 32) % 512 = (f.val + 480) % 512; omega))

/-- A table of 128 lanes laid four times. -/
theorem four_times (S : Fin 128 → EReal) (f : Fin 512) :
    (if h0 : f.val < 128 then S ⟨f.val, h0⟩ else if h1 : f.val - 128 < 128 then S ⟨f.val - 128, h1⟩
      else if h2 : f.val - 128 - 128 < 128 then S ⟨f.val - 128 - 128, h2⟩ else S ⟨f.val - 128 - 128 - 128, by omega⟩)
      = S ⟨f.val % 128, by omega⟩ := by
  split
  · exact congrArg S (Fin.ext (by show f.val = f.val % 128; omega))
  split
  · exact congrArg S (Fin.ext (by show f.val - 128 = f.val % 128; omega))
  split
  · exact congrArg S (Fin.ext (by show f.val - 128 - 128 = f.val % 128; omega))
  · exact congrArg S (Fin.ext (by show f.val - 128 - 128 - 128 = f.val % 128; omega))

theorem tile_at (S : Vec Ideal S256x128 .f32) (r : Fin 256) (f : Fin 512) : k0_pay2 S (ix2 r f) = S (ix2 r ⟨f.val % 128, by omega⟩) := by
  rw [← four_times (fun e => S (ix2 r e)) f]
  pointwise [k0_pay2]

theorem sine_at (S : Vec Ideal S256x128 .f32) (r : Fin 256) (f : Fin 512) : k0_pay3 S (ix2 r f) = S (ix2 r ⟨f.val % 128, by omega⟩) := by
  rw [← four_times (fun e => S (ix2 r e)) f]
  pointwise [k0_pay3]

theorem pool_of (P : FVec Ideal S256x2816 .f32) (r : Fin 256) (f : Fin 256) : k0_pay4 P (ix3 0 r f) = P (ix2 r ⟨f.val, by omega⟩) := by
  pointwise [k0_pay4]

theorem q_of (P : FVec Ideal S256x2816 .f32) (C S : Vec Ideal S256x128 .f32) (r : Fin 256) (f : Fin 512) :
    k0_pay5 P (k0_pay2 C) S (ix3 0 r f) = P (ix2 r ⟨256 + f.val, by omega⟩) * C (ix2 r ⟨f.val % 128, by omega⟩)
      + P (ix2 r ⟨256 + (partner f).val, by omega⟩) * S (ix2 r ⟨f.val % 128, by omega⟩) := by
  rw [← select_near f (fun l => P (ix2 r ⟨256 + l.val, by omega⟩)), ← tile_at C, ← four_times (fun e => S (ix2 r e)) f]
  generalize k0_pay2 C = T
  pointwise [k0_pay5, k0_pay3]
  rfl

theorem k_of (P : FVec Ideal S256x2816 .f32) (C S : Vec Ideal S256x128 .f32) (r : Fin 256) (f : Fin 512) :
    k0_pay8 (k0_pay3 S) (k0_pay6 P) (k0_pay7 P (k0_pay2 C)) (iota .tc S256x512 32 [1] iota_S256x512_d1_w32)
        (Scalar.select (Scalar.cmpi .eq 64#32 0#32) 1#32 64#32) (ix3 0 r f)
      = (P (ix2 r ⟨768 + f.val, by omega⟩) * C (ix2 r ⟨f.val % 128, by omega⟩)
      + P (ix2 r ⟨768 + (partner f).val, by omega⟩) * S (ix2 r ⟨f.val % 128, by omega⟩)) * Ideal.ofBits FTy.f32 1035273459#32 := by
  rw [← select_near f (fun l => P (ix2 r ⟨768 + l.val, by omega⟩)), ← tile_at C, ← sine_at S]
  generalize k0_pay2 C = T
  generalize k0_pay3 S = U
  pointwise [k0_pay8, k0_pay7, k0_pay6]
  rfl

theorem v_of (P : FVec Ideal S256x2816 .f32) (r : Fin 256) (f : Fin 512) : k0_pay9 P (ix3 0 r f) = P (ix2 r ⟨1280 + f.val, by omega⟩) := by
  pointwise [k0_pay9]
theorem gate_of (P : FVec Ideal S256x2816 .f32) (r : Fin 256) (f : Fin 512) : k0_pay10 P (ix3 0 r f) = P (ix2 r ⟨1792 + f.val, by omega⟩) := by
  pointwise [k0_pay10]
theorem conv_of (P : FVec Ideal S256x2816 .f32) (r : Fin 256) (f : Fin 512) : k0_pay11 P (ix3 0 r f) = P (ix2 r ⟨2304 + f.val, by omega⟩) := by
  pointwise [k0_pay11]

variable (x0 : Vec Ideal S1x256x1024 .f32) (x1 : Vec Ideal S1x1x3x1024 .f32) (x2 : Vec Ideal S1x1024 .f32)
  (x3 : Vec Ideal S1x2816x1024 .bf16) (x4 x5 : Vec Ideal S256x128 .f32)

/-- The parts of the blocks the kernel reads. -/
theorem ld_z (r : Fin 256) (d : Fin 1024) : (View.ld x0 r0_0 : Vec Ideal S1x256x1024 .f32) (ix3 0 r d) = x0 (ix3 0 r d) := by
  pointwise [r0_0]
theorem ld_g (d : Fin 1024) : (View.ld x2 r0_1 : Vec Ideal S1x1024 .f32) (ix2 0 d) = x2 (ix2 0 d) := by
  pointwise [r0_1]
theorem ld_sh (d : Fin 1024) : (View.ld x1 r0_2 : Vec Ideal S1x1x1x1024 .f32) (ix4 0 0 0 d) = x1 (ix4 0 0 0 d) := by
  pointwise [r0_2]
theorem ld_sc (d : Fin 1024) : (View.ld x1 r0_3 : Vec Ideal S1x1x1x1024 .f32) (ix4 0 0 0 d) = x1 (ix4 0 0 1 d) := by
  pointwise [r0_3]
theorem ld_w (f : Fin 2816) (d : Fin 1024) : (View.ld x3 r0_4 : Vec Ideal S1x2816x1024 .bf16) (ix3 0 f d) = x3 (ix3 0 f d) := by
  pointwise [r0_4]
theorem ld_t (r : Fin 256) (e : Fin 128) : (View.ld x4 r0_5 : Vec Ideal S256x128 .f32) (ix2 r e) = x4 (ix2 r e) := by
  pointwise [r0_5]

/-- What the blocks hold at a token of the arguments: its row, its modulation, the weight and its tables. -/
structure Holds (A : Args) (b : Fin 2) (s : Fin 2304) (r : Fin 256) : Prop where
  z : ∀ d, x0 (ix3 0 r d) = A.z b s d
  sh : ∀ d, x1 (ix4 0 0 0 d) = A.mod b (seg s) 0 d
  sc : ∀ d, x1 (ix4 0 0 1 d) = A.mod b (seg s) 1 d
  g : ∀ d, x2 (ix2 0 d) = A.g d
  w : ∀ f d, x3 (ix3 0 f d) = A.w d f
  cos : ∀ e, x4 (ix2 r e) = cosAt s e.val
  sin : ∀ e, x5 (ix2 r e) = sinAt s e.val

variable (A : Args) (b : Fin 2) (s : Fin 2304) (r : Fin 256) (H : Holds x0 x1 x2 x3 x4 x5 A b s r)

include H

theorem p_at (f : Fin 2816) : k0_pay1 (View.ld x0 r0_0) (View.ld x2 r0_1) (View.ld x1 r0_2) (View.ld x1 r0_3) (View.ld x3 r0_4) (ix2 r f) = A.p b s f := by
  refine (p_of _ _ _ _ _ r f).trans ?_
  rw [show (fun d => (View.ld x0 r0_0 : Vec Ideal S1x256x1024 .f32) (ix3 0 r d)) = A.z b s from funext fun d => (ld_z x0 r d).trans (H.z d),
    show (fun d => (View.ld x2 r0_1 : Vec Ideal S1x1024 .f32) (ix2 0 d)) = A.g from funext fun d => (ld_g x2 d).trans (H.g d),
    show (fun d => (View.ld x1 r0_2 : Vec Ideal S1x1x1x1024 .f32) (ix4 0 0 0 d)) = A.mod b (seg s) 0 from funext fun d => (ld_sh x1 d).trans (H.sh d),
    show (fun d => (View.ld x1 r0_3 : Vec Ideal S1x1x1x1024 .f32) (ix4 0 0 0 d)) = A.mod b (seg s) 1 from funext fun d => (ld_sc x1 d).trans (H.sc d),
    show (fun d f => (View.ld x3 r0_4 : Vec Ideal S1x2816x1024 .bf16) (ix3 0 f d)) = A.w from funext fun d => funext fun f => (ld_w x3 f d).trans (H.w f d)]
  rfl

theorem pool_at (f : Fin 256) : out0_6 x0 x1 x2 x3 x4 x5 (ix3 0 r f) = A.pool b s f := by
  unfold_out out0_6
  rw [View.canon_cons_unit_lit _ _ _ (by decide)]
  exact (pool_of _ r f).trans (p_at x0 x1 x2 x3 x4 x5 A b s r H _)

/-- Two lanes of a part, turned by the tables. -/
theorem turn_at (o : ℕ) (ho : o + 512 ≤ 2816) (f : Fin 512) :
    k0_pay1 (View.ld x0 r0_0) (View.ld x2 r0_1) (View.ld x1 r0_2) (View.ld x1 r0_3) (View.ld x3 r0_4) (ix2 r ⟨o + f.val, by omega⟩)
        * (View.ld x4 r0_5 : Vec Ideal S256x128 .f32) (ix2 r ⟨f.val % 128, by omega⟩)
      + k0_pay1 (View.ld x0 r0_0) (View.ld x2 r0_1) (View.ld x1 r0_2) (View.ld x1 r0_3) (View.ld x3 r0_4) (ix2 r ⟨o + (partner f).val, by omega⟩)
        * (View.ld x5 r0_5 : Vec Ideal S256x128 .f32) (ix2 r ⟨f.val % 128, by omega⟩)
      = rope (A.part b s o ho) s f := by
  rw [p_at x0 x1 x2 x3 x4 x5 A b s r H, p_at x0 x1 x2 x3 x4 x5 A b s r H, ld_t, ld_t, H.cos, H.sin]
  exact rope_eq (A.part b s o ho) s f

theorem q_at (f : Fin 512) : out0_7 x0 x1 x2 x3 x4 x5 (ix3 0 r f) = A.q b s f := by
  unfold_out out0_7
  rw [View.canon_cons_unit_lit _ _ _ (by decide)]
  exact (q_of _ _ _ r f).trans (turn_at x0 x1 x2 x3 x4 x5 A b s r H 256 (by omega) f)

theorem k_at (f : Fin 512) : out0_8 x0 x1 x2 x3 x4 x5 (ix3 0 r f) = A.k b s f := by
  unfold_out out0_8
  rw [View.canon_cons_unit_lit _ _ _ (by decide)]
  exact (k_of _ _ _ r f).trans (congrArg (· * _) (turn_at x0 x1 x2 x3 x4 x5 A b s r H 768 (by omega) f))

theorem v_at (f : Fin 512) : out0_9 x0 x1 x2 x3 x4 x5 (ix3 0 r f) = A.part b s 1280 (by omega) f := by
  unfold_out out0_9
  rw [View.canon_cons_unit_lit _ _ _ (by decide)]
  exact (v_of _ r f).trans (p_at x0 x1 x2 x3 x4 x5 A b s r H _)
theorem gate_at (f : Fin 512) : out0_10 x0 x1 x2 x3 x4 x5 (ix3 0 r f) = A.part b s 1792 (by omega) f := by
  unfold_out out0_10
  rw [View.canon_cons_unit_lit _ _ _ (by decide)]
  exact (gate_of _ r f).trans (p_at x0 x1 x2 x3 x4 x5 A b s r H _)
theorem conv_at (f : Fin 512) : out0_11 x0 x1 x2 x3 x4 x5 (ix3 0 r f) = A.part b s 2304 (by omega) f := by
  unfold_out out0_11
  rw [View.canon_cons_unit_lit _ _ _ (by decide)]
  exact (conv_of _ r f).trans (p_at x0 x1 x2 x3 x4 x5 A b s r H _)

end Tile

/-! ## The windows' blocks -/

variable (m : (ℓ : Loc nD τ sig) → Buf (Elt Ideal) ℓ) (c : Dev nD)

/-- The arguments. -/
abbrev A : Args := argsOf (m ((c : Thread nD τ).loc main_arg0)) (m ((c : Thread nD τ).loc main_arg1)) (m ((c : Thread nD τ).loc main_arg2))
  (m ((c : Thread nD τ).loc main_arg3))

/-- The host's weight, turned. -/
def turned (x : Vec Ideal S1024x2816 .f32) : Vec Ideal S1x2816x1024 .bf16 :=
  broadcastInDim S1x2816x1024 ![1, 2] bcast_S2816x1024_S1x2816x1024_1_2
    (truncf (F := Ideal) .bf16 (transpose S2816x1024 [1, 0] x transposes_S1024x2816_S2816x1024_1_0 : Vec Ideal S2816x1024 .f32) bitsLt_bf16_f32 : Vec Ideal S2816x1024 .bf16)

set_option maxHeartbeats 1000000 in
theorem V_w : V m c main_v37 = turned (m ((c : Thread nD τ).loc main_arg3)) := by
  unfold_abbrev_sides
  simp only [hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem turned_at (x : Vec Ideal S1024x2816 .f32) (f : Fin 2816) (d : Fin 1024) : turned x (ix3 0 f d) = x (ix2 d f) := by
  pointwise [turned]

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, min (grid0.coords t 1).val 1, 0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0, 0] := (by decide +kernel : ∀ t : Fin grid0.N, _)
theorem idx4 : ∀ t : Fin cfg0.N, win0_4.index t = ![(grid0.coords t 1).val, 0] := (by decide +kernel : ∀ t : Fin grid0.N, _)
theorem idx5 : ∀ t : Fin cfg0.N, win0_5.index t = ![(grid0.coords t 1).val, 0] := (by decide +kernel : ∀ t : Fin grid0.N, _)

section

variable (t : Fin cfg0.N) (b : Fin 2) (i : Fin 9) (eb : b.val = (grid0.coords t 0).val) (ei : i.val = (grid0.coords t 1).val)

include eb ei

theorem blk0 (r : Fin 256) (d : Fin 1024) : iblk m c 0 t (ix3 0 r d) = (A m c).z b (tok i r) d := by
  show V m c main_arg0 ((win0_0.blk t).view.emb (ix3 0 r d)) = m ((c : Thread nD τ).loc main_arg0) (ix3 b (tok i r) d)
  rw [V_main_arg0]
  congr 1
  unfold tok
  blk_ext [idx0]
theorem blk1 (r : Fin 256) (k : Fin 3) (d : Fin 1024) : iblk m c 1 t (ix4 0 0 k d) = (A m c).mod b (seg (tok i r)) k d := by
  show V m c main_arg1 ((win0_1.blk t).view.emb (ix4 0 0 k d)) = m ((c : Thread nD τ).loc main_arg1) (ix4 b (seg (tok i r)) k d)
  rw [V_main_arg1]
  congr 1
  have hs := seg_tok i r
  blk_ext [idx1]

omit eb

theorem blk4 (r : Fin 256) (e : Fin 128) : iblk m c 4 t (ix2 r e) = cosAt (tok i r) e.val := by
  show V m c main_v30 ((win0_4.blk t).view.emb (ix2 r e)) = _
  rw [V_cos]
  refine Eq.trans (congrArg _ ?_) (cosines_at (tok i r) e)
  unfold tok
  blk_ext [idx4]
theorem blk5 (r : Fin 256) (e : Fin 128) : iblk m c 5 t (ix2 r e) = sinAt (tok i r) e.val := by
  show V m c main_v34 ((win0_5.blk t).view.emb (ix2 r e)) = _
  rw [V_sin]
  refine Eq.trans (congrArg _ ?_) (sines_at (tok i r) e)
  unfold tok
  blk_ext [idx5]

end

theorem blk2 (t : Fin cfg0.N) (d : Fin 1024) : iblk m c 2 t (ix2 0 d) = (A m c).g d := by
  show V m c main_arg2 ((win0_2.blk t).view.emb (ix2 0 d)) = m ((c : Thread nD τ).loc main_arg2) (ix2 0 d)
  rw [V_main_arg2]
  congr 1
  blk_ext [idx2]
theorem blk3 (t : Fin cfg0.N) (f : Fin 2816) (d : Fin 1024) : iblk m c 3 t (ix3 0 f d) = (A m c).w d f := by
  show V m c main_v37 ((win0_3.blk t).view.emb (ix3 0 f d)) = _
  rw [V_w]
  refine Eq.trans (congrArg _ ?_) (turned_at _ f d)
  blk_ext [idx3]

theorem holds (t : Fin cfg0.N) (b : Fin 2) (i : Fin 9) (eb : b.val = (grid0.coords t 0).val) (ei : i.val = (grid0.coords t 1).val) (r : Fin 256) :
    Holds (iblk m c 0 t) (iblk m c 1 t) (iblk m c 2 t) (iblk m c 3 t) (iblk m c 4 t) (iblk m c 5 t) (A m c) b (tok i r) r :=
  ⟨blk0 m c t b i eb ei r, blk1 m c t b i eb ei r 0, blk1 m c t b i eb ei r 1, blk2 m c t, blk3 m c t, blk4 m c t i ei r, blk5 m c t i ei r⟩

/-! ## The result arrays -/

/-- An element of a step's block of 512 lanes: the step's batch entry and tile, a token of the tile and a lane. -/
theorem element (t : Fin cfg0.N) (y : S1x256x512.Idx) : ∃ (b : Fin 2) (i : Fin 9) (r : Fin 256) (f : Fin 512),
    b.val = (grid0.coords t 0).val ∧ i.val = (grid0.coords t 1).val ∧ y = ix3 0 r f :=
  ⟨⟨_, (grid0.coords t 0).isLt⟩, ⟨_, (grid0.coords t 1).isLt⟩, y 1, y 2, rfl, rfl,
    (eq_ix3 y).trans (congrArg (fun z => ix3 z (y 1) (y 2)) (Subsingleton.elim (α := Fin 1) _ _))⟩

theorem idx6 : ∀ t : Fin cfg0.N, win0_6.index t = ![(grid0.coords t 0).val, (grid0.coords t 1).val, 0] := (by decide +kernel : ∀ t : Fin grid0.N, _)
theorem idx7 : ∀ t : Fin cfg0.N, win0_7.index t = ![(grid0.coords t 0).val, (grid0.coords t 1).val, 0] := (by decide +kernel : ∀ t : Fin grid0.N, _)

/-- Where it lies in its array: the five arrays of 512 lanes have the same blocks. -/
theorem emb (t : Fin cfg0.N) (b : Fin 2) (i : Fin 9) (r : Fin 256) (f : Fin 512) (eb : b.val = (grid0.coords t 0).val)
    (ei : i.val = (grid0.coords t 1).val) : (win0_7.blk t).view.emb (ix3 0 r f) = (ix3 b (tok i r) f : S2x2304x512.Idx) := by
  unfold tok
  blk_ext [idx7]

set_option maxHeartbeats 2000000 in
theorem final_pool : (dats m 0 c).arrAt 6 cfg0.N = fun j => (A m c).pool (j 0) (j 1) (j 2) := by
  refine (dats m 0 c).arrAt_eq_of_covers 6 _ (by decide +kernel) fun t _ y => ?_
  blk_simp
  rw [after0_6]
  obtain ⟨z, r, f, rfl⟩ : ∃ (z : Fin 1) (r : Fin 256) (f : Fin 256), y = ix3 z r f := ⟨_, _, _, eq_ix3 y⟩
  obtain ⟨b, i, _, _, eb, ei, _⟩ := element t (ix3 0 0 0)
  obtain rfl : z = 0 := Subsingleton.elim _ _
  have emb : (win0_6.blk t).view.emb (ix3 0 r f) = (ix3 b (tok i r) f : S2x2304x256.Idx) := by
    unfold tok
    blk_ext [idx6]
  rw [emb]
  exact pool_at _ _ _ _ _ _ _ b _ r (holds m c t b i eb ei r) f

set_option maxHeartbeats 2000000 in
theorem final_q : (dats m 0 c).arrAt 7 cfg0.N = fun j => (A m c).q (j 0) (j 1) (j 2) := by
  refine (dats m 0 c).arrAt_eq_of_covers 7 _ (by decide +kernel) fun t _ y => ?_
  obtain ⟨b, i, r, f, eb, ei, rfl⟩ := element t y
  blk_simp
  rw [after0_7, show (win0_7.blk t).view.emb (ix3 0 r f) = (ix3 b (tok i r) f : S2x2304x512.Idx) from emb t b i r f eb ei]
  exact q_at _ _ _ _ _ _ _ b _ r (holds m c t b i eb ei r) f

set_option maxHeartbeats 2000000 in
theorem final_k : (dats m 0 c).arrAt 8 cfg0.N = fun j => (A m c).k (j 0) (j 1) (j 2) := by
  refine (dats m 0 c).arrAt_eq_of_covers 8 _ (by decide +kernel) fun t _ y => ?_
  obtain ⟨b, i, r, f, eb, ei, rfl⟩ := element t y
  blk_simp
  rw [after0_8, show (win0_8.blk t).view.emb (ix3 0 r f) = (ix3 b (tok i r) f : S2x2304x512.Idx) from emb t b i r f eb ei]
  exact k_at _ _ _ _ _ _ _ b _ r (holds m c t b i eb ei r) f

set_option maxHeartbeats 2000000 in
theorem final_v : (dats m 0 c).arrAt 9 cfg0.N = fun j => (A m c).part (j 0) (j 1) 1280 (by omega) (j 2) := by
  refine (dats m 0 c).arrAt_eq_of_covers 9 _ (by decide +kernel) fun t _ y => ?_
  obtain ⟨b, i, r, f, eb, ei, rfl⟩ := element t y
  blk_simp
  rw [after0_9, show (win0_9.blk t).view.emb (ix3 0 r f) = (ix3 b (tok i r) f : S2x2304x512.Idx) from emb t b i r f eb ei]
  exact v_at _ _ _ _ _ _ _ b _ r (holds m c t b i eb ei r) f

set_option maxHeartbeats 2000000 in
theorem final_gate : (dats m 0 c).arrAt 10 cfg0.N = fun j => (A m c).part (j 0) (j 1) 1792 (by omega) (j 2) := by
  refine (dats m 0 c).arrAt_eq_of_covers 10 _ (by decide +kernel) fun t _ y => ?_
  obtain ⟨b, i, r, f, eb, ei, rfl⟩ := element t y
  blk_simp
  rw [after0_10, show (win0_10.blk t).view.emb (ix3 0 r f) = (ix3 b (tok i r) f : S2x2304x512.Idx) from emb t b i r f eb ei]
  exact gate_at _ _ _ _ _ _ _ b _ r (holds m c t b i eb ei r) f

set_option maxHeartbeats 2000000 in
theorem final_conv : (dats m 0 c).arrAt 11 cfg0.N = fun j => (A m c).part (j 0) (j 1) 2304 (by omega) (j 2) := by
  refine (dats m 0 c).arrAt_eq_of_covers 11 _ (by decide +kernel) fun t _ y => ?_
  obtain ⟨b, i, r, f, eb, ei, rfl⟩ := element t y
  blk_simp
  rw [after0_11, show (win0_11.blk t).view.emb (ix3 0 r f) = (ix3 b (tok i r) f : S2x2304x512.Idx) from emb t b i r f eb ei]
  exact conv_at _ _ _ _ _ _ _ b _ r (holds m c t b i eb ei r) f

end Cert.KernelMixInIdeal.Arr
end
-- ==== Proof.MixInRef.lean ====
/- The reference's mixers' inputs, read token by token. -/
module

public import proofs.«01_k».proof.Proof.MixMath
public import proofs.«01_k».proof.Proof.Gen.RefMixInIdeal.Run
public import proofs.«01_k».proof.Proof.Gen.RefMixInIdeal.Read

@[expose] public section

set_option maxRecDepth 16384

noncomputable section

namespace Cert.RefMixInIdeal.Arr

open Cert.RefMixInIdeal Cert.RefMixInIdeal.Gen Cert.RefMixInIdeal.Read Cert.Mixers Idealize.ShloMosaic
open Cert.FeedForward hiding argsOf Args

/-! ## The turning of an array's heads -/

abbrev Heads := Vec Ideal S2x2304x4x128 .f32
abbrev Half := Vec Ideal S2x2048x4x64 .f32
abbrev Table := Vec Ideal S1x2048x1x32 .f32

/-- The heads of an array, and the two halves of their lanes at the latents. -/
def split (X : Vec Ideal S2x2304x512 .f32) : Heads := shapeCast S2x2304x4x128 X shapeCasts_S2x2304x512_S2x2304x4x128
def latents (Y : Heads) : Vec Ideal S2x2048x4x128 .f32 :=
  extractStridedSlice S2x2048x4x128 ![0, 256, 0, 0] Y slices_S2x2304x4x128_S2x2048x4x128_0_256_0_0
def low (Y : Heads) : Half := extractStridedSlice S2x2048x4x64 ![0, 0, 0, 0] (latents Y) slices_S2x2048x4x128_S2x2048x4x64_0_0_0_0
def high (Y : Heads) : Half := extractStridedSlice S2x2048x4x64 ![0, 0, 0, 64] (latents Y) slices_S2x2048x4x128_S2x2048x4x64_0_0_0_64

/-- A half's lanes turned as pairs, by a table of cosines and one of sines. -/
def front (X : Half) : Vec Ideal S2x2048x4x32 .f32 := extractStridedSlice S2x2048x4x32 ![0, 0, 0, 0] X slices_S2x2048x4x64_S2x2048x4x32_0_0_0_0
def back (X : Half) : Vec Ideal S2x2048x4x32 .f32 := extractStridedSlice S2x2048x4x32 ![0, 0, 0, 32] X slices_S2x2048x4x64_S2x2048x4x32_0_0_0_32
def each (C : Table) : Vec Ideal S2x2048x4x32 .f32 := broadcastInDim S2x2048x4x32 ![0, 1, 2, 3] bcast_S1x2048x1x32_S2x2048x4x32_0_1_2_3 C
def pairs (X : Half) (C S : Table) : Half :=
  concatenate S2x2048x4x64 3
    [⟨S2x2048x4x32, subf (F := Ideal) (φ := .f32) (mulf (F := Ideal) (φ := .f32) (front X) (each C)) (mulf (F := Ideal) (φ := .f32) (back X) (each S))⟩,
      ⟨S2x2048x4x32, addf (F := Ideal) (φ := .f32) (mulf (F := Ideal) (φ := .f32) (front X) (each S)) (mulf (F := Ideal) (φ := .f32) (back X) (each C))⟩]
    concatenates_S2x2048x4x32_S2x2048x4x32_S2x2048x4x64_d3

/-- The context's heads as they are, and the latents' with each half turned by its own tables. -/
def joined (Y : Heads) (P Q : Half) : Heads :=
  concatenate S2x2304x4x128 1
    [⟨S2x256x4x128, extractStridedSlice S2x256x4x128 ![0, 0, 0, 0] Y slices_S2x2304x4x128_S2x256x4x128_0_0_0_0⟩,
      ⟨S2x2048x4x128, concatenate S2x2048x4x128 3 [⟨S2x2048x4x64, P⟩, ⟨S2x2048x4x64, Q⟩] concatenates_S2x2048x4x64_S2x2048x4x64_S2x2048x4x128_d3⟩]
    concatenates_S2x256x4x128_S2x2048x4x128_S2x2304x4x128_d1
def turned (X : Vec Ideal S2x2304x512 .f32) : Heads :=
  joined (split X) (pairs (low (split X)) (val_main_v61 (F := Ideal)) (val_main_v63 (F := Ideal)))
    (pairs (high (split X)) (val_main_v83 (F := Ideal)) (val_main_v85 (F := Ideal)))

section

variable (b : Fin 2) (n : Fin 2048) (h : Fin 4)

theorem split_at (X : Vec Ideal S2x2304x512 .f32) (s : Fin 2304) (e : Fin 128) : split X (ix4 b s h e) = X (ix3 b s ⟨h.val * 128 + e.val, by omega⟩) := by
  pointwise [split]
theorem low_at (Y : Heads) (j : Fin 64) : low Y (ix4 b n h j) = Y (ix4 b ⟨256 + n.val, by omega⟩ h ⟨j.val, by omega⟩) := by
  pointwise [low, latents]
theorem high_at (Y : Heads) (j : Fin 64) : high Y (ix4 b n h j) = Y (ix4 b ⟨256 + n.val, by omega⟩ h ⟨64 + j.val, by omega⟩) := by
  pointwise [high, latents]
theorem pairs_at (X : Half) (C S : Table) (j : Fin 64) : pairs X C S (ix4 b n h j)
    = if hj : j.val < 32 then X (ix4 b n h ⟨j.val, by omega⟩) * C (ix4 0 n 0 ⟨j.val, hj⟩) - X (ix4 b n h ⟨32 + j.val, by omega⟩) * S (ix4 0 n 0 ⟨j.val, hj⟩)
      else X (ix4 b n h ⟨j.val - 32, by omega⟩) * S (ix4 0 n 0 ⟨j.val - 32, by omega⟩)
        + X (ix4 b n h ⟨32 + (j.val - 32), by omega⟩) * C (ix4 0 n 0 ⟨j.val - 32, by omega⟩) := by
  pointwise [pairs, front, back, each]
theorem joined_at (Y : Heads) (P Q : Half) (s : Fin 2304) (e : Fin 128) : joined Y P Q (ix4 b s h e)
    = if hs : s.val < 256 then Y (ix4 b s h e) else if he : e.val < 64 then P (ix4 b ⟨s.val - 256, by omega⟩ h ⟨e.val, he⟩)
      else Q (ix4 b ⟨s.val - 256, by omega⟩ h ⟨e.val - 64, by omega⟩) := by
  pointwise [joined]

end

/-! ## The tables -/

theorem freq_at (k : Fin 32) : val_main_v50 (F := Ideal) (ix1 k) = freq k.val := by
  pointwise [val_main_v50, val_main_v49, val_main_v48, val_main_v47, val_main_v46, val_main_v45, val_main_cst_3, val_main_cst_4]
  rfl

theorem row_at (n : Fin 2048) (k : Fin 32) : val_main_v57 (F := Ideal) (ix2 n k) = num (n.val / 64) * freq k.val := by
  have h : val_main_v57 (F := Ideal) (ix2 n k) = num (n.val / 64) * val_main_v50 (F := Ideal) (ix1 k) := by
    pointwise [val_main_v57, val_main_v56, val_main_v55, val_main_v54, val_main_v53, val_main_v37, val_main_v36, val_main_v35]
    rfl
  rw [h, freq_at]
theorem col_at (n : Fin 2048) (k : Fin 32) : val_main_v79 (F := Ideal) (ix2 n k) = num (n.val % 64) * freq k.val := by
  have h : val_main_v79 (F := Ideal) (ix2 n k) = num (n.val % 64) * val_main_v50 (F := Ideal) (ix1 k) := by
    pointwise [val_main_v79, val_main_v78, val_main_v77, val_main_v76, val_main_v75, val_main_v41, val_main_v40, val_main_v39, val_main_v38]
    rfl
  rw [h, freq_at]

theorem row_cos (n : Fin 2048) (k : Fin 32) : val_main_v61 (F := Ideal) (ix4 0 n 0 k) = Ideal.cos (num (n.val / 64) * freq k.val) := by
  have h : val_main_v61 (F := Ideal) (ix4 0 n 0 k) = Ideal.cos (val_main_v57 (F := Ideal) (ix2 n k)) := by pointwise [val_main_v61, val_main_v60]
  rw [h, row_at]
theorem row_sin (n : Fin 2048) (k : Fin 32) : val_main_v63 (F := Ideal) (ix4 0 n 0 k) = Ideal.sin (num (n.val / 64) * freq k.val) := by
  have h : val_main_v63 (F := Ideal) (ix4 0 n 0 k) = Ideal.sin (val_main_v57 (F := Ideal) (ix2 n k)) := by pointwise [val_main_v63, val_main_v62]
  rw [h, row_at]
theorem col_cos (n : Fin 2048) (k : Fin 32) : val_main_v83 (F := Ideal) (ix4 0 n 0 k) = Ideal.cos (num (n.val % 64) * freq k.val) := by
  have h : val_main_v83 (F := Ideal) (ix4 0 n 0 k) = Ideal.cos (val_main_v79 (F := Ideal) (ix2 n k)) := by pointwise [val_main_v83, val_main_v82]
  rw [h, col_at]
theorem col_sin (n : Fin 2048) (k : Fin 32) : val_main_v85 (F := Ideal) (ix4 0 n 0 k) = Ideal.sin (num (n.val % 64) * freq k.val) := by
  have h : val_main_v85 (F := Ideal) (ix4 0 n 0 k) = Ideal.sin (val_main_v79 (F := Ideal) (ix2 n k)) := by pointwise [val_main_v85, val_main_v84]
  rw [h, col_at]

/-- A half's pair turned, whatever the array: `p` is the row or the column, `o` the half's first lane in the array. -/
theorem pair_eq (x : Fin 512 → EReal) (s : Fin 2304) (f : Fin 512) (hs : ¬ s.val < 256) (p : EReal) (j : Fin 64) (X : Fin 64 → EReal)
    (hj : f.val % 64 = j.val) (hp : num (if f.val % 128 < 64 then (s.val - 256) / 64 else (s.val - 256) % 64) = p)
    (hX : ∀ (i : Fin 64) (l : Fin 512), l.val = f.val / 64 * 64 + i.val → X i = x l) :
    (if hj : j.val < 32 then X ⟨j.val, by omega⟩ * Ideal.cos (p * freq j.val) - X ⟨32 + j.val, by omega⟩ * Ideal.sin (p * freq j.val)
      else X ⟨j.val - 32, by omega⟩ * Ideal.sin (p * freq (j.val - 32)) + X ⟨32 + (j.val - 32), by omega⟩ * Ideal.cos (p * freq (j.val - 32)))
      = rope x s f := by
  unfold rope ang
  rw [if_neg hs, hj, hp]
  by_cases h : j.val < 32
  · have e : f.val % 128 % 32 = j.val := by omega
    rw [dif_pos h, if_pos h, e, hX _ f (by show f.val = _ + j.val; omega),
      hX _ (partner f) (by show (if _ then _ else _) = _ + (32 + j.val); rw [if_pos (by omega)]; omega)]
  · have e : f.val % 128 % 32 = j.val - 32 := by omega
    rw [dif_neg h, if_neg h, e, hX _ (partner f) (by show (if _ then _ else _) = _ + (j.val - 32); rw [if_neg (by omega)]; omega),
      hX _ f (by show f.val = _ + (32 + (j.val - 32)); omega)]

theorem turned_at (X : Vec Ideal S2x2304x512 .f32) (b : Fin 2) (s : Fin 2304) (f : Fin 512) :
    turned X (ix4 b s ⟨f.val / 128, by omega⟩ ⟨f.val % 128, by omega⟩) = rope (fun f => X (ix3 b s f)) s f := by
  unfold turned
  rw [joined_at]
  by_cases hs : s.val < 256
  · rw [dif_pos hs, split_at]
    unfold rope
    rw [if_pos hs]
    exact congrArg (fun l => X (ix3 b s l)) (Fin.ext (show f.val / 128 * 128 + f.val % 128 = f.val by omega))
  rw [dif_neg hs]
  by_cases he : f.val % 128 < 64
  · rw [dif_pos he, pairs_at]
    simp only [row_cos, row_sin]
    refine pair_eq (fun f => X (ix3 b s f)) s f hs _ ⟨f.val % 128, he⟩ (fun i => low (split X) (ix4 b ⟨s.val - 256, by omega⟩ ⟨f.val / 128, by omega⟩ i))
      (show f.val % 64 = f.val % 128 by omega) (by rw [if_pos he]) fun i l hl => ?_
    rw [low_at, split_at]
    exact congrArg₂ (fun t l => X (ix3 b t l)) (Fin.ext (show 256 + (s.val - 256) = s.val by omega))
      (Fin.ext (show f.val / 128 * 128 + i.val = l.val by omega))
  · rw [dif_neg he, pairs_at]
    simp only [col_cos, col_sin]
    refine pair_eq (fun f => X (ix3 b s f)) s f hs _ ⟨f.val % 128 - 64, by omega⟩ (fun i => high (split X) (ix4 b ⟨s.val - 256, by omega⟩ ⟨f.val / 128, by omega⟩ i))
      (show f.val % 64 = f.val % 128 - 64 by omega) (by rw [if_neg he]) fun i l hl => ?_
    rw [high_at, split_at]
    exact congrArg₂ (fun t l => X (ix3 b t l)) (Fin.ext (show 256 + (s.val - 256) = s.val by omega))
      (Fin.ext (show f.val / 128 * 128 + (64 + i.val) = l.val by omega))

/-! ## The projected token -/

variable (x0 : Vec Ideal S2x2304x1024 .f32) (x1 : Vec Ideal S2x2x3x1024 .f32) (x2 : Vec Ideal S1x1024 .f32) (x3 : Vec Ideal S1024x2816 .f32)
  (b : Fin 2) (s : Fin 2304)

/-- Each token's modulation. -/
theorem mod_at (k : Fin 3) (d : Fin 1024) : val_main_v4 (F := Ideal) x1 (ix4 b s k d) = x1 (ix4 b (seg s) k d) := by
  pointwise [val_main_v4, val_main_v3, val_main_v2, val_main_v1, val_main_v0]
  unfold seg
  split <;> rfl

theorem shift_at (d : Fin 1024) : val_main_v6 (F := Ideal) x1 (ix3 b s d) = x1 (ix4 b (seg s) 0 d) := by
  have h : val_main_v6 (F := Ideal) x1 (ix3 b s d) = val_main_v4 (F := Ideal) x1 (ix4 b s 0 d) := by
    pointwise [val_main_v6, val_main_v5]
  exact h.trans (mod_at x1 b s 0 d)
theorem scale_at (d : Fin 1024) : val_main_v8 (F := Ideal) x1 (ix3 b s d) = x1 (ix4 b (seg s) 1 d) := by
  have h : val_main_v8 (F := Ideal) x1 (ix3 b s d) = val_main_v4 (F := Ideal) x1 (ix4 b s 1 d) := by
    pointwise [val_main_v8, val_main_v7]
  exact h.trans (mod_at x1 b s 1 d)

/-- The hidden token, the shift and the scale being any two arrays. -/
theorem hid_of (S T : Vec Ideal S2x2304x1024 .f32) (d : Fin 1024) :
    addf (F := Ideal) (φ := .f32) (mulf (val_main_v23 (F := Ideal) x0 x2) (addf (val_main_v24 (F := Ideal)) T)) S (ix3 b s d)
      = hid (fun d => x0 (ix3 b s d)) (fun d => x2 (ix2 0 d)) (fun d => S (ix3 b s d)) (fun d => T (ix3 b s d)) d := by
  pointwise [val_main_v24, val_main_v23, val_main_v22, val_main_v21, val_main_v20, val_main_v19, val_main_v18, val_main_v17, val_main_v16, val_main_v15, val_main_v14, val_main_v13, val_main_v12, val_main_v11, val_main_cst, val_main_cst_0, val_main_cst_1, val_main_cst_2]
  rfl

theorem p_at (f : Fin 2816) : val_main_v28 (F := Ideal) x0 x1 x2 x3 (ix3 b s f) = (argsOf x0 x1 x2 x3).p b s f := by
  have h (d : Fin 1024) : val_main_v27 (F := Ideal) x0 x1 x2 (ix3 b s d)
      = hid (fun d => x0 (ix3 b s d)) (fun d => x2 (ix2 0 d)) (fun d => x1 (ix4 b (seg s) 0 d)) (fun d => x1 (ix4 b (seg s) 1 d)) d :=
    (hid_of x0 x2 b s (val_main_v6 x1) (val_main_v8 x1) d).trans (by simp only [shift_at, scale_at])
  pointwise [val_main_v28]
  simp only [h]
  rfl

/-! ## The results -/

theorem pool_at (f : Fin 256) : val_main_v29 (F := Ideal) x0 x1 x2 x3 (ix3 b s f) = (argsOf x0 x1 x2 x3).pool b s f := by
  have h : val_main_v29 (F := Ideal) x0 x1 x2 x3 (ix3 b s f) = val_main_v28 (F := Ideal) x0 x1 x2 x3 (ix3 b s ⟨f.val, by omega⟩) := by
    pointwise [val_main_v29]
  rw [h, p_at]; rfl

/-- A part of 512 lanes. -/
def part (o : ℕ) (P : Vec Ideal S2x2304x2816 .f32) (h : S2x2304x2816.Slices ![0, 0, o] S2x2304x512) : Vec Ideal S2x2304x512 .f32 :=
  extractStridedSlice S2x2304x512 ![0, 0, o] P h
theorem part_at (o : ℕ) (ho : o + 512 ≤ 2816) (h) (f : Fin 512) :
    part o (val_main_v28 (F := Ideal) x0 x1 x2 x3) h (ix3 b s f) = (argsOf x0 x1 x2 x3).part b s o ho f := by
  have e : part o (val_main_v28 (F := Ideal) x0 x1 x2 x3) h (ix3 b s f) = val_main_v28 (F := Ideal) x0 x1 x2 x3 (ix3 b s ⟨o + f.val, by omega⟩) := by
    pointwise [part]
  rw [e, p_at]; rfl

theorem q_at (f : Fin 512) : val_main_v99 (F := Ideal) x0 x1 x2 x3 (ix3 b s f) = (argsOf x0 x1 x2 x3).q b s f := by
  have e : val_main_v99 (F := Ideal) x0 x1 x2 x3 (ix3 b s f) = val_main_v98 (F := Ideal) x0 x1 x2 x3 (ix4 b s ⟨f.val / 128, by omega⟩ ⟨f.val % 128, by omega⟩) := by
    pointwise [val_main_v99]
  have e1 : val_main_v98 (F := Ideal) x0 x1 x2 x3 = turned (part 256 (val_main_v28 (F := Ideal) x0 x1 x2 x3) slices_S2x2304x2816_S2x2304x512_0_0_256) := rfl
  rw [e, e1, turned_at]
  exact congrArg (fun x => rope x s f) (funext fun f => part_at x0 x1 x2 x3 b s 256 (by omega) _ f)

theorem k_at (f : Fin 512) : val_main_v166 (F := Ideal) x0 x1 x2 x3 (ix3 b s f) = (argsOf x0 x1 x2 x3).k b s f := by
  have e : val_main_v166 (F := Ideal) x0 x1 x2 x3 (ix3 b s f)
      = val_main_v163 (F := Ideal) x0 x1 x2 x3 (ix4 b s ⟨f.val / 128, by omega⟩ ⟨f.val % 128, by omega⟩) * Ideal.ofBits FTy.f32 1035273459#32 := by
    pointwise [val_main_v166, val_main_v165, val_main_v164, val_main_cst_7]
  have e1 : val_main_v163 (F := Ideal) x0 x1 x2 x3 = turned (part 768 (val_main_v28 (F := Ideal) x0 x1 x2 x3) slices_S2x2304x2816_S2x2304x512_0_0_768) := rfl
  rw [e, e1, turned_at]
  exact congrArg (fun x => rope x s f * _) (funext fun f => part_at x0 x1 x2 x3 b s 768 (by omega) _ f)

end Cert.RefMixInIdeal.Arr
end
-- ==== Proof.MixInEq.lean ====
/- The mixers' inputs: the claims about the kernel and its reference. -/
module

public import proofs.«01_k».proof.Defs
public import proofs.«01_k».proof.Proof.MixInArr
public import proofs.«01_k».proof.Proof.MixInRef

@[expose] public section

set_option maxRecDepth 16384

noncomputable section

namespace Cert.Proof.MixIn

open Idealize.ShloMosaic Idealize.SL.Sem
open Cert.KernelMixInIdeal.Arr (A)

/-- The reference ends with its arguments unchanged; it has no semaphore. -/
theorem frame_ref : Cert.quiescent_RefMixInIdeal := by
  intro m g _
  exact (θ_run Cert.RefMixInIdeal.defs _ _).mono (fun r h => ⟨fun c => (h c).2.2.2.2.2.2, sem_eq_zero_of_no_sems (by decide) r.2⟩)
    (Cert.RefMixInIdeal.Value.run m g)

/-- An array of `n` lanes is its elements. -/
theorem lanes_ext {n : ℕ} {X : (⟨3, ![2, 2304, n]⟩ : Shape).Idx → EReal} {Y : Fin 2 → Fin 2304 → Fin n → EReal}
    (h : ∀ b s f, X (ix3 b s f) = Y b s f) : X = fun j => Y (j 0) (j 1) (j 2) := by
  funext j
  exact (congrArg X (eq_ix3 j)).trans (h _ _ _)

set_option maxHeartbeats 2000000 in
/-- What the kernel leaves is what the reference computes. -/
theorem equal : Cert.algebraic_KernelMixInIdeal_RefMixInIdeal := by
  intro m g m' g' _ hag
  refine ⟨fun c j => (A m c).pool (j 0) (j 1) (j 2), fun c j => (A m c).q (j 0) (j 1) (j 2), fun c j => (A m c).k (j 0) (j 1) (j 2),
    fun c j => (A m c).part (j 0) (j 1) 1280 (by omega) (j 2), fun c j => (A m c).part (j 0) (j 1) 1792 (by omega) (j 2),
    fun c j => (A m c).part (j 0) (j 1) 2304 (by omega) (j 2), ?_, ?_⟩
  · exact (θ_run Cert.KernelMixInIdeal.defs _ _).mono (fun r h c => ⟨(h c).1.trans (Cert.KernelMixInIdeal.Arr.final_pool m c),
      (h c).2.1.trans (Cert.KernelMixInIdeal.Arr.final_q m c), (h c).2.2.1.trans (Cert.KernelMixInIdeal.Arr.final_k m c),
      (h c).2.2.2.1.trans (Cert.KernelMixInIdeal.Arr.final_v m c), (h c).2.2.2.2.1.trans (Cert.KernelMixInIdeal.Arr.final_gate m c),
      (h c).2.2.2.2.2.1.trans (Cert.KernelMixInIdeal.Arr.final_conv m c), (h c).2.2.2.2.2.2⟩) (Cert.KernelMixInIdeal.Value.run_blocks m g)
  · refine (θ_run Cert.RefMixInIdeal.defs _ _).mono (fun r h c => ?_) (Cert.RefMixInIdeal.Value.run m' g')
    obtain ⟨e0, e1, e2, e3⟩ := hag c
    obtain ⟨h1, h2, h3, h4, h5, h6, h7⟩ := h c
    rw [Cert.RefMixInIdeal.Read.val_main_v29_eq, e0, e1, e2, e3] at h1
    rw [Cert.RefMixInIdeal.Read.val_main_v99_eq, e0, e1, e2, e3] at h2
    rw [Cert.RefMixInIdeal.Read.val_main_v166_eq, e0, e1, e2, e3] at h3
    rw [Cert.RefMixInIdeal.Read.val_main_v32_eq, e0, e1, e2, e3] at h4
    rw [Cert.RefMixInIdeal.Read.val_main_v33_eq, e0, e1, e2, e3] at h5
    rw [Cert.RefMixInIdeal.Read.val_main_v34_eq, e0, e1, e2, e3] at h6
    exact ⟨h1.trans (lanes_ext (Cert.RefMixInIdeal.Arr.pool_at _ _ _ _)), h2.trans (lanes_ext (Cert.RefMixInIdeal.Arr.q_at _ _ _ _)),
      h3.trans (lanes_ext (Cert.RefMixInIdeal.Arr.k_at _ _ _ _)),
      h4.trans (lanes_ext fun b s f => Cert.RefMixInIdeal.Arr.part_at _ _ _ _ b s 1280 (by omega) _ f),
      h5.trans (lanes_ext fun b s f => Cert.RefMixInIdeal.Arr.part_at _ _ _ _ b s 1792 (by omega) _ f),
      h6.trans (lanes_ext fun b s f => Cert.RefMixInIdeal.Arr.part_at _ _ _ _ b s 2304 (by omega) _ f), h7⟩

end Cert.Proof.MixIn
end
-- ==== Proof.MixOutMath.lean ====
/- The mixers' outputs at one token, over the extended reals: the retention read out head by head, the convolution normalized, and
   the pooling's, the retention's and the convolution's lanes projected back into the token. Nothing here mentions a program. -/
module

public import proofs.«01_k».proof.Proof.FfnMath

@[expose] public section

noncomputable section

namespace Cert.MixersOut

open Idealize.ShloMosaic Cert.FeedForward

/-- Lanes less their mean, and scaled to a mean square near one; `c` is the number of the lanes. -/
def off {n : ℕ} (c : EReal) (x : Fin n → EReal) (f : Fin n) : EReal := x f - Ideal.div (∑ e, x e) c
def norm {n : ℕ} (c : EReal) (x : Fin n → EReal) (f : Fin n) : EReal :=
  off c x f * Ideal.rsqrt (Ideal.div (∑ e, off c x e * off c x e) c + Ideal.ofBits FTy.f32 897988541#32)

/-- A number times its own logistic. -/
def swish (x : EReal) : EReal := x * Ideal.logistic x

/-- The retention's lanes: each head normalized by itself, with a gain, and gated. -/
def heads (o : Fin 512 → EReal) (h : Fin 4) (e : Fin 128) : EReal :=
  norm (Ideal.ofBits FTy.f32 1124073472#32) (fun e : Fin 128 => o ⟨128 * h.val + e.val, by omega⟩) e
def readout (o g gn : Fin 512 → EReal) (f : Fin 512) : EReal :=
  heads o ⟨f.val / 128, by omega⟩ ⟨f.val % 128, by omega⟩ * gn f * swish (g f)

/-- The convolution's lanes: normalized, with a gain and an offset. -/
def settle (x g b : Fin 256 → EReal) (f : Fin 256) : EReal := swish (norm (Ideal.ofBits FTy.f32 1132462080#32) x f * g f + b f)

/-- The three side by side, and projected. -/
def join (p : Fin 256 → EReal) (r : Fin 512 → EReal) (c : Fin 256 → EReal) (f : Fin 1024) : EReal :=
  if h : f.val < 256 then p ⟨f.val, h⟩ else if h' : f.val - 256 < 512 then r ⟨f.val - 256, h'⟩ else c ⟨f.val - 256 - 512, by omega⟩
def back (x : Row) (w : Fin 1024 → Row) (d : Fin 1024) : EReal := ∑ f, x f * w f d

structure Args where
  z : Fin 2 → Fin 2304 → Row
  po : Fin 2 → Fin 2304 → Fin 256 → EReal
  oa : Fin 2 → Fin 2304 → Fin 512 → EReal
  ob : Fin 2 → Fin 2304 → Fin 512 → EReal
  gg : Fin 2 → Fin 2304 → Fin 512 → EReal
  co : Fin 2 → Fin 2304 → Fin 256 → EReal
  gn : Fin 512 → EReal
  lg : Fin 256 → EReal
  lb : Fin 256 → EReal
  mod : Fin 2 → Fin 2 → Fin 3 → Row
  w : Fin 1024 → Row

/-- An array of lanes of every token. -/
abbrev Lanes (n : ℕ) := (⟨3, ![2, 2304, n]⟩ : Shape).Idx → EReal

def argsOf (z : Lanes 1024) (po : Lanes 256) (oa ob gg : Lanes 512) (co : Lanes 256) (gn : (⟨2, ![1, 512]⟩ : Shape).Idx → EReal)
    (lg lb : (⟨2, ![1, 256]⟩ : Shape).Idx → EReal) (mod : (⟨4, ![2, 2, 3, 1024]⟩ : Shape).Idx → EReal)
    (w : (⟨2, ![1024, 1024]⟩ : Shape).Idx → EReal) : Args where
  z b s d := z (ix3 b s d)
  po b s f := po (ix3 b s f)
  oa b s f := oa (ix3 b s f)
  ob b s f := ob (ix3 b s f)
  gg b s f := gg (ix3 b s f)
  co b s f := co (ix3 b s f)
  gn f := gn (ix2 0 f)
  lg f := lg (ix2 0 f)
  lb f := lb (ix2 0 f)
  mod b i k d := mod (ix4 b i k d)
  w f d := w (ix2 f d)

namespace Args

variable (A : Args) (b : Fin 2) (s : Fin 2304)

def ret : Fin 512 → EReal := readout (fun f => A.oa b s f + A.ob b s f) (A.gg b s) A.gn
def conv : Fin 256 → EReal := settle (A.co b s) A.lg A.lb
def out : Row := back (join (A.po b s) (A.ret b s) (A.conv b s)) A.w
def y (d : Fin 1024) : EReal := A.z b s d + A.mod b (seg s) 2 d * A.out b s d

end Args

end Cert.MixersOut
end
-- ==== Proof.MixOutArr.lean ====
/- The mixers' output kernel's two result arrays: the projected lanes of each token, and the token with them added. -/
module

public import proofs.«01_k».proof.Proof.MixOutMath
public import proofs.«01_k».proof.Proof.Gen.KernelMixOutIdeal.Value
public import Idealize.ShloMosaic.Lib.Pipeline.ValueKit

@[expose] public section

set_option maxRecDepth 16384

noncomputable section

namespace Cert.KernelMixOutIdeal.Arr

open Cert.KernelMixOutIdeal Cert.KernelMixOutIdeal.Gen Cert.MixersOut Idealize.ShloMosaic Idealize.ShloMosaic.TcCoe
open Cert.FeedForward (Row seg tok seg_tok)

/-! ## One tile of tokens -/

section Tile

/-- One head of a tile, normalized. -/
def head (o : ℕ) (O : FVec Ideal S256x512 .f32) (h : S256x512.Slices ![0, o] S256x128) : FVec Ideal S256x128 .f32 :=
  k0_pay8 (extractStridedSlice S256x128 ![0, o] O h)

theorem norm_at (X : FVec Ideal S256x128 .f32) (r : Fin 256) (e : Fin 128) :
    k0_pay8 X (ix2 r e) = norm (Ideal.ofBits FTy.f32 1124073472#32) (fun e => X (ix2 r e)) e := by
  pointwise [k0_pay8]
  rfl

theorem head_at (h : Fin 4) (O : FVec Ideal S256x512 .f32) (hs) (r : Fin 256) (e : Fin 128) :
    head (128 * h.val) O hs (ix2 r e) = heads (fun f => O (ix2 r f)) h e := by
  have s (e : Fin 128) : extractStridedSlice S256x128 ![0, 128 * h.val] O hs (ix2 r e) = O (ix2 r ⟨128 * h.val + e.val, by omega⟩) := by
    pointwise []
  refine (norm_at _ r e).trans ?_
  simp only [s]
  rfl

/-- The four heads side by side, with the gain and gated. -/
def gated (a b c d : FVec Ideal S256x128 .f32) (G : Vec Ideal S1x512 .f32) (X : FVec Ideal S256x512 .f32) : FVec Ideal S256x512 .f32 :=
  mulf (mulf (concatenate S256x512 1 [⟨S256x128, a⟩, ⟨S256x128, b⟩, ⟨S256x128, c⟩, ⟨S256x128, d⟩] concatenates_S256x128_S256x128_S256x128_S256x128_S256x512_d1)
    (broadcastTo S256x512 G broadcasts_S1x512_S256x512)) (mulf X (logistic X))

theorem four (S : Fin 4 → Fin 128 → EReal) (f : Fin 512) :
    (if h0 : f.val < 128 then S 0 ⟨f.val, h0⟩ else if h1 : f.val - 128 < 128 then S 1 ⟨f.val - 128, h1⟩
      else if h2 : f.val - 128 - 128 < 128 then S 2 ⟨f.val - 128 - 128, h2⟩ else S 3 ⟨f.val - 128 - 128 - 128, by omega⟩)
      = S ⟨f.val / 128, by omega⟩ ⟨f.val % 128, by omega⟩ := by
  split
  · exact congrArg₂ S (Fin.ext (by show 0 = f.val / 128; omega)) (Fin.ext (by show f.val = f.val % 128; omega))
  split
  · exact congrArg₂ S (Fin.ext (by show 1 = f.val / 128; omega)) (Fin.ext (by show f.val - 128 = f.val % 128; omega))
  split
  · exact congrArg₂ S (Fin.ext (by show 2 = f.val / 128; omega)) (Fin.ext (by show f.val - 128 - 128 = f.val % 128; omega))
  · exact congrArg₂ S (Fin.ext (by show 3 = f.val / 128; omega)) (Fin.ext (by show f.val - 128 - 128 - 128 = f.val % 128; omega))

theorem gated_of (a b c d : FVec Ideal S256x128 .f32) (G : Vec Ideal S1x512 .f32) (X : FVec Ideal S256x512 .f32) (r : Fin 256) (f : Fin 512) :
    gated a b c d G X (ix2 r f) = (if h0 : f.val < 128 then a (ix2 r ⟨f.val, h0⟩) else if h1 : f.val - 128 < 128 then b (ix2 r ⟨f.val - 128, h1⟩)
      else if h2 : f.val - 128 - 128 < 128 then c (ix2 r ⟨f.val - 128 - 128, h2⟩) else d (ix2 r ⟨f.val - 128 - 128 - 128, by omega⟩))
      * G (ix2 0 f) * swish (X (ix2 r f)) := by
  pointwise [gated]
  rfl

/-- The retention's lanes. -/
def read (O : FVec Ideal S256x512 .f32) (G : Vec Ideal S1x512 .f32) (X : FVec Ideal S256x512 .f32) : FVec Ideal S256x512 .f32 :=
  gated (head 0 O slices_S256x512_o0_0_S256x128) (head 128 O slices_S256x512_o0_128_S256x128) (head 256 O slices_S256x512_o0_256_S256x128)
    (head 384 O slices_S256x512_o0_384_S256x128) G X

theorem read_at (O : FVec Ideal S256x512 .f32) (G : Vec Ideal S1x512 .f32) (X : FVec Ideal S256x512 .f32) (r : Fin 256) (f : Fin 512) :
    read O G X (ix2 r f) = readout (fun f => O (ix2 r f)) (fun f => X (ix2 r f)) (fun f => G (ix2 0 f)) f := by
  refine (gated_of _ _ _ _ G X r f).trans ?_
  unfold readout
  rw [← four (heads fun f => O (ix2 r f)) f]
  congr 2
  exact dite_congr rfl (fun _ => head_at 0 O _ r _) fun _ => dite_congr rfl (fun _ => head_at 1 O _ r _) fun _ =>
    dite_congr rfl (fun _ => head_at 2 O _ r _) fun _ => head_at 3 O _ r _

/-- The convolution's lanes. -/
def rest (X : FVec Ideal S256x256 .f32) : FVec Ideal S256x256 .f32 :=
  subf X (broadcastTo S256x256 (divf (shapeCast S256x1 (multiReduction .add [1] S256 X 0x00000000#32 reduces_S256x256_S256 (.inl rfl) rfl) shapeCasts_S256_S256x1)
    (broadcast S256x1 (Scalar.ofBits .f32 0x43800000#32))) broadcasts_S256x1_S256x256)
def scaled (X : FVec Ideal S256x256 .f32) (L B : Vec Ideal S1x256 .f32) : FVec Ideal S256x256 .f32 :=
  addf (mulf (mulf (rest X) (broadcastTo S256x256 (rsqrt (addf (divf (shapeCast S256x1
    (multiReduction .add [1] S256 (mulf (rest X) (rest X)) 0x00000000#32 reduces_S256x256_S256 (.inl rfl) rfl) shapeCasts_S256_S256x1)
    (broadcast S256x1 (Scalar.ofBits .f32 0x43800000#32))) (broadcast S256x1 (Scalar.ofBits .f32 0x358637BD#32)))) broadcasts_S256x1_S256x256))
    (broadcastTo S256x256 L broadcasts_S1x256_S256x256)) (broadcastTo S256x256 B broadcasts_S1x256_S256x256)
def settled (X : FVec Ideal S256x256 .f32) (L B : Vec Ideal S1x256 .f32) : FVec Ideal S256x256 .f32 :=
  mulf (scaled X L B) (logistic (scaled X L B))

theorem settled_at (X : FVec Ideal S256x256 .f32) (L B : Vec Ideal S1x256 .f32) (r f : Fin 256) :
    settled X L B (ix2 r f) = settle (fun f => X (ix2 r f)) (fun f => L (ix2 0 f)) (fun f => B (ix2 0 f)) f := by
  pointwise [settled, scaled, rest]
  rfl

/-- The three side by side, and projected. -/
def beside (P : FVec Ideal S256x256 .f32) (R : FVec Ideal S256x512 .f32) (C : FVec Ideal S256x256 .f32) : FVec Ideal S256x1024 .f32 :=
  concatenate S256x1024 1 [⟨S256x256, P⟩, ⟨S256x512, R⟩, ⟨S256x256, C⟩] concatenates_S256x256_S256x512_S256x256_S256x1024_d1
def projected (X : FVec Ideal S256x1024 .f32) (W : Vec Ideal S1x1024x1024 .bf16) : FVec Ideal S256x1024 .f32 :=
  matmul dot_S256x1024_S1024x1024_S256x1024_1_0_0_1_n_n none (truncf .bf16 X bitsLt_bf16_f32)
    (shapeCast S1024x1024 W shapeCasts_S1x1024x1024_S1024x1024 : FVec Ideal S1024x1024 .bf16) (constant S256x1024 .f32 0x00000000#32)

theorem beside_at (P : FVec Ideal S256x256 .f32) (R : FVec Ideal S256x512 .f32) (C : FVec Ideal S256x256 .f32) (r : Fin 256) (f : Fin 1024) :
    beside P R C (ix2 r f) = join (fun f => P (ix2 r f)) (fun f => R (ix2 r f)) (fun f => C (ix2 r f)) f := by
  pointwise [beside]
  rfl
theorem projected_at (X : FVec Ideal S256x1024 .f32) (W : Vec Ideal S1x1024x1024 .bf16) (r : Fin 256) (d : Fin 1024) :
    projected X W (ix2 r d) = back (fun f => X (ix2 r f)) (fun f d => W (ix3 0 f d)) d := by
  pointwise [projected]
  rfl

variable (x0 : Vec Ideal S1x256x1024 .f32) (x1 : Vec Ideal S1x256x256 .f32) (x2 x3 x4 : Vec Ideal S1x256x512 .f32) (x5 : Vec Ideal S1x256x256 .f32)
  (x6 : Vec Ideal S1x512 .f32) (x7 x8 : Vec Ideal S1x256 .f32) (x9 : Vec Ideal S1x1x3x1024 .f32) (x10 : Vec Ideal S1x1024x1024 .bf16)

/-- The projected tile, from the blocks. -/
def tile : FVec Ideal S256x1024 .f32 :=
  projected (beside (k0_pay2 (View.ld x1 r0_0)) (read (k0_pay5 (View.ld x2 r0_1) (View.ld x3 r0_1)) (View.ld x6 r0_2) (k0_pay3 (View.ld x4 r0_1)))
    (settled (k0_pay4 (View.ld x5 r0_0)) (View.ld x7 r0_3) (View.ld x8 r0_3))) (View.ld x10 r0_4)

theorem out0_12_eq : out0_12 x0 x1 x2 x3 x4 x5 x6 x7 x8 x9 x10
    = View.canon [⟨r0_5, shapeCast S1x256x1024 (tile x1 x2 x3 x4 x5 x6 x7 x8 x10) shapeCasts_S256x1024_S1x256x1024⟩] := rfl
theorem out0_11_eq : out0_11 x0 x1 x2 x3 x4 x5 x6 x7 x8 x9 x10
    = View.canon [⟨r0_5, k0_pay1 (tile x1 x2 x3 x4 x5 x6 x7 x8 x10) (k0_pay14 (View.ld x0 r0_5)) (View.ld x9 r0_6)⟩] := rfl

/-- The parts of the blocks the kernel reads. -/
theorem ld_a (X : Vec Ideal S1x256x256 .f32) (r f : Fin 256) : k0_pay2 (View.ld X r0_0) (ix2 r f) = X (ix3 0 r f) := by
  pointwise [k0_pay2, r0_0]
theorem ld_c (X : Vec Ideal S1x256x256 .f32) (r f : Fin 256) : k0_pay4 (View.ld X r0_0) (ix2 r f) = X (ix3 0 r f) := by
  pointwise [k0_pay4, r0_0]
theorem ld_o (r : Fin 256) (f : Fin 512) : k0_pay5 (View.ld x2 r0_1) (View.ld x3 r0_1) (ix2 r f) = x2 (ix3 0 r f) + x3 (ix3 0 r f) := by
  pointwise [k0_pay5, r0_1]
theorem ld_g (r : Fin 256) (f : Fin 512) : k0_pay3 (View.ld x4 r0_1) (ix2 r f) = x4 (ix3 0 r f) := by
  pointwise [k0_pay3, r0_1]
theorem ld_n (f : Fin 512) : (View.ld x6 r0_2 : Vec Ideal S1x512 .f32) (ix2 0 f) = x6 (ix2 0 f) := by
  pointwise [r0_2]
theorem ld_l (X : Vec Ideal S1x256 .f32) (f : Fin 256) : (View.ld X r0_3 : Vec Ideal S1x256 .f32) (ix2 0 f) = X (ix2 0 f) := by
  pointwise [r0_3]
theorem ld_w (f d : Fin 1024) : (View.ld x10 r0_4 : Vec Ideal S1x1024x1024 .bf16) (ix3 0 f d) = x10 (ix3 0 f d) := by
  pointwise [r0_4]
theorem ld_z (r : Fin 256) (d : Fin 1024) : k0_pay14 (View.ld x0 r0_5) (ix2 r d) = x0 (ix3 0 r d) := by
  pointwise [k0_pay14, r0_5]
theorem ld_m (d : Fin 1024) : (View.ld x9 r0_6 : Vec Ideal S1x1x1x1024 .f32) (ix4 0 0 0 d) = x9 (ix4 0 0 2 d) := by
  pointwise [r0_6]

/-- What the blocks hold at a token of the arguments. -/
structure Holds (A : Args) (b : Fin 2) (s : Fin 2304) (r : Fin 256) : Prop where
  z : ∀ d, x0 (ix3 0 r d) = A.z b s d
  po : ∀ f, x1 (ix3 0 r f) = A.po b s f
  oa : ∀ f, x2 (ix3 0 r f) = A.oa b s f
  ob : ∀ f, x3 (ix3 0 r f) = A.ob b s f
  gg : ∀ f, x4 (ix3 0 r f) = A.gg b s f
  co : ∀ f, x5 (ix3 0 r f) = A.co b s f
  gn : ∀ f, x6 (ix2 0 f) = A.gn f
  lg : ∀ f, x7 (ix2 0 f) = A.lg f
  lb : ∀ f, x8 (ix2 0 f) = A.lb f
  gt : ∀ d, x9 (ix4 0 0 2 d) = A.mod b (seg s) 2 d
  w : ∀ f d, x10 (ix3 0 f d) = A.w f d

variable (A : Args) (b : Fin 2) (s : Fin 2304) (r : Fin 256) (H : Holds x0 x1 x2 x3 x4 x5 x6 x7 x8 x9 x10 A b s r)

include H

theorem tile_at (d : Fin 1024) : tile x1 x2 x3 x4 x5 x6 x7 x8 x10 (ix2 r d) = A.out b s d := by
  refine (projected_at _ _ r d).trans ?_
  have n : (fun f => (View.ld x6 r0_2 : Vec Ideal S1x512 .f32) (ix2 0 f)) = A.gn := funext fun f => (ld_n x6 f).trans (H.gn f)
  have l : (fun f => (View.ld x7 r0_3 : Vec Ideal S1x256 .f32) (ix2 0 f)) = A.lg := funext fun f => (ld_l x7 f).trans (H.lg f)
  have l' : (fun f => (View.ld x8 r0_3 : Vec Ideal S1x256 .f32) (ix2 0 f)) = A.lb := funext fun f => (ld_l x8 f).trans (H.lb f)
  have w : (fun f d => (View.ld x10 r0_4 : Vec Ideal S1x1024x1024 .bf16) (ix3 0 f d)) = A.w :=
    funext fun f => funext fun d => (ld_w x10 f d).trans (H.w f d)
  rw [w]
  simp only [beside_at, read_at, settled_at]
  rw [n, l, l']
  simp only [ld_a, ld_c, ld_o, ld_g, H.po, H.oa, H.ob, H.gg, H.co]
  rfl

theorem out_at (d : Fin 1024) : out0_12 x0 x1 x2 x3 x4 x5 x6 x7 x8 x9 x10 (ix3 0 r d) = A.out b s d := by
  rw [out0_12_eq, View.canon_cons_unit_lit _ _ _ (by decide), ← tile_at x0 x1 x2 x3 x4 x5 x6 x7 x8 x9 x10 A b s r H d]
  generalize tile x1 x2 x3 x4 x5 x6 x7 x8 x10 = T
  pointwise []

omit H in
theorem y_of (T U : FVec Ideal S256x1024 .f32) (M : Vec Ideal S1x1x1x1024 .f32) (d : Fin 1024) :
    k0_pay1 T U M (ix3 0 r d) = U (ix2 r d) + M (ix4 0 0 0 d) * T (ix2 r d) := by
  pointwise [k0_pay1]

theorem y_at (d : Fin 1024) : out0_11 x0 x1 x2 x3 x4 x5 x6 x7 x8 x9 x10 (ix3 0 r d) = A.y b s d := by
  rw [out0_11_eq, View.canon_cons_unit_lit _ _ _ (by decide)]
  refine (y_of r _ _ _ d).trans ?_
  rw [tile_at x0 x1 x2 x3 x4 x5 x6 x7 x8 x9 x10 A b s r H d, ld_z, ld_m, H.z, H.gt]
  rfl

end Tile

/-! ## The windows' blocks -/

variable (m : (ℓ : Loc nD τ sig) → Buf (Elt Ideal) ℓ) (c : Dev nD)

/-- The arguments. -/
abbrev A : Args := argsOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))
  (m ((c : Thread nD τ).loc main_arg7)) (m ((c : Thread nD τ).loc main_arg8)) (m ((c : Thread nD τ).loc main_arg9)) (m ((c : Thread nD τ).loc main_arg10))

/-- The host's weight, as a layer. -/
def layer (x : Vec Ideal S1024x1024 .f32) : Vec Ideal S1x1024x1024 .bf16 :=
  broadcastInDim S1x1024x1024 ![1, 2] bcast_S1024x1024_S1x1024x1024_1_2 (truncf (F := Ideal) .bf16 x bitsLt_bf16_f32 : Vec Ideal S1024x1024 .bf16)

theorem V_w : V m c main_v1 = layer (m ((c : Thread nD τ).loc main_arg10)) := by
  unfold_abbrev_sides
  after_results
  rfl

theorem layer_at (x : Vec Ideal S1024x1024 .f32) (f d : Fin 1024) : layer x (ix3 0 f d) = x (ix2 f d) := by
  pointwise [layer]

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx9 : ∀ t : Fin cfg0.N, win0_9.index t = ![(grid0.coords t 0).val, min (grid0.coords t 1).val 1, 0, 0] := (by decide +kernel : ∀ t : Fin grid0.N, _)
theorem idx10 : ∀ t : Fin cfg0.N, win0_10.index t = ![0, 0, 0] := (by decide +kernel : ∀ t : Fin grid0.N, _)

/-! Where a step's blocks lie in their arrays: windows of one shape have the same blocks. -/

section

variable (t : Fin cfg0.N) (b : Fin 2) (i : Fin 9) (eb : b.val = (grid0.coords t 0).val) (ei : i.val = (grid0.coords t 1).val) (r : Fin 256)

include eb ei

theorem emb_z (d : Fin 1024) : (win0_0.blk t).view.emb (ix3 0 r d) = (ix3 b (tok i r) d : S2x2304x1024.Idx) := by
  unfold tok
  blk_ext [idx0]
theorem emb_p (f : Fin 256) : (win0_1.blk t).view.emb (ix3 0 r f) = (ix3 b (tok i r) f : S2x2304x256.Idx) := by
  unfold tok
  blk_ext [idx1]
theorem emb_o (f : Fin 512) : (win0_2.blk t).view.emb (ix3 0 r f) = (ix3 b (tok i r) f : S2x2304x512.Idx) := by
  unfold tok
  blk_ext [idx2]
theorem emb_m (d : Fin 1024) : (win0_9.blk t).view.emb (ix4 0 0 2 d) = (ix4 b (seg (tok i r)) 2 d : S2x2x3x1024.Idx) := by
  have hs := seg_tok i r
  blk_ext [idx9]

end

theorem emb_n (t : Fin cfg0.N) (f : Fin 512) : (win0_6.blk t).view.emb (ix2 0 f) = (ix2 0 f : S1x512.Idx) := by
  blk_ext [idx6]
theorem emb_l (t : Fin cfg0.N) (f : Fin 256) : (win0_7.blk t).view.emb (ix2 0 f) = (ix2 0 f : S1x256.Idx) := by
  blk_ext [idx7]
theorem emb_w (t : Fin cfg0.N) (f d : Fin 1024) : (win0_10.blk t).view.emb (ix3 0 f d) = (ix3 0 f d : S1x1024x1024.Idx) := by
  blk_ext [idx10]

theorem holds (t : Fin cfg0.N) (b : Fin 2) (i : Fin 9) (eb : b.val = (grid0.coords t 0).val) (ei : i.val = (grid0.coords t 1).val) (r : Fin 256) :
    Holds (iblk m c 0 t) (iblk m c 1 t) (iblk m c 2 t) (iblk m c 3 t) (iblk m c 4 t) (iblk m c 5 t) (iblk m c 6 t) (iblk m c 7 t) (iblk m c 8 t)
      (iblk m c 9 t) (iblk m c 10 t) (A m c) b (tok i r) r where
  z d := (congrFun (V_main_arg0 m c) _).trans (congrArg (m ((c : Thread nD τ).loc main_arg0)) (emb_z t b i eb ei r d))
  po f := (congrFun (V_main_arg1 m c) _).trans (congrArg (m ((c : Thread nD τ).loc main_arg1)) (emb_p t b i eb ei r f))
  oa f := (congrFun (V_main_arg2 m c) _).trans (congrArg (m ((c : Thread nD τ).loc main_arg2)) (emb_o t b i eb ei r f))
  ob f := (congrFun (V_main_arg3 m c) _).trans (congrArg (m ((c : Thread nD τ).loc main_arg3)) (emb_o t b i eb ei r f))
  gg f := (congrFun (V_main_arg4 m c) _).trans (congrArg (m ((c : Thread nD τ).loc main_arg4)) (emb_o t b i eb ei r f))
  co f := (congrFun (V_main_arg5 m c) _).trans (congrArg (m ((c : Thread nD τ).loc main_arg5)) (emb_p t b i eb ei r f))
  gn f := (congrFun (V_main_arg6 m c) _).trans (congrArg (m ((c : Thread nD τ).loc main_arg6)) (emb_n t f))
  lg f := (congrFun (V_main_arg7 m c) _).trans (congrArg (m ((c : Thread nD τ).loc main_arg7)) (emb_l t f))
  lb f := (congrFun (V_main_arg8 m c) _).trans (congrArg (m ((c : Thread nD τ).loc main_arg8)) (emb_l t f))
  gt d := (congrFun (V_main_arg9 m c) _).trans (congrArg (m ((c : Thread nD τ).loc main_arg9)) (emb_m t b i eb ei r d))
  w f d := (congrFun (V_w m c) _).trans ((congrArg (layer (m ((c : Thread nD τ).loc main_arg10))) (emb_w t f d)).trans (layer_at _ f d))

/-! ## The result arrays -/

/-- An element of a step's block: the step's batch entry and tile, a token of the tile and a feature. -/
theorem element (t : Fin cfg0.N) (y : S1x256x1024.Idx) : ∃ (b : Fin 2) (i : Fin 9) (r : Fin 256) (d : Fin 1024),
    b.val = (grid0.coords t 0).val ∧ i.val = (grid0.coords t 1).val ∧ y = ix3 0 r d :=
  ⟨⟨_, (grid0.coords t 0).isLt⟩, ⟨_, (grid0.coords t 1).isLt⟩, y 1, y 2, rfl, rfl,
    (eq_ix3 y).trans (congrArg (fun z => ix3 z (y 1) (y 2)) (Subsingleton.elim (α := Fin 1) _ _))⟩

set_option maxHeartbeats 2000000 in
theorem final_y : (dats m 0 c).arrAt 11 cfg0.N = fun j => (A m c).y (j 0) (j 1) (j 2) := by
  refine (dats m 0 c).arrAt_eq_of_covers 11 _ (by decide +kernel) fun t _ y => ?_
  obtain ⟨b, i, r, d, eb, ei, rfl⟩ := element t y
  blk_simp
  rw [after0_11, show (win0_11.blk t).view.emb (ix3 0 r d) = (ix3 b (tok i r) d : S2x2304x1024.Idx) from emb_z t b i eb ei r d]
  exact y_at _ _ _ _ _ _ _ _ _ _ _ _ b _ r (holds m c t b i eb ei r) d

set_option maxHeartbeats 2000000 in
theorem final_out : (dats m 0 c).arrAt 12 cfg0.N = fun j => (A m c).out (j 0) (j 1) (j 2) := by
  refine (dats m 0 c).arrAt_eq_of_covers 12 _ (by decide +kernel) fun t _ y => ?_
  obtain ⟨b, i, r, d, eb, ei, rfl⟩ := element t y
  blk_simp
  rw [after0_12, show (win0_12.blk t).view.emb (ix3 0 r d) = (ix3 b (tok i r) d : S2x2304x1024.Idx) from emb_z t b i eb ei r d]
  exact out_at _ _ _ _ _ _ _ _ _ _ _ _ b _ r (holds m c t b i eb ei r) d

end Cert.KernelMixOutIdeal.Arr
end
-- ==== Proof.MixOutRef.lean ====
/- The reference's mixers' outputs, read token by token. -/
module

public import proofs.«01_k».proof.Proof.MixOutMath
public import proofs.«01_k».proof.Proof.Gen.RefMixOutIdeal.Run
public import proofs.«01_k».proof.Proof.Gen.RefMixOutIdeal.Read

@[expose] public section

set_option maxRecDepth 16384

noncomputable section

namespace Cert.RefMixOutIdeal.Arr

open Cert.RefMixOutIdeal Cert.RefMixOutIdeal.Read Cert.MixersOut Idealize.ShloMosaic
open Cert.FeedForward (Row seg)

variable (x0 : Vec Ideal S2x2304x1024 .f32) (x1 : Vec Ideal S2x2304x256 .f32) (x2 x3 x4 : Vec Ideal S2x2304x512 .f32) (x5 : Vec Ideal S2x2304x256 .f32)
  (x6 : Vec Ideal S1x512 .f32) (x7 x8 : Vec Ideal S1x256 .f32) (x9 : Vec Ideal S2x2x3x1024 .f32) (x10 : Vec Ideal S1024x1024 .f32)
  (b : Fin 2) (s : Fin 2304)

/-- Each token's gate. -/
theorem turn_at (d : Fin 1024) : val_main_v10 (F := Ideal) x9 (ix3 b s d) = x9 (ix4 b (seg s) 2 d) := by
  have h : val_main_v10 (F := Ideal) x9 (ix3 b s d) = val_main_v4 (F := Ideal) x9 (ix4 b s 2 d) := by
    pointwise [val_main_v10, val_main_v9]
  rw [h]
  pointwise [val_main_v4, val_main_v3, val_main_v2, val_main_v1, val_main_v0]
  unfold seg
  split <;> rfl

/-- The heads: their lanes, and normalized. -/
theorem split_at (h : Fin 4) (e : Fin 128) : val_main_v12 (F := Ideal) x2 x3 (ix4 b s h e)
    = x2 (ix3 b s ⟨128 * h.val + e.val, by omega⟩) + x3 (ix3 b s ⟨128 * h.val + e.val, by omega⟩) := by
  pointwise [val_main_v12, val_main_v11]
  simp only [Nat.mul_comm h.val 128]

theorem norm_at (h : Fin 4) (e : Fin 128) : val_main_v30 (F := Ideal) x2 x3 (ix4 b s h e)
    = norm (Ideal.ofBits FTy.f32 1124073472#32) (fun e => val_main_v12 (F := Ideal) x2 x3 (ix4 b s h e)) e := by
  pointwise [val_main_v30, val_main_v29, val_main_v28, val_main_v27, val_main_v26, val_main_v25, val_main_v24, val_main_v23, val_main_v22, val_main_v21, val_main_v20, val_main_v19, val_main_v18, val_main_v17, val_main_v16, val_main_v15, val_main_v14, val_main_v13, val_main_cst, val_main_cst_0, val_main_cst_1, val_main_cst_2, val_main_cst_3]
  rfl

theorem ret_at (f : Fin 512) : val_main_v36 (F := Ideal) x2 x3 x4 x6 (ix3 b s f) = (argsOf x0 x1 x2 x3 x4 x5 x6 x7 x8 x9 x10).ret b s f := by
  have e : val_main_v36 (F := Ideal) x2 x3 x4 x6 (ix3 b s f)
      = val_main_v30 (F := Ideal) x2 x3 (ix4 b s ⟨f.val / 128, by omega⟩ ⟨f.val % 128, by omega⟩) * x6 (ix2 0 f) * swish (x4 (ix3 b s f)) := by
    pointwise [val_main_v36, val_main_v35, val_main_v34, val_main_v33, val_main_v32, val_main_v31, val_main_call0_v5, val_main_call0_v4, val_main_call0_v3, val_main_call0_v2, val_main_call0_v1, val_main_call0_v0, val_main_call0_cst, val_main_call0_cst_0]
    rfl
  rw [e, norm_at]
  simp only [split_at]
  rfl

theorem conv_at (f : Fin 256) : val_main_v61 (F := Ideal) x5 x7 x8 (ix3 b s f) = (argsOf x0 x1 x2 x3 x4 x5 x6 x7 x8 x9 x10).conv b s f := by
  pointwise [val_main_v61, val_main_v60, val_main_v59, val_main_v58, val_main_v57, val_main_v56, val_main_v55, val_main_v54, val_main_v53, val_main_v52, val_main_v51, val_main_v50, val_main_v49, val_main_v48, val_main_v47, val_main_v46, val_main_v45, val_main_v44, val_main_v43, val_main_v42, val_main_v41, val_main_v40, val_main_v39, val_main_v38, val_main_v37, val_main_cst_4, val_main_cst_5, val_main_cst_6, val_main_cst_7, val_main_cst_8, val_main_call1_v5, val_main_call1_v4, val_main_call1_v3, val_main_call1_v2, val_main_call1_v1, val_main_call1_v0, val_main_call1_cst, val_main_call1_cst_0]
  rfl

theorem cat_at (f : Fin 1024) : val_main_v62 (F := Ideal) x1 x2 x3 x4 x5 x6 x7 x8 (ix3 b s f) = join (fun f => x1 (ix3 b s f))
    (fun f => val_main_v36 (F := Ideal) x2 x3 x4 x6 (ix3 b s f)) (fun f => val_main_v61 (F := Ideal) x5 x7 x8 (ix3 b s f)) f := by
  pointwise [val_main_v62]
  rfl

theorem out_at (d : Fin 1024) : val_main_v63 (F := Ideal) x1 x2 x3 x4 x5 x6 x7 x8 x10 (ix3 b s d)
    = (argsOf x0 x1 x2 x3 x4 x5 x6 x7 x8 x9 x10).out b s d := by
  pointwise [val_main_v63]
  simp only [cat_at, ret_at x0 x1 x2 x3 x4 x5 x6 x7 x8 x9 x10, conv_at x0 x1 x2 x3 x4 x5 x6 x7 x8 x9 x10]
  rfl

theorem y_at (d : Fin 1024) : val_main_v65 (F := Ideal) x0 x1 x2 x3 x4 x5 x6 x7 x8 x9 x10 (ix3 b s d)
    = (argsOf x0 x1 x2 x3 x4 x5 x6 x7 x8 x9 x10).y b s d := by
  show x0 (ix3 b s d) + val_main_v10 (F := Ideal) x9 (ix3 b s d) * val_main_v63 (F := Ideal) x1 x2 x3 x4 x5 x6 x7 x8 x10 (ix3 b s d) = _
  rw [turn_at, out_at x0 x1 x2 x3 x4 x5 x6 x7 x8 x9 x10]
  rfl

end Cert.RefMixOutIdeal.Arr
end
-- ==== Proof.MixOutEq.lean ====
/- The mixers' outputs: the claims about the kernel and its reference. -/
module

public import proofs.«01_k».proof.Defs
public import proofs.«01_k».proof.Proof.MixOutArr
public import proofs.«01_k».proof.Proof.MixOutRef

@[expose] public section

set_option maxRecDepth 16384

noncomputable section

namespace Cert.Proof.MixOut

open Idealize.ShloMosaic Idealize.SL.Sem
open Cert.KernelMixOutIdeal.Arr (A)

/-- The reference ends with its arguments unchanged; it has no semaphore. -/
theorem frame_ref : Cert.quiescent_RefMixOutIdeal := by
  intro m g _
  exact (θ_run Cert.RefMixOutIdeal.defs _ _).mono (fun r h => ⟨fun c => (h c).2.2, sem_eq_zero_of_no_sems (by decide) r.2⟩)
    (Cert.RefMixOutIdeal.Value.run m g)

/-- An array of tokens is its elements. -/
theorem tokens_ext {X : (⟨3, ![2, 2304, 1024]⟩ : Shape).Idx → EReal} {Y : Fin 2 → Fin 2304 → Cert.FeedForward.Row}
    (h : ∀ b s d, X (ix3 b s d) = Y b s d) : X = fun j => Y (j 0) (j 1) (j 2) := by
  funext j
  exact (congrArg X (eq_ix3 j)).trans (h _ _ _)

set_option maxHeartbeats 2000000 in
/-- What the kernel leaves is what the reference computes. -/
theorem equal : Cert.algebraic_KernelMixOutIdeal_RefMixOutIdeal := by
  intro m g m' g' _ hag
  refine ⟨fun c j => (A m c).y (j 0) (j 1) (j 2), fun c j => (A m c).out (j 0) (j 1) (j 2), ?_, ?_⟩
  · exact (θ_run Cert.KernelMixOutIdeal.defs _ _).mono (fun r h c => ⟨(h c).1.trans (Cert.KernelMixOutIdeal.Arr.final_y m c),
      (h c).2.1.trans (Cert.KernelMixOutIdeal.Arr.final_out m c), (h c).2.2⟩) (Cert.KernelMixOutIdeal.Value.run_blocks m g)
  · refine (θ_run Cert.RefMixOutIdeal.defs _ _).mono (fun r h c => ?_) (Cert.RefMixOutIdeal.Value.run m' g')
    obtain ⟨e0, e1, e2, e3, e4, e5, e6, e7, e8, e9, e10⟩ := hag c
    obtain ⟨h1, h2, h3⟩ := h c
    rw [Cert.RefMixOutIdeal.Read.val_main_v65_eq, e0, e1, e2, e3, e4, e5, e6, e7, e8, e9, e10] at h1
    rw [Cert.RefMixOutIdeal.Read.val_main_v63_eq, e1, e2, e3, e4, e5, e6, e7, e8, e10] at h2
    exact ⟨h1.trans (tokens_ext (Cert.RefMixOutIdeal.Arr.y_at _ _ _ _ _ _ _ _ _ _ _)),
      h2.trans (tokens_ext (Cert.RefMixOutIdeal.Arr.out_at _ _ _ _ _ _ _ _ _ _ _)), h3⟩

end Cert.Proof.MixOut
end
-- ==== Proof.lean ====
/- The gradients of the retention's queries, keys and values, the feed-forward sublayer, its gradients and its weights'
   gradients, the mixers' inputs and outputs: each kernel and its idealization run and leave their arguments alone, so does each reference, and the idealized
   kernel's results are the reference's. The equations are in Proof/DqEq.lean, DkEq.lean, DvEq.lean, FfnFwdEq.lean,
   FfnBwdEq.lean, WgradEq.lean, MixInEq.lean and MixOutEq.lean. -/
module

public import proofs.«01_k».proof.Defs
public import proofs.«01_k».proof.Proof.Gen.KernelDq
public import proofs.«01_k».proof.Proof.Gen.KernelDq.Frame
public import proofs.«01_k».proof.Proof.Gen.KernelDqIdeal
public import proofs.«01_k».proof.Proof.Gen.KernelDqIdeal.Frame
public import proofs.«01_k».proof.Proof.Gen.RefDqIdeal
public import proofs.«01_k».proof.Proof.Gen.KernelDk
public import proofs.«01_k».proof.Proof.Gen.KernelDk.Frame
public import proofs.«01_k».proof.Proof.Gen.KernelDkIdeal
public import proofs.«01_k».proof.Proof.Gen.KernelDkIdeal.Frame
public import proofs.«01_k».proof.Proof.Gen.RefDkIdeal
public import proofs.«01_k».proof.Proof.Gen.KernelDv
public import proofs.«01_k».proof.Proof.Gen.KernelDv.Frame
public import proofs.«01_k».proof.Proof.Gen.KernelDvIdeal
public import proofs.«01_k».proof.Proof.Gen.KernelDvIdeal.Frame
public import proofs.«01_k».proof.Proof.Gen.RefDvIdeal
public import proofs.«01_k».proof.Proof.Gen.Pre_finite
public import proofs.«01_k».proof.Proof.Gen.Pre_finite_ffn
public import proofs.«01_k».proof.Proof.Gen.KernelFfnBwd
public import proofs.«01_k».proof.Proof.Gen.KernelFfnBwd.Launch
public import proofs.«01_k».proof.Proof.Gen.KernelFfnBwd.Points
public import proofs.«01_k».proof.Proof.Gen.KernelFfnBwd.Skeleton
public import proofs.«01_k».proof.Proof.Gen.KernelFfnBwdIdeal
public import proofs.«01_k».proof.Proof.Gen.KernelFfnBwdIdeal.Launch
public import proofs.«01_k».proof.Proof.Gen.KernelFfnBwdIdeal.Points
public import proofs.«01_k».proof.Proof.Gen.KernelFfnBwdIdeal.Skeleton
public import proofs.«01_k».proof.Proof.Gen.RefFfnBwdIdeal
public import proofs.«01_k».proof.Proof.Gen.KernelWgrad
public import proofs.«01_k».proof.Proof.Gen.KernelWgrad.Frame
public import proofs.«01_k».proof.Proof.Gen.KernelWgradIdeal
public import proofs.«01_k».proof.Proof.Gen.KernelWgradIdeal.Frame
public import proofs.«01_k».proof.Proof.Gen.RefWgradIdeal
public import proofs.«01_k».proof.Proof.WgradArr
public import proofs.«01_k».proof.Proof.WgradRef
public import proofs.«01_k».proof.Proof.Gen.KernelFfnFwd
public import proofs.«01_k».proof.Proof.Gen.KernelFfnFwd.Frame
public import proofs.«01_k».proof.Proof.Gen.KernelFfnFwdIdeal
public import proofs.«01_k».proof.Proof.Gen.KernelFfnFwdIdeal.Frame
public import proofs.«01_k».proof.Proof.Gen.RefFfnFwdIdeal
public import proofs.«01_k».proof.Proof.FfnFwdArr
public import proofs.«01_k».proof.Proof.FfnFwdRef
public import proofs.«01_k».proof.Proof.Gen.KernelMixIn
public import proofs.«01_k».proof.Proof.Gen.KernelMixIn.Frame
public import proofs.«01_k».proof.Proof.Gen.KernelMixInIdeal
public import proofs.«01_k».proof.Proof.Gen.KernelMixInIdeal.Frame
public import proofs.«01_k».proof.Proof.Gen.KernelMixInIdeal.Value
public import proofs.«01_k».proof.Proof.Gen.RefMixInIdeal
public import proofs.«01_k».proof.Proof.Gen.RefMixInIdeal.Run
public import proofs.«01_k».proof.Proof.Gen.RefMixInIdeal.Read
public import proofs.«01_k».proof.Proof.Gen.KernelMixOut
public import proofs.«01_k».proof.Proof.Gen.KernelMixOut.Frame
public import proofs.«01_k».proof.Proof.Gen.KernelMixOutIdeal
public import proofs.«01_k».proof.Proof.Gen.KernelMixOutIdeal.Frame
public import proofs.«01_k».proof.Proof.Gen.KernelMixOutIdeal.Value
public import proofs.«01_k».proof.Proof.Gen.RefMixOutIdeal
public import proofs.«01_k».proof.Proof.Gen.RefMixOutIdeal.Run
public import proofs.«01_k».proof.Proof.Gen.RefMixOutIdeal.Read
public import proofs.«01_k».proof.Proof.DqEq
public import proofs.«01_k».proof.Proof.DkEq
public import proofs.«01_k».proof.Proof.DvEq
public import proofs.«01_k».proof.Proof.FfnBwdSame
public import proofs.«01_k».proof.Proof.FfnBwdEq
public import proofs.«01_k».proof.Proof.WgradEq
public import proofs.«01_k».proof.Proof.FfnFwdEq
public import proofs.«01_k».proof.Proof.MixInEq
public import proofs.«01_k».proof.Proof.MixOutEq

@[expose] public section

noncomputable section

namespace Cert.Proof

open Idealize.ShloMosaic Idealize.SL.Sem

theorem claim : Cert.Claim :=
  ⟨Cert.KernelDq.Gen.facts, Cert.KernelDqIdeal.Gen.facts, Cert.RefDqIdeal.Gen.facts,
    Cert.KernelDk.Gen.facts, Cert.KernelDkIdeal.Gen.facts, Cert.RefDkIdeal.Gen.facts,
    Cert.KernelDv.Gen.facts, Cert.KernelDvIdeal.Gen.facts, Cert.RefDvIdeal.Gen.facts,
    Cert.KernelFfnBwd.Gen.facts, Cert.KernelFfnBwdIdeal.Gen.facts, Cert.RefFfnBwdIdeal.Gen.facts,
    Cert.KernelWgrad.Gen.facts, Cert.KernelWgradIdeal.Gen.facts, Cert.RefWgradIdeal.Gen.facts,
    Cert.KernelFfnFwd.Gen.facts, Cert.KernelFfnFwdIdeal.Gen.facts, Cert.RefFfnFwdIdeal.Gen.facts,
    Cert.KernelMixIn.Gen.facts, Cert.KernelMixInIdeal.Gen.facts, Cert.RefMixInIdeal.Gen.facts,
    Cert.KernelMixOut.Gen.facts, Cert.KernelMixOutIdeal.Gen.facts, Cert.RefMixOutIdeal.Gen.facts, Cert.Pre_finite.Gen.facts,
    Cert.Pre_finite_ffn.Gen.facts,
    fun m g _ => Cert.KernelDq.Gen.frame m g, fun m g _ => Cert.KernelDqIdeal.Gen.frame m g, fun m g _ => Cert.KernelDqIdeal.Gen.frame m g,
    Dq.frame_ref, fun m g _ => Dq.frame_ref m g trivial,
    fun m g _ => Cert.KernelDk.Gen.frame m g, fun m g _ => Cert.KernelDkIdeal.Gen.frame m g, fun m g _ => Cert.KernelDkIdeal.Gen.frame m g,
    Dk.frame_ref, fun m g _ => Dk.frame_ref m g trivial,
    fun m g _ => Cert.KernelDv.Gen.frame m g, fun m g _ => Cert.KernelDvIdeal.Gen.frame m g, fun m g _ => Cert.KernelDvIdeal.Gen.frame m g,
    Dv.frame_ref, fun m g _ => Dv.frame_ref m g trivial,
    FfnBwd.frame_kernel, FfnBwd.frame_ideal, fun m g _ => FfnBwd.frame_ideal m g trivial,
    FfnBwd.frame_ref, fun m g _ => FfnBwd.frame_ref m g trivial,
    fun m g _ => Cert.KernelWgrad.Gen.frame m g, fun m g _ => Cert.KernelWgradIdeal.Gen.frame m g, Wgrad.frame_ref,
    fun m g _ => Cert.KernelFfnFwd.Gen.frame m g, fun m g _ => Cert.KernelFfnFwdIdeal.Gen.frame m g, FfnFwd.frame_ref,
    fun m g _ => Cert.KernelMixIn.Gen.frame m g, fun m g _ => Cert.KernelMixInIdeal.Gen.frame m g, MixIn.frame_ref,
    fun m g _ => Cert.KernelMixOut.Gen.frame m g, fun m g _ => Cert.KernelMixOutIdeal.Gen.frame m g, MixOut.frame_ref,
    trivial, Dq.equal, trivial, Dk.equal, trivial, Dv.equal,
    trivial, FfnBwd.equal, trivial, Wgrad.equal, trivial, FfnFwd.equal, trivial, MixIn.equal, trivial, MixOut.equal⟩

end Cert.Proof

end
